-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_RefBIdeal (m : (ℓ : Loc Cert.RefBIdeal.nD Cert.RefBIdeal.τ Cert.RefBIdeal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3))
      ∧ r.2.sem = fun _ => 0)

def quiescent_RefBIdeal [hRefBIdeal : Cert.RefBIdeal.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1)
      ∧ r.2.mem ((c.tc : Thread Cert.RefBIdeal.nD Cert.RefBIdeal.τ).loc Cert.RefBIdeal.main_arg2) = m ((c.tc : Thread Cert.RefBIdeal.nD Cert.RefBIdeal.τ).loc Cert.RefBIdeal.main_arg2)
      ∧ r.2.mem ((c.tc : Thread Cert.RefBIdeal.nD Cert.RefBIdeal.τ).loc Cert.RefBIdeal.main_arg3) = m ((c.tc : Thread Cert.RefBIdeal.nD Cert.RefBIdeal.τ).loc Cert.RefBIdeal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v6) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_MixF_MixFIdeal : Prop :=
  True

def algebraic_MixFIdeal_RefBIdeal [hMixFIdeal : Cert.MixFIdeal.Facts] [hRefBIdeal : Cert.RefBIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.RefBIdeal.nD Cert.RefBIdeal.τ Cert.RefBIdeal.sig) → Buf (Elt Ideal) ℓ) (g' : Dev Cert.RefBIdeal.nD → PrngReg), Pre_MixFIdeal m →
    (∀ c : Dev Cert.MixFIdeal.nD,
      m' ((c.tc : Thread Cert.RefBIdeal.nD Cert.RefBIdeal.τ).loc Cert.RefBIdeal.main_arg0) = m ((c.tc : Thread Cert.MixFIdeal.nD Cert.MixFIdeal.τ).loc Cert.MixFIdeal.main_arg0)
      ∧ m' ((c.tc : Thread Cert.RefBIdeal.nD Cert.RefBIdeal.τ).loc Cert.RefBIdeal.main_arg1) = m ((c.tc : Thread Cert.MixFIdeal.nD Cert.MixFIdeal.τ).loc Cert.MixFIdeal.main_arg1)
      ∧ m' ((c.tc : Thread Cert.RefBIdeal.nD Cert.RefBIdeal.τ).loc Cert.RefBIdeal.main_arg2) = m ((c.tc : Thread Cert.MixFIdeal.nD Cert.MixFIdeal.τ).loc Cert.MixFIdeal.main_arg2)
      ∧ m' ((c.tc : Thread Cert.RefBIdeal.nD Cert.RefBIdeal.τ).loc Cert.RefBIdeal.main_arg3) = m ((c.tc : Thread Cert.MixFIdeal.nD Cert.MixFIdeal.τ).loc Cert.MixFIdeal.main_arg3)) →
    ∃ (v0 : (c : Dev Cert.MixFIdeal.nD) → Buf (Elt Ideal) ((c.tc : Thread Cert.MixFIdeal.nD Cert.MixFIdeal.τ).loc Cert.MixFIdeal.main_v0_0)) (v1 : (c : Dev Cert.MixFIdeal.nD) → Buf (Elt Ideal) ((c.tc : Thread Cert.MixFIdeal.nD Cert.MixFIdeal.τ).loc Cert.MixFIdeal.main_v0_1)) (v2 : (c : Dev Cert.MixFIdeal.nD) → Buf (Elt Ideal) ((c.tc : Thread Cert.MixFIdeal.nD Cert.MixFIdeal.τ).loc Cert.MixFIdeal.main_v0_2)) (v3 : (c : Dev Cert.MixFIdeal.nD) → Buf (Elt Ideal) ((c.tc : Thread Cert.MixFIdeal.nD Cert.MixFIdeal.τ).loc Cert.MixFIdeal.main_v0_3)) (v4 : (c : Dev Cert.MixFIdeal.nD) → Buf (Elt Ideal) ((c.tc : Thread Cert.MixFIdeal.nD Cert.MixFIdeal.τ).loc Cert.MixFIdeal.main_v0_4)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v0_0) = v0 c
          ∧ r.2.mem ((c.tc : Thread Cert.MixFIdeal.nD Cert.MixFIdeal.τ).loc Cert.MixFIdeal.main_v0_1) = v1 c
          ∧ r.2.mem ((c.tc : Thread Cert.MixFIdeal.nD Cert.MixFIdeal.τ).loc Cert.MixFIdeal.main_v0_2) = v2 c
          ∧ r.2.mem ((c.tc : Thread Cert.MixFIdeal.nD Cert.MixFIdeal.τ).loc Cert.MixFIdeal.main_v0_3) = v3 c
          ∧ r.2.mem ((c.tc : Thread Cert.MixFIdeal.nD Cert.MixFIdeal.τ).loc Cert.MixFIdeal.main_v0_4) = v4 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3))
      ∧ θ_run (Cert.RefBIdeal.defs (F := Ideal)) (onTc (τ := Cert.RefBIdeal.τ) (Cert.RefBIdeal.main (F := Ideal))) ⟨m', fun _ => 0, g'⟩ (fun r => ∀ c : Dev Cert.RefBIdeal.nD,
          r.2.mem ((c.tc : Thread Cert.RefBIdeal.nD Cert.RefBIdeal.τ).loc Cert.RefBIdeal.main_v136) = v0 c
          ∧ r.2.mem ((c.tc : Thread Cert.RefBIdeal.nD Cert.RefBIdeal.τ).loc Cert.RefBIdeal.main_v139) = v1 c
          ∧ r.2.mem ((c.tc : Thread Cert.RefBIdeal.nD Cert.RefBIdeal.τ).loc Cert.RefBIdeal.main_v176) = v2 c
          ∧ r.2.mem ((c.tc : Thread Cert.RefBIdeal.nD Cert.RefBIdeal.τ).loc Cert.RefBIdeal.main_v93_4) = v3 c
          ∧ r.2.mem ((c.tc : Thread Cert.RefBIdeal.nD Cert.RefBIdeal.τ).loc Cert.RefBIdeal.main_v120) = v4 c
          ∧ r.2.mem ((c.tc : Thread Cert.RefBIdeal.nD Cert.RefBIdeal.τ).loc Cert.RefBIdeal.main_arg0) = m' ((c.tc : Thread Cert.RefBIdeal.nD Cert.RefBIdeal.τ).loc Cert.RefBIdeal.main_arg0)
          ∧ r.2.mem ((c.tc : Thread Cert.RefBIdeal.nD Cert.RefBIdeal.τ).loc Cert.RefBIdeal.main_arg1) = m' ((c.tc : Thread Cert.RefBIdeal.nD Cert.RefBIdeal.τ).loc Cert.RefBIdeal.main_arg1)
          ∧ r.2.mem ((c.tc : Thread Cert.RefBIdeal.nD Cert.RefBIdeal.τ).loc Cert.RefBIdeal.main_arg2) = m' ((c.tc : Thread Cert.RefBIdeal.nD Cert.RefBIdeal.τ).loc Cert.RefBIdeal.main_arg2)
          ∧ r.2.mem ((c.tc : Thread Cert.RefBIdeal.nD Cert.RefBIdeal.τ).loc Cert.RefBIdeal.main_arg3) = m' ((c.tc : Thread Cert.RefBIdeal.nD Cert.RefBIdeal.τ).loc Cert.RefBIdeal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v50) = v0 c
          ∧ r.2.mem ((c.tc : Thread Cert.Reference22Ideal.nD Cert.Reference22Ideal.τ).loc Cert.Reference22Ideal.main_v51) = v1 c
          ∧ r.2.mem ((c.tc : Thread Cert.Reference22Ideal.nD Cert.Reference22Ideal.τ).loc Cert.Reference22Ideal.main_v52) = v2 c
          ∧ r.2.mem ((c.tc : Thread Cert.Reference22Ideal.nD Cert.Reference22Ideal.τ).loc Cert.Reference22Ideal.main_v53) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hMixF : Cert.MixF.Facts) (hMixFIdeal : Cert.MixFIdeal.Facts) (hRefBIdeal : Cert.RefBIdeal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_MixF (hMixF := hMixF)
    ∧ quiescent_MixFIdeal (hMixFIdeal := hMixFIdeal)
    ∧ quiescent_RefBIdeal (hRefBIdeal := hRefBIdeal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_MixF_MixFIdeal
    ∧ algebraic_MixFIdeal_RefBIdeal (hMixFIdeal := hMixFIdeal) (hRefBIdeal := hRefBIdeal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Kernel.lean ====
abbrev S4096x2048 : Shape := ⟨2, ![4096, 2048]⟩
abbrev S2048x2048 : Shape := ⟨2, ![2048, 2048]⟩
abbrev S4096x14336 : Shape := ⟨2, ![4096, 14336]⟩
abbrev S512x2048 : Shape := ⟨2, ![512, 2048]⟩
abbrev S1024x2048 : Shape := ⟨2, ![1024, 2048]⟩
abbrev S512x1024 : Shape := ⟨2, ![512, 1024]⟩
abbrev S8x128 : Shape := ⟨2, ![8, 128]⟩

abbrev nBuf : Space → Nat
  | .hbm => 9
  | .vmem => 21
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x14336, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg1 c10_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S4096x2048 : Shape := ⟨2, ![4096, 2048]⟩
abbrev S2048x2048 : Shape := ⟨2, ![2048, 2048]⟩
abbrev S4096x14336 : Shape := ⟨2, ![4096, 14336]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x14336, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S2048x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | .hbm, ⟨45, _⟩ => ⟨S4096x2048, .bf16⟩
  | .hbm, ⟨46, _⟩ => ⟨S4096x2048, .bf16⟩
  | .hbm, ⟨47, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel2.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S4096x14336 : Shape := ⟨2, ![4096, 14336]⟩
abbrev S2048x14336 : Shape := ⟨2, ![2048, 14336]⟩
abbrev S4096x2048 : Shape := ⟨2, ![4096, 2048]⟩
abbrev S1024x3584 : Shape := ⟨2, ![1024, 3584]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x14336, .bf16⟩
  | .hbm, ⟨1, _⟩ => ⟨S2048x14336, .bf16⟩
  | .hbm, ⟨2, _⟩ => ⟨S4096x2048, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x14336 : Shape := ⟨2, ![4096, 14336]⟩
abbrev S2048x14336 : Shape := ⟨2, ![2048, 14336]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S2048x14336, .bf16⟩
  | .hbm, ⟨2, _⟩ => ⟨S_, .f32⟩
  | .hbm, ⟨3, _⟩ => ⟨S4096x2048, .f32⟩
  | .hbm, ⟨4, _⟩ => ⟨S2048x14336, .f32⟩
  | .hbm, ⟨5, _⟩ => ⟨S4096x14336, .f32⟩
  | .hbm, ⟨6, _⟩ => ⟨S4096x14336, .f32⟩
  | .hbm, ⟨7, _⟩ => ⟨S4096x2048, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x8192 : Shape := ⟨2, ![4096, 8192]⟩
abbrev S2048x8192 : Shape := ⟨2, ![2048, 8192]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2048 : Shape := ⟨2, ![4096, 2048]⟩
abbrev S4096x14336 : Shape := ⟨2, ![4096, 14336]⟩
abbrev S2048x14336 : Shape := ⟨2, ![2048, 14336]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S2048x14336, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x14336 : Shape := ⟨2, ![4096, 14336]⟩
abbrev S_ : Shape := ⟨0, ![]⟩
abbrev S2048x14336 : Shape := ⟨2, ![2048, 14336]⟩
abbrev S14336x2048 : Shape := ⟨2, ![14336, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S_, .f32⟩
  | .hbm, ⟨3, _⟩ => ⟨S2048x14336, .f32⟩
  | .hbm, ⟨4, _⟩ => ⟨S4096x2048, .f32⟩
  | .hbm, ⟨5, _⟩ => ⟨S4096x14336, .f32⟩
  | .hbm, ⟨6, _⟩ => ⟨S4096x14336, .f32⟩
  | .hbm, ⟨7, _⟩ => ⟨S14336x2048, .f32⟩
  | .hbm, ⟨8, _⟩ => ⟨S2048x14336, .f32⟩
  | .hbm, ⟨9, _⟩ => ⟨S2048x14336, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S2048x14336 : Shape := ⟨2, ![2048, 14336]⟩
abbrev S14336 : Shape := ⟨1, ![14336]⟩
abbrev S1x14336 : Shape := ⟨2, ![1, 14336]⟩
abbrev S4096x14336 : Shape := ⟨2, ![4096, 14336]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S14336, .f32⟩
  | .hbm, ⟨3, _⟩ => ⟨S1x14336, .f32⟩
  | .hbm, ⟨4, _⟩ => ⟨S4096x14336, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S2048x14336 : Shape := ⟨2, ![2048, 14336]⟩
abbrev S14336 : Shape := ⟨1, ![14336]⟩
abbrev S4096x14336 : Shape := ⟨2, ![4096, 14336]⟩
abbrev S1x14336 : Shape := ⟨2, ![1, 14336]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S14336, .f32⟩
  | .hbm, ⟨3, _⟩ => ⟨S4096x2048, .f32⟩
  | .hbm, ⟨4, _⟩ => ⟨S2048x14336, .f32⟩
  | .hbm, ⟨5, _⟩ => ⟨S4096x14336, .f32⟩
  | .hbm, ⟨6, _⟩ => ⟨S1x14336, .f32⟩
  | .hbm, ⟨7, _⟩ => ⟨S4096x14336, .f32⟩
  | .hbm, ⟨8, _⟩ => ⟨S4096x14336, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S4096x14336 : Shape := ⟨2, ![4096, 14336]⟩
abbrev S512x2048 : Shape := ⟨2, ![512, 2048]⟩
abbrev S2048x1024 : Shape := ⟨2, ![2048, 1024]⟩
abbrev S512x1024 : Shape := ⟨2, ![512, 1024]⟩
abbrev S8x128 : Shape := ⟨2, ![8, 128]⟩

abbrev nBuf : Space → Nat
  | .hbm => 6
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x14336, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi arg1 c10_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference13Ideal.lean ====
abbrev S4096x2048 : Shape := ⟨2, ![4096, 2048]⟩
abbrev S2048x2048 : Shape := ⟨2, ![2048, 2048]⟩
abbrev S4096x14336 : Shape := ⟨2, ![4096, 14336]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x14336, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S2048x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel16.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixF.lean ====
abbrev S4096x14336 : Shape := ⟨2, ![4096, 14336]⟩
abbrev S2x16x2048 : Shape := ⟨3, ![2, 16, 2048]⟩
abbrev S2x8x256x256 : Shape := ⟨4, ![2, 8, 256, 256]⟩
abbrev S4096x2048 : Shape := ⟨2, ![4096, 2048]⟩
abbrev S512x256 : Shape := ⟨2, ![512, 256]⟩
abbrev S1x16x256 : Shape := ⟨3, ![1, 16, 256]⟩
abbrev S1x1x256x256 : Shape := ⟨4, ![1, 1, 256, 256]⟩
abbrev S520x256 : Shape := ⟨2, ![520, 256]⟩
abbrev S8x256 : Shape := ⟨2, ![8, 256]⟩
abbrev S1x1x256 : Shape := ⟨3, ![1, 1, 256]⟩
abbrev S1x256 : Shape := ⟨2, ![1, 256]⟩
abbrev S32x256 : Shape := ⟨2, ![32, 256]⟩
abbrev S256x256 : Shape := ⟨2, ![256, 256]⟩

abbrev nBuf : Space → Nat
  | .hbm => 9
  | .vmem => 31
  | .smem => 0
  | _ => 0

abbrev bufTy : (tb : Table) → Fin (tcTables nBuf tb) → BufTy
  | .hbm, ⟨0, _⟩ => ⟨S4096x14336, .f32⟩
  | .hbm, ⟨1, _⟩ => ⟨S2x16x2048, .f32⟩
  | .hbm, ⟨2, _⟩ => ⟨S2x8x256x256, .bf16⟩
  | .hbm, ⟨3, _⟩ => ⟨S2x8x256x256, .bf16⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x16x256, .f32⟩
  | .local _ .vmem, ⟨11, _⟩ => ⟨S1x16x256, .f32⟩
  | .local _ .vmem, ⟨12, _⟩ => ⟨S1x1x256x256, .bf16⟩
  | .local _ .vmem, ⟨13, _⟩ => ⟨S1x1x256x256, .bf16⟩
  | .local _ .vmem, ⟨14, _⟩ => ⟨S1x1x256x256, .bf16⟩
  | .local _ .vmem, ⟨15, _⟩ => ⟨S1x1x256x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S520x256, .f32⟩
  | .local _ .vmem, ⟨27, _⟩ => ⟨S520x256, .f32⟩
  | .local _ .vmem, ⟨28, _⟩ => ⟨S512x256, .f32⟩
  | .local _ .vmem, ⟨29, _⟩ => ⟨S512x256, .f32⟩
  | .local _ .vmem, ⟨30, _⟩ => ⟨S8x256, .f32⟩
  | _, _ => ⟨S4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_755 : BitVec 32 := 0#32
  let c16_i32 : BitVec 32 := 16#32
  let v1239 : BitVec 32 := Scalar.addi c0_i32_755 c16_i32
  let c1_i32 : BitVec 32 := 1#32
  ⟨c0_i32_755, v1239, c1_i32⟩
def k0_mult1 (k0_t1 : Fin k0_t1_loop.trips) : BitVec 32 :=
  let c0_i32_755 : BitVec 32 := 0#32
  let c1_i32 : BitVec 32 := 1#32
  let arg20 : BitVec 32 := Scf.iv c0_i32_755 c1_i32 k0_t1
  let c32_i32 : BitVec 32 := 32#32
  let v1940 : BitVec 32 := Scalar.muli arg20 c32_i32
  v1940
def k0_off1 (k0_t1 : Fin k0_t1_loop.trips) (c0_i32_1276 : BitVec 32) : Fin 2 → Nat :=
  let c0_i32_755 : BitVec 32 := 0#32
  let c1_i32 : BitVec 32 := 1#32
  let arg20 : BitVec 32 := Scf.iv c0_i32_755 c1_i32 k0_t1
  let c32_i32 : BitVec 32 := 32#32
  let v1940 : BitVec 32 := Scalar.muli arg20 c32_i32
  let v1941 : BitVec 32 := v1940
  let v1942 : BitVec 32 := Scalar.addi v1941 c0_i32_1276
  let v1943 : Index := Scalar.indexCast v1942
  let c0_1277 : Index := 0#32
  ![v1943.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RefBIdeal.lean ====
abbrev S4096x14336 : Shape := ⟨2, ![4096, 14336]⟩
abbrev S2x16x2048 : Shape := ⟨3, ![2, 16, 2048]⟩
abbrev S2x8x256x256 : Shape := ⟨4, ![2, 8, 256, 256]⟩
abbrev S4096x2048 : Shape := ⟨2, ![4096, 2048]⟩
abbrev S1x16x2048 : Shape := ⟨3, ![1, 16, 2048]⟩
abbrev S16x2048 : Shape := ⟨2, ![16, 2048]⟩
abbrev S4x2048 : Shape := ⟨2, ![4, 2048]⟩
abbrev S_ : Shape := ⟨0, ![]⟩
abbrev S4099x2048 : Shape := ⟨2, ![4099, 2048]⟩
abbrev S1x2048 : Shape := ⟨2, ![1, 2048]⟩
abbrev S2048 : Shape := ⟨1, ![2048]⟩
abbrev S4096x8x256 : Shape := ⟨3, ![4096, 8, 256]⟩
abbrev S1x8x256x256 : Shape := ⟨4, ![1, 8, 256, 256]⟩
abbrev S8x256x256 : Shape := ⟨3, ![8, 256, 256]⟩
abbrev S8x256x4096 : Shape := ⟨3, ![8, 256, 4096]⟩
abbrev S3x2048 : Shape := ⟨2, ![3, 2048]⟩
abbrev S4098x2048 : Shape := ⟨2, ![4098, 2048]⟩

abbrev nBuf : Space → Nat
  | .hbm => 232
  | .vmem => 0
  | .smem => 0
  | _ => 0

abbrev hbmTy0_0 (i : Nat) : BufTy := match i % 128 with
  | 0 => ⟨S4096x14336, .f32⟩
  | 1 => ⟨S2x16x2048, .f32⟩
  | 2 => ⟨S2x8x256x256, .bf16⟩
  | 3 => ⟨S2x8x256x256, .bf16⟩
  | 4 => ⟨S4096x2048, .f32⟩
  | 5 => ⟨S1x16x2048, .f32⟩
  | 6 => ⟨S16x2048, .f32⟩
  | 7 => ⟨S4x2048, .f32⟩
  | 8 => ⟨S_, .i32⟩
  | 9 => ⟨S_, .f32⟩
  | 10 => ⟨S4099x2048, .f32⟩
  | 11 => ⟨S4096x2048, .f32⟩
  | 12 => ⟨S1x2048, .f32⟩
  | 13 => ⟨S2048, .f32⟩
  | 14 => ⟨S1x2048, .f32⟩
  | 15 => ⟨S4096x2048, .f32⟩
  | 16 => ⟨S4096x2048, .f32⟩
  | 17 => ⟨S4096x2048, .f32⟩
  | 18 => ⟨S1x2048, .f32⟩
  | 19 => ⟨S2048, .f32⟩
  | 20 => ⟨S1x2048, .f32⟩
  | 21 => ⟨S4096x2048, .f32⟩
  | 22 => ⟨S4096x2048, .f32⟩
  | 23 => ⟨S4096x2048, .f32⟩
  | 24 => ⟨S4096x2048, .f32⟩
  | 25 => ⟨S1x2048, .f32⟩
  | 26 => ⟨S2048, .f32⟩
  | 27 => ⟨S1x2048, .f32⟩
  | 28 => ⟨S4096x2048, .f32⟩
  | 29 => ⟨S4096x2048, .f32⟩
  | 30 => ⟨S4096x2048, .f32⟩
  | 31 => ⟨S4096x2048, .f32⟩
  | 32 => ⟨S1x2048, .f32⟩
  | 33 => ⟨S2048, .f32⟩
  | 34 => ⟨S1x2048, .f32⟩
  | 35 => ⟨S4096x2048, .f32⟩
  | 36 => ⟨S4096x2048, .f32⟩
  | 37 => ⟨S4096x2048, .f32⟩
  | 38 => ⟨S1x16x2048, .f32⟩
  | 39 => ⟨S16x2048, .f32⟩
  | 40 => ⟨S1x2048, .f32⟩
  | 41 => ⟨S4096x2048, .f32⟩
  | 42 => ⟨S4096x2048, .f32⟩
  | 43 => ⟨S4096x2048, .bf16⟩
  | 44 => ⟨S4096x2048, .f32⟩
  | 45 => ⟨S4096x8x256, .f32⟩
  | 46 => ⟨S1x8x256x256, .bf16⟩
  | 47 => ⟨S8x256x256, .bf16⟩
  | 48 => ⟨S8x256x256, .f32⟩
  | 49 => ⟨S8x256x4096, .f32⟩
  | 50 => ⟨S4096x8x256, .f32⟩
  | 51 => ⟨S4096x2048, .f32⟩
  | 52 => ⟨S1x16x2048, .f32⟩
  | 53 => ⟨S16x2048, .f32⟩
  | 54 => ⟨S1x2048, .f32⟩
  | 55 => ⟨S4096x2048, .f32⟩
  | 56 => ⟨S4096x2048, .f32⟩
  | 57 => ⟨S4096x2048, .f32⟩
  | 58 => ⟨S4096x2048, .f32⟩
  | 59 => ⟨S_, .f32⟩
  | 60 => ⟨S4096x2048, .f32⟩
  | 61 => ⟨S4096x2048, .f32⟩
  | 62 => ⟨S_, .f32⟩
  | 63 => ⟨S4096x2048, .f32⟩
  | 64 => ⟨S4096x2048, .f32⟩
  | 65 => ⟨S1x8x256x256, .bf16⟩
  | 66 => ⟨S8x256x256, .bf16⟩
  | 67 => ⟨S8x256x256, .f32⟩
  | 68 => ⟨S8x256x4096, .f32⟩
  | 69 => ⟨S4096x8x256, .f32⟩
  | 70 => ⟨S4096x2048, .f32⟩
  | 71 => ⟨S1x16x2048, .f32⟩
  | 72 => ⟨S16x2048, .f32⟩
  | 73 => ⟨S1x2048, .f32⟩
  | 74 => ⟨S4096x2048, .f32⟩
  | 75 => ⟨S4096x2048, .f32⟩
  | 76 => ⟨S4096x2048, .f32⟩
  | 77 => ⟨S4096x2048, .f32⟩
  | 78 => ⟨S_, .f32⟩
  | 79 => ⟨S4096x2048, .f32⟩
  | 80 => ⟨S4096x2048, .f32⟩
  | 81 => ⟨S_, .f32⟩
  | 82 => ⟨S4096x2048, .f32⟩
  | 83 => ⟨S4096x2048, .f32⟩
  | 84 => ⟨S_, .f32⟩
  | 85 => ⟨S4096x2048, .f32⟩
  | 86 => ⟨S4096x2048, .f32⟩
  | 87 => ⟨S1x16x2048, .f32⟩
  | 88 => ⟨S16x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S1x2048, .f32⟩
  | 96 => ⟨S1x2048, .i1⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S1x2048, .f32⟩
  | 105 => ⟨S4096x2048, .f32⟩
  | 106 => ⟨S4096x2048, .f32⟩
  | 107 => ⟨S4096x2048, .f32⟩
  | 108 => ⟨S_, .f32⟩
  | 109 => ⟨S4096x2048, .f32⟩
  | 110 => ⟨S4096x2048, .f32⟩
  | 111 => ⟨S4096x2048, .f32⟩
  | 112 => ⟨S4096x2048, .f32⟩
  | 113 => ⟨S4096x2048, .f32⟩
  | 114 => ⟨S4096x2048, .f32⟩
  | 115 => ⟨S4096x2048, .f32⟩
  | 116 => ⟨S_, .f32⟩
  | 117 => ⟨S2048, .f32⟩
  | 118 => ⟨S_, .f32⟩
  | 119 => ⟨S4096x2048, .f32⟩
  | 120 => ⟨S_, .i32⟩
  | 121 => ⟨S4096x2048, .f32⟩
  | 122 => ⟨S4096x2048, .f32⟩
  | 123 => ⟨S_, .i32⟩
  | 124 => ⟨S2048, .f32⟩
  | 125 => ⟨S4096x2048, .f32⟩
  | 126 => ⟨S_, .i32⟩
  | 127 => ⟨S_, .i1⟩
  | _ => ⟨S4096x14336, .f32⟩

abbrev hbmTy0_1 (i : Nat) : BufTy := match i % 128 with
  | 0 => ⟨S_, .i32⟩
  | 1 => ⟨S1x2048, .f32⟩
  | 2 => ⟨S2048, .f32⟩
  | 3 => ⟨S_, .i32⟩
  | 4 => ⟨S1x2048, .f32⟩
  | 5 => ⟨S2048, .f32⟩
  | 6 => ⟨S2048, .f32⟩
  | 7 => ⟨S2048, .f32⟩
  | 8 => ⟨S1x2048, .f32⟩
  | 9 => ⟨S_, .i32⟩
  | 10 => ⟨S4096x2048, .f32⟩
  | 11 => ⟨S_, .i32⟩
  | 12 => ⟨S_, .i32⟩
  | 13 => ⟨S4096x2048, .f32⟩
  | 14 => ⟨S4096x2048, .f32⟩
  | 15 => ⟨S4096x2048, .f32⟩
  | 16 => ⟨S1x16x2048, .f32⟩
  | 17 => ⟨S16x2048, .f32⟩
  | 18 => ⟨S3x2048, .f32⟩
  | 19 => ⟨S_, .i32⟩
  | 20 => ⟨S_, .f32⟩
  | 21 => ⟨S4098x2048, .f32⟩
  | 22 => ⟨S4096x2048, .f32⟩
  | 23 => ⟨S1x2048, .f32⟩
  | 24 => ⟨S2048, .f32⟩
  | 25 => ⟨S1x2048, .f32⟩
  | 26 => ⟨S4096x2048, .f32⟩
  | 27 => ⟨S4096x2048, .f32⟩
  | 28 => ⟨S4096x2048, .f32⟩
  | 29 => ⟨S1x2048, .f32⟩
  | 30 => ⟨S2048, .f32⟩
  | 31 => ⟨S1x2048, .f32⟩
  | 32 => ⟨S4096x2048, .f32⟩
  | 33 => ⟨S4096x2048, .f32⟩
  | 34 => ⟨S4096x2048, .f32⟩
  | 35 => ⟨S4096x2048, .f32⟩
  | 36 => ⟨S1x2048, .f32⟩
  | 37 => ⟨S2048, .f32⟩
  | 38 => ⟨S1x2048, .f32⟩
  | 39 => ⟨S4096x2048, .f32⟩
  | 40 => ⟨S4096x2048, .f32⟩
  | 41 => ⟨S4096x2048, .f32⟩
  | 42 => ⟨S4096x2048, .f32⟩
  | 43 => ⟨S4096x2048, .f32⟩
  | 44 => ⟨S4096x2048, .f32⟩
  | 45 => ⟨S_, .f32⟩
  | 46 => ⟨S4096x2048, .f32⟩
  | 47 => ⟨S4096x2048, .f32⟩
  | 48 => ⟨S4096x2048, .f32⟩
  | 49 => ⟨S_, .f32⟩
  | 50 => ⟨S4096x2048, .f32⟩
  | 51 => ⟨S4096x2048, .f32⟩
  | 52 => ⟨S4096x2048, .f32⟩
  | 53 => ⟨S_, .f32⟩
  | 54 => ⟨S4096x2048, .f32⟩
  | 55 => ⟨S4096x2048, .f32⟩
  | 56 => ⟨S_, .f32⟩
  | 57 => ⟨S4096x2048, .f32⟩
  | 58 => ⟨S4096x2048, .f32⟩
  | 59 => ⟨S4096x2048, .f32⟩
  | 60 => ⟨S4096x2048, .f32⟩
  | 61 => ⟨S4096x2048, .bf16⟩
  | 62 => ⟨S4096x2048, .f32⟩
  | 63 => ⟨S4096x2048, .f32⟩
  | 64 => ⟨S4096x2048, .bf16⟩
  | 65 => ⟨S4096x2048, .f32⟩
  | 66 => ⟨S1x16x2048, .f32⟩
  | 67 => ⟨S16x2048, .f32⟩
  | 68 => ⟨S4x2048, .f32⟩
  | 69 => ⟨S_, .i32⟩
  | 70 => ⟨S_, .f32⟩
  | 71 => ⟨S4099x2048, .f32⟩
  | 72 => ⟨S4096x2048, .f32⟩
  | 73 => ⟨S1x2048, .f32⟩
  | 74 => ⟨S2048, .f32⟩
  | 75 => ⟨S1x2048, .f32⟩
  | 76 => ⟨S4096x2048, .f32⟩
  | 77 => ⟨S4096x2048, .f32⟩
  | 78 => ⟨S4096x2048, .f32⟩
  | 79 => ⟨S1x2048, .f32⟩
  | 80 => ⟨S2048, .f32⟩
  | 81 => ⟨S1x2048, .f32⟩
  | 82 => ⟨S4096x2048, .f32⟩
  | 83 => ⟨S4096x2048, .f32⟩
  | 84 => ⟨S4096x2048, .f32⟩
  | 85 => ⟨S4096x2048, .f32⟩
  | 86 => ⟨S1x2048, .f32⟩
  | 87 => ⟨S2048, .f32⟩
  | 88 => ⟨S1x2048, .f32⟩
  | 89 => ⟨S4096x2048, .f32⟩
  | 90 => ⟨S4096x2048, .f32⟩
  | 91 => ⟨S4096x2048, .f32⟩
  | 92 => ⟨S4096x2048, .f32⟩
  | 93 => ⟨S1x2048, .f32⟩
  | 94 => ⟨S2048, .f32⟩
  | 95 => ⟨S1x2048, .f32⟩
  | 96 => ⟨S4096x2048, .f32⟩
  | 97 => ⟨S4096x2048, .f32⟩
  | 98 => ⟨S4096x2048, .f32⟩
  | 99 => ⟨S1x16x2048, .f32⟩
  | 100 => ⟨S16x2048, .f32⟩
  | 101 => ⟨S1x2048, .f32⟩
  | 102 => ⟨S4096x2048, .f32⟩
  | 103 => ⟨S4096x2048, .f32⟩
  | _ => ⟨S4096x14336, .f32⟩

abbrev hbmTy (i : Nat) : BufTy := match i / 128 with
  | 0 => hbmTy0_0 i
  | 1 => hbmTy0_1 i
  | _ => ⟨S4096x14336, .f32⟩

abbrev bufTy : (tb : Table) → Fin (tcTables nBuf tb) → BufTy
  | .hbm, ⟨i, _⟩ => hbmTy i
  | _, _ => ⟨S4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst : Ref sig .tc := ⟨.hbm, 59, rfl⟩
abbrev main_v53 : Ref sig .tc := ⟨.hbm, 60, rfl⟩
abbrev main_v54 : Ref sig .tc := ⟨.hbm, 61, rfl⟩
abbrev main_cst_0 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_1 : Ref sig .tc := ⟨.hbm, 78, rfl⟩
abbrev main_v70 : Ref sig .tc := ⟨.hbm, 79, rfl⟩
abbrev main_v71 : Ref sig .tc := ⟨.hbm, 80, rfl⟩
abbrev main_cst_2 : Ref sig .tc := ⟨.hbm, 81, rfl⟩
abbrev main_v72 : Ref sig .tc := ⟨.hbm, 82, rfl⟩
abbrev main_v73 : Ref sig .tc := ⟨.hbm, 83, rfl⟩
abbrev main_cst_3 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_4 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_5 : Ref sig .tc := ⟨.hbm, 116, rfl⟩
abbrev main_v91 : Ref sig .tc := ⟨.hbm, 117, rfl⟩
abbrev main_cst_6 : Ref sig .tc := ⟨.hbm, 118, rfl⟩
abbrev main_v92 : Ref sig .tc := ⟨.hbm, 119, rfl⟩
abbrev main_c_7 : Ref sig .tc := ⟨.hbm, 120, rfl⟩
abbrev main_v93_0 : Ref sig .tc := ⟨.hbm, 121, rfl⟩
abbrev main_v93_1 : Ref sig .tc := ⟨.hbm, 122, rfl⟩
abbrev main_v93_2 : Ref sig .tc := ⟨.hbm, 123, rfl⟩
abbrev main_v93_3 : Ref sig .tc := ⟨.hbm, 124, rfl⟩
abbrev main_v93_4 : Ref sig .tc := ⟨.hbm, 125, rfl⟩
abbrev main_while0c_c_18 : Ref sig .tc := ⟨.hbm, 126, rfl⟩
abbrev main_while0c_v177 : Ref sig .tc := ⟨.hbm, 127, rfl⟩
abbrev main_while0b_call2_c : Ref sig .tc := ⟨.hbm, 128, rfl⟩
abbrev main_while0b_call2_v0 : Ref sig .tc := ⟨.hbm, 129, rfl⟩
abbrev main_while0b_v177 : Ref sig .tc := ⟨.hbm, 130, rfl⟩
abbrev main_while0b_call3_c : Ref sig .tc := ⟨.hbm, 131, rfl⟩
abbrev main_while0b_call3_v0 : Ref sig .tc := ⟨.hbm, 132, rfl⟩
abbrev main_while0b_v178 : Ref sig .tc := ⟨.hbm, 133, rfl⟩
abbrev main_while0b_v179 : Ref sig .tc := ⟨.hbm, 134, rfl⟩
abbrev main_while0b_v180 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_v181 : Ref sig .tc := ⟨.hbm, 138, rfl⟩
abbrev main_while0b_c_18 : Ref sig .tc := ⟨.hbm, 139, rfl⟩
abbrev main_while0b_v182 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_8 : Ref sig .tc := ⟨.hbm, 147, rfl⟩
abbrev main_call5_v0 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_9 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_10 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_11 : Ref sig .tc := ⟨.hbm, 181, rfl⟩
abbrev main_v130 : Ref sig .tc := ⟨.hbm, 182, rfl⟩
abbrev main_v131 : Ref sig .tc := ⟨.hbm, 183, rfl⟩
abbrev main_cst_12 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_c_13 : Ref sig .tc := ⟨.hbm, 197, rfl⟩
abbrev main_call6_v0 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩

abbrev nD : Nat := 1
abbrev τ : Topo := Topo.v7x

variable {F : FTy → Type} [FloatOps F]

abbrev main_while0_count : Scf.Loop 32 := ⟨0#32, 4096#32, 1#32⟩
-- ==== Kernel18.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel19.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference19Ideal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4096x3584 : Shape := ⟨2, ![4096, 3584]⟩
abbrev S256x896 : Shape := ⟨2, ![256, 896]⟩

abbrev nBuf : Space → Nat
  | .hbm => 8
  | .vmem => 16
  | .smem => 0
  | _ => 0

abbrev bufTy : (tb : Table) → Fin (tcTables nBuf tb) → BufTy
  | .hbm, ⟨0, _⟩ => ⟨S4096x3584, .f32⟩
  | .hbm, ⟨1, _⟩ => ⟨S4096x3584, .f32⟩
  | .hbm, ⟨2, _⟩ => ⟨S4096x3584, .f32⟩
  | .hbm, ⟨3, _⟩ => ⟨S4096x3584, .f32⟩
  | .hbm, ⟨4, _⟩ => ⟨S4096x3584, .f32⟩
  | .hbm, ⟨5, _⟩ => ⟨S4096x3584, .f32⟩
  | .hbm, ⟨6, _⟩ => ⟨S4096x3584, .f32⟩
  | .hbm, ⟨7, _⟩ => ⟨S4096x3584, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S4096x3584 : Shape := ⟨2, ![4096, 3584]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x3584, .f32⟩
  | .hbm, ⟨2, _⟩ => ⟨S4096x3584, .f32⟩
  | .hbm, ⟨3, _⟩ => ⟨S4096x3584, .f32⟩
  | .hbm, ⟨4, _⟩ => ⟨S_, .f32⟩
  | .hbm, ⟨5, _⟩ => ⟨S4096x3584, .f32⟩
  | .hbm, ⟨6, _⟩ => ⟨S4096x3584, .f32⟩
  | .hbm, ⟨7, _⟩ => ⟨S_, .f32⟩
  | .hbm, ⟨8, _⟩ => ⟨S4096x3584, .f32⟩
  | .hbm, ⟨9, _⟩ => ⟨S4096x3584, .f32⟩
  | .hbm, ⟨10, _⟩ => ⟨S4096x3584, .f32⟩
  | .hbm, ⟨11, _⟩ => ⟨S_, .f32⟩
  | .hbm, ⟨12, _⟩ => ⟨S4096x3584, .f32⟩
  | .hbm, ⟨13, _⟩ => ⟨S4096x3584, .f32⟩
  | .hbm, ⟨14, _⟩ => ⟨S4096x3584, .f32⟩
  | .hbm, ⟨15, _⟩ => ⟨S_, .f32⟩
  | .hbm, ⟨16, _⟩ => ⟨S4096x3584, .f32⟩
  | .hbm, ⟨17, _⟩ => ⟨S4096x3584, .f32⟩
  | .hbm, ⟨18, _⟩ => ⟨S4096x3584, .f32⟩
  | .hbm, ⟨19, _⟩ => ⟨S_, .f32⟩
  | .hbm, ⟨20, _⟩ => ⟨S4096x3584, .f32⟩
  | .hbm, ⟨21, _⟩ => ⟨S4096x3584, .f32⟩
  | .hbm, ⟨22, _⟩ => ⟨S_, .f32⟩
  | .hbm, ⟨23, _⟩ => ⟨S4096x3584, .f32⟩
  | .hbm, ⟨24, _⟩ => ⟨S4096x3584, .f32⟩
  | .hbm, ⟨25, _⟩ => ⟨S4096x3584, .f32⟩
  | .hbm, ⟨26, _⟩ => ⟨S_, .f32⟩
  | .hbm, ⟨27, _⟩ => ⟨S4096x3584, .f32⟩
  | .hbm, ⟨28, _⟩ => ⟨S4096x3584, .f32⟩
  | .hbm, ⟨29, _⟩ => ⟨S4096x3584, .f32⟩
  | .hbm, ⟨30, _⟩ => ⟨S_, .f32⟩
  | .hbm, ⟨31, _⟩ => ⟨S4096x3584, .f32⟩
  | .hbm, ⟨32, _⟩ => ⟨S4096x3584, .f32⟩
  | .hbm, ⟨33, _⟩ => ⟨S4096x3584, .f32⟩
  | .hbm, ⟨34, _⟩ => ⟨S_, .f32⟩
  | .hbm, ⟨35, _⟩ => ⟨S4096x3584, .f32⟩
  | .hbm, ⟨36, _⟩ => ⟨S4096x3584, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4096x14336 : Shape := ⟨2, ![4096, 14336]⟩
abbrev S1x14336 : Shape := ⟨2, ![1, 14336]⟩
abbrev S512x2048 : Shape := ⟨2, ![512, 2048]⟩
abbrev S1x2048 : Shape := ⟨2, ![1, 2048]⟩
abbrev S2048 : Shape := ⟨1, ![2048]⟩

abbrev nBuf : Space → Nat
  | .hbm => 2
  | .vmem => 4
  | .smem => 0
  | _ => 0

abbrev bufTy : (tb : Table) → Fin (tcTables nBuf tb) → BufTy
  | .hbm, ⟨0, _⟩ => ⟨S4096x14336, .bf16⟩
  | .hbm, ⟨1, _⟩ => ⟨S1x14336, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S1x2048, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference21Ideal.lean ====
abbrev S4096x14336 : Shape := ⟨2, ![4096, 14336]⟩
abbrev S_ : Shape := ⟨0, ![]⟩
abbrev S14336 : Shape := ⟨1, ![14336]⟩
abbrev S1x14336 : Shape := ⟨2, ![1, 14336]⟩

abbrev nBuf : Space → Nat
  | .hbm => 15
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S_, .f32⟩
  | .hbm, ⟨2, _⟩ => ⟨S14336, .f32⟩
  | .hbm, ⟨3, _⟩ => ⟨S_, .f32⟩
  | .hbm, ⟨4, _⟩ => ⟨S4096x14336, .f32⟩
  | .hbm, ⟨5, _⟩ => ⟨S1x14336, .f32⟩
  | .hbm, ⟨6, _⟩ => ⟨S4096x14336, .f32⟩
  | .hbm, ⟨7, _⟩ => ⟨S4096x14336, .f32⟩
  | .hbm, ⟨8, _⟩ => ⟨S4096x14336, .f32⟩
  | .hbm, ⟨9, _⟩ => ⟨S_, .f32⟩
  | .hbm, ⟨10, _⟩ => ⟨S14336, .f32⟩
  | .hbm, ⟨11, _⟩ => ⟨S1x14336, .f32⟩
  | .hbm, ⟨12, _⟩ => ⟨S_, .f32⟩
  | .hbm, ⟨13, _⟩ => ⟨S14336, .f32⟩
  | .hbm, ⟨14, _⟩ => ⟨S1x14336, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel22.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference22Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x2048, .f32⟩
  | .hbm, ⟨73, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel23.lean ====
abbrev S4x1024x256 : Shape := ⟨3, ![4, 1024, 256]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 2
  | .vmem => 10
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S512x256, .f32⟩
  | .local _ .vmem, ⟨9, _⟩ => ⟨S512x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference23Ideal.lean ====
abbrev S4x1024x256 : Shape := ⟨3, ![4, 1024, 256]⟩
abbrev S_ : Shape := ⟨0, ![]⟩
abbrev S1024x256 : Shape := ⟨2, ![1024, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .f32⟩
  | .hbm, ⟨2, _⟩ => ⟨S_, .f32⟩
  | .hbm, ⟨3, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel24.lean ====
abbrev S8x88x2048 : Shape := ⟨3, ![8, 88, 2048]⟩
abbrev S88x2048 : Shape := ⟨2, ![88, 2048]⟩
abbrev S1x88x2048 : Shape := ⟨3, ![1, 88, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x88x2048, .f32⟩
  | .hbm, ⟨1, _⟩ => ⟨S88x2048, .f32⟩
  | .local _ .vmem, ⟨0, _⟩ => ⟨S8x88x2048, .f32⟩
  | .local _ .vmem, ⟨1, _⟩ => ⟨S88x2048, .f32⟩
  | _, _ => ⟨S8x88x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x88x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S88x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference24Ideal.lean ====
abbrev S8x88x2048 : Shape := ⟨3, ![8, 88, 2048]⟩
abbrev S_ : Shape := ⟨0, ![]⟩
abbrev S88x2048 : Shape := ⟨2, ![88, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x88x2048, .f32⟩
  | .hbm, ⟨1, _⟩ => ⟨S_, .f32⟩
  | .hbm, ⟨2, _⟩ => ⟨S88x2048, .f32⟩
  | _, _ => ⟨S8x88x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Alg.lean ====
module

public import Idealize.ShloMosaic.Lib.Pipeline.Value
public import Idealize.ShloMosaic.Lib.Pointwise
public import Idealize.ShloMosaic.Lib.IdealHost
public import Mathlib.Analysis.SpecialFunctions.Trigonometric.DerivHyp

/-! Scalar facts on the extended reals. -/

@[expose] public section

noncomputable section

open Idealize.ShloMosaic

namespace Alg

theorem hz : (![0, 0] : Fin 2 → Nat) = fun _ => 0 := funext fun a => by fin_cases a <;> rfl

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem real_sigmoid (x : ℝ) : 1 / (1 + Real.exp (-x)) = 1 / 2 * Real.tanh (1 / 2 * x) + 1 / 2 := by
  rw [Real.tanh_eq_sinh_div_cosh, Real.sinh_eq, Real.cosh_eq]
  have e : Real.exp (-x) = Real.exp (-(1 / 2 * x)) * Real.exp (-(1 / 2 * x)) := by rw [← Real.exp_add]; ring_nf
  have e1 : Real.exp (1 / 2 * x) * Real.exp (-(1 / 2 * x)) = 1 := by rw [← Real.exp_add]; simp
  rw [e]
  have h1 := Real.exp_pos (1 / 2 * x)
  have h2 := Real.exp_pos (-(1 / 2 * x))
  generalize Real.exp (1 / 2 * x) = a at *
  generalize Real.exp (-(1 / 2 * x)) = b at *
  have ha : a = 1 / b := by field_simp; linarith
  subst ha
  field_simp
  ring

/-- The logistic function through the hyperbolic tangent, at every extended real. -/
theorem sigmoid (x : EReal) :
    Ideal.div 1 (1 + Ideal.exp (-x)) = ((1 / 2 : ℝ) : EReal) * Ideal.tanh (((1 / 2 : ℝ) : EReal) * x) + ((1 / 2 : ℝ) : EReal) := by
  induction x with
  | bot =>
    rw [EReal.coe_mul_bot_of_pos (by norm_num)]
    simp only [EReal.neg_bot, Ideal.tanh_bot]
    show Ideal.div 1 (1 + ⊤) = _
    rw [show (1 : EReal) + ⊤ = ⊤ from rfl]
    simp only [Ideal.div, EReal.top_ne_zero, if_false, EReal.inv_top, mul_zero]
    rw [show (-1 : EReal) = ((-1 : ℝ) : EReal) from rfl, ← EReal.coe_mul, ← EReal.coe_add]
    norm_num
  | top =>
    rw [EReal.coe_mul_top_of_pos (by norm_num)]
    simp only [EReal.neg_top, Ideal.tanh_top]
    show Ideal.div 1 (1 + 0) = _
    rw [add_zero, mul_one, ← EReal.coe_add]
    simp [Ideal.div]
    rw [← EReal.coe_add]
    norm_num
  | coe r =>
    rw [← EReal.coe_mul, ← EReal.coe_neg, Ideal.tanh_coe, Ideal.exp_coe, ← EReal.coe_mul, ← EReal.coe_add, ← real_sigmoid]
    rw [show (1 : EReal) = ((1 : ℝ) : EReal) from rfl, ← EReal.coe_add]
    have hp : (0 : ℝ) < 1 + Real.exp (-r) := by have := Real.exp_pos (-r); linarith
    have hne : (((1 + Real.exp (-r) : ℝ)) : EReal) ≠ 0 := by
      intro h; exact hp.ne' (by exact_mod_cast h)
    rw [Ideal.div, if_neg hne, ← EReal.coe_inv, ← EReal.coe_mul]
    congr 1

theorem neg_half : Ideal.ofBits .f32 0xBF000000#32 = ((-(1 / 2) : ℝ) : EReal) := by
  simp [Ideal.ofBits, Ideal.ieee, -EReal.coe_mul, -EReal.coe_neg]; norm_num

theorem n2048 : Ideal.ofBits .f32 0x45000000#32 = ((2048 : ℝ) : EReal) := by
  simp [Ideal.ofBits, Ideal.ieee, -EReal.coe_mul]; norm_num

theorem eps_pos : (0 : EReal) < Ideal.ofBits .f32 0x358637BD#32 := by
  simp [Ideal.ofBits, Ideal.ieee, -EReal.coe_mul]

theorem div_2048 (x : EReal) : Ideal.div x ((2048 : ℝ) : EReal) = x * ((1 / 2048 : ℝ) : EReal) := by
  have h : ((2048 : ℝ) : EReal) ≠ 0 := by intro h; exact absurd (EReal.coe_eq_zero.mp h) (by norm_num)
  rw [Ideal.div, if_neg h, ← EReal.coe_inv]
  norm_num

theorem add_self (t : EReal) : t + t = ((2 : ℝ) : EReal) * t := by
  induction t with
  | bot => rw [EReal.coe_mul_bot_of_pos (by norm_num)]; rfl
  | top => rw [EReal.coe_mul_top_of_pos (by norm_num)]; rfl
  | coe r => rw [← EReal.coe_mul, ← EReal.coe_add, two_mul]

/-- The reciprocal root of a positive number is a real, and dividing it by that number cubes it. -/
theorem rsqrt_pos (w : EReal) (hw : 0 < w) :
    ∃ q : ℝ, Ideal.rsqrt w = (q : EReal) ∧ Ideal.div (Ideal.rsqrt w) w = ((q * q * q : ℝ) : EReal) := by
  induction w with
  | bot => exact absurd hw (by simp)
  | top => exact ⟨0, rfl, by simp [Ideal.div, Ideal.rsqrt]⟩
  | coe r =>
    have hr : 0 < r := by exact_mod_cast hw
    have hne : ((r : ℝ) : EReal) ≠ 0 := hw.ne'
    have e : Ideal.rsqrt (r : EReal) = (((Real.sqrt r)⁻¹ : ℝ) : EReal) := by
      show (if r < 0 then ⊥ else if r = 0 then ⊤ else (((Real.sqrt r)⁻¹ : ℝ) : EReal)) = _
      rw [if_neg hr.le.not_gt, if_neg hr.ne']
    refine ⟨(Real.sqrt r)⁻¹, e, ?_⟩
    rw [Ideal.div, if_neg hne, e, ← EReal.coe_inv, ← EReal.coe_mul]
    congr 1
    rw [← mul_inv, mul_assoc, ← mul_inv, ← mul_inv, Real.mul_self_sqrt hr.le]

theorem sq_nonneg (x : EReal) : 0 ≤ x * x := by
  induction x with
  | bot => simp
  | top => simp
  | coe r => rw [← EReal.coe_mul]; exact_mod_cast mul_self_nonneg r

/-- The norm's gradient in the two forms: the reciprocal root cubed, and the reciprocal root over its argument. -/
theorem norm_grad (x S M gd dres : EReal) (hM : 0 ≤ M) :
    dres + gd * Ideal.rsqrt (Ideal.div M ((2048 : ℝ) : EReal) + Ideal.ofBits .f32 0x358637BD#32)
      + x * Ideal.div (S * (((-(1 / 2) : ℝ) : EReal) * Ideal.div (Ideal.rsqrt (Ideal.div M ((2048 : ℝ) : EReal) + Ideal.ofBits .f32 0x358637BD#32))
          (Ideal.div M ((2048 : ℝ) : EReal) + Ideal.ofBits .f32 0x358637BD#32))) ((2048 : ℝ) : EReal)
      + Ideal.div (S * (((-(1 / 2) : ℝ) : EReal) * Ideal.div (Ideal.rsqrt (Ideal.div M ((2048 : ℝ) : EReal) + Ideal.ofBits .f32 0x358637BD#32))
          (Ideal.div M ((2048 : ℝ) : EReal) + Ideal.ofBits .f32 0x358637BD#32))) ((2048 : ℝ) : EReal) * x
    = Ideal.rsqrt (Ideal.div M ((2048 : ℝ) : EReal) + Ideal.ofBits .f32 0x358637BD#32) * gd
      - x * (Ideal.rsqrt (Ideal.div M ((2048 : ℝ) : EReal) + Ideal.ofBits .f32 0x358637BD#32)
          * Ideal.rsqrt (Ideal.div M ((2048 : ℝ) : EReal) + Ideal.ofBits .f32 0x358637BD#32)
          * Ideal.rsqrt (Ideal.div M ((2048 : ℝ) : EReal) + Ideal.ofBits .f32 0x358637BD#32)) * Ideal.div S ((2048 : ℝ) : EReal) + dres := by
  have hw : 0 < Ideal.div M ((2048 : ℝ) : EReal) + Ideal.ofBits .f32 0x358637BD#32 := by
    rw [div_2048]
    have h0 : 0 ≤ M * ((1 / 2048 : ℝ) : EReal) := mul_nonneg hM (by exact_mod_cast (by norm_num : (0 : ℝ) ≤ 1 / 2048))
    calc (0 : EReal) < Ideal.ofBits .f32 0x358637BD#32 := eps_pos
      _ = 0 + Ideal.ofBits .f32 0x358637BD#32 := (zero_add _).symm
      _ ≤ _ := by gcongr
  obtain ⟨q, e, e3⟩ := rsqrt_pos _ hw
  rw [e3, e, div_2048, div_2048]
  have hu : S * (((-(1 / 2) : ℝ) : EReal) * ((q * q * q : ℝ) : EReal)) * ((1 / 2048 : ℝ) : EReal) = S * ((-(q * q * q / 4096) : ℝ) : EReal) := by
    rw [← EReal.coe_mul, mul_assoc, ← EReal.coe_mul]
    congr 2; ring
  rw [hu]
  have ht : x * (S * ((-(q * q * q / 4096) : ℝ) : EReal)) + S * ((-(q * q * q / 4096) : ℝ) : EReal) * x
      = -(x * ((q : EReal) * q * q) * (S * ((1 / 2048 : ℝ) : EReal))) := by
    rw [mul_comm (S * _) x, add_self, ← EReal.coe_mul, ← EReal.coe_mul]
    have e1 : ((2 : ℝ) : EReal) * (x * (S * ((-(q * q * q / 4096) : ℝ) : EReal)))
        = x * S * (((2 : ℝ) : EReal) * ((-(q * q * q / 4096) : ℝ) : EReal)) := by ac_rfl
    have e2 : x * ((q * q * q : ℝ) : EReal) * (S * ((1 / 2048 : ℝ) : EReal))
        = x * S * (((q * q * q : ℝ) : EReal) * ((1 / 2048 : ℝ) : EReal)) := by ac_rfl
    rw [e1, e2, ← EReal.coe_mul, ← EReal.coe_mul, ← mul_neg, ← EReal.coe_neg]
    congr 2; ring
  rw [add_assoc, ht, sub_eq_add_neg, mul_comm gd]
  ac_rfl

theorem mul_rot (a b c : EReal) : a * b * c = c * a * b := by ac_rfl

/-- … with the factors of the gain's products in the reference's order. -/
theorem norm_grad_row (xs dh g : Fin 2048 → EReal) (k : Fin 2048) (dres : EReal) (w : EReal)
    (hw : w = Ideal.div (∑ i, xs i * xs i) ((2048 : ℝ) : EReal) + Ideal.ofBits .f32 0x358637BD#32) :
    dres + dh k * g k * Ideal.rsqrt w
      + xs k * Ideal.div ((∑ i, xs i * (dh i * g i)) * (((-(1 / 2) : ℝ) : EReal) * Ideal.div (Ideal.rsqrt w) w)) ((2048 : ℝ) : EReal)
      + Ideal.div ((∑ i, xs i * (dh i * g i)) * (((-(1 / 2) : ℝ) : EReal) * Ideal.div (Ideal.rsqrt w) w)) ((2048 : ℝ) : EReal) * xs k
    = Ideal.rsqrt w * (g k * dh k) - xs k * (Ideal.rsqrt w * Ideal.rsqrt w * Ideal.rsqrt w)
        * Ideal.div (∑ i, xs i * (g i * dh i)) ((2048 : ℝ) : EReal) + dres := by
  subst hw
  rw [norm_grad _ _ _ _ _ (Finset.sum_nonneg fun k _ => sq_nonneg _), mul_comm (dh k)]
  simp only [mul_comm (dh _)]

/-- A sum over blocks of `b` consecutive indices is the sum over all of them. -/
theorem sum_blocks (f : ℕ → EReal) (n b : ℕ) :
    ∑ s ∈ Finset.range n, ∑ r : Fin b, f (s * b + r.val) = ∑ i : Fin (n * b), f i.val := by
  rw [← Finset.sum_range (fun i => f i)]
  induction n with
  | zero => simp
  | succ n ih =>
    rw [Finset.sum_range_succ, ih, Nat.succ_mul, Finset.sum_range_add]
    congr 1
    exact (Finset.sum_range (fun i => f (n * b + i))).symm

/-- A function of the first `K` numbers, with zero beyond them. -/
def cell {K : ℕ} (f : Fin K → EReal) (n : ℕ) : EReal := if h : n < K then f ⟨n, h⟩ else 0

theorem cell_at {K : ℕ} (f : Fin K → EReal) (n : ℕ) (h : n < K) : cell f n = f ⟨n, h⟩ := dif_pos h

/-- … summed over `n` blocks that fill it. -/
theorem sum_cells {K : ℕ} (f : Fin K → EReal) (n b : ℕ) (h : n * b = K) :
    ∑ s ∈ Finset.range n, ∑ r : Fin b, cell f (s * b + r.val) = ∑ i : Fin K, f i := by
  subst h
  rw [sum_blocks]
  exact Finset.sum_congr rfl fun i _ => cell_at f _ i.isLt

end Alg
end
-- ==== Proof.V1.lean ====
module

public import proofs.«01_k».proof.Defs
public import proofs.«01_k».proof.Proof.Gen.KernelIdeal.Value
public import proofs.«01_k».proof.Proof.Gen.ReferenceIdeal.Run
public import proofs.«01_k».proof.Proof.Alg

/-! The gradient of the gated merge: both branches and both gates, block by block and whole. -/

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Alg

variable (m : (ℓ : Loc nD τ sig) → Buf (Elt Ideal) ℓ) (ρ : Dev nD → PrngReg)
theorem lt_N (t : Fin cfg0.N) : t.val < 16 := lt_of_lt_of_eq t.isLt N_0
theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = t.val % 2 ∧ win0_1.index t 1 = 0 :=
  (by decide +kernel : ∀ t : Fin grid0.N, _)
theorem idx2 : ∀ t : Fin cfg0.N, win0_2.index t 0 = t.val / 2 ∧ win0_2.index t 1 = t.val % 2 + 10 :=
  (by decide +kernel : ∀ t : Fin grid0.N, _)
theorem idx3 : ∀ t : Fin cfg0.N, win0_3.index t 0 = t.val / 2 ∧ win0_3.index t 1 = t.val % 2 + 12 :=
  (by decide +kernel : ∀ t : Fin grid0.N, _)
theorem idx4 : ∀ t : Fin cfg0.N, win0_4.index t 0 = t.val / 2 ∧ win0_4.index t 1 = t.val % 2 :=
  (by decide +kernel : ∀ t : Fin grid0.N, _)
theorem idx5 : ∀ t : Fin cfg0.N, win0_5.index t 0 = t.val / 2 ∧ win0_5.index t 1 = t.val % 2 :=
  (by decide +kernel : ∀ t : Fin grid0.N, _)
theorem idx6 : ∀ t : Fin cfg0.N, win0_6.index t 0 = t.val / 2 ∧ win0_6.index t 1 = t.val % 2 :=
  (by decide +kernel : ∀ t : Fin grid0.N, _)
theorem idx7 : ∀ t : Fin cfg0.N, win0_7.index t 0 = t.val / 2 ∧ win0_7.index t 1 = t.val % 2 :=
  (by decide +kernel : ∀ t : Fin grid0.N, _)
theorem idx8 : ∀ t : Fin cfg0.N, win0_8.index t 0 = t.val / 2 ∧ win0_8.index t 1 = t.val % 2 :=
  (by decide +kernel : ∀ t : Fin grid0.N, _)
theorem idx9 : ∀ t : Fin cfg0.N, win0_9.index t 0 = t.val / 2 ∧ win0_9.index t 1 = t.val % 2 :=
  (by decide +kernel : ∀ t : Fin grid0.N, _)

theorem emb0 (t : Fin cfg0.N) (r : Fin 512) (k : Fin 2048) : ((cfg0.win 0).blk t).view.emb (ix2 r k)
    = ix2 (⟨t.val / 2 * 512 + r.val, by have := lt_N t; omega⟩ : Fin 4096) k := by
  funext a
  apply Fin.ext
  match a with
  | ⟨0, _⟩ => show win0_0.index t 0 * 512 + 1 * r.val = t.val / 2 * 512 + r.val; rw [(idx0 t).1]; omega
  | ⟨1, _⟩ => show win0_0.index t 1 * 2048 + 1 * k.val = k.val; rw [(idx0 t).2]; omega
theorem iblk0_apply (c : Dev nD) (t : Fin cfg0.N) (r : Fin 512) (k : Fin 2048) : iblk m c 0 t (ix2 r k)
    = m ((c : Thread nD τ).loc main_arg0) (ix2 (⟨t.val / 2 * 512 + r.val, by have := lt_N t; omega⟩ : Fin 4096) k) := by
  unfold iblk
  rw [View.read_apply, emb0]
  show V m c main_arg0 _ = _
  rw [V_main_arg0]
theorem emb1 (t : Fin cfg0.N) (r : Fin 1024) (k : Fin 2048) : ((cfg0.win 1).blk t).view.emb (ix2 r k)
    = ix2 (⟨t.val % 2 * 1024 + r.val, by have := lt_N t; omega⟩ : Fin 2048) k := by
  funext a
  apply Fin.ext
  match a with
  | ⟨0, _⟩ => show win0_1.index t 0 * 1024 + 1 * r.val = t.val % 2 * 1024 + r.val; rw [(idx1 t).1]; omega
  | ⟨1, _⟩ => show win0_1.index t 1 * 2048 + 1 * k.val = k.val; rw [(idx1 t).2]; omega
theorem iblk1_apply (c : Dev nD) (t : Fin cfg0.N) (r : Fin 1024) (k : Fin 2048) : iblk m c 1 t (ix2 r k)
    = m ((c : Thread nD τ).loc main_arg1) (ix2 (⟨t.val % 2 * 1024 + r.val, by have := lt_N t; omega⟩ : Fin 2048) k) := by
  unfold iblk
  rw [View.read_apply, emb1]
  show V m c main_arg1 _ = _
  rw [V_main_arg1]
theorem emb2 (t : Fin cfg0.N) (r : Fin 512) (k : Fin 1024) : ((cfg0.win 2).blk t).view.emb (ix2 r k)
    = ix2 (⟨t.val / 2 * 512 + r.val, by have := lt_N t; omega⟩ : Fin 4096) (⟨(t.val % 2 + 10) * 1024 + k.val, by have := lt_N t; omega⟩ : Fin 14336) := by
  funext a
  apply Fin.ext
  match a with
  | ⟨0, _⟩ => show win0_2.index t 0 * 512 + 1 * r.val = t.val / 2 * 512 + r.val; rw [(idx2 t).1]; omega
  | ⟨1, _⟩ => show win0_2.index t 1 * 1024 + 1 * k.val = (t.val % 2 + 10) * 1024 + k.val; rw [(idx2 t).2]; omega
theorem iblk2_apply (c : Dev nD) (t : Fin cfg0.N) (r : Fin 512) (k : Fin 1024) : iblk m c 2 t (ix2 r k)
    = m ((c : Thread nD τ).loc main_arg2) (ix2 (⟨t.val / 2 * 512 + r.val, by have := lt_N t; omega⟩ : Fin 4096) (⟨(t.val % 2 + 10) * 1024 + k.val, by have := lt_N t; omega⟩ : Fin 14336)) := by
  unfold iblk
  rw [View.read_apply, emb2]
  show V m c main_arg2 _ = _
  rw [V_main_arg2]
theorem emb3 (t : Fin cfg0.N) (r : Fin 512) (k : Fin 1024) : ((cfg0.win 3).blk t).view.emb (ix2 r k)
    = ix2 (⟨t.val / 2 * 512 + r.val, by have := lt_N t; omega⟩ : Fin 4096) (⟨(t.val % 2 + 12) * 1024 + k.val, by have := lt_N t; omega⟩ : Fin 14336) := by
  funext a
  apply Fin.ext
  match a with
  | ⟨0, _⟩ => show win0_3.index t 0 * 512 + 1 * r.val = t.val / 2 * 512 + r.val; rw [(idx3 t).1]; omega
  | ⟨1, _⟩ => show win0_3.index t 1 * 1024 + 1 * k.val = (t.val % 2 + 12) * 1024 + k.val; rw [(idx3 t).2]; omega
theorem iblk3_apply (c : Dev nD) (t : Fin cfg0.N) (r : Fin 512) (k : Fin 1024) : iblk m c 3 t (ix2 r k)
    = m ((c : Thread nD τ).loc main_arg2) (ix2 (⟨t.val / 2 * 512 + r.val, by have := lt_N t; omega⟩ : Fin 4096) (⟨(t.val % 2 + 12) * 1024 + k.val, by have := lt_N t; omega⟩ : Fin 14336)) := by
  unfold iblk
  rw [View.read_apply, emb3]
  show V m c main_arg2 _ = _
  rw [V_main_arg2]
theorem emb4 (t : Fin cfg0.N) (r : Fin 512) (k : Fin 1024) : ((cfg0.win 4).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_4.index t 0 * 512 + 1 * r.val = t.val / 2 * 512 + r.val; rw [(idx4 t).1]; omega
  | ⟨1, _⟩ => show win0_4.index t 1 * 1024 + 1 * k.val = t.val % 2 * 1024 + k.val; rw [(idx4 t).2]; omega
theorem iblk4_apply (c : Dev nD) (t : Fin cfg0.N) (r : Fin 512) (k : Fin 1024) : iblk m c 4 t (ix2 r k)
    = m ((c : Thread nD τ).loc main_arg3) (ix2 (⟨t.val / 2 * 512 + r.val, by have := lt_N t; omega⟩ : Fin 4096) (⟨t.val % 2 * 1024 + k.val, by have := lt_N t; omega⟩ : Fin 2048)) := by
  unfold iblk
  rw [View.read_apply, emb4]
  show V m c main_arg3 _ = _
  rw [V_main_arg3]
theorem emb5 (t : Fin cfg0.N) (r : Fin 512) (k : Fin 1024) : ((cfg0.win 5).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_5.index t 0 * 512 + 1 * r.val = t.val / 2 * 512 + r.val; rw [(idx5 t).1]; omega
  | ⟨1, _⟩ => show win0_5.index t 1 * 1024 + 1 * k.val = t.val % 2 * 1024 + k.val; rw [(idx5 t).2]; omega
theorem iblk5_apply (c : Dev nD) (t : Fin cfg0.N) (r : Fin 512) (k : Fin 1024) : iblk m c 5 t (ix2 r k)
    = m ((c : Thread nD τ).loc main_arg4) (ix2 (⟨t.val / 2 * 512 + r.val, by have := lt_N t; omega⟩ : Fin 4096) (⟨t.val % 2 * 1024 + k.val, by have := lt_N t; omega⟩ : Fin 2048)) := by
  unfold iblk
  rw [View.read_apply, emb5]
  show V m c main_arg4 _ = _
  rw [V_main_arg4]
theorem emb6 (t : Fin cfg0.N) (r : Fin 512) (k : Fin 1024) : ((cfg0.win 6).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_6.index t 0 * 512 + 1 * r.val = t.val / 2 * 512 + r.val; rw [(idx6 t).1]; omega
  | ⟨1, _⟩ => show win0_6.index t 1 * 1024 + 1 * k.val = t.val % 2 * 1024 + k.val; rw [(idx6 t).2]; omega
theorem emb7 (t : Fin cfg0.N) (r : Fin 512) (k : Fin 1024) : ((cfg0.win 7).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_7.index t 0 * 512 + 1 * r.val = t.val / 2 * 512 + r.val; rw [(idx7 t).1]; omega
  | ⟨1, _⟩ => show win0_7.index t 1 * 1024 + 1 * k.val = t.val % 2 * 1024 + k.val; rw [(idx7 t).2]; omega
theorem emb8 (t : Fin cfg0.N) (r : Fin 512) (k : Fin 1024) : ((cfg0.win 8).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_8.index t 0 * 512 + 1 * r.val = t.val / 2 * 512 + r.val; rw [(idx8 t).1]; omega
  | ⟨1, _⟩ => show win0_8.index t 1 * 1024 + 1 * k.val = t.val % 2 * 1024 + k.val; rw [(idx8 t).2]; omega
theorem emb9 (t : Fin cfg0.N) (r : Fin 512) (k : Fin 1024) : ((cfg0.win 9).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_9.index t 0 * 512 + 1 * r.val = t.val / 2 * 512 + r.val; rw [(idx9 t).1]; omega
  | ⟨1, _⟩ => show win0_9.index t 1 * 1024 + 1 * k.val = t.val % 2 * 1024 + k.val; rw [(idx9 t).2]; omega

theorem out6 (c : Dev nD) (i : grid0.Coords) (a3 : Memref sig .tc .vmem S512x2048 .bf16) (h3 : a3.IsWhole) (a4 : Memref sig .tc .vmem S1024x2048 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S512x1024 .bf16) (h10 : a10.IsWhole) (a11 : Memref sig .tc .vmem S512x1024 .bf16) (h11 : a11.IsWhole) (a12 : Memref sig .tc .vmem S512x1024 .bf16) (h12 : a12.IsWhole) (a13 : Memref sig .tc .vmem S8x128 .f32) (h13 : a13.IsWhole)
    (x0 : Vec Ideal S512x2048 .bf16) (x1 : Vec Ideal S1024x2048 .bf16) (x2 x3 x4 x5 : Vec Ideal S512x1024 .f32) :
    out0_A_6 c i a3 h3 a4 h4 a5 h5 a6 h6 a7 h7 a8 h8 a9 h9 a10 h10 a11 h11 a12 h12 a13 h13 x0 x1 x2 x3 x4 x5 = k0_pay10 x0 x1 x2 := by
  unfold out0_A_6
  rw [View.read_writes_eq_canon _ _ _ (cover0_A_6 c i a3 h3 a4 h4 a5 h5 a6 h6 a7 h7 a8 h8 a9 h9 a10 h10 a11 h11 a12 h12 a13 h13 x0 x1 x2 x3 x4 x5)]
  unfold kernelRun0_A
  dsimp only
  sl_unfold_words
  rw [View.canon_unit_zero hz]
  simp only [View.readAt_eq_ld, h3.read_unread, h4.read_unread, h5.read_unread, h6.read_unread, h7.read_unread, h8.read_unread,
    View.ld_unit_zero (S := S512x2048) hz, View.ld_unit_zero (S := S1024x2048) hz, View.ld_unit_zero (S := S512x1024) hz]

theorem out7 (c : Dev nD) (i : grid0.Coords) (a3 : Memref sig .tc .vmem S512x2048 .bf16) (h3 : a3.IsWhole) (a4 : Memref sig .tc .vmem S1024x2048 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S512x1024 .bf16) (h10 : a10.IsWhole) (a11 : Memref sig .tc .vmem S512x1024 .bf16) (h11 : a11.IsWhole) (a12 : Memref sig .tc .vmem S512x1024 .bf16) (h12 : a12.IsWhole) (a13 : Memref sig .tc .vmem S8x128 .f32) (h13 : a13.IsWhole)
    (x0 : Vec Ideal S512x2048 .bf16) (x1 : Vec Ideal S1024x2048 .bf16) (x2 x3 x4 x5 : Vec Ideal S512x1024 .f32) :
    out0_A_7 c i a3 h3 a4 h4 a5 h5 a6 h6 a7 h7 a8 h8 a9 h9 a10 h10 a11 h11 a12 h12 a13 h13 x0 x1 x2 x3 x4 x5 = k0_pay1 (k0_pay7 x0 x1 x3) := by
  unfold out0_A_7
  rw [View.read_writes_eq_canon _ _ _ (cover0_A_7 c i a3 h3 a4 h4 a5 h5 a6 h6 a7 h7 a8 h8 a9 h9 a10 h10 a11 h11 a12 h12 a13 h13 x0 x1 x2 x3 x4 x5)]
  unfold kernelRun0_A
  dsimp only
  sl_unfold_words
  rw [View.canon_unit_zero hz]
  simp only [View.readAt_eq_ld, h3.read_unread, h4.read_unread, h5.read_unread, h6.read_unread, h7.read_unread, h8.read_unread,
    View.ld_unit_zero (S := S512x2048) hz, View.ld_unit_zero (S := S1024x2048) hz, View.ld_unit_zero (S := S512x1024) hz]

theorem out8 (c : Dev nD) (i : grid0.Coords) (a3 : Memref sig .tc .vmem S512x2048 .bf16) (h3 : a3.IsWhole) (a4 : Memref sig .tc .vmem S1024x2048 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S512x1024 .bf16) (h10 : a10.IsWhole) (a11 : Memref sig .tc .vmem S512x1024 .bf16) (h11 : a11.IsWhole) (a12 : Memref sig .tc .vmem S512x1024 .bf16) (h12 : a12.IsWhole) (a13 : Memref sig .tc .vmem S8x128 .f32) (h13 : a13.IsWhole)
    (x0 : Vec Ideal S512x2048 .bf16) (x1 : Vec Ideal S1024x2048 .bf16) (x2 x3 x4 x5 : Vec Ideal S512x1024 .f32) :
    out0_A_8 c i a3 h3 a4 h4 a5 h5 a6 h6 a7 h7 a8 h8 a9 h9 a10 h10 a11 h11 a12 h12 a13 h13 x0 x1 x2 x3 x4 x5 = k0_pay2 (k0_pay8 x0 x1 x2 x4) := by
  unfold out0_A_8
  rw [View.read_writes_eq_canon _ _ _ (cover0_A_8 c i a3 h3 a4 h4 a5 h5 a6 h6 a7 h7 a8 h8 a9 h9 a10 h10 a11 h11 a12 h12 a13 h13 x0 x1 x2 x3 x4 x5)]
  unfold kernelRun0_A
  dsimp only
  sl_unfold_words
  rw [View.canon_unit_zero hz]
  simp only [View.readAt_eq_ld, h3.read_unread, h4.read_unread, h5.read_unread, h6.read_unread, h7.read_unread, h8.read_unread,
    View.ld_unit_zero (S := S512x2048) hz, View.ld_unit_zero (S := S1024x2048) hz, View.ld_unit_zero (S := S512x1024) hz]

theorem out9 (c : Dev nD) (i : grid0.Coords) (a3 : Memref sig .tc .vmem S512x2048 .bf16) (h3 : a3.IsWhole) (a4 : Memref sig .tc .vmem S1024x2048 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S512x1024 .bf16) (h10 : a10.IsWhole) (a11 : Memref sig .tc .vmem S512x1024 .bf16) (h11 : a11.IsWhole) (a12 : Memref sig .tc .vmem S512x1024 .bf16) (h12 : a12.IsWhole) (a13 : Memref sig .tc .vmem S8x128 .f32) (h13 : a13.IsWhole)
    (x0 : Vec Ideal S512x2048 .bf16) (x1 : Vec Ideal S1024x2048 .bf16) (x2 x3 x4 x5 : Vec Ideal S512x1024 .f32) :
    out0_A_9 c i a3 h3 a4 h4 a5 h5 a6 h6 a7 h7 a8 h8 a9 h9 a10 h10 a11 h11 a12 h12 a13 h13 x0 x1 x2 x3 x4 x5 = k0_pay3 (k0_pay9 x0 x1 x3 x5) := by
  unfold out0_A_9
  rw [View.read_writes_eq_canon _ _ _ (cover0_A_9 c i a3 h3 a4 h4 a5 h5 a6 h6 a7 h7 a8 h8 a9 h9 a10 h10 a11 h11 a12 h12 a13 h13 x0 x1 x2 x3 x4 x5)]
  unfold kernelRun0_A
  dsimp only
  sl_unfold_words
  rw [View.canon_unit_zero hz]
  simp only [View.readAt_eq_ld, h3.read_unread, h4.read_unread, h5.read_unread, h6.read_unread, h7.read_unread, h8.read_unread,
    View.ld_unit_zero (S := S512x2048) hz, View.ld_unit_zero (S := S1024x2048) hz, View.ld_unit_zero (S := S512x1024) hz]

abbrev AT := FVec Ideal S4096x2048 .bf16
/-- The product of the incoming gradient with the transposed weight. -/
def prod (dx : FVec Ideal S4096x2048 .bf16) (w : FVec Ideal S2048x2048 .bf16) (i : S4096x2048.Idx) : EReal :=
  ∑ k : Fin 2048, dx (ix2 (i 0) k) * w (ix2 (i 1) k)
/-- The gate at a column of the joined pre-activation. -/
def gate (n : ℕ) (hn : n + 2048 ≤ 14336) (z : FVec Ideal S4096x14336 .f32) (i : S4096x2048.Idx) : EReal :=
  ((1 / 2 : ℝ) : EReal) * Ideal.tanh (((1 / 2 : ℝ) : EReal)
    * z (ix2 (i 0) (⟨n + (i 1).val, by have : (i 1).val < 2048 := (i 1).isLt; omega⟩ : Fin 14336))) + ((1 / 2 : ℝ) : EReal)

/-- A branch's gradient: the product times the gate. -/
def dBranch (n : ℕ) (hn : n + 2048 ≤ 14336) (dx : FVec Ideal S4096x2048 .bf16) (w : FVec Ideal S2048x2048 .bf16) (z : FVec Ideal S4096x14336 .f32) :
    FVec Ideal S4096x2048 .bf16 := fun i => (prod dx w i * gate n hn z i : EReal)
/-- A gate's gradient: the product times the branch, times the gate's slope. -/
def dGate (n : ℕ) (hn : n + 2048 ≤ 14336) (dx : FVec Ideal S4096x2048 .bf16) (w : FVec Ideal S2048x2048 .bf16) (z : FVec Ideal S4096x14336 .f32)
    (u : FVec Ideal S4096x2048 .f32) : FVec Ideal S4096x2048 .bf16 :=
  fun i => (prod dx w i * u i * gate n hn z i * (1 - gate n hn z i) : EReal)

abbrev X0 (c : Dev nD) : FVec Ideal S4096x2048 .bf16 := m ((c : Thread nD τ).loc main_arg0)
abbrev X1 (c : Dev nD) : FVec Ideal S2048x2048 .bf16 := m ((c : Thread nD τ).loc main_arg1)
abbrev X2 (c : Dev nD) : FVec Ideal S4096x14336 .f32 := m ((c : Thread nD τ).loc main_arg2)
abbrev X3 (c : Dev nD) : FVec Ideal S4096x2048 .f32 := m ((c : Thread nD τ).loc main_arg3)
abbrev X4 (c : Dev nD) : FVec Ideal S4096x2048 .f32 := m ((c : Thread nD τ).loc main_arg4)

abbrev res6 (c : Dev nD) : Buf (Elt Ideal) ((c : Thread nD τ).loc main_v0_0) := dBranch 10240 (by decide) (X0 m c) (X1 m c) (X2 m c)

theorem flushed_eq6 (c : Dev nD) (t : Fin cfg0.N) :
    (dats m 0 c).flushed 6 t = ((cfg0.win 6).blk t).view.read (Elt Ideal) (res6 m c) := by
  rw [Value.flushed6_A, out6]
  funext j
  obtain ⟨r, k, rfl⟩ : ∃ (r : Fin 512) (k : Fin 1024), j = ix2 r k := ⟨j 0, j 1, eq_ix2 j⟩
  rw [View.read_apply, emb6]
  show k0_pay10 (F := Ideal) (iblk m c 0 t) (iblk m c 1 t) (iblk m c 2 t) (ix2 r k) = dBranch 10240 (by decide) (X0 m c) (X1 m c) (X2 m c) _
  unfold dBranch prod gate
  have ht := lt_N t
  have hr := r.isLt
  have hk := k.isLt
  have e : (⟨(t.val % 2 + 10) * 1024 + k.val, by omega⟩ : Fin 14336) = ⟨10240 + (t.val % 2 * 1024 + k.val), by omega⟩ := Fin.ext (by dsimp only; omega)
  simp only [ix2_0, ix2_1]
  pointwise [k0_pay10, k0_pay4, k0_pay5]
  simp only [iblk0_apply, iblk1_apply, iblk2_apply, iblk3_apply, iblk4_apply, iblk5_apply, half, Ideal.ofBits_one_f32, e]
theorem cover6 (i : S4096x2048.Idx) : ∃ t : Fin cfg0.N, (cfg0.win 6).flush t = true ∧ i ∈ ((cfg0.win 6).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = (i 0).val / 512 * 2 + (i 1).val / 1024 := ⟨⟨_, by omega⟩, rfl⟩
  refine ⟨t, flush0_6 t, ?_⟩
  show i ∈ ((View.whole main_v0_0).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(idx6 t).1]; omega
  | ⟨1, _⟩ => show win0_6.index t 1 * 1024 ≤ (i 1).val ∧ (i 1).val < win0_6.index t 1 * 1024 + 1024; rw [(idx6 t).2]; omega

theorem final6 (c : Dev nD) : (dats m 0 c).arrAt 6 cfg0.N = res6 m c :=
  (dats m 0 c).arrAt_eq_of_cover 6 (res6 m c) (fun t _ => flushed_eq6 m c t) cover6

abbrev res7 (c : Dev nD) : Buf (Elt Ideal) ((c : Thread nD τ).loc main_v0_1) := dBranch 12288 (by decide) (X0 m c) (X1 m c) (X2 m c)

theorem flushed_eq7 (c : Dev nD) (t : Fin cfg0.N) :
    (dats m 0 c).flushed 7 t = ((cfg0.win 7).blk t).view.read (Elt Ideal) (res7 m c) := by
  rw [Value.flushed7_A, out7]
  funext j
  obtain ⟨r, k, rfl⟩ : ∃ (r : Fin 512) (k : Fin 1024), j = ix2 r k := ⟨j 0, j 1, eq_ix2 j⟩
  rw [View.read_apply, emb7]
  show k0_pay1 (F := Ideal) (k0_pay7 (iblk m c 0 t) (iblk m c 1 t) (iblk m c 3 t)) (ix2 r k) = dBranch 12288 (by decide) (X0 m c) (X1 m c) (X2 m c) _
  unfold dBranch prod gate
  have ht := lt_N t
  have hr := r.isLt
  have hk := k.isLt
  have e : (⟨(t.val % 2 + 12) * 1024 + k.val, by omega⟩ : Fin 14336) = ⟨12288 + (t.val % 2 * 1024 + k.val), by omega⟩ := Fin.ext (by dsimp only; omega)
  simp only [ix2_0, ix2_1]
  pointwise [k0_pay1, k0_pay7, k0_pay4, k0_pay6]
  simp only [iblk0_apply, iblk1_apply, iblk2_apply, iblk3_apply, iblk4_apply, iblk5_apply, half, Ideal.ofBits_one_f32, e]
theorem cover7 (i : S4096x2048.Idx) : ∃ t : Fin cfg0.N, (cfg0.win 7).flush t = true ∧ i ∈ ((cfg0.win 7).blk t).view.set := cover6 i

theorem final7 (c : Dev nD) : (dats m 0 c).arrAt 7 cfg0.N = res7 m c :=
  (dats m 0 c).arrAt_eq_of_cover 7 (res7 m c) (fun t _ => flushed_eq7 m c t) cover7

abbrev res8 (c : Dev nD) : Buf (Elt Ideal) ((c : Thread nD τ).loc main_v0_2) := dGate 10240 (by decide) (X0 m c) (X1 m c) (X2 m c) (X3 m c)

theorem flushed_eq8 (c : Dev nD) (t : Fin cfg0.N) :
    (dats m 0 c).flushed 8 t = ((cfg0.win 8).blk t).view.read (Elt Ideal) (res8 m c) := by
  rw [Value.flushed8_A, out8]
  funext j
  obtain ⟨r, k, rfl⟩ : ∃ (r : Fin 512) (k : Fin 1024), j = ix2 r k := ⟨j 0, j 1, eq_ix2 j⟩
  rw [View.read_apply, emb8]
  show k0_pay2 (F := Ideal) (k0_pay8 (iblk m c 0 t) (iblk m c 1 t) (iblk m c 2 t) (iblk m c 4 t)) (ix2 r k) = dGate 10240 (by decide) (X0 m c) (X1 m c) (X2 m c) (X3 m c) _
  unfold dGate prod gate
  have ht := lt_N t
  have hr := r.isLt
  have hk := k.isLt
  have e : (⟨(t.val % 2 + 10) * 1024 + k.val, by omega⟩ : Fin 14336) = ⟨10240 + (t.val % 2 * 1024 + k.val), by omega⟩ := Fin.ext (by dsimp only; omega)
  simp only [ix2_0, ix2_1]
  pointwise [k0_pay2, k0_pay8, k0_pay4, k0_pay5]
  simp only [iblk0_apply, iblk1_apply, iblk2_apply, iblk3_apply, iblk4_apply, iblk5_apply, half, Ideal.ofBits_one_f32, e]
theorem cover8 (i : S4096x2048.Idx) : ∃ t : Fin cfg0.N, (cfg0.win 8).flush t = true ∧ i ∈ ((cfg0.win 8).blk t).view.set := cover6 i

theorem final8 (c : Dev nD) : (dats m 0 c).arrAt 8 cfg0.N = res8 m c :=
  (dats m 0 c).arrAt_eq_of_cover 8 (res8 m c) (fun t _ => flushed_eq8 m c t) cover8

abbrev res9 (c : Dev nD) : Buf (Elt Ideal) ((c : Thread nD τ).loc main_v0_3) := dGate 12288 (by decide) (X0 m c) (X1 m c) (X2 m c) (X4 m c)

theorem flushed_eq9 (c : Dev nD) (t : Fin cfg0.N) :
    (dats m 0 c).flushed 9 t = ((cfg0.win 9).blk t).view.read (Elt Ideal) (res9 m c) := by
  rw [Value.flushed9_A, out9]
  funext j
  obtain ⟨r, k, rfl⟩ : ∃ (r : Fin 512) (k : Fin 1024), j = ix2 r k := ⟨j 0, j 1, eq_ix2 j⟩
  rw [View.read_apply, emb9]
  show k0_pay3 (F := Ideal) (k0_pay9 (iblk m c 0 t) (iblk m c 1 t) (iblk m c 3 t) (iblk m c 5 t)) (ix2 r k) = dGate 12288 (by decide) (X0 m c) (X1 m c) (X2 m c) (X4 m c) _
  unfold dGate prod gate
  have ht := lt_N t
  have hr := r.isLt
  have hk := k.isLt
  have e : (⟨(t.val % 2 + 12) * 1024 + k.val, by omega⟩ : Fin 14336) = ⟨12288 + (t.val % 2 * 1024 + k.val), by omega⟩ := Fin.ext (by dsimp only; omega)
  simp only [ix2_0, ix2_1]
  pointwise [k0_pay3, k0_pay9, k0_pay4, k0_pay6]
  simp only [iblk0_apply, iblk1_apply, iblk2_apply, iblk3_apply, iblk4_apply, iblk5_apply, half, Ideal.ofBits_one_f32, e]
theorem cover9 (i : S4096x2048.Idx) : ∃ t : Fin cfg0.N, (cfg0.win 9).flush t = true ∧ i ∈ ((cfg0.win 9).blk t).view.set := cover6 i

theorem final9 (c : Dev nD) : (dats m 0 c).arrAt 9 cfg0.N = res9 m c :=
  (dats m 0 c).arrAt_eq_of_cover 9 (res9 m c) (fun t _ => flushed_eq9 m c t) cover9

theorem ref_branchA (dx : FVec Ideal S4096x2048 .bf16) (w : FVec Ideal S2048x2048 .bf16) (z : FVec Ideal S4096x14336 .f32)
    (hs : S4096x14336.Slices ![0, 10240] S4096x2048) (hb : ReferenceIdeal.S_.BroadcastsInDim S4096x2048 (![] : Fin 0 → Fin S4096x2048.rank)) :
    truncf .bf16 (mulf (Host.divf (broadcastInDim S4096x2048 ![] hb (constant ReferenceIdeal.S_ .f32 0x3F800000#32)) (addf (broadcastInDim S4096x2048 ![] hb (constant ReferenceIdeal.S_ .f32 0x3F800000#32)) (Host.exp (Host.negf (extractStridedSlice S4096x2048 ![0, 10240] z hs))))) (Host.dotGeneral ReferenceIdeal.dot_S4096x2048_S2048x2048_S4096x2048_1_1_0_0_n_n none (extf .f32 dx bitsLt_bf16_f32) (extf .f32 w bitsLt_bf16_f32))) bitsLt_bf16_f32 = dBranch 10240 (by decide) dx w z := by
  funext j
  obtain ⟨r, k, rfl⟩ : ∃ (r : Fin 4096) (k : Fin 2048), j = ix2 r k := ⟨j 0, j 1, eq_ix2 j⟩
  unfold dBranch prod gate
  simp only [ix2_0, ix2_1]
  rw [← sigmoid, mul_comm]
  pointwise

theorem ref_gateA (dx : FVec Ideal S4096x2048 .bf16) (w : FVec Ideal S2048x2048 .bf16) (z : FVec Ideal S4096x14336 .f32) (u : FVec Ideal S4096x2048 .f32)
    (hs : S4096x14336.Slices ![0, 10240] S4096x2048) (hb : ReferenceIdeal.S_.BroadcastsInDim S4096x2048 (![] : Fin 0 → Fin S4096x2048.rank)) :
    truncf .bf16 (mulf (mulf (Host.dotGeneral ReferenceIdeal.dot_S4096x2048_S2048x2048_S4096x2048_1_1_0_0_n_n none (extf .f32 dx bitsLt_bf16_f32) (extf .f32 w bitsLt_bf16_f32)) u) (mulf (Host.divf (broadcastInDim S4096x2048 ![] hb (constant ReferenceIdeal.S_ .f32 0x3F800000#32)) (addf (broadcastInDim S4096x2048 ![] hb (constant ReferenceIdeal.S_ .f32 0x3F800000#32)) (Host.exp (Host.negf (extractStridedSlice S4096x2048 ![0, 10240] z hs))))) (subf (broadcastInDim S4096x2048 ![] hb (constant ReferenceIdeal.S_ .f32 0x3F800000#32)) (Host.divf (broadcastInDim S4096x2048 ![] hb (constant ReferenceIdeal.S_ .f32 0x3F800000#32)) (addf (broadcastInDim S4096x2048 ![] hb (constant ReferenceIdeal.S_ .f32 0x3F800000#32)) (Host.exp (Host.negf (extractStridedSlice S4096x2048 ![0, 10240] z hs)))))))) bitsLt_bf16_f32 = dGate 10240 (by decide) dx w z u := by
  funext j
  obtain ⟨r, k, rfl⟩ : ∃ (r : Fin 4096) (k : Fin 2048), j = ix2 r k := ⟨j 0, j 1, eq_ix2 j⟩
  unfold dGate prod gate
  simp only [ix2_0, ix2_1]
  rw [← sigmoid, mul_assoc (_ * _)]
  pointwise

theorem ref_branchB (dx : FVec Ideal S4096x2048 .bf16) (w : FVec Ideal S2048x2048 .bf16) (z : FVec Ideal S4096x14336 .f32)
    (hs : S4096x14336.Slices ![0, 12288] S4096x2048) (hb : ReferenceIdeal.S_.BroadcastsInDim S4096x2048 (![] : Fin 0 → Fin S4096x2048.rank)) :
    truncf .bf16 (mulf (Host.divf (broadcastInDim S4096x2048 ![] hb (constant ReferenceIdeal.S_ .f32 0x3F800000#32)) (addf (broadcastInDim S4096x2048 ![] hb (constant ReferenceIdeal.S_ .f32 0x3F800000#32)) (Host.exp (Host.negf (extractStridedSlice S4096x2048 ![0, 12288] z hs))))) (Host.dotGeneral ReferenceIdeal.dot_S4096x2048_S2048x2048_S4096x2048_1_1_0_0_n_n none (extf .f32 dx bitsLt_bf16_f32) (extf .f32 w bitsLt_bf16_f32))) bitsLt_bf16_f32 = dBranch 12288 (by decide) dx w z := by
  funext j
  obtain ⟨r, k, rfl⟩ : ∃ (r : Fin 4096) (k : Fin 2048), j = ix2 r k := ⟨j 0, j 1, eq_ix2 j⟩
  unfold dBranch prod gate
  simp only [ix2_0, ix2_1]
  rw [← sigmoid, mul_comm]
  pointwise

theorem ref_gateB (dx : FVec Ideal S4096x2048 .bf16) (w : FVec Ideal S2048x2048 .bf16) (z : FVec Ideal S4096x14336 .f32) (u : FVec Ideal S4096x2048 .f32)
    (hs : S4096x14336.Slices ![0, 12288] S4096x2048) (hb : ReferenceIdeal.S_.BroadcastsInDim S4096x2048 (![] : Fin 0 → Fin S4096x2048.rank)) :
    truncf .bf16 (mulf (mulf (Host.dotGeneral ReferenceIdeal.dot_S4096x2048_S2048x2048_S4096x2048_1_1_0_0_n_n none (extf .f32 dx bitsLt_bf16_f32) (extf .f32 w bitsLt_bf16_f32)) u) (mulf (Host.divf (broadcastInDim S4096x2048 ![] hb (constant ReferenceIdeal.S_ .f32 0x3F800000#32)) (addf (broadcastInDim S4096x2048 ![] hb (constant ReferenceIdeal.S_ .f32 0x3F800000#32)) (Host.exp (Host.negf (extractStridedSlice S4096x2048 ![0, 12288] z hs))))) (subf (broadcastInDim S4096x2048 ![] hb (constant ReferenceIdeal.S_ .f32 0x3F800000#32)) (Host.divf (broadcastInDim S4096x2048 ![] hb (constant ReferenceIdeal.S_ .f32 0x3F800000#32)) (addf (broadcastInDim S4096x2048 ![] hb (constant ReferenceIdeal.S_ .f32 0x3F800000#32)) (Host.exp (Host.negf (extractStridedSlice S4096x2048 ![0, 12288] z hs)))))))) bitsLt_bf16_f32 = dGate 12288 (by decide) dx w z u := by
  funext j
  obtain ⟨r, k, rfl⟩ : ∃ (r : Fin 4096) (k : Fin 2048), j = ix2 r k := ⟨j 0, j 1, eq_ix2 j⟩
  unfold dGate prod gate
  simp only [ix2_0, ix2_1]
  rw [← sigmoid, mul_assoc (_ * _)]
  pointwise

theorem runK : θ_run defs (onTc (τ := τ) (main (F := Ideal))) ⟨m, fun _ => 0, ρ⟩ fun r => ∀ c : Dev nD,
      r.2.mem ((c : Thread nD τ).loc main_v0_0) = res6 m c
      ∧ r.2.mem ((c : Thread nD τ).loc main_v0_1) = res7 m c
      ∧ r.2.mem ((c : Thread nD τ).loc main_v0_2) = res8 m c
      ∧ r.2.mem ((c : Thread nD τ).loc main_v0_3) = res9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m c), (h c).2.1.trans (final7 m c), (h c).2.2.1.trans (final8 m c),
    (h c).2.2.2.1.trans (final9 m c), (h c).2.2.2.2⟩) (Value.run_blocks m ρ)

theorem algebraic : Cert.algebraic_KernelIdeal_ReferenceIdeal := fun m ρ m' ρ' _ hag =>
  ⟨fun c => res6 m c, fun c => res7 m c, fun c => res8 m c, fun c => res9 m c, runK m ρ, (θ_run _ _ _).mono (fun _ h c =>
    ⟨(h c).1.trans (by rw [(hag c).1, (hag c).2.1, (hag c).2.2.1]; exact ref_branchA _ _ _ _ _),
     (h c).2.1.trans (by rw [(hag c).1, (hag c).2.1, (hag c).2.2.1]; exact ref_branchB _ _ _ _ _),
     (h c).2.2.1.trans (by rw [(hag c).1, (hag c).2.1, (hag c).2.2.1, (hag c).2.2.2.1]; exact ref_gateA _ _ _ _ _ _),
     (h c).2.2.2.1.trans (by rw [(hag c).1, (hag c).2.1, (hag c).2.2.1, (hag c).2.2.2.2]; exact ref_gateB _ _ _ _ _ _),
     (h c).2.2.2.2⟩) (ReferenceIdeal.Value.run m' ρ')⟩

end Cert.KernelIdeal.Val
end
-- ==== Proof.V2.lean ====
module

public import proofs.«01_k».proof.Defs
public import proofs.«01_k».proof.Proof.Gen.Kernel2Ideal.Value
public import proofs.«01_k».proof.Proof.Gen.Reference2Ideal.Run
public import proofs.«01_k».proof.Proof.Alg

/-! The norm's gradient: the rows block by block, the gain's sum over all blocks, and both whole. -/

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen Alg

variable (m : (ℓ : Loc nD τ sig) → Buf (Elt Ideal) ℓ) (ρ : Dev nD → PrngReg)
theorem lt_N (t : Fin cfg0.N) : t.val < 16 := lt_of_lt_of_eq t.isLt N_0
theorem idx0 : ∀ t : Fin cfg0.N, win0_0.index t 0 = t.val ∧ win0_0.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)

theorem V_v0 (c : Dev nD) : V m c main_v0
    = (broadcastInDim S1x2048 ![1] bcast_S2048_S1x2048_1 (m ((c : Thread nD τ).loc main_arg1)) : FVec Ideal S1x2048 .f32) := by
  unfold V
  simp only [hostOps0]
  after_results

theorem emb0 (t : Fin cfg0.N) (r : Fin 256) (k : Fin 2048) : ((cfg0.win 0).blk t).view.emb (ix2 r k)
    = ix2 (⟨t.val * 256 + r.val, by have := lt_N t; omega⟩ : Fin 4096) k := by
  funext a
  apply Fin.ext
  match a with
  | ⟨0, _⟩ => show win0_0.index t 0 * 256 + 1 * r.val = t.val * 256 + r.val; rw [(idx0 t).1]; omega
  | ⟨1, _⟩ => show win0_0.index t 1 * 2048 + 1 * k.val = k.val; rw [(idx0 t).2]; omega
theorem iblk0_apply (c : Dev nD) (t : Fin cfg0.N) (r : Fin 256) (k : Fin 2048) : iblk m c 0 t (ix2 r k)
    = m ((c : Thread nD τ).loc main_arg0) (ix2 (⟨t.val * 256 + r.val, by have := lt_N t; omega⟩ : Fin 4096) k) := by
  unfold iblk
  rw [View.read_apply, emb0]
  show V m c main_arg0 _ = _
  rw [V_main_arg0]
theorem emb2 (t : Fin cfg0.N) (r : Fin 256) (k : Fin 2048) : ((cfg0.win 2).blk t).view.emb (ix2 r k)
    = ix2 (⟨t.val * 256 + r.val, by have := lt_N t; omega⟩ : Fin 4096) k := emb0 t r k
theorem iblk2_apply (c : Dev nD) (t : Fin cfg0.N) (r : Fin 256) (k : Fin 2048) : iblk m c 2 t (ix2 r k)
    = m ((c : Thread nD τ).loc main_arg2) (ix2 (⟨t.val * 256 + r.val, by have := lt_N t; omega⟩ : Fin 4096) k) := by
  unfold iblk
  rw [View.read_apply, emb2]
  show V m c main_arg2 _ = _
  rw [V_main_arg2]
theorem emb3 (t : Fin cfg0.N) (r : Fin 256) (k : Fin 2048) : ((cfg0.win 3).blk t).view.emb (ix2 r k)
    = ix2 (⟨t.val * 256 + r.val, by have := lt_N t; omega⟩ : Fin 4096) k := emb0 t r k
theorem iblk3_apply (c : Dev nD) (t : Fin cfg0.N) (r : Fin 256) (k : Fin 2048) : iblk m c 3 t (ix2 r k)
    = m ((c : Thread nD τ).loc main_arg3) (ix2 (⟨t.val * 256 + r.val, by have := lt_N t; omega⟩ : Fin 4096) k) := by
  unfold iblk
  rw [View.read_apply, emb3]
  show V m c main_arg3 _ = _
  rw [V_main_arg3]
theorem emb1 (t : Fin cfg0.N) (r : Fin 1) (k : Fin 2048) : ((cfg0.win 1).blk t).view.emb (ix2 r k)
    = ix2 r k := by
  funext a
  apply Fin.ext
  match a with
  | ⟨0, _⟩ => show win0_1.index t 0 * 1 + 1 * r.val = r.val; rw [(idx1 t).1]; omega
  | ⟨1, _⟩ => show win0_1.index t 1 * 2048 + 1 * k.val = k.val; rw [(idx1 t).2]; omega
theorem iblk1_apply (c : Dev nD) (t : Fin cfg0.N) (r : Fin 1) (k : Fin 2048) : iblk m c 1 t (ix2 r k)
    = (m ((c : Thread nD τ).loc main_arg1) : FVec Ideal S2048 .f32) (ix1 k) := by
  unfold iblk
  rw [View.read_apply, emb1]
  show V m c main_v0 _ = _
  rw [V_v0]
  pointwise
theorem emb4 (t : Fin cfg0.N) (r : Fin 256) (k : Fin 2048) : ((cfg0.win 4).blk t).view.emb (ix2 r k)
    = ix2 (⟨t.val * 256 + r.val, by have := lt_N t; omega⟩ : Fin 4096) k := emb0 t r k
theorem emb5 (t : Fin cfg0.N) (r : Fin 256) (k : Fin 2048) : ((cfg0.win 5).blk t).view.emb (ix2 r k)
    = ix2 (⟨t.val * 256 + r.val, by have := lt_N t; omega⟩ : Fin 4096) k := emb0 t r k
theorem emb6 (t : Fin cfg0.N) (r : Fin 1) (k : Fin 2048) : ((cfg0.win 6).blk t).view.emb (ix2 r k)
    = ix2 r k := emb1 t r k

theorem outA4 (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole)
    (hc : cond0_0 i) (x0 : Vec Ideal S256x2048 .f32) (x1 : Vec Ideal S1x2048 .f32) (x2 x3 : Vec Ideal S256x2048 .f32) :
    out0_A_4 c i a1 h1 a2 h2 a3 h3 a4 h4 a5 h5 a6 h6 a7 h7 hc x0 x1 x2 x3 = k0_pay3 x0 x2 x1 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem outA5 (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole)
    (hc : cond0_0 i) (x0 : Vec Ideal S256x2048 .f32) (x1 : Vec Ideal S1x2048 .f32) (x2 x3 : Vec Ideal S256x2048 .f32) :
    out0_A_5 c i a1 h1 a2 h2 a3 h3 a4 h4 a5 h5 a6 h6 a7 h7 hc x0 x1 x2 x3 = k0_pay4 x0 x2 x1 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem outA6 (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole)
    (hc : cond0_0 i) (x0 : Vec Ideal S256x2048 .f32) (x1 : Vec Ideal S1x2048 .f32) (x2 x3 : Vec Ideal S256x2048 .f32) :
    out0_A_6 c i a1 h1 a2 h2 a3 h3 a4 h4 a5 h5 a6 h6 a7 h7 hc x0 x1 x2 x3 = k0_pay1 x0 x2 (k0_pay2 x0) (k0_pay5 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem outB4 (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole)
    (hc : ¬cond0_0 i) (x0 : Vec Ideal S256x2048 .f32) (x1 : Vec Ideal S1x2048 .f32) (x2 x3 : Vec Ideal S256x2048 .f32) (xo : Vec Ideal S1x2048 .f32) :
    out0_B_4 c i a1 h1 a2 h2 a3 h3 a4 h4 a5 h5 a6 h6 a7 h7 hc x0 x1 x2 x3 xo = k0_pay3 x0 x2 x1 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem outB5 (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole)
    (hc : ¬cond0_0 i) (x0 : Vec Ideal S256x2048 .f32) (x1 : Vec Ideal S1x2048 .f32) (x2 x3 : Vec Ideal S256x2048 .f32) (xo : Vec Ideal S1x2048 .f32) :
    out0_B_5 c i a1 h1 a2 h2 a3 h3 a4 h4 a5 h5 a6 h6 a7 h7 hc x0 x1 x2 x3 xo = k0_pay4 x0 x2 x1 x3 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem outB6 (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole)
    (hc : ¬cond0_0 i) (x0 : Vec Ideal S256x2048 .f32) (x1 : Vec Ideal S1x2048 .f32) (x2 x3 : Vec Ideal S256x2048 .f32) (xo : Vec Ideal S1x2048 .f32) :
    out0_B_6 c i a1 h1 a2 h2 a3 h3 a4 h4 a5 h5 a6 h6 a7 h7 hc x0 x1 x2 x3 xo = k0_pay1 x0 x2 (k0_pay2 x0) xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

/-- A row's mean square, guarded. -/
def var (x : FVec Ideal S4096x2048 .f32) (r : Fin 4096) : EReal :=
  Ideal.div (∑ k : Fin 2048, x (ix2 r k) * x (ix2 r k)) ((2048 : ℝ) : EReal) + Ideal.ofBits .f32 0x358637BD#32
/-- The input's gradient. -/
def dX (x : FVec Ideal S4096x2048 .f32) (g : FVec Ideal S2048 .f32) (dh dres : FVec Ideal S4096x2048 .f32) : FVec Ideal S4096x2048 .f32 :=
  fun i => (Ideal.rsqrt (var x (i 0)) * (g (ix1 (i 1)) * dh (ix2 (i 0) (i 1)))
    - x (ix2 (i 0) (i 1)) * (Ideal.rsqrt (var x (i 0)) * Ideal.rsqrt (var x (i 0)) * Ideal.rsqrt (var x (i 0)))
      * Ideal.div (∑ k : Fin 2048, x (ix2 (i 0) k) * (g (ix1 k) * dh (ix2 (i 0) k))) ((2048 : ℝ) : EReal)
    + dres (ix2 (i 0) (i 1)) : EReal)
/-- One row's part of the gain's gradient, zero past the last row. -/
def part (x dh : FVec Ideal S4096x2048 .f32) (k : Fin 2048) (n : ℕ) : EReal :=
  if h : n < 4096 then dh (ix2 ⟨n, h⟩ k) * x (ix2 ⟨n, h⟩ k) * Ideal.rsqrt (var x ⟨n, h⟩) else 0
/-- The gain's gradient. -/
def dG (x dh : FVec Ideal S4096x2048 .f32) : FVec Ideal S1x2048 .f32 :=
  fun i => (∑ n : Fin 4096, dh (ix2 n (i 1)) * x (ix2 n (i 1)) * Ideal.rsqrt (var x n) : EReal)

abbrev X0 (c : Dev nD) : FVec Ideal S4096x2048 .f32 := m ((c : Thread nD τ).loc main_arg0)
abbrev X1 (c : Dev nD) : FVec Ideal S2048 .f32 := m ((c : Thread nD τ).loc main_arg1)
abbrev X2 (c : Dev nD) : FVec Ideal S4096x2048 .f32 := m ((c : Thread nD τ).loc main_arg2)
abbrev X3 (c : Dev nD) : FVec Ideal S4096x2048 .f32 := m ((c : Thread nD τ).loc main_arg3)
abbrev res4 (c : Dev nD) : Buf (Elt Ideal) ((c : Thread nD τ).loc main_v1_0) := dX (X0 m c) (X1 m c) (X2 m c) (X3 m c)
abbrev res5 (c : Dev nD) : Buf (Elt Ideal) ((c : Thread nD τ).loc main_v1_1) := (dX (X0 m c) (X1 m c) (X2 m c) (X3 m c) : S4096x2048.Idx → EReal)
abbrev res6 (c : Dev nD) : Buf (Elt Ideal) ((c : Thread nD τ).loc main_v1_2) := dG (X0 m c) (X2 m c)

theorem flushed_eq4 (c : Dev nD) (t : Fin cfg0.N) :
    (dats m 0 c).flushed 4 t = ((cfg0.win 4).blk t).view.read (Elt Ideal) (res4 m c) := by
  have e : (dats m 0 c).flushed 4 t = (cfg0.win 4).cut (grid0.coords t) (k0_pay3 (F := Ideal) (iblk m c 0 t) (iblk m c 2 t) (iblk m c 1 t) (iblk m c 3 t)) := by
    by_cases h : t.val % 16 = 0
    · rw [Value.flushed4_A m c t h, outA4]
    · rw [Value.flushed4_B m c t h, outB4]
  rw [e]
  funext j
  obtain ⟨r, k, rfl⟩ : ∃ (r : Fin 256) (k : Fin 2048), j = ix2 r k := ⟨j 0, j 1, eq_ix2 j⟩
  rw [View.read_apply, emb4]
  show k0_pay3 (F := Ideal) (iblk m c 0 t) (iblk m c 2 t) (iblk m c 1 t) (iblk m c 3 t) (ix2 r k) = dX _ _ _ _ _
  unfold dX var
  simp only [ix2_0, ix2_1]
  pointwise [k0_pay4, k0_pay3, k0_pay2]
  simp only [iblk0_apply, iblk1_apply, iblk2_apply, iblk3_apply, n2048]
theorem cover4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = (i 0).val / 256 := ⟨⟨_, by omega⟩, rfl⟩
  refine ⟨t, flush0_4 t, ?_⟩
  show i ∈ ((View.whole main_v1_0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [(idx4 t).1]; omega
  | ⟨1, _⟩ => show win0_4.index t 1 * 2048 ≤ (i 1).val ∧ (i 1).val < win0_4.index t 1 * 2048 + 2048; rw [(idx4 t).2]; omega

theorem final4 (c : Dev nD) : (dats m 0 c).arrAt 4 cfg0.N = res4 m c :=
  (dats m 0 c).arrAt_eq_of_cover 4 (res4 m c) (fun t _ => flushed_eq4 m c t) cover4

theorem flushed_eq5 (c : Dev nD) (t : Fin cfg0.N) :
    (dats m 0 c).flushed 5 t = ((cfg0.win 5).blk t).view.read (Elt Ideal) (res5 m c) := by
  have e : (dats m 0 c).flushed 5 t = (cfg0.win 5).cut (grid0.coords t) (k0_pay4 (F := Ideal) (iblk m c 0 t) (iblk m c 2 t) (iblk m c 1 t) (iblk m c 3 t)) := by
    by_cases h : t.val % 16 = 0
    · rw [Value.flushed5_A m c t h, outA5]
    · rw [Value.flushed5_B m c t h, outB5]
  rw [e]
  funext j
  obtain ⟨r, k, rfl⟩ : ∃ (r : Fin 256) (k : Fin 2048), j = ix2 r k := ⟨j 0, j 1, eq_ix2 j⟩
  rw [View.read_apply, emb5]
  show k0_pay4 (F := Ideal) (iblk m c 0 t) (iblk m c 2 t) (iblk m c 1 t) (iblk m c 3 t) (ix2 r k) = dX _ _ _ _ _
  unfold dX var
  simp only [ix2_0, ix2_1]
  pointwise [k0_pay4, k0_pay3, k0_pay2]
  simp only [iblk0_apply, iblk1_apply, iblk2_apply, iblk3_apply, n2048]
theorem cover5 (i : S4096x2048.Idx) : ∃ t : Fin cfg0.N, (cfg0.win 5).flush t = true ∧ i ∈ ((cfg0.win 5).blk t).view.set := cover4 i

theorem final5 (c : Dev nD) : (dats m 0 c).arrAt 5 cfg0.N = res5 m c :=
  (dats m 0 c).arrAt_eq_of_cover 5 (res5 m c) (fun t _ => flushed_eq5 m c t) cover5

/-- One block's rows summed into what the gain's buffer held. -/
theorem part_block (c : Dev nD) (t : Fin cfg0.N) (xo : Vec Ideal S1x2048 .f32) (r : Fin 1) (k : Fin 2048) :
    k0_pay1 (F := Ideal) (iblk m c 0 t) (iblk m c 2 t) (k0_pay2 (iblk m c 0 t)) xo (ix2 r k)
      = xo (ix2 r k) + ∑ i : Fin 256, part (X0 m c) (X2 m c) k (t.val * 256 + i.val) := by
  unfold part var
  have ht := lt_N t
  pointwise [k0_pay1, k0_pay2]
  simp only [iblk0_apply, iblk2_apply, n2048]
  congr 1
  refine Finset.sum_congr rfl fun i _ => ?_
  rw [dif_pos (by omega)]

theorem acc6 (c : Dev nD) (k : Fin 2048) : ∀ (n : ℕ) (hn : n < cfg0.N), (outsAt0 m c n hn).2.2 (ix2 0 k)
    = (∑ s ∈ Finset.range (n + 1), ∑ i : Fin 256, part (X0 m c) (X2 m c) k (s * 256 + i.val) : EReal)
  | 0, hn => by
    rw [show outsAt0 m c 0 hn = _ from outsAt0_A m c ⟨0, hn⟩ rfl]
    dsimp only
    rw [outA6, part_block]
    have z : (k0_pay5 (F := Ideal)) (ix2 0 k) = (0 : EReal) := by pointwise [k0_pay5]
    rw [z, zero_add, Finset.sum_range_one]
  | n + 1, hn => by
    have hN : n + 1 < 16 := lt_of_lt_of_eq hn N_0
    rw [show outsAt0 m c (n + 1) hn = _ from outsAt0_B m c ⟨n + 1, hn⟩ (by dsimp only; omega)]
    dsimp only
    rw [outB6, part_block, Finset.sum_range_succ]
    congr 1
    exact acc6 c k n (Nat.lt_of_succ_lt hn)

theorem flushed_eq6 (c : Dev nD) (t : Fin cfg0.N) (hf : (cfg0.win 6).flush t = true) :
    (dats m 0 c).flushed 6 t = ((cfg0.win 6).blk t).view.read (Elt Ideal) (res6 m c) := by
  have ht := lt_N t
  have h15 : t.val = 15 := by have := (flush0_6 t).mp hf; omega
  rw [Value.flushed6]
  funext j
  obtain ⟨r, k, rfl⟩ : ∃ (r : Fin 1) (k : Fin 2048), j = ix2 r k := ⟨j 0, j 1, eq_ix2 j⟩
  obtain rfl : r = 0 := Subsingleton.elim _ _
  rw [View.read_apply, emb6]
  show (outsAt0 m c t.val t.isLt).2.2 (ix2 0 k) = dG _ _ _
  rw [acc6, h15, sum_blocks]
  unfold dG part
  simp only [ix2_0, ix2_1]
  refine Finset.sum_congr rfl fun i _ => ?_
  rw [dif_pos i.isLt]
theorem cover6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hN := N_0
  have hN' : cfg0.N = grid0.N := rfl
  obtain ⟨t, ht⟩ : ∃ t : Fin cfg0.N, t.val = 15 := ⟨⟨_, by omega⟩, rfl⟩
  refine ⟨t, (flush0_6 t).mpr (by omega), ?_⟩
  show i ∈ ((View.whole main_v1_2).slice (win0_6.rect t)).set
  rw [View.set_slice_whole, Rect.mem_set_unit]
  intro a
  match a with
  | ⟨0, _⟩ => show win0_6.index t 0 * 1 ≤ (i 0).val ∧ (i 0).val < win0_6.index t 0 * 1 + 1; rw [(idx6 t).1]; omega
  | ⟨1, _⟩ => show win0_6.index t 1 * 2048 ≤ (i 1).val ∧ (i 1).val < win0_6.index t 1 * 2048 + 2048; rw [(idx6 t).2]; omega

theorem final6 (c : Dev nD) : (dats m 0 c).arrAt 6 cfg0.N = res6 m c :=
  (dats m 0 c).arrAt_eq_of_cover 6 (res6 m c) (flushed_eq6 m c) cover6

theorem runK : θ_run defs (onTc (τ := τ) (main (F := Ideal))) ⟨m, fun _ => 0, ρ⟩ fun r => ∀ c : Dev nD,
      r.2.mem ((c : Thread nD τ).loc main_v1_0) = res4 m c
      ∧ r.2.mem ((c : Thread nD τ).loc main_v1_1) = res5 m c
      ∧ r.2.mem ((c : Thread nD τ).loc main_v1_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c),
    (h c).2.2.2⟩) (Value.run_blocks m ρ)

theorem algebraic : Cert.algebraic_Kernel2Ideal_Reference2Ideal := fun m ρ m' ρ' _ hag =>
  ⟨fun c => res4 m c, fun c => res5 m c, fun c => res6 m c, runK m ρ, (θ_run _ _ _).mono (fun _ h c =>
    ⟨(h c).1.trans (by
        clear h; rw [(hag c).1, (hag c).2.1, (hag c).2.2.1, (hag c).2.2.2]
        funext j
        obtain ⟨r, k, rfl⟩ : ∃ (r : Fin 4096) (k : Fin 2048), j = ix2 r k := ⟨j 0, j 1, eq_ix2 j⟩
        show _ = dX _ _ _ _ _
        unfold dX var
        simp only [ix2_0, ix2_1]
        refine Eq.trans ?_ (norm_grad_row (fun k => X0 m c (ix2 r k)) (fun k => X2 m c (ix2 r k)) (fun k => X1 m c (ix1 k)) k _ _ rfl)
        pointwise
        simp only [n2048, neg_half, Finset.univ_unique, Finset.sum_singleton]),
     (h c).2.1.trans (by
        clear h; rw [(hag c).1, (hag c).2.1, (hag c).2.2.1, (hag c).2.2.2]
        funext j
        obtain ⟨r, k, rfl⟩ : ∃ (r : Fin 4096) (k : Fin 2048), j = ix2 r k := ⟨j 0, j 1, eq_ix2 j⟩
        show _ = dX _ _ _ _ _
        unfold dX var
        simp only [ix2_0, ix2_1]
        refine Eq.trans ?_ (norm_grad_row (fun k => X0 m c (ix2 r k)) (fun k => X2 m c (ix2 r k)) (fun k => X1 m c (ix1 k)) k _ _ rfl)
        pointwise
        simp only [n2048, neg_half, Finset.univ_unique, Finset.sum_singleton]),
     (h c).2.2.1.trans (by
        clear h; rw [(hag c).1, (hag c).2.2.1]
        funext j
        obtain ⟨r, k, rfl⟩ : ∃ (r : Fin 1) (k : Fin 2048), j = ix2 r k := ⟨j 0, j 1, eq_ix2 j⟩
        show _ = dG _ _ _
        unfold dG var
        simp only [ix2_0, ix2_1]
        pointwise
        simp only [n2048, Finset.univ_unique, Finset.sum_singleton]
        refine Finset.sum_congr rfl fun i _ => ?_
        exact mul_rot _ _ _),
     (h c).2.2.2⟩) (Reference2Ideal.Value.run m' ρ')⟩

end Cert.Kernel2Ideal.Val
end
-- ==== Proof.V3.lean ====
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Relu

open Cert.Kernel3Ideal Cert.Kernel3Ideal.Gen

variable (m : (ℓ : Loc nD τ sig) → Buf (Elt Ideal) ℓ) (ρ : Dev nD → PrngReg)

theorem hz : (![0, 0] : Fin 2 → Nat) = fun _ => 0 := funext fun a => by fin_cases a <;> rfl

/-- What the body leaves in its output block: the payload of the three input blocks. -/
theorem out_A (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S8x128 .f32) (h7 : a7.IsWhole)
    (x0 : Vec Ideal S1024x2048 .bf16) (x1 : Vec Ideal S1024x2048 .bf16) (x2 : Vec Ideal S1024x1024 .bf16) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero hz]
  simp only [View.readAt_eq_ld, h3.read_unread, h4.read_unread, h5.read_unread, View.ld_unit_zero (S := S1024x2048) hz,
    View.ld_unit_zero (S := S1024x1024) hz]

theorem V_v2 (c : Dev nD) : V m c main_v2
    = (truncf .bf16 (maximumf (m ((c : Thread nD τ).loc main_arg2)) (broadcastInDim S4096x8192 ![] bcast_S_S4096x8192 (constant S_ .f32 0x00000000#32))) bitsLt_bf16_f32 : FVec Ideal S4096x8192 .bf16) := by
  unfold V
  simp only [hostOps0]
  after_results

theorem idx0 : ∀ t : Fin cfg0.N, win0_0.index t 0 = t.val / 8 ∧ win0_0.index t 1 = 0 :=
  (by decide +kernel : ∀ t : Fin grid0.N, _)
theorem idx1 : ∀ t : Fin cfg0.N, win0_1.index t 0 = t.val % 8 ∧ win0_1.index t 1 = 0 :=
  (by decide +kernel : ∀ t : Fin grid0.N, _)
theorem idx2 : ∀ t : Fin cfg0.N, win0_2.index t 0 = t.val / 8 ∧ win0_2.index t 1 = t.val % 8 :=
  (by decide +kernel : ∀ t : Fin grid0.N, _)
theorem idx3 : ∀ t : Fin cfg0.N, win0_3.index t 0 = t.val / 8 ∧ win0_3.index t 1 = t.val % 8 :=
  (by decide +kernel : ∀ t : Fin grid0.N, _)

/-- The rows of the block of the incoming gradient at point `t`. -/
theorem iblk0_apply (c : Dev nD) (t : Fin cfg0.N) (r : Fin 1024) (k : Fin 2048) (h : t.val / 8 * 1024 + r.val < 4096) :
    iblk m c 0 t (ix2 r k) = m ((c : Thread nD τ).loc main_arg0) (ix2 (⟨t.val / 8 * 1024 + r.val, h⟩ : Fin 4096) k) := by
  unfold iblk
  rw [View.read_apply]
  show V m c main_arg0 _ = _
  rw [V_main_arg0]
  congr 1
  funext a
  apply Fin.ext
  match a with
  | ⟨0, _⟩ => show win0_0.index t 0 * 1024 + 1 * r.val = t.val / 8 * 1024 + r.val; rw [(idx0 t).1]; omega
  | ⟨1, _⟩ => show win0_0.index t 1 * 2048 + 1 * k.val = k.val; rw [(idx0 t).2]; omega

theorem iblk1_apply (c : Dev nD) (t : Fin cfg0.N) (r : Fin 1024) (k : Fin 2048) (h : t.val % 8 * 1024 + r.val < 8192) :
    iblk m c 1 t (ix2 r k) = m ((c : Thread nD τ).loc main_arg1) (ix2 (⟨t.val % 8 * 1024 + r.val, h⟩ : Fin 8192) k) := by
  unfold iblk
  rw [View.read_apply]
  show V m c main_arg1 _ = _
  rw [V_main_arg1]
  congr 1
  funext a
  apply Fin.ext
  match a with
  | ⟨0, _⟩ => show win0_1.index t 0 * 1024 + 1 * r.val = t.val % 8 * 1024 + r.val; rw [(idx1 t).1]; omega
  | ⟨1, _⟩ => show win0_1.index t 1 * 2048 + 1 * k.val = k.val; rw [(idx1 t).2]; omega

/-- The gradient of the pre-activation: twice the rectified value times the product's row. -/
def grad (dx : FVec Ideal S4096x2048 .bf16) (w : FVec Ideal S8192x2048 .bf16) (p : FVec Ideal S4096x8192 .f32) :
    FVec Ideal S4096x8192 .bf16 := fun i =>
  (Ideal.ofBits .f32 0x40000000#32 * max (p i) 0 * ∑ k : Fin 2048, dx (ix2 (i 0) k) * w (ix2 (i 1) k) : EReal)

abbrev res (c : Dev nD) : Buf (Elt Ideal) ((c : Thread nD τ).loc main_v3) :=
  grad (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (res m c) := by
  rw [Value.flushed3_A, out_A]
  funext j
  rw [View.read_apply]
  have ht : t.val < 32 := lt_of_lt_of_eq t.isLt N_0
  have hj0 : (j 0).val < 1024 := (j 0).isLt
  have hj1 : (j 1).val < 1024 := (j 1).isLt
  have e : ((cfg0.win 3).blk t).view.emb j
      = ix2 (⟨t.val / 8 * 1024 + (j 0).val, by omega⟩ : Fin 4096) (⟨t.val % 8 * 1024 + (j 1).val, by omega⟩ : Fin 8192) := by
    funext a
    apply Fin.ext
    match a with
    | ⟨0, _⟩ => show win0_3.index t 0 * 1024 + 1 * (j 0).val = t.val / 8 * 1024 + (j 0).val; rw [(idx3 t).1]; omega
    | ⟨1, _⟩ => show win0_3.index t 1 * 1024 + 1 * (j 1).val = t.val % 8 * 1024 + (j 1).val; rw [(idx3 t).2]; omega
  have e2 : ((cfg0.win 2).blk t).view.emb j
      = ix2 (⟨t.val / 8 * 1024 + (j 0).val, by omega⟩ : Fin 4096) (⟨t.val % 8 * 1024 + (j 1).val, by omega⟩ : Fin 8192) := by
    funext a
    apply Fin.ext
    match a with
    | ⟨0, _⟩ => show win0_2.index t 0 * 1024 + 1 * (j 0).val = t.val / 8 * 1024 + (j 0).val; rw [(idx2 t).1]; omega
    | ⟨1, _⟩ => show win0_2.index t 1 * 1024 + 1 * (j 1).val = t.val % 8 * 1024 + (j 1).val; rw [(idx2 t).2]; omega
  have h2 : iblk m c 2 t j = (max ((m ((c : Thread nD τ).loc main_arg2) : FVec Ideal S4096x8192 .f32) (ix2 (⟨t.val / 8 * 1024 + (j 0).val, by omega⟩ : Fin 4096) (⟨t.val % 8 * 1024 + (j 1).val, by omega⟩ : Fin 8192))) 0 : EReal) := by
    unfold iblk
    rw [View.read_apply, e2]
    show V m c main_v2 _ = _
    rw [V_v2]
    pointwise
  show k0_pay1 (F := Ideal) (iblk m c 0 t) (iblk m c 1 t) (iblk m c 2 t) j = res m c _
  rw [e]
  unfold res grad
  idx_vars j
  have h2' := h2
  pointwise at h2'
  pointwise [k0_pay1]
  rw [h2']
  refine congrArg _ (Finset.sum_congr rfl fun k _ => ?_)
  rw [iblk0_apply m c t _ k (by omega), iblk1_apply m c t _ k (by omega)]

theorem cover (i : S4096x8192.Idx) : ∃ t : Fin cfg0.N, (cfg0.win 3).flush t = true ∧ i ∈ ((cfg0.win 3).blk t).view.set := by
  have h0 : (i 0).val < 4096 := (i 0).isLt
  have h1 : (i 1).val < 8192 := (i 1).isLt
  have hN : cfg0.N = 32 := N_0
  obtain ⟨t, ht⟩ : ∃ t : Fin cfg0.N, t.val = (i 0).val / 1024 * 8 + (i 1).val / 1024 := ⟨⟨_, by omega⟩, rfl⟩
  refine ⟨t, flush0_3 t, ?_⟩
  show i ∈ ((View.whole main_v3).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [(idx3 t).1]; omega
  | ⟨1, _⟩ => show win0_3.index t 1 * 1024 ≤ (i 1).val ∧ (i 1).val < win0_3.index t 1 * 1024 + 1024; rw [(idx3 t).2]; omega

theorem final (c : Dev nD) : (dats m 0 c).arrAt 3 cfg0.N = res m c :=
  (dats m 0 c).arrAt_eq_of_cover 3 (res m c) (fun t _ => flushed_eq m c t) cover

/-- The reference's term is the same gradient: where the pre-activation is not positive both are zero. -/
theorem ref_eq (dx : FVec Ideal S4096x2048 .bf16) (w : FVec Ideal S8192x2048 .bf16) (p : FVec Ideal S4096x8192 .f32) :
    truncf .bf16 (select (cmpf .ogt p (broadcastInDim S4096x8192 ![] Reference3Ideal.Gen.bcast_S_S4096x8192 (constant S_ .f32 0x00000000#32))) (mulf (Host.dotGeneral Reference3Ideal.dot_S4096x2048_S8192x2048_S4096x8192_1_1_0_0_n_n none (extf .f32 dx bitsLt_bf16_f32) (extf .f32 w bitsLt_bf16_f32)) (mulf (broadcastInDim S4096x8192 ![] Reference3Ideal.Gen.bcast_S_S4096x8192 (constant S_ .f32 0x40000000#32)) (maximumf p (broadcastInDim S4096x8192 ![] Reference3Ideal.Gen.bcast_S_S4096x8192 (constant S_ .f32 0x00000000#32))))) (broadcastInDim S4096x8192 ![] Reference3Ideal.Gen.bcast_S_S4096x8192 (constant S_ .f32 0x00000000#32))) bitsLt_bf16_f32 = grad dx w p := by
  funext j
  idx_vars j
  unfold grad
  pointwise
  by_cases h : 0 < (p (ix2 j0 j1) : EReal)
  · rw [if_pos h, mul_comm]
  · rw [if_neg h, max_eq_right (not_lt.mp h), mul_zero, zero_mul]

theorem runK : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

theorem algebraic : Cert.algebraic_Kernel3Ideal_Reference3Ideal := fun m ρ m' ρ' _ hag =>
  ⟨fun c => res m c, runK m ρ, (θ_run _ _ _).mono (fun _ h c => ⟨(h c).1.trans (by
    rw [(hag c).1, (hag c).2.1, (hag c).2.2]; exact ref_eq _ _ _), (h c).2⟩) (Reference3Ideal.Value.run m' ρ')⟩

end Cert.Kernel3Ideal.Relu
end
-- ==== Proof.V4.lean ====
module

public import proofs.«01_k».proof.Defs
public import proofs.«01_k».proof.Proof.Gen.Kernel4Ideal.Value
public import proofs.«01_k».proof.Proof.Gen.Reference4Ideal.Run
public import proofs.«01_k».proof.Proof.Alg

/-! The gradient of the input projection's operand. -/

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen Alg

variable (m : (ℓ : Loc nD τ sig) → Buf (Elt Ideal) ℓ) (ρ : Dev nD → PrngReg)
theorem lt_N (t : Fin cfg0.N) : t.val < 32 := lt_of_lt_of_eq t.isLt N_0
theorem idx0 : ∀ t : Fin cfg0.N, win0_0.index t 0 = t.val / 8 ∧ win0_0.index t 1 = t.val % 4 :=
  (by decide +kernel : ∀ t : Fin grid0.N, _)
theorem idx1 : ∀ t : Fin cfg0.N, win0_1.index t 0 = t.val / 4 % 2 ∧ win0_1.index t 1 = t.val % 4 :=
  (by decide +kernel : ∀ t : Fin grid0.N, _)
theorem idx2 : ∀ t : Fin cfg0.N, win0_2.index t 0 = t.val / 8 ∧ win0_2.index t 1 = t.val / 4 % 2 :=
  (by decide +kernel : ∀ t : Fin grid0.N, _)

/-- The factors as the region finds them. -/
abbrev X (c : Dev nD) : FVec Ideal S4096x14336 .bf16 := m ((c : Thread nD τ).loc main_arg0)
abbrev Y (c : Dev nD) : FVec Ideal S2048x14336 .bf16 := m ((c : Thread nD τ).loc main_arg1)
theorem emb0 (t : Fin cfg0.N) (r : Fin 1024) (k : Fin 3584) : ((cfg0.win 0).blk t).view.emb (ix2 r k)
    = ix2 (⟨t.val / 8 * 1024 + r.val, by have := lt_N t; omega⟩ : Fin 4096) (⟨t.val % 4 * 3584 + k.val, by have := lt_N t; omega⟩ : Fin 14336) := by
  funext a
  apply Fin.ext
  match a with
  | ⟨0, _⟩ => show win0_0.index t 0 * 1024 + 1 * r.val = t.val / 8 * 1024 + r.val; rw [(idx0 t).1]; omega
  | ⟨1, _⟩ => show win0_0.index t 1 * 3584 + 1 * k.val = t.val % 4 * 3584 + k.val; rw [(idx0 t).2]; omega
theorem iblk0_apply (c : Dev nD) (t : Fin cfg0.N) (r : Fin 1024) (k : Fin 3584) : iblk m c 0 t (ix2 r k)
    = X m c (ix2 (⟨t.val / 8 * 1024 + r.val, by have := lt_N t; omega⟩ : Fin 4096) (⟨t.val % 4 * 3584 + k.val, by have := lt_N t; omega⟩ : Fin 14336)) := by
  unfold iblk
  rw [View.read_apply, emb0]
  show V m c main_arg0 _ = _
  rw [V_main_arg0]
theorem emb1 (t : Fin cfg0.N) (r : Fin 1024) (k : Fin 3584) : ((cfg0.win 1).blk t).view.emb (ix2 r k)
    = ix2 (⟨t.val / 4 % 2 * 1024 + r.val, by have := lt_N t; omega⟩ : Fin 2048) (⟨t.val % 4 * 3584 + k.val, by have := lt_N t; omega⟩ : Fin 14336) := by
  funext a
  apply Fin.ext
  match a with
  | ⟨0, _⟩ => show win0_1.index t 0 * 1024 + 1 * r.val = t.val / 4 % 2 * 1024 + r.val; rw [(idx1 t).1]; omega
  | ⟨1, _⟩ => show win0_1.index t 1 * 3584 + 1 * k.val = t.val % 4 * 3584 + k.val; rw [(idx1 t).2]; omega
theorem iblk1_apply (c : Dev nD) (t : Fin cfg0.N) (r : Fin 1024) (k : Fin 3584) : iblk m c 1 t (ix2 r k)
    = Y m c (ix2 (⟨t.val / 4 % 2 * 1024 + r.val, by have := lt_N t; omega⟩ : Fin 2048) (⟨t.val % 4 * 3584 + k.val, by have := lt_N t; omega⟩ : Fin 14336)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 8 * 1024 + r.val, by have := lt_N t; omega⟩ : Fin 4096) (⟨t.val / 4 % 2 * 1024 + k.val, by have := lt_N t; omega⟩ : Fin 2048) := by
  funext a
  apply Fin.ext
  match a with
  | ⟨0, _⟩ => show win0_2.index t 0 * 1024 + 1 * r.val = t.val / 8 * 1024 + r.val; rw [(idx2 t).1]; omega
  | ⟨1, _⟩ => show win0_2.index t 1 * 1024 + 1 * k.val = t.val / 4 % 2 * 1024 + k.val; rw [(idx2 t).2]; omega

section
variable (c : Dev nD) (i : grid0.Coords) (a3 : Memref sig .tc .vmem S1024x3584 .bf16) (w3 : a3.IsWhole) (a4 : Memref sig .tc .vmem S1024x3584 .bf16) (w4 : a4.IsWhole) (a5 : Memref sig .tc .vmem S1024x1024 .f32) (w5 : a5.IsWhole) (a6 : Memref sig .tc .vmem S1024x1024 .f32) (w6 : a6.IsWhole)
theorem sA (hc0 : cond0_0 i) (hc1 : ¬cond0_1 i) (hc2 : ¬cond0_2 i) (x0 : Vec Ideal S1024x3584 .bf16) (x1 : Vec Ideal S1024x3584 .bf16) :
    sout0_A_0 c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  simp only [View.readAt_eq_ld, w3.read_unread, w4.read_unread, w5.read_unread, w6.read_unread, View.ld_unit_zero (S := S1024x3584) hz, View.ld_unit_zero (S := S1024x1024) hz]

theorem sB (hc0 : ¬cond0_0 i) (hc1 : cond0_1 i) (hc2 : ¬cond0_2 i) (x0 : Vec Ideal S1024x3584 .bf16) (x1 : Vec Ideal S1024x3584 .bf16) (xs0 : Vec Ideal S1024x1024 .f32) :
    sout0_B_0 c i a3 w3 a4 w4 a5 w5 a6 w6 hc0 hc1 hc2 x0 x1 xs0 = k0_pay2 xs0 x0 x1 := by
  unfold sout0_B_0
  rw [View.read_writes_eq_canon _ _ _ (scover0_B_0 c i a3 w3 a4 w4 a5 w5 a6 w6 hc0 hc1 hc2 x0 x1 xs0)]
  unfold kernelRun0_B
  dsimp only
  sl_unfold_words
  rw [View.canon_unit_zero hz]
  simp only [View.readAt_eq_ld, w3.read_unread, w4.read_unread, w5.read_unread, w6.read_unread, View.ld_unit_zero (S := S1024x3584) hz, View.ld_unit_zero (S := S1024x1024) hz]

theorem out2 (hc0 : ¬cond0_0 i) (hc1 : ¬cond0_1 i) (hc2 : cond0_2 i) (x0 : Vec Ideal S1024x3584 .bf16) (x1 : Vec Ideal S1024x3584 .bf16) (xs0 : Vec Ideal S1024x1024 .f32) :
    out0_C_2 c i a3 w3 a4 w4 a5 w5 a6 w6 hc0 hc1 hc2 x0 x1 xs0 = k0_pay3 xs0 x0 x1 := by
  unfold out0_C_2
  rw [View.read_writes_eq_canon _ _ _ (cover0_C_2 c i a3 w3 a4 w4 a5 w5 a6 w6 hc0 hc1 hc2 x0 x1 xs0)]
  unfold kernelRun0_C
  dsimp only
  sl_unfold_words
  rw [View.canon_unit_zero hz]
  simp only [View.readAt_eq_ld, w3.read_unread, w4.read_unread, w5.read_unread, w6.read_unread, View.ld_unit_zero (S := S1024x3584) hz, View.ld_unit_zero (S := S1024x1024) hz]
end

/-- The products that one element of the result sums. -/
def term (x : FVec Ideal S4096x14336 .bf16) (y : FVec Ideal S2048x14336 .bf16) (i : Fin 4096) (j : Fin 2048) (q : Fin 14336) : EReal :=
  x (ix2 i q) * y (ix2 j q)

theorem pay1_eq (c : Dev nD) (t : Fin cfg0.N) (r : Fin 1024) (k : Fin 1024) :
    k0_pay1 (F := Ideal) (iblk m c 0 t) (iblk m c 1 t) (ix2 r k)
      = ∑ q : Fin 3584, cell (term (X m c) (Y m c) (⟨t.val / 8 * 1024 + r.val, by have := lt_N t; omega⟩ : Fin 4096) (⟨t.val / 4 % 2 * 1024 + k.val, by have := lt_N t; omega⟩ : Fin 2048)) (t.val % 4 * 3584 + q.val) := by
  pointwise [k0_pay1]
  refine Finset.sum_congr rfl fun q _ => ?_
  rw [cell_at _ _ (by omega), iblk0_apply, iblk1_apply]
  rfl

theorem pay2_eq (c : Dev nD) (t : Fin cfg0.N) (acc : Vec Ideal S1024x1024 .f32) (r : Fin 1024) (k : Fin 1024) :
    k0_pay2 (F := Ideal) acc (iblk m c 0 t) (iblk m c 1 t) (ix2 r k)
      = (acc (ix2 r k) + ∑ q : Fin 3584, cell (term (X m c) (Y m c) (⟨t.val / 8 * 1024 + r.val, by have := lt_N t; omega⟩ : Fin 4096) (⟨t.val / 4 % 2 * 1024 + k.val, by have := lt_N t; omega⟩ : Fin 2048)) (t.val % 4 * 3584 + q.val) : EReal) := by
  have h := pay1_eq m c t r k
  pointwise [k0_pay1] at h
  pointwise [k0_pay2]
  rw [h]

theorem acc_eq (c : Dev nD) : ∀ (n : ℕ) (hn : n < cfg0.N) (_ : n % 4 < 3) (r : Fin 1024) (k : Fin 1024),
    (outsAt0 m c n hn).2 (ix2 r k)
      = (∑ s ∈ Finset.range (n % 4 + 1), ∑ q : Fin 3584, cell (term (X m c) (Y m c) (⟨n / 8 * 1024 + r.val, by have := lt_of_lt_of_eq hn N_0; omega⟩ : Fin 4096) (⟨n / 4 % 2 * 1024 + k.val, by have := lt_of_lt_of_eq hn N_0; omega⟩ : Fin 2048)) (s * 3584 + q.val) : EReal) := by
  intro n
  induction n with
  | zero =>
    intro hn hlt r k
    rw [show outsAt0 m c 0 hn = _ from outsAt0_A m c ⟨0, hn⟩ (by rfl) (by dsimp only; omega) (by dsimp only; omega)]
    dsimp only
    rw [sA]
    refine (pay1_eq m c ⟨0, hn⟩ r k).trans ?_
    dsimp only
    rw [show (0 : ℕ) % 4 + 1 = 1 from rfl, Finset.sum_range_one]
  | succ n ih =>
    intro hn hlt r k
    by_cases h0 : (n + 1) % 4 = 0
    · rw [show outsAt0 m c (n + 1) hn = _ from outsAt0_A m c ⟨n + 1, hn⟩ h0 (by dsimp only; omega) (by dsimp only; omega)]
      dsimp only
      rw [sA, h0]
      refine (pay1_eq m c ⟨n + 1, hn⟩ r k).trans ?_
      dsimp only
      rw [h0, Finset.sum_range_one]
    · rw [show outsAt0 m c (n + 1) hn = _ from outsAt0_B m c ⟨n + 1, hn⟩ h0 (by dsimp only; omega) (by dsimp only; omega)]
      dsimp only
      rw [sB, Finset.sum_range_succ]
      refine (pay2_eq m c ⟨n + 1, hn⟩ _ r k).trans ?_
      have e : (n + 1) % 4 = n % 4 + 1 := by omega
      have eI : (n + 1) / 8 = n / 8 := by omega
      have eJ : (n + 1) / 4 % 2 = n / 4 % 2 := by omega
      refine congrArg₂ (· + ·) ?_ rfl
      refine (ih (by omega) (by omega) r k).trans ?_
      simp only [e, eI, eJ]

/-- The product, element by element. -/
def G2 (x : FVec Ideal S4096x14336 .bf16) (y : FVec Ideal S2048x14336 .bf16) : FVec Ideal S4096x2048 .f32 := fun i =>
  ((∑ q : Fin 14336, term x y (i 0) (i 1) q) : EReal)

abbrev res2 (c : Dev nD) : Buf (Elt Ideal) ((c : Thread nD τ).loc main_v0) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  have hq : t.val % 4 = 3 := (flush0_2 t).mp hf
  rw [Value.flushed2_C m c t (by omega) (by omega) (by omega), out2]
  funext j
  obtain ⟨r, k, rfl⟩ : ∃ (r : Fin 1024) (k : Fin 1024), j = ix2 r k := ⟨j 0, j 1, eq_ix2 j⟩
  rw [View.read_apply, emb2]
  have hp := acc_eq m c (t.val - 1) (Nat.lt_of_le_of_lt (Nat.sub_le t.val 1) t.isLt) (by omega) r k
  have e : (t.val - 1) % 4 + 1 = 3 := by omega
  have eI : (t.val - 1) / 8 = t.val / 8 := by omega
  have eJ : (t.val - 1) / 4 % 2 = t.val / 4 % 2 := by omega
  have hb := pay2_eq m c t ((outsAt0 m c (t.val - 1) (Nat.lt_of_le_of_lt (Nat.sub_le t.val 1) t.isLt)).2) r k
  simp only [hp, hq, e, eI, eJ] at hb
  rw [← Finset.sum_range_succ (fun s => ∑ q : Fin 3584, cell _ (s * 3584 + q.val)), sum_cells _ 4 3584 (by rfl)] at hb
  show k0_pay3 (F := Ideal) ((outsAt0 m c (t.val - 1) (Nat.lt_of_le_of_lt (Nat.sub_le t.val 1) t.isLt)).2) (iblk m c 0 t) (iblk m c 1 t) (ix2 r k) = G2 (X m c) (Y m c) _
  unfold G2
  simp only [ix2_0, ix2_1]
  rw [← hb]
  pointwise [k0_pay3, k0_pay2]

theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = ((i 0).val / 1024 * 2 + (i 1).val / 1024) * 4 + 3 := ⟨⟨_, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

theorem runK : θ_run defs (onTc (τ := τ) (main (F := Ideal))) ⟨m, fun _ => 0, ρ⟩ fun r => ∀ c : Dev nD,
      r.2.mem ((c : Thread nD τ).loc main_v0) = res2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (Value.run_blocks m ρ)

theorem algebraic : Cert.algebraic_Kernel4Ideal_Reference4Ideal := fun m ρ m' ρ' _ hag =>
  ⟨fun c => res2 m c, runK m ρ,
    (θ_run _ _ _).mono (fun _ h c => ⟨(h c).1.trans (by
      clear h
      rw [(hag c).1, (hag c).2]
      funext j
      obtain ⟨r, k, rfl⟩ : ∃ (r : Fin 4096) (k : Fin 2048), j = ix2 r k := ⟨j 0, j 1, eq_ix2 j⟩
      show _ = G2 (X m c) (Y m c) _
      unfold G2 term
      simp only [ix2_0, ix2_1]
      pointwise), (h c).2⟩) (Reference4Ideal.Value.run m' ρ')⟩

end Cert.Kernel4Ideal.Val
end
-- ==== Proof.V5.lean ====
module

public import proofs.«01_k».proof.Defs
public import proofs.«01_k».proof.Proof.Gen.Kernel5Ideal.Value
public import proofs.«01_k».proof.Proof.Gen.Reference5Ideal.Run
public import proofs.«01_k».proof.Proof.Alg

/-! The gradient of the first mlp product's operand. -/

@[expose] public section

set_option maxRecDepth 16384

noncomputable section

open Idealize.ShloMosaic Idealize.ShloMosaic.TcCoe Idealize.SL.Sem
open Idealize.ShloMosaic.Pipeline (Dat)

namespace Cert.Kernel5Ideal.Val

open Cert.Kernel5Ideal Cert.Kernel5Ideal.Gen Alg

variable (m : (ℓ : Loc nD τ sig) → Buf (Elt Ideal) ℓ) (ρ : Dev nD → PrngReg)
theorem lt_N (t : Fin cfg0.N) : t.val < 16 := lt_of_lt_of_eq t.isLt N_0
theorem idx0 : ∀ t : Fin cfg0.N, win0_0.index t 0 = t.val / 4 ∧ win0_0.index t 1 = t.val % 2 :=
  (by decide +kernel : ∀ t : Fin grid0.N, _)
theorem idx1 : ∀ t : Fin cfg0.N, win0_1.index t 0 = t.val / 2 % 2 ∧ win0_1.index t 1 = t.val % 2 :=
  (by decide +kernel : ∀ t : Fin grid0.N, _)
theorem idx2 : ∀ t : Fin cfg0.N, win0_2.index t 0 = t.val / 4 ∧ win0_2.index t 1 = t.val / 2 % 2 :=
  (by decide +kernel : ∀ t : Fin grid0.N, _)

/-- The factors as the region finds them. -/
abbrev X (c : Dev nD) : FVec Ideal S4096x8192 .bf16 := m ((c : Thread nD τ).loc main_arg0)
abbrev Y (c : Dev nD) : FVec Ideal S2048x8192 .bf16 := m ((c : Thread nD τ).loc main_arg1)
theorem emb0 (t : Fin cfg0.N) (r : Fin 1024) (k : Fin 4096) : ((cfg0.win 0).blk t).view.emb (ix2 r k)
    = ix2 (⟨t.val / 4 * 1024 + r.val, by have := lt_N t; omega⟩ : Fin 4096) (⟨t.val % 2 * 4096 + k.val, by have := lt_N t; omega⟩ : Fin 8192) := by
  funext a
  apply Fin.ext
  match a with
  | ⟨0, _⟩ => show win0_0.index t 0 * 1024 + 1 * r.val = t.val / 4 * 1024 + r.val; rw [(idx0 t).1]; omega
  | ⟨1, _⟩ => show win0_0.index t 1 * 4096 + 1 * k.val = t.val % 2 * 4096 + k.val; rw [(idx0 t).2]; omega
theorem iblk0_apply (c : Dev nD) (t : Fin cfg0.N) (r : Fin 1024) (k : Fin 4096) : iblk m c 0 t (ix2 r k)
    = X m c (ix2 (⟨t.val / 4 * 1024 + r.val, by have := lt_N t; omega⟩ : Fin 4096) (⟨t.val % 2 * 4096 + k.val, by have := lt_N t; omega⟩ : Fin 8192)) := by
  unfold iblk
  rw [View.read_apply, emb0]
  show V m c main_arg0 _ = _
  rw [V_main_arg0]
theorem emb1 (t : Fin cfg0.N) (r : Fin 1024) (k : Fin 4096) : ((cfg0.win 1).blk t).view.emb (ix2 r k)
    = ix2 (⟨t.val / 2 % 2 * 1024 + r.val, by have := lt_N t; omega⟩ : Fin 2048) (⟨t.val % 2 * 4096 + k.val, by have := lt_N t; omega⟩ : Fin 8192) := by
  funext a
  apply Fin.ext
  match a with
  | ⟨0, _⟩ => show win0_1.index t 0 * 1024 + 1 * r.val = t.val / 2 % 2 * 1024 + r.val; rw [(idx1 t).1]; omega
  | ⟨1, _⟩ => show win0_1.index t 1 * 4096 + 1 * k.val = t.val % 2 * 4096 + k.val; rw [(idx1 t).2]; omega
theorem iblk1_apply (c : Dev nD) (t : Fin cfg0.N) (r : Fin 1024) (k : Fin 4096) : iblk m c 1 t (ix2 r k)
    = Y m c (ix2 (⟨t.val / 2 % 2 * 1024 + r.val, by have := lt_N t; omega⟩ : Fin 2048) (⟨t.val % 2 * 4096 + k.val, by have := lt_N t; omega⟩ : Fin 8192)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 4 * 1024 + r.val, by have := lt_N t; omega⟩ : Fin 4096) (⟨t.val / 2 % 2 * 1024 + k.val, by have := lt_N t; omega⟩ : Fin 2048) := by
  funext a
  apply Fin.ext
  match a with
  | ⟨0, _⟩ => show win0_2.index t 0 * 1024 + 1 * r.val = t.val / 4 * 1024 + r.val; rw [(idx2 t).1]; omega
  | ⟨1, _⟩ => show win0_2.index t 1 * 1024 + 1 * k.val = t.val / 2 % 2 * 1024 + k.val; rw [(idx2 t).2]; omega

section
variable (c : Dev nD) (i : grid0.Coords) (a3 : Memref sig .tc .vmem S1024x4096 .bf16) (w3 : a3.IsWhole) (a4 : Memref sig .tc .vmem S1024x4096 .bf16) (w4 : a4.IsWhole) (a5 : Memref sig .tc .vmem S1024x1024 .f32) (w5 : a5.IsWhole) (a6 : Memref sig .tc .vmem S1024x1024 .f32) (w6 : a6.IsWhole)
theorem sA (hc0 : cond0_0 i) (hc1 : ¬cond0_1 i) (hc2 : ¬cond0_2 i) (x0 : Vec Ideal S1024x4096 .bf16) (x1 : Vec Ideal S1024x4096 .bf16) :
    sout0_A_0 c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  simp only [View.readAt_eq_ld, w3.read_unread, w4.read_unread, w5.read_unread, w6.read_unread, View.ld_unit_zero (S := S1024x4096) hz, View.ld_unit_zero (S := S1024x1024) hz]

theorem out2 (hc0 : ¬cond0_0 i) (hc1 : ¬cond0_1 i) (hc2 : cond0_2 i) (x0 : Vec Ideal S1024x4096 .bf16) (x1 : Vec Ideal S1024x4096 .bf16) (xs0 : Vec Ideal S1024x1024 .f32) :
    out0_B_2 c i a3 w3 a4 w4 a5 w5 a6 w6 hc0 hc1 hc2 x0 x1 xs0 = k0_pay3 xs0 x0 x1 := by
  unfold out0_B_2
  rw [View.read_writes_eq_canon _ _ _ (cover0_B_2 c i a3 w3 a4 w4 a5 w5 a6 w6 hc0 hc1 hc2 x0 x1 xs0)]
  unfold kernelRun0_B
  dsimp only
  sl_unfold_words
  rw [View.canon_unit_zero hz]
  simp only [View.readAt_eq_ld, w3.read_unread, w4.read_unread, w5.read_unread, w6.read_unread, View.ld_unit_zero (S := S1024x4096) hz, View.ld_unit_zero (S := S1024x1024) hz]
end

/-- The products that one element of the result sums. -/
def term (x : FVec Ideal S4096x8192 .bf16) (y : FVec Ideal S2048x8192 .bf16) (i : Fin 4096) (j : Fin 2048) (q : Fin 8192) : EReal :=
  x (ix2 i q) * y (ix2 j q)

theorem pay1_eq (c : Dev nD) (t : Fin cfg0.N) (r : Fin 1024) (k : Fin 1024) :
    k0_pay1 (F := Ideal) (iblk m c 0 t) (iblk m c 1 t) (ix2 r k)
      = ∑ q : Fin 4096, cell (term (X m c) (Y m c) (⟨t.val / 4 * 1024 + r.val, by have := lt_N t; omega⟩ : Fin 4096) (⟨t.val / 2 % 2 * 1024 + k.val, by have := lt_N t; omega⟩ : Fin 2048)) (t.val % 2 * 4096 + q.val) := by
  pointwise [k0_pay1]
  refine Finset.sum_congr rfl fun q _ => ?_
  rw [cell_at _ _ (by omega), iblk0_apply, iblk1_apply]
  rfl

theorem pay2_eq (c : Dev nD) (t : Fin cfg0.N) (acc : Vec Ideal S1024x1024 .f32) (r : Fin 1024) (k : Fin 1024) :
    k0_pay2 (F := Ideal) acc (iblk m c 0 t) (iblk m c 1 t) (ix2 r k)
      = (acc (ix2 r k) + ∑ q : Fin 4096, cell (term (X m c) (Y m c) (⟨t.val / 4 * 1024 + r.val, by have := lt_N t; omega⟩ : Fin 4096) (⟨t.val / 2 % 2 * 1024 + k.val, by have := lt_N t; omega⟩ : Fin 2048)) (t.val % 2 * 4096 + q.val) : EReal) := by
  have h := pay1_eq m c t r k
  pointwise [k0_pay1] at h
  pointwise [k0_pay2]
  rw [h]

theorem acc_eq (c : Dev nD) : ∀ (n : ℕ) (hn : n < cfg0.N) (_ : n % 2 < 1) (r : Fin 1024) (k : Fin 1024),
    (outsAt0 m c n hn).2 (ix2 r k)
      = (∑ s ∈ Finset.range (n % 2 + 1), ∑ q : Fin 4096, cell (term (X m c) (Y m c) (⟨n / 4 * 1024 + r.val, by have := lt_of_lt_of_eq hn N_0; omega⟩ : Fin 4096) (⟨n / 2 % 2 * 1024 + k.val, by have := lt_of_lt_of_eq hn N_0; omega⟩ : Fin 2048)) (s * 4096 + q.val) : EReal) := by
  intro n hn hlt r k
  have h0 : n % 2 = 0 := by omega
  rw [show outsAt0 m c n hn = _ from outsAt0_A m c ⟨n, hn⟩ h0 (by dsimp only; omega)]
  dsimp only
  rw [sA, h0]
  refine (pay1_eq m c ⟨n, hn⟩ r k).trans ?_
  dsimp only
  rw [h0, Finset.sum_range_one]

/-- The product, element by element. -/
def G2 (x : FVec Ideal S4096x8192 .bf16) (y : FVec Ideal S2048x8192 .bf16) : FVec Ideal S4096x2048 .f32 := fun i =>
  ((∑ q : Fin 8192, term x y (i 0) (i 1) q) : EReal)

abbrev res2 (c : Dev nD) : Buf (Elt Ideal) ((c : Thread nD τ).loc main_v0) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  have hq : t.val % 2 = 1 := (flush0_2 t).mp hf
  rw [Value.flushed2_B m c t (by omega) (by omega), out2]
  funext j
  obtain ⟨r, k, rfl⟩ : ∃ (r : Fin 1024) (k : Fin 1024), j = ix2 r k := ⟨j 0, j 1, eq_ix2 j⟩
  rw [View.read_apply, emb2]
  have hp := acc_eq m c (t.val - 1) (Nat.lt_of_le_of_lt (Nat.sub_le t.val 1) t.isLt) (by omega) r k
  have e : (t.val - 1) % 2 + 1 = 1 := by omega
  have eI : (t.val - 1) / 4 = t.val / 4 := by omega
  have eJ : (t.val - 1) / 2 % 2 = t.val / 2 % 2 := by omega
  have hb := pay2_eq m c t ((outsAt0 m c (t.val - 1) (Nat.lt_of_le_of_lt (Nat.sub_le t.val 1) t.isLt)).2) r k
  simp only [hp, hq, e, eI, eJ] at hb
  rw [← Finset.sum_range_succ (fun s => ∑ q : Fin 4096, cell _ (s * 4096 + q.val)), sum_cells _ 2 4096 (by rfl)] at hb
  show k0_pay3 (F := Ideal) ((outsAt0 m c (t.val - 1) (Nat.lt_of_le_of_lt (Nat.sub_le t.val 1) t.isLt)).2) (iblk m c 0 t) (iblk m c 1 t) (ix2 r k) = G2 (X m c) (Y m c) _
  unfold G2
  simp only [ix2_0, ix2_1]
  rw [← hb]
  pointwise [k0_pay3, k0_pay2]

theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = ((i 0).val / 1024 * 2 + (i 1).val / 1024) * 2 + 1 := ⟨⟨_, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

theorem runK : θ_run defs (onTc (τ := τ) (main (F := Ideal))) ⟨m, fun _ => 0, ρ⟩ fun r => ∀ c : Dev nD,
      r.2.mem ((c : Thread nD τ).loc main_v0) = res2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (Value.run_blocks m ρ)

theorem algebraic : Cert.algebraic_Kernel5Ideal_Reference5Ideal := fun m ρ m' ρ' _ hag =>
  ⟨fun c => res2 m c, runK m ρ,
    (θ_run _ _ _).mono (fun _ h c => ⟨(h c).1.trans (by
      clear h
      rw [(hag c).1, (hag c).2]
      funext j
      obtain ⟨r, k, rfl⟩ : ∃ (r : Fin 4096) (k : Fin 2048), j = ix2 r k := ⟨j 0, j 1, eq_ix2 j⟩
      show _ = G2 (X m c) (Y m c) _
      unfold G2 term
      simp only [ix2_0, ix2_1]
      pointwise), (h c).2⟩) (Reference5Ideal.Value.run m' ρ')⟩

end Cert.Kernel5Ideal.Val
end
-- ==== Proof.V6.lean ====
module

public import proofs.«01_k».proof.Defs
public import proofs.«01_k».proof.Proof.Gen.Kernel6Ideal.Value
public import proofs.«01_k».proof.Proof.Gen.Reference6Ideal.Run
public import proofs.«01_k».proof.Proof.Alg

/-! The gradient of the input projection's weights. -/

@[expose] public section

set_option maxRecDepth 16384

noncomputable section

open Idealize.ShloMosaic Idealize.ShloMosaic.TcCoe Idealize.SL.Sem
open Idealize.ShloMosaic.Pipeline (Dat)

namespace Cert.Kernel6Ideal.Val

open Cert.Kernel6Ideal Cert.Kernel6Ideal.Gen Alg

variable (m : (ℓ : Loc nD τ sig) → Buf (Elt Ideal) ℓ) (ρ : Dev nD → PrngReg)
theorem lt_N (t : Fin cfg0.N) : t.val < 56 := lt_of_lt_of_eq t.isLt N_0
theorem idx0 : ∀ t : Fin cfg0.N, win0_0.index t 0 = t.val % 2 ∧ win0_0.index t 1 = t.val / 28 :=
  (by decide +kernel : ∀ t : Fin grid0.N, _)
theorem idx1 : ∀ t : Fin cfg0.N, win0_1.index t 0 = t.val % 2 ∧ win0_1.index t 1 = t.val / 2 % 14 :=
  (by decide +kernel : ∀ t : Fin grid0.N, _)
theorem idx2 : ∀ t : Fin cfg0.N, win0_2.index t 0 = t.val / 28 ∧ win0_2.index t 1 = t.val / 2 % 14 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S4096x14336 .bf16 := m ((c : Thread nD τ).loc main_arg1)
theorem emb0 (t : Fin cfg0.N) (r : Fin 2048) (k : Fin 1024) : ((cfg0.win 0).blk t).view.emb (ix2 r k)
    = ix2 (⟨t.val % 2 * 2048 + r.val, by have := lt_N t; omega⟩ : Fin 4096) (⟨t.val / 28 * 1024 + k.val, by have := lt_N t; omega⟩ : Fin 2048) := by
  funext a
  apply Fin.ext
  match a with
  | ⟨0, _⟩ => show win0_0.index t 0 * 2048 + 1 * r.val = t.val % 2 * 2048 + r.val; rw [(idx0 t).1]; omega
  | ⟨1, _⟩ => show win0_0.index t 1 * 1024 + 1 * k.val = t.val / 28 * 1024 + k.val; rw [(idx0 t).2]; omega
theorem iblk0_apply (c : Dev nD) (t : Fin cfg0.N) (r : Fin 2048) (k : Fin 1024) : iblk m c 0 t (ix2 r k)
    = X m c (ix2 (⟨t.val % 2 * 2048 + r.val, by have := lt_N t; omega⟩ : Fin 4096) (⟨t.val / 28 * 1024 + k.val, by have := lt_N t; omega⟩ : Fin 2048)) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 (⟨t.val % 2 * 2048 + r.val, by have := lt_N t; omega⟩ : Fin 4096) (⟨t.val / 2 % 14 * 1024 + k.val, by have := lt_N t; omega⟩ : Fin 14336) := by
  funext a
  apply Fin.ext
  match a with
  | ⟨0, _⟩ => show win0_1.index t 0 * 2048 + 1 * r.val = t.val % 2 * 2048 + r.val; rw [(idx1 t).1]; omega
  | ⟨1, _⟩ => show win0_1.index t 1 * 1024 + 1 * k.val = t.val / 2 % 14 * 1024 + k.val; rw [(idx1 t).2]; omega
theorem iblk1_apply (c : Dev nD) (t : Fin cfg0.N) (r : Fin 2048) (k : Fin 1024) : iblk m c 1 t (ix2 r k)
    = Y m c (ix2 (⟨t.val % 2 * 2048 + r.val, by have := lt_N t; omega⟩ : Fin 4096) (⟨t.val / 2 % 14 * 1024 + k.val, by have := lt_N t; omega⟩ : Fin 14336)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 28 * 1024 + r.val, by have := lt_N t; omega⟩ : Fin 2048) (⟨t.val / 2 % 14 * 1024 + k.val, by have := lt_N t; omega⟩ : Fin 14336) := by
  funext a
  apply Fin.ext
  match a with
  | ⟨0, _⟩ => show win0_2.index t 0 * 1024 + 1 * r.val = t.val / 28 * 1024 + r.val; rw [(idx2 t).1]; omega
  | ⟨1, _⟩ => show win0_2.index t 1 * 1024 + 1 * k.val = t.val / 2 % 14 * 1024 + k.val; rw [(idx2 t).2]; omega

section
variable (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole)
theorem sA (hc0 : cond0_0 i) (hc1 : ¬cond0_1 i) (hc2 : ¬cond0_2 i) (x0 : Vec Ideal S2048x1024 .bf16) (x1 : Vec Ideal S2048x1024 .bf16) :
    sout0_A_0 c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  simp only [View.readAt_eq_ld, w3.read_unread, w4.read_unread, w5.read_unread, w6.read_unread, View.ld_unit_zero (S := S2048x1024) hz, View.ld_unit_zero (S := S1024x1024) hz]

theorem out2 (hc0 : ¬cond0_0 i) (hc1 : ¬cond0_1 i) (hc2 : cond0_2 i) (x0 : Vec Ideal S2048x1024 .bf16) (x1 : Vec Ideal S2048x1024 .bf16) (xs0 : Vec Ideal S1024x1024 .f32) :
    out0_B_2 c i a3 w3 a4 w4 a5 w5 a6 w6 hc0 hc1 hc2 x0 x1 xs0 = k0_pay3 xs0 x0 x1 := by
  unfold out0_B_2
  rw [View.read_writes_eq_canon _ _ _ (cover0_B_2 c i a3 w3 a4 w4 a5 w5 a6 w6 hc0 hc1 hc2 x0 x1 xs0)]
  unfold kernelRun0_B
  dsimp only
  sl_unfold_words
  rw [View.canon_unit_zero hz]
  simp only [View.readAt_eq_ld, w3.read_unread, w4.read_unread, w5.read_unread, w6.read_unread, View.ld_unit_zero (S := S2048x1024) hz, View.ld_unit_zero (S := S1024x1024) hz]
end

/-- The products that one element of the result sums. -/
def term (x : FVec Ideal S4096x2048 .bf16) (y : FVec Ideal S4096x14336 .bf16) (i : Fin 2048) (j : Fin 14336) (q : Fin 4096) : EReal :=
  x (ix2 q i) * y (ix2 q j)

theorem pay1_eq (c : Dev nD) (t : Fin cfg0.N) (r : Fin 1024) (k : Fin 1024) :
    k0_pay1 (F := Ideal) (iblk m c 0 t) (iblk m c 1 t) (ix2 r k)
      = ∑ q : Fin 2048, cell (term (X m c) (Y m c) (⟨t.val / 28 * 1024 + r.val, by have := lt_N t; omega⟩ : Fin 2048) (⟨t.val / 2 % 14 * 1024 + k.val, by have := lt_N t; omega⟩ : Fin 14336)) (t.val % 2 * 2048 + q.val) := by
  pointwise [k0_pay1]
  refine Finset.sum_congr rfl fun q _ => ?_
  rw [cell_at _ _ (by omega), iblk0_apply, iblk1_apply]
  rfl

theorem pay2_eq (c : Dev nD) (t : Fin cfg0.N) (acc : Vec Ideal S1024x1024 .f32) (r : Fin 1024) (k : Fin 1024) :
    k0_pay2 (F := Ideal) acc (iblk m c 0 t) (iblk m c 1 t) (ix2 r k)
      = (acc (ix2 r k) + ∑ q : Fin 2048, cell (term (X m c) (Y m c) (⟨t.val / 28 * 1024 + r.val, by have := lt_N t; omega⟩ : Fin 2048) (⟨t.val / 2 % 14 * 1024 + k.val, by have := lt_N t; omega⟩ : Fin 14336)) (t.val % 2 * 2048 + q.val) : EReal) := by
  have h := pay1_eq m c t r k
  pointwise [k0_pay1] at h
  pointwise [k0_pay2]
  rw [h]

theorem acc_eq (c : Dev nD) : ∀ (n : ℕ) (hn : n < cfg0.N) (_ : n % 2 < 1) (r : Fin 1024) (k : Fin 1024),
    (outsAt0 m c n hn).2 (ix2 r k)
      = (∑ s ∈ Finset.range (n % 2 + 1), ∑ q : Fin 2048, cell (term (X m c) (Y m c) (⟨n / 28 * 1024 + r.val, by have := lt_of_lt_of_eq hn N_0; omega⟩ : Fin 2048) (⟨n / 2 % 14 * 1024 + k.val, by have := lt_of_lt_of_eq hn N_0; omega⟩ : Fin 14336)) (s * 2048 + q.val) : EReal) := by
  intro n hn hlt r k
  have h0 : n % 2 = 0 := by omega
  rw [show outsAt0 m c n hn = _ from outsAt0_A m c ⟨n, hn⟩ h0 (by dsimp only; omega)]
  dsimp only
  rw [sA, h0]
  refine (pay1_eq m c ⟨n, hn⟩ r k).trans ?_
  dsimp only
  rw [h0, Finset.sum_range_one]

/-- The product, element by element. -/
def G2 (x : FVec Ideal S4096x2048 .bf16) (y : FVec Ideal S4096x14336 .bf16) : FVec Ideal S2048x14336 .bf16 := fun i =>
  ((∑ q : Fin 4096, term x y (i 0) (i 1) q) : EReal)

abbrev res2 (c : Dev nD) : Buf (Elt Ideal) ((c : Thread nD τ).loc main_v0) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  have hq : t.val % 2 = 1 := (flush0_2 t).mp hf
  rw [Value.flushed2_B m c t (by omega) (by omega), out2]
  funext j
  obtain ⟨r, k, rfl⟩ : ∃ (r : Fin 1024) (k : Fin 1024), j = ix2 r k := ⟨j 0, j 1, eq_ix2 j⟩
  rw [View.read_apply, emb2]
  have hp := acc_eq m c (t.val - 1) (Nat.lt_of_le_of_lt (Nat.sub_le t.val 1) t.isLt) (by omega) r k
  have e : (t.val - 1) % 2 + 1 = 1 := by omega
  have eI : (t.val - 1) / 28 = t.val / 28 := by omega
  have eJ : (t.val - 1) / 2 % 14 = t.val / 2 % 14 := by omega
  have hb := pay2_eq m c t ((outsAt0 m c (t.val - 1) (Nat.lt_of_le_of_lt (Nat.sub_le t.val 1) t.isLt)).2) r k
  simp only [hp, hq, e, eI, eJ] at hb
  rw [← Finset.sum_range_succ (fun s => ∑ q : Fin 2048, cell _ (s * 2048 + q.val)), sum_cells _ 2 2048 (by rfl)] at hb
  show k0_pay3 (F := Ideal) ((outsAt0 m c (t.val - 1) (Nat.lt_of_le_of_lt (Nat.sub_le t.val 1) t.isLt)).2) (iblk m c 0 t) (iblk m c 1 t) (ix2 r k) = G2 (X m c) (Y m c) _
  unfold G2
  simp only [ix2_0, ix2_1]
  rw [← hb]
  pointwise [k0_pay3, k0_pay2]

theorem cover2 (i : S2048x14336.Idx) : ∃ t : Fin cfg0.N, (cfg0.win 2).flush t = true ∧ i ∈ ((cfg0.win 2).blk t).view.set := by
  have h0 : (i 0).val < 2048 := (i 0).isLt
  have h1 : (i 1).val < 14336 := (i 1).isLt
  have hN := N_0
  have hN' : cfg0.N = grid0.N := rfl
  obtain ⟨t, ht⟩ : ∃ t : Fin cfg0.N, t.val = ((i 0).val / 1024 * 14 + (i 1).val / 1024) * 2 + 1 := ⟨⟨_, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

theorem runK : θ_run defs (onTc (τ := τ) (main (F := Ideal))) ⟨m, fun _ => 0, ρ⟩ fun r => ∀ c : Dev nD,
      r.2.mem ((c : Thread nD τ).loc main_v0) = res2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (Value.run_blocks m ρ)

theorem algebraic : Cert.algebraic_Kernel6Ideal_Reference6Ideal := fun m ρ m' ρ' _ hag =>
  ⟨fun c => res2 m c, runK m ρ,
    (θ_run _ _ _).mono (fun _ h c => ⟨(h c).1.trans (by
      clear h
      rw [(hag c).1, (hag c).2]
      funext j
      obtain ⟨r, k, rfl⟩ : ∃ (r : Fin 2048) (k : Fin 14336), j = ix2 r k := ⟨j 0, j 1, eq_ix2 j⟩
      show _ = G2 (X m c) (Y m c) _
      unfold G2 term
      simp only [ix2_0, ix2_1]
      pointwise
      exact Finset.sum_congr rfl fun q _ => mul_comm _ _), (h c).2⟩) (Reference6Ideal.Value.run m' ρ')⟩

end Cert.Kernel6Ideal.Val
end
-- ==== Proof.V7.lean ====
module

public import proofs.«01_k».proof.Defs
public import proofs.«01_k».proof.Proof.Gen.Kernel7Ideal.Value
public import proofs.«01_k».proof.Proof.Gen.Reference7Ideal.Run
public import proofs.«01_k».proof.Proof.Alg

/-! The gradient of the first mlp product's weights. -/

@[expose] public section

set_option maxRecDepth 16384

noncomputable section

open Idealize.ShloMosaic Idealize.ShloMosaic.TcCoe Idealize.SL.Sem
open Idealize.ShloMosaic.Pipeline (Dat)

namespace Cert.Kernel7Ideal.Val

open Cert.Kernel7Ideal Cert.Kernel7Ideal.Gen Alg

variable (m : (ℓ : Loc nD τ sig) → Buf (Elt Ideal) ℓ) (ρ : Dev nD → PrngReg)
theorem lt_N (t : Fin cfg0.N) : t.val < 32 := lt_of_lt_of_eq t.isLt N_0
theorem idx0 : ∀ t : Fin cfg0.N, win0_0.index t 0 = t.val % 2 ∧ win0_0.index t 1 = t.val / 16 :=
  (by decide +kernel : ∀ t : Fin grid0.N, _)
theorem idx1 : ∀ t : Fin cfg0.N, win0_1.index t 0 = t.val % 2 ∧ win0_1.index t 1 = t.val / 2 % 8 :=
  (by decide +kernel : ∀ t : Fin grid0.N, _)
theorem idx2 : ∀ t : Fin cfg0.N, win0_2.index t 0 = t.val / 16 ∧ win0_2.index t 1 = t.val / 2 % 8 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S4096x8192 .bf16 := m ((c : Thread nD τ).loc main_arg1)
theorem emb0 (t : Fin cfg0.N) (r : Fin 2048) (k : Fin 1024) : ((cfg0.win 0).blk t).view.emb (ix2 r k)
    = ix2 (⟨t.val % 2 * 2048 + r.val, by have := lt_N t; omega⟩ : Fin 4096) (⟨t.val / 16 * 1024 + k.val, by have := lt_N t; omega⟩ : Fin 2048) := by
  funext a
  apply Fin.ext
  match a with
  | ⟨0, _⟩ => show win0_0.index t 0 * 2048 + 1 * r.val = t.val % 2 * 2048 + r.val; rw [(idx0 t).1]; omega
  | ⟨1, _⟩ => show win0_0.index t 1 * 1024 + 1 * k.val = t.val / 16 * 1024 + k.val; rw [(idx0 t).2]; omega
theorem iblk0_apply (c : Dev nD) (t : Fin cfg0.N) (r : Fin 2048) (k : Fin 1024) : iblk m c 0 t (ix2 r k)
    = X m c (ix2 (⟨t.val % 2 * 2048 + r.val, by have := lt_N t; omega⟩ : Fin 4096) (⟨t.val / 16 * 1024 + k.val, by have := lt_N t; omega⟩ : Fin 2048)) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 (⟨t.val % 2 * 2048 + r.val, by have := lt_N t; omega⟩ : Fin 4096) (⟨t.val / 2 % 8 * 1024 + k.val, by have := lt_N t; omega⟩ : Fin 8192) := by
  funext a
  apply Fin.ext
  match a with
  | ⟨0, _⟩ => show win0_1.index t 0 * 2048 + 1 * r.val = t.val % 2 * 2048 + r.val; rw [(idx1 t).1]; omega
  | ⟨1, _⟩ => show win0_1.index t 1 * 1024 + 1 * k.val = t.val / 2 % 8 * 1024 + k.val; rw [(idx1 t).2]; omega
theorem iblk1_apply (c : Dev nD) (t : Fin cfg0.N) (r : Fin 2048) (k : Fin 1024) : iblk m c 1 t (ix2 r k)
    = Y m c (ix2 (⟨t.val % 2 * 2048 + r.val, by have := lt_N t; omega⟩ : Fin 4096) (⟨t.val / 2 % 8 * 1024 + k.val, by have := lt_N t; omega⟩ : Fin 8192)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 16 * 1024 + r.val, by have := lt_N t; omega⟩ : Fin 2048) (⟨t.val / 2 % 8 * 1024 + k.val, by have := lt_N t; omega⟩ : Fin 8192) := by
  funext a
  apply Fin.ext
  match a with
  | ⟨0, _⟩ => show win0_2.index t 0 * 1024 + 1 * r.val = t.val / 16 * 1024 + r.val; rw [(idx2 t).1]; omega
  | ⟨1, _⟩ => show win0_2.index t 1 * 1024 + 1 * k.val = t.val / 2 % 8 * 1024 + k.val; rw [(idx2 t).2]; omega

section
variable (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole)
theorem sA (hc0 : cond0_0 i) (hc1 : ¬cond0_1 i) (hc2 : ¬cond0_2 i) (x0 : Vec Ideal S2048x1024 .bf16) (x1 : Vec Ideal S2048x1024 .bf16) :
    sout0_A_0 c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  simp only [View.readAt_eq_ld, w3.read_unread, w4.read_unread, w5.read_unread, w6.read_unread, View.ld_unit_zero (S := S2048x1024) hz, View.ld_unit_zero (S := S1024x1024) hz]

theorem out2 (hc0 : ¬cond0_0 i) (hc1 : ¬cond0_1 i) (hc2 : cond0_2 i) (x0 : Vec Ideal S2048x1024 .bf16) (x1 : Vec Ideal S2048x1024 .bf16) (xs0 : Vec Ideal S1024x1024 .f32) :
    out0_B_2 c i a3 w3 a4 w4 a5 w5 a6 w6 hc0 hc1 hc2 x0 x1 xs0 = k0_pay3 xs0 x0 x1 := by
  unfold out0_B_2
  rw [View.read_writes_eq_canon _ _ _ (cover0_B_2 c i a3 w3 a4 w4 a5 w5 a6 w6 hc0 hc1 hc2 x0 x1 xs0)]
  unfold kernelRun0_B
  dsimp only
  sl_unfold_words
  rw [View.canon_unit_zero hz]
  simp only [View.readAt_eq_ld, w3.read_unread, w4.read_unread, w5.read_unread, w6.read_unread, View.ld_unit_zero (S := S2048x1024) hz, View.ld_unit_zero (S := S1024x1024) hz]
end

/-- The products that one element of the result sums. -/
def term (x : FVec Ideal S4096x2048 .bf16) (y : FVec Ideal S4096x8192 .bf16) (i : Fin 2048) (j : Fin 8192) (q : Fin 4096) : EReal :=
  x (ix2 q i) * y (ix2 q j)

theorem pay1_eq (c : Dev nD) (t : Fin cfg0.N) (r : Fin 1024) (k : Fin 1024) :
    k0_pay1 (F := Ideal) (iblk m c 0 t) (iblk m c 1 t) (ix2 r k)
      = ∑ q : Fin 2048, cell (term (X m c) (Y m c) (⟨t.val / 16 * 1024 + r.val, by have := lt_N t; omega⟩ : Fin 2048) (⟨t.val / 2 % 8 * 1024 + k.val, by have := lt_N t; omega⟩ : Fin 8192)) (t.val % 2 * 2048 + q.val) := by
  pointwise [k0_pay1]
  refine Finset.sum_congr rfl fun q _ => ?_
  rw [cell_at _ _ (by omega), iblk0_apply, iblk1_apply]
  rfl

theorem pay2_eq (c : Dev nD) (t : Fin cfg0.N) (acc : Vec Ideal S1024x1024 .f32) (r : Fin 1024) (k : Fin 1024) :
    k0_pay2 (F := Ideal) acc (iblk m c 0 t) (iblk m c 1 t) (ix2 r k)
      = (acc (ix2 r k) + ∑ q : Fin 2048, cell (term (X m c) (Y m c) (⟨t.val / 16 * 1024 + r.val, by have := lt_N t; omega⟩ : Fin 2048) (⟨t.val / 2 % 8 * 1024 + k.val, by have := lt_N t; omega⟩ : Fin 8192)) (t.val % 2 * 2048 + q.val) : EReal) := by
  have h := pay1_eq m c t r k
  pointwise [k0_pay1] at h
  pointwise [k0_pay2]
  rw [h]

theorem acc_eq (c : Dev nD) : ∀ (n : ℕ) (hn : n < cfg0.N) (_ : n % 2 < 1) (r : Fin 1024) (k : Fin 1024),
    (outsAt0 m c n hn).2 (ix2 r k)
      = (∑ s ∈ Finset.range (n % 2 + 1), ∑ q : Fin 2048, cell (term (X m c) (Y m c) (⟨n / 16 * 1024 + r.val, by have := lt_of_lt_of_eq hn N_0; omega⟩ : Fin 2048) (⟨n / 2 % 8 * 1024 + k.val, by have := lt_of_lt_of_eq hn N_0; omega⟩ : Fin 8192)) (s * 2048 + q.val) : EReal) := by
  intro n hn hlt r k
  have h0 : n % 2 = 0 := by omega
  rw [show outsAt0 m c n hn = _ from outsAt0_A m c ⟨n, hn⟩ h0 (by dsimp only; omega)]
  dsimp only
  rw [sA, h0]
  refine (pay1_eq m c ⟨n, hn⟩ r k).trans ?_
  dsimp only
  rw [h0, Finset.sum_range_one]

/-- The product, element by element. -/
def G2 (x : FVec Ideal S4096x2048 .bf16) (y : FVec Ideal S4096x8192 .bf16) : FVec Ideal S2048x8192 .bf16 := fun i =>
  ((∑ q : Fin 4096, term x y (i 0) (i 1) q) : EReal)

abbrev res2 (c : Dev nD) : Buf (Elt Ideal) ((c : Thread nD τ).loc main_v0) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  have hq : t.val % 2 = 1 := (flush0_2 t).mp hf
  rw [Value.flushed2_B m c t (by omega) (by omega), out2]
  funext j
  obtain ⟨r, k, rfl⟩ : ∃ (r : Fin 1024) (k : Fin 1024), j = ix2 r k := ⟨j 0, j 1, eq_ix2 j⟩
  rw [View.read_apply, emb2]
  have hp := acc_eq m c (t.val - 1) (Nat.lt_of_le_of_lt (Nat.sub_le t.val 1) t.isLt) (by omega) r k
  have e : (t.val - 1) % 2 + 1 = 1 := by omega
  have eI : (t.val - 1) / 16 = t.val / 16 := by omega
  have eJ : (t.val - 1) / 2 % 8 = t.val / 2 % 8 := by omega
  have hb := pay2_eq m c t ((outsAt0 m c (t.val - 1) (Nat.lt_of_le_of_lt (Nat.sub_le t.val 1) t.isLt)).2) r k
  simp only [hp, hq, e, eI, eJ] at hb
  rw [← Finset.sum_range_succ (fun s => ∑ q : Fin 2048, cell _ (s * 2048 + q.val)), sum_cells _ 2 2048 (by rfl)] at hb
  show k0_pay3 (F := Ideal) ((outsAt0 m c (t.val - 1) (Nat.lt_of_le_of_lt (Nat.sub_le t.val 1) t.isLt)).2) (iblk m c 0 t) (iblk m c 1 t) (ix2 r k) = G2 (X m c) (Y m c) _
  unfold G2
  simp only [ix2_0, ix2_1]
  rw [← hb]
  pointwise [k0_pay3, k0_pay2]

theorem cover2 (i : S2048x8192.Idx) : ∃ t : Fin cfg0.N, (cfg0.win 2).flush t = true ∧ i ∈ ((cfg0.win 2).blk t).view.set := by
  have h0 : (i 0).val < 2048 := (i 0).isLt
  have h1 : (i 1).val < 8192 := (i 1).isLt
  have hN := N_0
  have hN' : cfg0.N = grid0.N := rfl
  obtain ⟨t, ht⟩ : ∃ t : Fin cfg0.N, t.val = ((i 0).val / 1024 * 8 + (i 1).val / 1024) * 2 + 1 := ⟨⟨_, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

theorem runK : θ_run defs (onTc (τ := τ) (main (F := Ideal))) ⟨m, fun _ => 0, ρ⟩ fun r => ∀ c : Dev nD,
      r.2.mem ((c : Thread nD τ).loc main_v0) = res2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (Value.run_blocks m ρ)

theorem algebraic : Cert.algebraic_Kernel7Ideal_Reference7Ideal := fun m ρ m' ρ' _ hag =>
  ⟨fun c => res2 m c, runK m ρ,
    (θ_run _ _ _).mono (fun _ h c => ⟨(h c).1.trans (by
      clear h
      rw [(hag c).1, (hag c).2]
      funext j
      obtain ⟨r, k, rfl⟩ : ∃ (r : Fin 2048) (k : Fin 8192), j = ix2 r k := ⟨j 0, j 1, eq_ix2 j⟩
      show _ = G2 (X m c) (Y m c) _
      unfold G2 term
      simp only [ix2_0, ix2_1]
      pointwise
      exact Finset.sum_congr rfl fun q _ => mul_comm _ _), (h c).2⟩) (Reference7Ideal.Value.run m' ρ')⟩

end Cert.Kernel7Ideal.Val
end
-- ==== Proof.V8.lean ====
module

public import proofs.«01_k».proof.Defs
public import proofs.«01_k».proof.Proof.Gen.Kernel8Ideal.Value
public import proofs.«01_k».proof.Proof.Gen.Reference8Ideal.Run
public import proofs.«01_k».proof.Proof.Alg

/-! The gradient of the second mlp product's weights. -/

@[expose] public section

set_option maxRecDepth 16384

noncomputable section

open Idealize.ShloMosaic Idealize.ShloMosaic.TcCoe Idealize.SL.Sem
open Idealize.ShloMosaic.Pipeline (Dat)

namespace Cert.Kernel8Ideal.Val

open Cert.Kernel8Ideal Cert.Kernel8Ideal.Gen Alg

variable (m : (ℓ : Loc nD τ sig) → Buf (Elt Ideal) ℓ) (ρ : Dev nD → PrngReg)
theorem lt_N (t : Fin cfg0.N) : t.val < 32 := lt_of_lt_of_eq t.isLt N_0

/-- The rectified square of the pre-activation. -/
def sq (p : FVec Ideal S4096x8192 .f32) : FVec Ideal S4096x8192 .bf16 := fun i => (max (p i) 0 * max (p i) 0 : EReal)

theorem V_v3 (c : Dev nD) : V m c main_v3
    = (truncf .bf16 (mulf (maximumf (m ((c : Thread nD τ).loc main_arg0)) (broadcastInDim S4096x8192 ![] bcast_S_S4096x8192 (constant S_ .f32 0x00000000#32))) (maximumf (m ((c : Thread nD τ).loc main_arg0)) (broadcastInDim S4096x8192 ![] bcast_S_S4096x8192 (constant S_ .f32 0x00000000#32)))) bitsLt_bf16_f32 : FVec Ideal S4096x8192 .bf16) := by
  unfold V
  simp only [hostOps0]
  after_results

theorem idx0 : ∀ t : Fin cfg0.N, win0_0.index t 0 = t.val % 2 ∧ win0_0.index t 1 = t.val / 4 :=
  (by decide +kernel : ∀ t : Fin grid0.N, _)
theorem idx1 : ∀ t : Fin cfg0.N, win0_1.index t 0 = t.val % 2 ∧ win0_1.index t 1 = t.val / 2 % 2 :=
  (by decide +kernel : ∀ t : Fin grid0.N, _)
theorem idx2 : ∀ t : Fin cfg0.N, win0_2.index t 0 = t.val / 4 ∧ win0_2.index t 1 = t.val / 2 % 2 :=
  (by decide +kernel : ∀ t : Fin grid0.N, _)

/-- The factors as the region finds them. -/
abbrev X (c : Dev nD) : FVec Ideal S4096x8192 .bf16 := sq (m ((c : Thread nD τ).loc main_arg0))
abbrev Y (c : Dev nD) : FVec Ideal S4096x2048 .bf16 := m ((c : Thread nD τ).loc main_arg1)
theorem emb0 (t : Fin cfg0.N) (r : Fin 2048) (k : Fin 1024) : ((cfg0.win 0).blk t).view.emb (ix2 r k)
    = ix2 (⟨t.val % 2 * 2048 + r.val, by have := lt_N t; omega⟩ : Fin 4096) (⟨t.val / 4 * 1024 + k.val, by have := lt_N t; omega⟩ : Fin 8192) := by
  funext a
  apply Fin.ext
  match a with
  | ⟨0, _⟩ => show win0_0.index t 0 * 2048 + 1 * r.val = t.val % 2 * 2048 + r.val; rw [(idx0 t).1]; omega
  | ⟨1, _⟩ => show win0_0.index t 1 * 1024 + 1 * k.val = t.val / 4 * 1024 + k.val; rw [(idx0 t).2]; omega
theorem iblk0_apply (c : Dev nD) (t : Fin cfg0.N) (r : Fin 2048) (k : Fin 1024) : iblk m c 0 t (ix2 r k)
    = X m c (ix2 (⟨t.val % 2 * 2048 + r.val, by have := lt_N t; omega⟩ : Fin 4096) (⟨t.val / 4 * 1024 + k.val, by have := lt_N t; omega⟩ : Fin 8192)) := by
  unfold iblk
  rw [View.read_apply, emb0]
  show V m c main_v3 _ = _
  rw [V_v3]
  unfold X sq
  pointwise
theorem emb1 (t : Fin cfg0.N) (r : Fin 2048) (k : Fin 1024) : ((cfg0.win 1).blk t).view.emb (ix2 r k)
    = ix2 (⟨t.val % 2 * 2048 + r.val, by have := lt_N t; omega⟩ : Fin 4096) (⟨t.val / 2 % 2 * 1024 + k.val, by have := lt_N t; omega⟩ : Fin 2048) := by
  funext a
  apply Fin.ext
  match a with
  | ⟨0, _⟩ => show win0_1.index t 0 * 2048 + 1 * r.val = t.val % 2 * 2048 + r.val; rw [(idx1 t).1]; omega
  | ⟨1, _⟩ => show win0_1.index t 1 * 1024 + 1 * k.val = t.val / 2 % 2 * 1024 + k.val; rw [(idx1 t).2]; omega
theorem iblk1_apply (c : Dev nD) (t : Fin cfg0.N) (r : Fin 2048) (k : Fin 1024) : iblk m c 1 t (ix2 r k)
    = Y m c (ix2 (⟨t.val % 2 * 2048 + r.val, by have := lt_N t; omega⟩ : Fin 4096) (⟨t.val / 2 % 2 * 1024 + k.val, by have := lt_N t; omega⟩ : Fin 2048)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 4 * 1024 + r.val, by have := lt_N t; omega⟩ : Fin 8192) (⟨t.val / 2 % 2 * 1024 + k.val, by have := lt_N t; omega⟩ : Fin 2048) := by
  funext a
  apply Fin.ext
  match a with
  | ⟨0, _⟩ => show win0_2.index t 0 * 1024 + 1 * r.val = t.val / 4 * 1024 + r.val; rw [(idx2 t).1]; omega
  | ⟨1, _⟩ => show win0_2.index t 1 * 1024 + 1 * k.val = t.val / 2 % 2 * 1024 + k.val; rw [(idx2 t).2]; omega

section
variable (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole)
theorem sA (hc0 : cond0_0 i) (hc1 : ¬cond0_1 i) (hc2 : ¬cond0_2 i) (x0 : Vec Ideal S2048x1024 .bf16) (x1 : Vec Ideal S2048x1024 .bf16) :
    sout0_A_0 c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  simp only [View.readAt_eq_ld, w3.read_unread, w4.read_unread, w5.read_unread, w6.read_unread, View.ld_unit_zero (S := S2048x1024) hz, View.ld_unit_zero (S := S1024x1024) hz]

theorem out2 (hc0 : ¬cond0_0 i) (hc1 : ¬cond0_1 i) (hc2 : cond0_2 i) (x0 : Vec Ideal S2048x1024 .bf16) (x1 : Vec Ideal S2048x1024 .bf16) (xs0 : Vec Ideal S1024x1024 .f32) :
    out0_B_2 c i a3 w3 a4 w4 a5 w5 a6 w6 hc0 hc1 hc2 x0 x1 xs0 = k0_pay3 xs0 x0 x1 := by
  unfold out0_B_2
  rw [View.read_writes_eq_canon _ _ _ (cover0_B_2 c i a3 w3 a4 w4 a5 w5 a6 w6 hc0 hc1 hc2 x0 x1 xs0)]
  unfold kernelRun0_B
  dsimp only
  sl_unfold_words
  rw [View.canon_unit_zero hz]
  simp only [View.readAt_eq_ld, w3.read_unread, w4.read_unread, w5.read_unread, w6.read_unread, View.ld_unit_zero (S := S2048x1024) hz, View.ld_unit_zero (S := S1024x1024) hz]
end

/-- The products that one element of the result sums. -/
def term (x : FVec Ideal S4096x8192 .bf16) (y : FVec Ideal S4096x2048 .bf16) (i : Fin 8192) (j : Fin 2048) (q : Fin 4096) : EReal :=
  x (ix2 q i) * y (ix2 q j)

theorem pay1_eq (c : Dev nD) (t : Fin cfg0.N) (r : Fin 1024) (k : Fin 1024) :
    k0_pay1 (F := Ideal) (iblk m c 0 t) (iblk m c 1 t) (ix2 r k)
      = ∑ q : Fin 2048, cell (term (X m c) (Y m c) (⟨t.val / 4 * 1024 + r.val, by have := lt_N t; omega⟩ : Fin 8192) (⟨t.val / 2 % 2 * 1024 + k.val, by have := lt_N t; omega⟩ : Fin 2048)) (t.val % 2 * 2048 + q.val) := by
  pointwise [k0_pay1]
  refine Finset.sum_congr rfl fun q _ => ?_
  rw [cell_at _ _ (by omega), iblk0_apply, iblk1_apply]
  rfl

theorem pay2_eq (c : Dev nD) (t : Fin cfg0.N) (acc : Vec Ideal S1024x1024 .f32) (r : Fin 1024) (k : Fin 1024) :
    k0_pay2 (F := Ideal) acc (iblk m c 0 t) (iblk m c 1 t) (ix2 r k)
      = (acc (ix2 r k) + ∑ q : Fin 2048, cell (term (X m c) (Y m c) (⟨t.val / 4 * 1024 + r.val, by have := lt_N t; omega⟩ : Fin 8192) (⟨t.val / 2 % 2 * 1024 + k.val, by have := lt_N t; omega⟩ : Fin 2048)) (t.val % 2 * 2048 + q.val) : EReal) := by
  have h := pay1_eq m c t r k
  pointwise [k0_pay1] at h
  pointwise [k0_pay2]
  rw [h]

theorem acc_eq (c : Dev nD) : ∀ (n : ℕ) (hn : n < cfg0.N) (_ : n % 2 < 1) (r : Fin 1024) (k : Fin 1024),
    (outsAt0 m c n hn).2 (ix2 r k)
      = (∑ s ∈ Finset.range (n % 2 + 1), ∑ q : Fin 2048, cell (term (X m c) (Y m c) (⟨n / 4 * 1024 + r.val, by have := lt_of_lt_of_eq hn N_0; omega⟩ : Fin 8192) (⟨n / 2 % 2 * 1024 + k.val, by have := lt_of_lt_of_eq hn N_0; omega⟩ : Fin 2048)) (s * 2048 + q.val) : EReal) := by
  intro n hn hlt r k
  have h0 : n % 2 = 0 := by omega
  rw [show outsAt0 m c n hn = _ from outsAt0_A m c ⟨n, hn⟩ h0 (by dsimp only; omega)]
  dsimp only
  rw [sA, h0]
  refine (pay1_eq m c ⟨n, hn⟩ r k).trans ?_
  dsimp only
  rw [h0, Finset.sum_range_one]

/-- The product, element by element. -/
def G2 (x : FVec Ideal S4096x8192 .bf16) (y : FVec Ideal S4096x2048 .bf16) : FVec Ideal S8192x2048 .bf16 := fun i =>
  ((∑ q : Fin 4096, term x y (i 0) (i 1) q) : EReal)

abbrev res2 (c : Dev nD) : Buf (Elt Ideal) ((c : Thread nD τ).loc main_v4) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  have hq : t.val % 2 = 1 := (flush0_2 t).mp hf
  rw [Value.flushed2_B m c t (by omega) (by omega), out2]
  funext j
  obtain ⟨r, k, rfl⟩ : ∃ (r : Fin 1024) (k : Fin 1024), j = ix2 r k := ⟨j 0, j 1, eq_ix2 j⟩
  rw [View.read_apply, emb2]
  have hp := acc_eq m c (t.val - 1) (Nat.lt_of_le_of_lt (Nat.sub_le t.val 1) t.isLt) (by omega) r k
  have e : (t.val - 1) % 2 + 1 = 1 := by omega
  have eI : (t.val - 1) / 4 = t.val / 4 := by omega
  have eJ : (t.val - 1) / 2 % 2 = t.val / 2 % 2 := by omega
  have hb := pay2_eq m c t ((outsAt0 m c (t.val - 1) (Nat.lt_of_le_of_lt (Nat.sub_le t.val 1) t.isLt)).2) r k
  simp only [hp, hq, e, eI, eJ] at hb
  rw [← Finset.sum_range_succ (fun s => ∑ q : Fin 2048, cell _ (s * 2048 + q.val)), sum_cells _ 2 2048 (by rfl)] at hb
  show k0_pay3 (F := Ideal) ((outsAt0 m c (t.val - 1) (Nat.lt_of_le_of_lt (Nat.sub_le t.val 1) t.isLt)).2) (iblk m c 0 t) (iblk m c 1 t) (ix2 r k) = G2 (X m c) (Y m c) _
  unfold G2
  simp only [ix2_0, ix2_1]
  rw [← hb]
  pointwise [k0_pay3, k0_pay2]

theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN := N_0
  have hN' : cfg0.N = grid0.N := rfl
  obtain ⟨t, ht⟩ : ∃ t : Fin cfg0.N, t.val = ((i 0).val / 1024 * 2 + (i 1).val / 1024) * 2 + 1 := ⟨⟨_, by omega⟩, rfl⟩
  refine ⟨t, (flush0_2 t).mpr (by omega), ?_⟩
  show i ∈ ((View.whole main_v4).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

theorem runK : θ_run defs (onTc (τ := τ) (main (F := Ideal))) ⟨m, fun _ => 0, ρ⟩ fun r => ∀ c : Dev nD,
      r.2.mem ((c : Thread nD τ).loc main_v4) = res2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (Value.run_blocks m ρ)

theorem algebraic : Cert.algebraic_Kernel8Ideal_Reference8Ideal := fun m ρ m' ρ' _ hag =>
  ⟨fun c => res2 m c, runK m ρ,
    (θ_run _ _ _).mono (fun _ h c => ⟨(h c).1.trans (by
      clear h
      rw [(hag c).1, (hag c).2]
      funext j
      obtain ⟨r, k, rfl⟩ : ∃ (r : Fin 8192) (k : Fin 2048), j = ix2 r k := ⟨j 0, j 1, eq_ix2 j⟩
      show _ = G2 (X m c) (Y m c) _
      unfold G2 term X sq
      simp only [ix2_0, ix2_1]
      pointwise
      exact Finset.sum_congr rfl fun q _ => mul_comm _ _), (h c).2⟩) (Reference8Ideal.Value.run m' ρ')⟩

end Cert.Kernel8Ideal.Val
end
-- ==== Proof.V9.lean ====
module

public import proofs.«01_k».proof.Defs
public import proofs.«01_k».proof.Proof.Gen.Kernel9Ideal.Value
public import proofs.«01_k».proof.Proof.Gen.Reference9Ideal.Run
public import proofs.«01_k».proof.Proof.Alg

/-! The gradient of a square product's weights. -/

@[expose] public section

set_option maxRecDepth 16384

noncomputable section

open Idealize.ShloMosaic Idealize.ShloMosaic.TcCoe Idealize.SL.Sem
open Idealize.ShloMosaic.Pipeline (Dat)

namespace Cert.Kernel9Ideal.Val

open Cert.Kernel9Ideal Cert.Kernel9Ideal.Gen Alg

variable (m : (ℓ : Loc nD τ sig) → Buf (Elt Ideal) ℓ) (ρ : Dev nD → PrngReg)
theorem lt_N (t : Fin cfg0.N) : t.val < 8 := lt_of_lt_of_eq t.isLt N_0
theorem idx0 : ∀ t : Fin cfg0.N, win0_0.index t 0 = t.val % 2 ∧ win0_0.index t 1 = t.val / 4 :=
  (by decide +kernel : ∀ t : Fin grid0.N, _)
theorem idx1 : ∀ t : Fin cfg0.N, win0_1.index t 0 = t.val % 2 ∧ win0_1.index t 1 = t.val / 2 % 2 :=
  (by decide +kernel : ∀ t : Fin grid0.N, _)
theorem idx2 : ∀ t : Fin cfg0.N, win0_2.index t 0 = t.val / 4 ∧ win0_2.index t 1 = t.val / 2 % 2 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S4096x2048 .bf16 := m ((c : Thread nD τ).loc main_arg1)
theorem emb0 (t : Fin cfg0.N) (r : Fin 2048) (k : Fin 1024) : ((cfg0.win 0).blk t).view.emb (ix2 r k)
    = ix2 (⟨t.val % 2 * 2048 + r.val, by have := lt_N t; omega⟩ : Fin 4096) (⟨t.val / 4 * 1024 + k.val, by have := lt_N t; omega⟩ : Fin 2048) := by
  funext a
  apply Fin.ext
  match a with
  | ⟨0, _⟩ => show win0_0.index t 0 * 2048 + 1 * r.val = t.val % 2 * 2048 + r.val; rw [(idx0 t).1]; omega
  | ⟨1, _⟩ => show win0_0.index t 1 * 1024 + 1 * k.val = t.val / 4 * 1024 + k.val; rw [(idx0 t).2]; omega
theorem iblk0_apply (c : Dev nD) (t : Fin cfg0.N) (r : Fin 2048) (k : Fin 1024) : iblk m c 0 t (ix2 r k)
    = X m c (ix2 (⟨t.val % 2 * 2048 + r.val, by have := lt_N t; omega⟩ : Fin 4096) (⟨t.val / 4 * 1024 + k.val, by have := lt_N t; omega⟩ : Fin 2048)) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 (⟨t.val % 2 * 2048 + r.val, by have := lt_N t; omega⟩ : Fin 4096) (⟨t.val / 2 % 2 * 1024 + k.val, by have := lt_N t; omega⟩ : Fin 2048) := by
  funext a
  apply Fin.ext
  match a with
  | ⟨0, _⟩ => show win0_1.index t 0 * 2048 + 1 * r.val = t.val % 2 * 2048 + r.val; rw [(idx1 t).1]; omega
  | ⟨1, _⟩ => show win0_1.index t 1 * 1024 + 1 * k.val = t.val / 2 % 2 * 1024 + k.val; rw [(idx1 t).2]; omega
theorem iblk1_apply (c : Dev nD) (t : Fin cfg0.N) (r : Fin 2048) (k : Fin 1024) : iblk m c 1 t (ix2 r k)
    = Y m c (ix2 (⟨t.val % 2 * 2048 + r.val, by have := lt_N t; omega⟩ : Fin 4096) (⟨t.val / 2 % 2 * 1024 + k.val, by have := lt_N t; omega⟩ : Fin 2048)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 4 * 1024 + r.val, by have := lt_N t; omega⟩ : Fin 2048) (⟨t.val / 2 % 2 * 1024 + k.val, by have := lt_N t; omega⟩ : Fin 2048) := by
  funext a
  apply Fin.ext
  match a with
  | ⟨0, _⟩ => show win0_2.index t 0 * 1024 + 1 * r.val = t.val / 4 * 1024 + r.val; rw [(idx2 t).1]; omega
  | ⟨1, _⟩ => show win0_2.index t 1 * 1024 + 1 * k.val = t.val / 2 % 2 * 1024 + k.val; rw [(idx2 t).2]; omega

section
variable (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole)
theorem sA (hc0 : cond0_0 i) (hc1 : ¬cond0_1 i) (hc2 : ¬cond0_2 i) (x0 : Vec Ideal S2048x1024 .bf16) (x1 : Vec Ideal S2048x1024 .bf16) :
    sout0_A_0 c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  simp only [View.readAt_eq_ld, w3.read_unread, w4.read_unread, w5.read_unread, w6.read_unread, View.ld_unit_zero (S := S2048x1024) hz, View.ld_unit_zero (S := S1024x1024) hz]

theorem out2 (hc0 : ¬cond0_0 i) (hc1 : ¬cond0_1 i) (hc2 : cond0_2 i) (x0 : Vec Ideal S2048x1024 .bf16) (x1 : Vec Ideal S2048x1024 .bf16) (xs0 : Vec Ideal S1024x1024 .f32) :
    out0_B_2 c i a3 w3 a4 w4 a5 w5 a6 w6 hc0 hc1 hc2 x0 x1 xs0 = k0_pay3 xs0 x0 x1 := by
  unfold out0_B_2
  rw [View.read_writes_eq_canon _ _ _ (cover0_B_2 c i a3 w3 a4 w4 a5 w5 a6 w6 hc0 hc1 hc2 x0 x1 xs0)]
  unfold kernelRun0_B
  dsimp only
  sl_unfold_words
  rw [View.canon_unit_zero hz]
  simp only [View.readAt_eq_ld, w3.read_unread, w4.read_unread, w5.read_unread, w6.read_unread, View.ld_unit_zero (S := S2048x1024) hz, View.ld_unit_zero (S := S1024x1024) hz]
end

/-- The products that one element of the result sums. -/
def term (x : FVec Ideal S4096x2048 .bf16) (y : FVec Ideal S4096x2048 .bf16) (i : Fin 2048) (j : Fin 2048) (q : Fin 4096) : EReal :=
  x (ix2 q i) * y (ix2 q j)

theorem pay1_eq (c : Dev nD) (t : Fin cfg0.N) (r : Fin 1024) (k : Fin 1024) :
    k0_pay1 (F := Ideal) (iblk m c 0 t) (iblk m c 1 t) (ix2 r k)
      = ∑ q : Fin 2048, cell (term (X m c) (Y m c) (⟨t.val / 4 * 1024 + r.val, by have := lt_N t; omega⟩ : Fin 2048) (⟨t.val / 2 % 2 * 1024 + k.val, by have := lt_N t; omega⟩ : Fin 2048)) (t.val % 2 * 2048 + q.val) := by
  pointwise [k0_pay1]
  refine Finset.sum_congr rfl fun q _ => ?_
  rw [cell_at _ _ (by omega), iblk0_apply, iblk1_apply]
  rfl

theorem pay2_eq (c : Dev nD) (t : Fin cfg0.N) (acc : Vec Ideal S1024x1024 .f32) (r : Fin 1024) (k : Fin 1024) :
    k0_pay2 (F := Ideal) acc (iblk m c 0 t) (iblk m c 1 t) (ix2 r k)
      = (acc (ix2 r k) + ∑ q : Fin 2048, cell (term (X m c) (Y m c) (⟨t.val / 4 * 1024 + r.val, by have := lt_N t; omega⟩ : Fin 2048) (⟨t.val / 2 % 2 * 1024 + k.val, by have := lt_N t; omega⟩ : Fin 2048)) (t.val % 2 * 2048 + q.val) : EReal) := by
  have h := pay1_eq m c t r k
  pointwise [k0_pay1] at h
  pointwise [k0_pay2]
  rw [h]

theorem acc_eq (c : Dev nD) : ∀ (n : ℕ) (hn : n < cfg0.N) (_ : n % 2 < 1) (r : Fin 1024) (k : Fin 1024),
    (outsAt0 m c n hn).2 (ix2 r k)
      = (∑ s ∈ Finset.range (n % 2 + 1), ∑ q : Fin 2048, cell (term (X m c) (Y m c) (⟨n / 4 * 1024 + r.val, by have := lt_of_lt_of_eq hn N_0; omega⟩ : Fin 2048) (⟨n / 2 % 2 * 1024 + k.val, by have := lt_of_lt_of_eq hn N_0; omega⟩ : Fin 2048)) (s * 2048 + q.val) : EReal) := by
  intro n hn hlt r k
  have h0 : n % 2 = 0 := by omega
  rw [show outsAt0 m c n hn = _ from outsAt0_A m c ⟨n, hn⟩ h0 (by dsimp only; omega)]
  dsimp only
  rw [sA, h0]
  refine (pay1_eq m c ⟨n, hn⟩ r k).trans ?_
  dsimp only
  rw [h0, Finset.sum_range_one]

/-- The product, element by element. -/
def G2 (x : FVec Ideal S4096x2048 .bf16) (y : FVec Ideal S4096x2048 .bf16) : FVec Ideal S2048x2048 .bf16 := fun i =>
  ((∑ q : Fin 4096, term x y (i 0) (i 1) q) : EReal)

abbrev res2 (c : Dev nD) : Buf (Elt Ideal) ((c : Thread nD τ).loc main_v0) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  have hq : t.val % 2 = 1 := (flush0_2 t).mp hf
  rw [Value.flushed2_B m c t (by omega) (by omega), out2]
  funext j
  obtain ⟨r, k, rfl⟩ : ∃ (r : Fin 1024) (k : Fin 1024), j = ix2 r k := ⟨j 0, j 1, eq_ix2 j⟩
  rw [View.read_apply, emb2]
  have hp := acc_eq m c (t.val - 1) (Nat.lt_of_le_of_lt (Nat.sub_le t.val 1) t.isLt) (by omega) r k
  have e : (t.val - 1) % 2 + 1 = 1 := by omega
  have eI : (t.val - 1) / 4 = t.val / 4 := by omega
  have eJ : (t.val - 1) / 2 % 2 = t.val / 2 % 2 := by omega
  have hb := pay2_eq m c t ((outsAt0 m c (t.val - 1) (Nat.lt_of_le_of_lt (Nat.sub_le t.val 1) t.isLt)).2) r k
  simp only [hp, hq, e, eI, eJ] at hb
  rw [← Finset.sum_range_succ (fun s => ∑ q : Fin 2048, cell _ (s * 2048 + q.val)), sum_cells _ 2 2048 (by rfl)] at hb
  show k0_pay3 (F := Ideal) ((outsAt0 m c (t.val - 1) (Nat.lt_of_le_of_lt (Nat.sub_le t.val 1) t.isLt)).2) (iblk m c 0 t) (iblk m c 1 t) (ix2 r k) = G2 (X m c) (Y m c) _
  unfold G2
  simp only [ix2_0, ix2_1]
  rw [← hb]
  pointwise [k0_pay3, k0_pay2]

theorem cover2 (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have hN := N_0
  have hN' : cfg0.N = grid0.N := rfl
  obtain ⟨t, ht⟩ : ∃ t : Fin cfg0.N, t.val = ((i 0).val / 1024 * 2 + (i 1).val / 1024) * 2 + 1 := ⟨⟨_, by omega⟩, rfl⟩
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

theorem runK : θ_run defs (onTc (τ := τ) (main (F := Ideal))) ⟨m, fun _ => 0, ρ⟩ fun r => ∀ c : Dev nD,
      r.2.mem ((c : Thread nD τ).loc main_v0) = res2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (Value.run_blocks m ρ)

theorem algebraic : Cert.algebraic_Kernel9Ideal_Reference9Ideal := fun m ρ m' ρ' _ hag =>
  ⟨fun c => res2 m c, runK m ρ,
    (θ_run _ _ _).mono (fun _ h c => ⟨(h c).1.trans (by
      clear h
      rw [(hag c).1, (hag c).2]
      funext j
      obtain ⟨r, k, rfl⟩ : ∃ (r : Fin 2048) (k : Fin 2048), j = ix2 r k := ⟨j 0, j 1, eq_ix2 j⟩
      show _ = G2 (X m c) (Y m c) _
      unfold G2 term
      simp only [ix2_0, ix2_1]
      pointwise
      exact Finset.sum_congr rfl fun q _ => mul_comm _ _), (h c).2⟩) (Reference9Ideal.Value.run m' ρ')⟩

end Cert.Kernel9Ideal.Val
end
-- ==== Proof.V10.lean ====
module

public import proofs.«01_k».proof.Defs
public import proofs.«01_k».proof.Proof.Gen.Kernel10Ideal.Value
public import proofs.«01_k».proof.Proof.Gen.Reference10Ideal.Run
public import proofs.«01_k».proof.Proof.Alg

/-! The gradient of the first branch's projection. -/

@[expose] public section

set_option maxRecDepth 16384

noncomputable section

open Idealize.ShloMosaic Idealize.ShloMosaic.TcCoe Idealize.SL.Sem
open Idealize.ShloMosaic.Pipeline (Dat)

namespace Cert.Kernel10Ideal.Val

open Cert.Kernel10Ideal Cert.Kernel10Ideal.Gen Alg

variable (m : (ℓ : Loc nD τ sig) → Buf (Elt Ideal) ℓ) (ρ : Dev nD → PrngReg)
theorem lt_N (t : Fin cfg0.N) : t.val < 8 := lt_of_lt_of_eq t.isLt N_0
theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = t.val % 2 ∧ win0_1.index t 1 = 0 :=
  (by decide +kernel : ∀ t : Fin grid0.N, _)
theorem idx2 : ∀ t : Fin cfg0.N, win0_2.index t 0 = t.val / 2 ∧ win0_2.index t 1 = t.val % 2 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S2048x2048 .bf16 := m ((c : Thread nD τ).loc main_arg1)
theorem emb0 (t : Fin cfg0.N) (r : Fin 1024) (k : Fin 2048) : ((cfg0.win 0).blk t).view.emb (ix2 r k)
    = ix2 (⟨t.val / 2 * 1024 + r.val, by have := lt_N t; omega⟩ : Fin 4096) k := by
  funext a
  apply Fin.ext
  match a with
  | ⟨0, _⟩ => show win0_0.index t 0 * 1024 + 1 * r.val = t.val / 2 * 1024 + r.val; rw [(idx0 t).1]; omega
  | ⟨1, _⟩ => show win0_0.index t 1 * 2048 + 1 * k.val = k.val; rw [(idx0 t).2]; omega
theorem iblk0_apply (c : Dev nD) (t : Fin cfg0.N) (r : Fin 1024) (k : Fin 2048) : iblk m c 0 t (ix2 r k)
    = X m c (ix2 (⟨t.val / 2 * 1024 + r.val, by have := lt_N t; omega⟩ : Fin 4096) k) := by
  unfold iblk
  rw [View.read_apply, emb0]
  show V m c main_arg0 _ = _
  rw [V_main_arg0]
theorem emb1 (t : Fin cfg0.N) (r : Fin 1024) (k : Fin 2048) : ((cfg0.win 1).blk t).view.emb (ix2 r k)
    = ix2 (⟨t.val % 2 * 1024 + r.val, by have := lt_N t; omega⟩ : Fin 2048) k := by
  funext a
  apply Fin.ext
  match a with
  | ⟨0, _⟩ => show win0_1.index t 0 * 1024 + 1 * r.val = t.val % 2 * 1024 + r.val; rw [(idx1 t).1]; omega
  | ⟨1, _⟩ => show win0_1.index t 1 * 2048 + 1 * k.val = k.val; rw [(idx1 t).2]; omega
theorem iblk1_apply (c : Dev nD) (t : Fin cfg0.N) (r : Fin 1024) (k : Fin 2048) : iblk m c 1 t (ix2 r k)
    = Y m c (ix2 (⟨t.val % 2 * 1024 + r.val, by have := lt_N t; omega⟩ : Fin 2048) k) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 2 * 1024 + r.val, by have := lt_N t; omega⟩ : Fin 4096) (⟨t.val % 2 * 1024 + k.val, by have := lt_N t; omega⟩ : Fin 2048) := by
  funext a
  apply Fin.ext
  match a with
  | ⟨0, _⟩ => show win0_2.index t 0 * 1024 + 1 * r.val = t.val / 2 * 1024 + r.val; rw [(idx2 t).1]; omega
  | ⟨1, _⟩ => show win0_2.index t 1 * 1024 + 1 * k.val = t.val % 2 * 1024 + k.val; rw [(idx2 t).2]; omega

theorem out2 (c : Dev nD) (i : grid0.Coords) (a3 : Memref sig .tc .vmem S1024x2048 .bf16) (w3 : a3.IsWhole) (a4 : Memref sig .tc .vmem S1024x2048 .bf16) (w4 : a4.IsWhole) (a5 : Memref sig .tc .vmem S1024x1024 .f32) (w5 : a5.IsWhole) (a6 : Memref sig .tc .vmem S8x128 .f32) (w6 : a6.IsWhole) (x0 : Vec Ideal S1024x2048 .bf16) (x1 : Vec Ideal S1024x2048 .bf16) :
    out0_A_2 c i a3 w3 a4 w4 a5 w5 a6 w6 x0 x1 = k0_pay1 x0 x1 := by
  unfold out0_A_2
  rw [View.read_writes_eq_canon _ _ _ (cover0_A_2 c i a3 w3 a4 w4 a5 w5 a6 w6 x0 x1)]
  unfold kernelRun0_A
  dsimp only
  sl_unfold_words
  rw [View.canon_unit_zero hz]
  simp only [View.readAt_eq_ld, w3.read_unread, w4.read_unread, w5.read_unread, w6.read_unread, View.ld_unit_zero (S := S1024x2048) hz, View.ld_unit_zero (S := S1024x1024) hz, View.ld_unit_zero (S := S8x128) hz]

/-- The products that one element of the result sums. -/
def term (x : FVec Ideal S4096x2048 .bf16) (y : FVec Ideal S2048x2048 .bf16) (i : Fin 4096) (j : Fin 2048) (q : Fin 2048) : EReal :=
  x (ix2 i q) * y (ix2 j q)

/-- The product, element by element. -/
def G2 (x : FVec Ideal S4096x2048 .bf16) (y : FVec Ideal S2048x2048 .bf16) : FVec Ideal S4096x2048 .f32 := fun i =>
  ((∑ q : Fin 2048, term x y (i 0) (i 1) q) : EReal)

abbrev res2 (c : Dev nD) : Buf (Elt Ideal) ((c : Thread nD τ).loc main_v0) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  rw [Value.flushed2_A, out2]
  funext j
  obtain ⟨r, k, rfl⟩ : ∃ (r : Fin 1024) (k : Fin 1024), j = ix2 r k := ⟨j 0, j 1, eq_ix2 j⟩
  rw [View.read_apply, emb2]
  show k0_pay1 (F := Ideal) (iblk m c 0 t) (iblk m c 1 t) (ix2 r k) = G2 (X m c) (Y m c) _
  unfold G2 term
  simp only [ix2_0, ix2_1]
  pointwise [k0_pay1]
  simp only [iblk0_apply, iblk1_apply]

theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = (i 0).val / 1024 * 2 + (i 1).val / 1024 := ⟨⟨_, by omega⟩, rfl⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

theorem runK : θ_run defs (onTc (τ := τ) (main (F := Ideal))) ⟨m, fun _ => 0, ρ⟩ fun r => ∀ c : Dev nD,
      r.2.mem ((c : Thread nD τ).loc main_v0) = res2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (Value.run_blocks m ρ)

theorem algebraic : Cert.algebraic_Kernel10Ideal_Reference10Ideal := fun m ρ m' ρ' _ hag =>
  ⟨fun c => res2 m c, runK m ρ,
    (θ_run _ _ _).mono (fun _ h c => ⟨(h c).1.trans (by
      clear h
      rw [(hag c).1, (hag c).2]
      funext j
      obtain ⟨r, k, rfl⟩ : ∃ (r : Fin 4096) (k : Fin 2048), j = ix2 r k := ⟨j 0, j 1, eq_ix2 j⟩
      show _ = G2 (X m c) (Y m c) _
      unfold G2 term
      simp only [ix2_0, ix2_1]
      pointwise), (h c).2⟩) (Reference10Ideal.Value.run m' ρ')⟩

end Cert.Kernel10Ideal.Val
end
-- ==== Proof.V11.lean ====
module

public import proofs.«01_k».proof.Defs
public import proofs.«01_k».proof.Proof.Gen.Kernel11Ideal.Value
public import proofs.«01_k».proof.Proof.Gen.Reference11Ideal.Run
public import proofs.«01_k».proof.Proof.Alg

/-! The input projection with its bias. -/

@[expose] public section

set_option maxRecDepth 16384

noncomputable section

open Idealize.ShloMosaic Idealize.ShloMosaic.TcCoe Idealize.SL.Sem
open Idealize.ShloMosaic.Pipeline (Dat)

namespace Cert.Kernel11Ideal.Val

open Cert.Kernel11Ideal Cert.Kernel11Ideal.Gen Alg

variable (m : (ℓ : Loc nD τ sig) → Buf (Elt Ideal) ℓ) (ρ : Dev nD → PrngReg)
theorem lt_N (t : Fin cfg0.N) : t.val < 56 := lt_of_lt_of_eq t.isLt N_0

/-- The bias as the one row the kernel reads. -/
abbrev biasRow (c : Dev nD) : FVec Ideal S1x14336 .f32 := fun i => (m ((c : Thread nD τ).loc main_arg2) : FVec Ideal S14336 .f32) (ix1 (i 1))

theorem V_v0 (c : Dev nD) : V m c main_v0
    = (broadcastInDim S1x14336 ![1] bcast_S14336_S1x14336_1 (m ((c : Thread nD τ).loc main_arg2)) : FVec Ideal S1x14336 .f32) := by
  unfold V
  simp only [hostOps0]
  after_results
theorem idx0 : ∀ t : Fin cfg0.N, win0_0.index t 0 = t.val / 14 ∧ win0_0.index t 1 = 0 :=
  (by decide +kernel : ∀ t : Fin grid0.N, _)
theorem idx1 : ∀ t : Fin cfg0.N, win0_1.index t 0 = 0 ∧ win0_1.index t 1 = t.val % 14 :=
  (by decide +kernel : ∀ t : Fin grid0.N, _)
theorem idx2 : ∀ t : Fin cfg0.N, win0_2.index t 0 = 0 ∧ win0_2.index t 1 = t.val % 14 :=
  (by decide +kernel : ∀ t : Fin grid0.N, _)
theorem idx3 : ∀ t : Fin cfg0.N, win0_3.index t 0 = t.val / 14 ∧ win0_3.index t 1 = t.val % 14 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S2048x14336 .bf16 := m ((c : Thread nD τ).loc main_arg1)
theorem emb0 (t : Fin cfg0.N) (r : Fin 1024) (k : Fin 2048) : ((cfg0.win 0).blk t).view.emb (ix2 r k)
    = ix2 (⟨t.val / 14 * 1024 + r.val, by have := lt_N t; omega⟩ : Fin 4096) k := by
  funext a
  apply Fin.ext
  match a with
  | ⟨0, _⟩ => show win0_0.index t 0 * 1024 + 1 * r.val = t.val / 14 * 1024 + r.val; rw [(idx0 t).1]; omega
  | ⟨1, _⟩ => show win0_0.index t 1 * 2048 + 1 * k.val = k.val; rw [(idx0 t).2]; omega
theorem iblk0_apply (c : Dev nD) (t : Fin cfg0.N) (r : Fin 1024) (k : Fin 2048) : iblk m c 0 t (ix2 r k)
    = X m c (ix2 (⟨t.val / 14 * 1024 + r.val, by have := lt_N t; omega⟩ : Fin 4096) k) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 r (⟨t.val % 14 * 1024 + k.val, by have := lt_N t; omega⟩ : Fin 14336) := by
  funext a
  apply Fin.ext
  match a with
  | ⟨0, _⟩ => show win0_1.index t 0 * 2048 + 1 * r.val = r.val; rw [(idx1 t).1]; omega
  | ⟨1, _⟩ => show win0_1.index t 1 * 1024 + 1 * k.val = t.val % 14 * 1024 + k.val; rw [(idx1 t).2]; omega
theorem iblk1_apply (c : Dev nD) (t : Fin cfg0.N) (r : Fin 2048) (k : Fin 1024) : iblk m c 1 t (ix2 r k)
    = Y m c (ix2 r (⟨t.val % 14 * 1024 + k.val, by have := lt_N t; omega⟩ : Fin 14336)) := by
  unfold iblk
  rw [View.read_apply, emb1]
  show V m c main_arg1 _ = _
  rw [V_main_arg1]
theorem emb2 (t : Fin cfg0.N) (r : Fin 1) (k : Fin 1024) : ((cfg0.win 2).blk t).view.emb (ix2 r k)
    = ix2 r (⟨t.val % 14 * 1024 + k.val, by have := lt_N t; omega⟩ : Fin 14336) := by
  funext a
  apply Fin.ext
  match a with
  | ⟨0, _⟩ => show win0_2.index t 0 * 1 + 1 * r.val = r.val; rw [(idx2 t).1]; omega
  | ⟨1, _⟩ => show win0_2.index t 1 * 1024 + 1 * k.val = t.val % 14 * 1024 + k.val; rw [(idx2 t).2]; omega
theorem iblk2_apply (c : Dev nD) (t : Fin cfg0.N) (r : Fin 1) (k : Fin 1024) : iblk m c 2 t (ix2 r k)
    = biasRow m c (ix2 r (⟨t.val % 14 * 1024 + k.val, by have := lt_N t; omega⟩ : Fin 14336)) := by
  unfold iblk
  rw [View.read_apply, emb2]
  show V m c main_v0 _ = _
  rw [V_v0]
  unfold biasRow
  pointwise
theorem emb3 (t : Fin cfg0.N) (r : Fin 1024) (k : Fin 1024) : ((cfg0.win 3).blk t).view.emb (ix2 r k)
    = ix2 (⟨t.val / 14 * 1024 + r.val, by have := lt_N t; omega⟩ : Fin 4096) (⟨t.val % 14 * 1024 + k.val, by have := lt_N t; omega⟩ : Fin 14336) := by
  funext a
  apply Fin.ext
  match a with
  | ⟨0, _⟩ => show win0_3.index t 0 * 1024 + 1 * r.val = t.val / 14 * 1024 + r.val; rw [(idx3 t).1]; omega
  | ⟨1, _⟩ => show win0_3.index t 1 * 1024 + 1 * k.val = t.val % 14 * 1024 + k.val; rw [(idx3 t).2]; omega

theorem out3 (c : Dev nD) (i : grid0.Coords) (a3 : Memref sig .tc .vmem S1024x2048 .bf16) (w3 : a3.IsWhole) (a4 : Memref sig .tc .vmem S2048x1024 .bf16) (w4 : a4.IsWhole) (a5 : Memref sig .tc .vmem S1x1024 .f32) (w5 : a5.IsWhole) (a6 : Memref sig .tc .vmem S1024x1024 .f32) (w6 : a6.IsWhole) (a7 : Memref sig .tc .vmem S8x128 .f32) (w7 : a7.IsWhole) (x0 : Vec Ideal S1024x2048 .bf16) (x1 : Vec Ideal S2048x1024 .bf16) (x2 : Vec Ideal S1x1024 .f32) :
    out0_A_3 c i a3 w3 a4 w4 a5 w5 a6 w6 a7 w7 x0 x1 x2 = k0_pay1 x0 x1 x2 := by
  unfold out0_A_3
  rw [View.read_writes_eq_canon _ _ _ (cover0_A_3 c i a3 w3 a4 w4 a5 w5 a6 w6 a7 w7 x0 x1 x2)]
  unfold kernelRun0_A
  dsimp only
  sl_unfold_words
  rw [View.canon_unit_zero hz]
  simp only [View.readAt_eq_ld, w3.read_unread, w4.read_unread, w5.read_unread, w6.read_unread, w7.read_unread, View.ld_unit_zero (S := S1024x2048) hz, View.ld_unit_zero (S := S2048x1024) hz, View.ld_unit_zero (S := S1x1024) hz, View.ld_unit_zero (S := S1024x1024) hz, View.ld_unit_zero (S := S8x128) hz]

/-- The products that one element of the result sums. -/
def term (x : FVec Ideal S4096x2048 .bf16) (y : FVec Ideal S2048x14336 .bf16) (i : Fin 4096) (j : Fin 14336) (q : Fin 2048) : EReal :=
  x (ix2 i q) * y (ix2 q j)

/-- The product with the bias of its column. -/
def G3 (x : FVec Ideal S4096x2048 .bf16) (y : FVec Ideal S2048x14336 .bf16) (b : FVec Ideal S14336 .f32) : FVec Ideal S4096x14336 .f32 := fun i =>
  ((∑ q : Fin 2048, term x y (i 0) (i 1) q) + b (ix1 (i 1)) : EReal)

abbrev res3 (c : Dev nD) : Buf (Elt Ideal) ((c : Thread nD τ).loc main_v1) := G3 (X m c) (Y m c) (m ((c : Thread nD τ).loc main_arg2))

theorem flushed_eq3 (c : Dev nD) (t : Fin cfg0.N) (hf : (cfg0.win 3).flush t = true) :
    (dats m 0 c).flushed 3 t = ((cfg0.win 3).blk t).view.read (Elt Ideal) (res3 m c) := by
  rw [Value.flushed3_A, out3]
  funext j
  obtain ⟨r, k, rfl⟩ : ∃ (r : Fin 1024) (k : Fin 1024), j = ix2 r k := ⟨j 0, j 1, eq_ix2 j⟩
  rw [View.read_apply, emb3]
  show k0_pay1 (F := Ideal) (iblk m c 0 t) (iblk m c 1 t) (iblk m c 2 t) (ix2 r k) = G3 (X m c) (Y m c) (m ((c : Thread nD τ).loc main_arg2)) _
  unfold G3 term
  simp only [ix2_0, ix2_1]
  pointwise [k0_pay1]
  simp only [iblk0_apply, iblk1_apply, iblk2_apply]
  rfl

theorem cover3 (i : S4096x14336.Idx) : ∃ t : Fin cfg0.N, (cfg0.win 3).flush t = true ∧ i ∈ ((cfg0.win 3).blk t).view.set := by
  have h0 : (i 0).val < 4096 := (i 0).isLt
  have h1 : (i 1).val < 14336 := (i 1).isLt
  have hN := N_0
  have hN' : cfg0.N = grid0.N := rfl
  obtain ⟨t, ht⟩ : ∃ t : Fin cfg0.N, t.val = (i 0).val / 1024 * 14 + (i 1).val / 1024 := ⟨⟨_, by omega⟩, rfl⟩
  refine ⟨t, flush0_3 t, ?_⟩
  show i ∈ ((View.whole main_v1).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [(idx3 t).1]; omega
  | ⟨1, _⟩ => show win0_3.index t 1 * 1024 ≤ (i 1).val ∧ (i 1).val < win0_3.index t 1 * 1024 + 1024; rw [(idx3 t).2]; omega

theorem final3 (c : Dev nD) : (dats m 0 c).arrAt 3 cfg0.N = res3 m c :=
  (dats m 0 c).arrAt_eq_of_cover 3 (res3 m c) (fun t hf => flushed_eq3 m c t hf) cover3

theorem runK : θ_run defs (onTc (τ := τ) (main (F := Ideal))) ⟨m, fun _ => 0, ρ⟩ fun r => ∀ c : Dev nD,
      r.2.mem ((c : Thread nD τ).loc main_v1) = res3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (Value.run_blocks m ρ)

theorem algebraic : Cert.algebraic_Kernel11Ideal_Reference11Ideal := fun m ρ m' ρ' _ hag =>
  ⟨fun c => res3 m c, runK m ρ,
    (θ_run _ _ _).mono (fun _ h c => ⟨(h c).1.trans (by
      clear h
      rw [(hag c).1, (hag c).2.1, (hag c).2.2]
      funext j
      obtain ⟨r, k, rfl⟩ : ∃ (r : Fin 4096) (k : Fin 14336), j = ix2 r k := ⟨j 0, j 1, eq_ix2 j⟩
      show _ = G3 (X m c) (Y m c) (m ((c : Thread nD τ).loc main_arg2)) _
      unfold G3 term
      simp only [ix2_0, ix2_1]
      pointwise), (h c).2⟩) (Reference11Ideal.Value.run m' ρ')⟩

end Cert.Kernel11Ideal.Val
end
-- ==== Proof.V12.lean ====
module

public import proofs.«01_k».proof.Defs
public import proofs.«01_k».proof.Proof.Gen.Kernel12Ideal.Value
public import proofs.«01_k».proof.Proof.Gen.Reference12Ideal.Run
public import proofs.«01_k».proof.Proof.Alg

/-! The first branch's projection. -/

@[expose] public section

set_option maxRecDepth 16384

noncomputable section

open Idealize.ShloMosaic Idealize.ShloMosaic.TcCoe Idealize.SL.Sem
open Idealize.ShloMosaic.Pipeline (Dat)

namespace Cert.Kernel12Ideal.Val

open Cert.Kernel12Ideal Cert.Kernel12Ideal.Gen Alg

variable (m : (ℓ : Loc nD τ sig) → Buf (Elt Ideal) ℓ) (ρ : Dev nD → PrngReg)
theorem lt_N (t : Fin cfg0.N) : t.val < 8 := lt_of_lt_of_eq t.isLt N_0
theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = 0 ∧ win0_1.index t 1 = t.val % 2 :=
  (by decide +kernel : ∀ t : Fin grid0.N, _)
theorem idx2 : ∀ t : Fin cfg0.N, win0_2.index t 0 = t.val / 2 ∧ win0_2.index t 1 = t.val % 2 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S2048x2048 .bf16 := m ((c : Thread nD τ).loc main_arg1)
theorem emb0 (t : Fin cfg0.N) (r : Fin 1024) (k : Fin 2048) : ((cfg0.win 0).blk t).view.emb (ix2 r k)
    = ix2 (⟨t.val / 2 * 1024 + r.val, by have := lt_N t; omega⟩ : Fin 4096) k := by
  funext a
  apply Fin.ext
  match a with
  | ⟨0, _⟩ => show win0_0.index t 0 * 1024 + 1 * r.val = t.val / 2 * 1024 + r.val; rw [(idx0 t).1]; omega
  | ⟨1, _⟩ => show win0_0.index t 1 * 2048 + 1 * k.val = k.val; rw [(idx0 t).2]; omega
theorem iblk0_apply (c : Dev nD) (t : Fin cfg0.N) (r : Fin 1024) (k : Fin 2048) : iblk m c 0 t (ix2 r k)
    = X m c (ix2 (⟨t.val / 2 * 1024 + r.val, by have := lt_N t; omega⟩ : Fin 4096) k) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 r (⟨t.val % 2 * 1024 + k.val, by have := lt_N t; omega⟩ : Fin 2048) := by
  funext a
  apply Fin.ext
  match a with
  | ⟨0, _⟩ => show win0_1.index t 0 * 2048 + 1 * r.val = r.val; rw [(idx1 t).1]; omega
  | ⟨1, _⟩ => show win0_1.index t 1 * 1024 + 1 * k.val = t.val % 2 * 1024 + k.val; rw [(idx1 t).2]; omega
theorem iblk1_apply (c : Dev nD) (t : Fin cfg0.N) (r : Fin 2048) (k : Fin 1024) : iblk m c 1 t (ix2 r k)
    = Y m c (ix2 r (⟨t.val % 2 * 1024 + k.val, by have := lt_N t; omega⟩ : Fin 2048)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 2 * 1024 + r.val, by have := lt_N t; omega⟩ : Fin 4096) (⟨t.val % 2 * 1024 + k.val, by have := lt_N t; omega⟩ : Fin 2048) := by
  funext a
  apply Fin.ext
  match a with
  | ⟨0, _⟩ => show win0_2.index t 0 * 1024 + 1 * r.val = t.val / 2 * 1024 + r.val; rw [(idx2 t).1]; omega
  | ⟨1, _⟩ => show win0_2.index t 1 * 1024 + 1 * k.val = t.val % 2 * 1024 + k.val; rw [(idx2 t).2]; omega

theorem out2 (c : Dev nD) (i : grid0.Coords) (a3 : Memref sig .tc .vmem S1024x2048 .bf16) (w3 : a3.IsWhole) (a4 : Memref sig .tc .vmem S2048x1024 .bf16) (w4 : a4.IsWhole) (a5 : Memref sig .tc .vmem S1024x1024 .f32) (w5 : a5.IsWhole) (a6 : Memref sig .tc .vmem S8x128 .f32) (w6 : a6.IsWhole) (x0 : Vec Ideal S1024x2048 .bf16) (x1 : Vec Ideal S2048x1024 .bf16) :
    out0_A_2 c i a3 w3 a4 w4 a5 w5 a6 w6 x0 x1 = k0_pay1 x0 x1 := by
  unfold out0_A_2
  rw [View.read_writes_eq_canon _ _ _ (cover0_A_2 c i a3 w3 a4 w4 a5 w5 a6 w6 x0 x1)]
  unfold kernelRun0_A
  dsimp only
  sl_unfold_words
  rw [View.canon_unit_zero hz]
  simp only [View.readAt_eq_ld, w3.read_unread, w4.read_unread, w5.read_unread, w6.read_unread, View.ld_unit_zero (S := S1024x2048) hz, View.ld_unit_zero (S := S2048x1024) hz, View.ld_unit_zero (S := S1024x1024) hz, View.ld_unit_zero (S := S8x128) hz]

/-- The products that one element of the result sums. -/
def term (x : FVec Ideal S4096x2048 .bf16) (y : FVec Ideal S2048x2048 .bf16) (i : Fin 4096) (j : Fin 2048) (q : Fin 2048) : EReal :=
  x (ix2 i q) * y (ix2 q j)

/-- The product, element by element. -/
def G2 (x : FVec Ideal S4096x2048 .bf16) (y : FVec Ideal S2048x2048 .bf16) : FVec Ideal S4096x2048 .f32 := fun i =>
  ((∑ q : Fin 2048, term x y (i 0) (i 1) q) : EReal)

abbrev res2 (c : Dev nD) : Buf (Elt Ideal) ((c : Thread nD τ).loc main_v0) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  rw [Value.flushed2_A, out2]
  funext j
  obtain ⟨r, k, rfl⟩ : ∃ (r : Fin 1024) (k : Fin 1024), j = ix2 r k := ⟨j 0, j 1, eq_ix2 j⟩
  rw [View.read_apply, emb2]
  show k0_pay1 (F := Ideal) (iblk m c 0 t) (iblk m c 1 t) (ix2 r k) = G2 (X m c) (Y m c) _
  unfold G2 term
  simp only [ix2_0, ix2_1]
  pointwise [k0_pay1]
  simp only [iblk0_apply, iblk1_apply]

theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = (i 0).val / 1024 * 2 + (i 1).val / 1024 := ⟨⟨_, by omega⟩, rfl⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

theorem runK : θ_run defs (onTc (τ := τ) (main (F := Ideal))) ⟨m, fun _ => 0, ρ⟩ fun r => ∀ c : Dev nD,
      r.2.mem ((c : Thread nD τ).loc main_v0) = res2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (Value.run_blocks m ρ)

theorem algebraic : Cert.algebraic_Kernel12Ideal_Reference12Ideal := fun m ρ m' ρ' _ hag =>
  ⟨fun c => res2 m c, runK m ρ,
    (θ_run _ _ _).mono (fun _ h c => ⟨(h c).1.trans (by
      clear h
      rw [(hag c).1, (hag c).2]
      funext j
      obtain ⟨r, k, rfl⟩ : ∃ (r : Fin 4096) (k : Fin 2048), j = ix2 r k := ⟨j 0, j 1, eq_ix2 j⟩
      show _ = G2 (X m c) (Y m c) _
      unfold G2 term
      simp only [ix2_0, ix2_1]
      pointwise), (h c).2⟩) (Reference12Ideal.Value.run m' ρ')⟩

end Cert.Kernel12Ideal.Val
end
-- ==== Proof.V13.lean ====
module

public import proofs.«01_k».proof.Defs
public import proofs.«01_k».proof.Proof.Gen.Kernel13Ideal.Value
public import proofs.«01_k».proof.Proof.Gen.Reference13Ideal.Run
public import proofs.«01_k».proof.Proof.Alg

/-! The second branch's projection and the gated merge. -/

@[expose] public section

set_option maxRecDepth 16384

noncomputable section

open Idealize.ShloMosaic Idealize.ShloMosaic.TcCoe Idealize.SL.Sem
open Idealize.ShloMosaic.Pipeline (Dat)

namespace Cert.Kernel13Ideal.Val

open Cert.Kernel13Ideal Cert.Kernel13Ideal.Gen Alg

variable (m : (ℓ : Loc nD τ sig) → Buf (Elt Ideal) ℓ) (ρ : Dev nD → PrngReg)
theorem lt_N (t : Fin cfg0.N) : t.val < 16 := lt_of_lt_of_eq t.isLt N_0

/-- The gate: the sigmoid as the kernel writes it. -/
def gate (v : EReal) : EReal := ((1 / 2 : ℝ) : EReal) * Ideal.tanh (((1 / 2 : ℝ) : EReal) * v) + ((1 / 2 : ℝ) : EReal)
theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = 0 ∧ win0_1.index t 1 = t.val % 2 :=
  (by decide +kernel : ∀ t : Fin grid0.N, _)
theorem idx2 : ∀ t : Fin cfg0.N, win0_2.index t 0 = t.val / 2 ∧ win0_2.index t 1 = t.val % 2 :=
  (by decide +kernel : ∀ t : Fin grid0.N, _)
theorem idx3 : ∀ t : Fin cfg0.N, win0_3.index t 0 = t.val / 2 ∧ win0_3.index t 1 = (t.val % 2 + 10) :=
  (by decide +kernel : ∀ t : Fin grid0.N, _)
theorem idx4 : ∀ t : Fin cfg0.N, win0_4.index t 0 = t.val / 2 ∧ win0_4.index t 1 = (t.val % 2 + 12) :=
  (by decide +kernel : ∀ t : Fin grid0.N, _)
theorem idx5 : ∀ t : Fin cfg0.N, win0_5.index t 0 = t.val / 2 ∧ win0_5.index t 1 = t.val % 2 :=
  (by decide +kernel : ∀ t : Fin grid0.N, _)
theorem idx6 : ∀ t : Fin cfg0.N, win0_6.index t 0 = t.val / 2 ∧ win0_6.index t 1 = t.val % 2 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S2048x2048 .bf16 := m ((c : Thread nD τ).loc main_arg1)
theorem emb0 (t : Fin cfg0.N) (r : Fin 512) (k : Fin 2048) : ((cfg0.win 0).blk t).view.emb (ix2 r k)
    = ix2 (⟨t.val / 2 * 512 + r.val, by have := lt_N t; omega⟩ : Fin 4096) k := by
  funext a
  apply Fin.ext
  match a with
  | ⟨0, _⟩ => show win0_0.index t 0 * 512 + 1 * r.val = t.val / 2 * 512 + r.val; rw [(idx0 t).1]; omega
  | ⟨1, _⟩ => show win0_0.index t 1 * 2048 + 1 * k.val = k.val; rw [(idx0 t).2]; omega
theorem iblk0_apply (c : Dev nD) (t : Fin cfg0.N) (r : Fin 512) (k : Fin 2048) : iblk m c 0 t (ix2 r k)
    = X m c (ix2 (⟨t.val / 2 * 512 + r.val, by have := lt_N t; omega⟩ : Fin 4096) k) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 r (⟨t.val % 2 * 1024 + k.val, by have := lt_N t; omega⟩ : Fin 2048) := by
  funext a
  apply Fin.ext
  match a with
  | ⟨0, _⟩ => show win0_1.index t 0 * 2048 + 1 * r.val = r.val; rw [(idx1 t).1]; omega
  | ⟨1, _⟩ => show win0_1.index t 1 * 1024 + 1 * k.val = t.val % 2 * 1024 + k.val; rw [(idx1 t).2]; omega
theorem iblk1_apply (c : Dev nD) (t : Fin cfg0.N) (r : Fin 2048) (k : Fin 1024) : iblk m c 1 t (ix2 r k)
    = Y m c (ix2 r (⟨t.val % 2 * 1024 + k.val, by have := lt_N t; omega⟩ : Fin 2048)) := by
  unfold iblk
  rw [View.read_apply, emb1]
  show V m c main_arg1 _ = _
  rw [V_main_arg1]
theorem emb2 (t : Fin cfg0.N) (r : Fin 512) (k : Fin 1024) : ((cfg0.win 2).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_2.index t 0 * 512 + 1 * r.val = t.val / 2 * 512 + r.val; rw [(idx2 t).1]; omega
  | ⟨1, _⟩ => show win0_2.index t 1 * 1024 + 1 * k.val = t.val % 2 * 1024 + k.val; rw [(idx2 t).2]; omega
theorem iblk2_apply (c : Dev nD) (t : Fin cfg0.N) (r : Fin 512) (k : Fin 1024) : iblk m c 2 t (ix2 r k)
    = m ((c : Thread nD τ).loc main_arg2) (ix2 (⟨t.val / 2 * 512 + r.val, by have := lt_N t; omega⟩ : Fin 4096) (⟨t.val % 2 * 1024 + k.val, by have := lt_N t; omega⟩ : Fin 2048)) := by
  unfold iblk
  rw [View.read_apply, emb2]
  show V m c main_arg2 _ = _
  rw [V_main_arg2]
theorem emb3 (t : Fin cfg0.N) (r : Fin 512) (k : Fin 1024) : ((cfg0.win 3).blk t).view.emb (ix2 r k)
    = ix2 (⟨t.val / 2 * 512 + r.val, by have := lt_N t; omega⟩ : Fin 4096) (⟨(t.val % 2 + 10) * 1024 + k.val, by have := lt_N t; omega⟩ : Fin 14336) := by
  funext a
  apply Fin.ext
  match a with
  | ⟨0, _⟩ => show win0_3.index t 0 * 512 + 1 * r.val = t.val / 2 * 512 + r.val; rw [(idx3 t).1]; omega
  | ⟨1, _⟩ => show win0_3.index t 1 * 1024 + 1 * k.val = (t.val % 2 + 10) * 1024 + k.val; rw [(idx3 t).2]; omega
theorem iblk3_apply (c : Dev nD) (t : Fin cfg0.N) (r : Fin 512) (k : Fin 1024) : iblk m c 3 t (ix2 r k)
    = m ((c : Thread nD τ).loc main_arg3) (ix2 (⟨t.val / 2 * 512 + r.val, by have := lt_N t; omega⟩ : Fin 4096) (⟨(t.val % 2 + 10) * 1024 + k.val, by have := lt_N t; omega⟩ : Fin 14336)) := by
  unfold iblk
  rw [View.read_apply, emb3]
  show V m c main_arg3 _ = _
  rw [V_main_arg3]
theorem emb4 (t : Fin cfg0.N) (r : Fin 512) (k : Fin 1024) : ((cfg0.win 4).blk t).view.emb (ix2 r k)
    = ix2 (⟨t.val / 2 * 512 + r.val, by have := lt_N t; omega⟩ : Fin 4096) (⟨(t.val % 2 + 12) * 1024 + k.val, by have := lt_N t; omega⟩ : Fin 14336) := by
  funext a
  apply Fin.ext
  match a with
  | ⟨0, _⟩ => show win0_4.index t 0 * 512 + 1 * r.val = t.val / 2 * 512 + r.val; rw [(idx4 t).1]; omega
  | ⟨1, _⟩ => show win0_4.index t 1 * 1024 + 1 * k.val = (t.val % 2 + 12) * 1024 + k.val; rw [(idx4 t).2]; omega
theorem iblk4_apply (c : Dev nD) (t : Fin cfg0.N) (r : Fin 512) (k : Fin 1024) : iblk m c 4 t (ix2 r k)
    = m ((c : Thread nD τ).loc main_arg3) (ix2 (⟨t.val / 2 * 512 + r.val, by have := lt_N t; omega⟩ : Fin 4096) (⟨(t.val % 2 + 12) * 1024 + k.val, by have := lt_N t; omega⟩ : Fin 14336)) := by
  unfold iblk
  rw [View.read_apply, emb4]
  show V m c main_arg3 _ = _
  rw [V_main_arg3]
theorem emb5 (t : Fin cfg0.N) (r : Fin 512) (k : Fin 1024) : ((cfg0.win 5).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_5.index t 0 * 512 + 1 * r.val = t.val / 2 * 512 + r.val; rw [(idx5 t).1]; omega
  | ⟨1, _⟩ => show win0_5.index t 1 * 1024 + 1 * k.val = t.val % 2 * 1024 + k.val; rw [(idx5 t).2]; omega
theorem emb6 (t : Fin cfg0.N) (r : Fin 512) (k : Fin 1024) : ((cfg0.win 6).blk t).view.emb (ix2 r k)
    = ix2 (⟨t.val / 2 * 512 + r.val, by have := lt_N t; omega⟩ : Fin 4096) (⟨t.val % 2 * 1024 + k.val, by have := lt_N t; omega⟩ : Fin 2048) := by
  funext a
  apply Fin.ext
  match a with
  | ⟨0, _⟩ => show win0_6.index t 0 * 512 + 1 * r.val = t.val / 2 * 512 + r.val; rw [(idx6 t).1]; omega
  | ⟨1, _⟩ => show win0_6.index t 1 * 1024 + 1 * k.val = t.val % 2 * 1024 + k.val; rw [(idx6 t).2]; omega

section
variable (c : Dev nD) (i : grid0.Coords) (a3 : Memref sig .tc .vmem S512x2048 .bf16) (w3 : a3.IsWhole) (a4 : Memref sig .tc .vmem S2048x1024 .bf16) (w4 : a4.IsWhole) (a5 : Memref sig .tc .vmem S512x1024 .f32) (w5 : a5.IsWhole) (a6 : Memref sig .tc .vmem S512x1024 .f32) (w6 : a6.IsWhole) (a7 : Memref sig .tc .vmem S512x1024 .f32) (w7 : a7.IsWhole) (a8 : Memref sig .tc .vmem S512x1024 .f32) (w8 : a8.IsWhole) (a9 : Memref sig .tc .vmem S512x1024 .bf16) (w9 : a9.IsWhole) (a10 : Memref sig .tc .vmem S8x128 .f32) (w10 : a10.IsWhole)
theorem out5 (x0 : Vec Ideal S512x2048 .bf16) (x1 : Vec Ideal S2048x1024 .bf16) (x2 : Vec Ideal S512x1024 .f32) (x3 : Vec Ideal S512x1024 .f32) (x4 : Vec Ideal S512x1024 .f32) :
    out0_A_5 c i a3 w3 a4 w4 a5 w5 a6 w6 a7 w7 a8 w8 a9 w9 a10 w10 x0 x1 x2 x3 x4 = k0_pay1 x0 x1 := by
  unfold out0_A_5
  rw [View.read_writes_eq_canon _ _ _ (cover0_A_5 c i a3 w3 a4 w4 a5 w5 a6 w6 a7 w7 a8 w8 a9 w9 a10 w10 x0 x1 x2 x3 x4)]
  unfold kernelRun0_A
  dsimp only
  sl_unfold_words
  rw [View.canon_unit_zero hz]
  simp only [View.readAt_eq_ld, w3.read_unread, w4.read_unread, w5.read_unread, w6.read_unread, w7.read_unread, w8.read_unread, w9.read_unread, w10.read_unread, View.ld_unit_zero (S := S512x2048) hz, View.ld_unit_zero (S := S2048x1024) hz, View.ld_unit_zero (S := S512x1024) hz, View.ld_unit_zero (S := S8x128) hz]

theorem out6 (x0 : Vec Ideal S512x2048 .bf16) (x1 : Vec Ideal S2048x1024 .bf16) (x2 : Vec Ideal S512x1024 .f32) (x3 : Vec Ideal S512x1024 .f32) (x4 : Vec Ideal S512x1024 .f32) :
    out0_A_6 c i a3 w3 a4 w4 a5 w5 a6 w6 a7 w7 a8 w8 a9 w9 a10 w10 x0 x1 x2 x3 x4 = k0_pay2 x0 x1 x2 x3 x4 := by
  unfold out0_A_6
  rw [View.read_writes_eq_canon _ _ _ (cover0_A_6 c i a3 w3 a4 w4 a5 w5 a6 w6 a7 w7 a8 w8 a9 w9 a10 w10 x0 x1 x2 x3 x4)]
  unfold kernelRun0_A
  dsimp only
  sl_unfold_words
  rw [View.canon_unit_zero hz]
  simp only [View.readAt_eq_ld, w3.read_unread, w4.read_unread, w5.read_unread, w6.read_unread, w7.read_unread, w8.read_unread, w9.read_unread, w10.read_unread, View.ld_unit_zero (S := S512x2048) hz, View.ld_unit_zero (S := S2048x1024) hz, View.ld_unit_zero (S := S512x1024) hz, View.ld_unit_zero (S := S8x128) hz]
end

/-- The products that one element of the result sums. -/
def term (x : FVec Ideal S4096x2048 .bf16) (y : FVec Ideal S2048x2048 .bf16) (i : Fin 4096) (j : Fin 2048) (q : Fin 2048) : EReal :=
  x (ix2 i q) * y (ix2 q j)

/-- The product, element by element. -/
def G5 (x : FVec Ideal S4096x2048 .bf16) (y : FVec Ideal S2048x2048 .bf16) : FVec Ideal S4096x2048 .f32 := fun i =>
  ((∑ q : Fin 2048, term x y (i 0) (i 1) q) : EReal)

abbrev res5 (c : Dev nD) : Buf (Elt Ideal) ((c : Thread nD τ).loc main_v0_0) := G5 (X m c) (Y m c)

theorem flushed_eq5 (c : Dev nD) (t : Fin cfg0.N) (hf : (cfg0.win 5).flush t = true) :
    (dats m 0 c).flushed 5 t = ((cfg0.win 5).blk t).view.read (Elt Ideal) (res5 m c) := by
  rw [Value.flushed5_A, out5]
  funext j
  obtain ⟨r, k, rfl⟩ : ∃ (r : Fin 512) (k : Fin 1024), j = ix2 r k := ⟨j 0, j 1, eq_ix2 j⟩
  rw [View.read_apply, emb5]
  show k0_pay1 (F := Ideal) (iblk m c 0 t) (iblk m c 1 t) (ix2 r k) = G5 (X m c) (Y m c) _
  unfold G5 term
  simp only [ix2_0, ix2_1]
  pointwise [k0_pay1]
  simp only [iblk0_apply, iblk1_apply, iblk2_apply, iblk3_apply, iblk4_apply]

theorem cover5 (i : S4096x2048.Idx) : ∃ t : Fin cfg0.N, (cfg0.win 5).flush t = true ∧ i ∈ ((cfg0.win 5).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = (i 0).val / 512 * 2 + (i 1).val / 1024 := ⟨⟨_, by omega⟩, rfl⟩
  refine ⟨t, flush0_5 t, ?_⟩
  show i ∈ ((View.whole main_v0_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(idx5 t).1]; omega
  | ⟨1, _⟩ => show win0_5.index t 1 * 1024 ≤ (i 1).val ∧ (i 1).val < win0_5.index t 1 * 1024 + 1024; rw [(idx5 t).2]; omega

theorem final5 (c : Dev nD) : (dats m 0 c).arrAt 5 cfg0.N = res5 m c :=
  (dats m 0 c).arrAt_eq_of_cover 5 (res5 m c) (fun t hf => flushed_eq5 m c t hf) cover5

/-- The two branches, each times the gate of its columns. -/
def G6 (x : FVec Ideal S4096x2048 .bf16) (y : FVec Ideal S2048x2048 .bf16) (oa : FVec Ideal S4096x2048 .f32) (z : FVec Ideal S4096x14336 .f32) : FVec Ideal S4096x2048 .bf16 := fun i =>
  (gate (z (ix2 (i 0) ⟨10240 + (i 1).val, by have h : (i 1).val < 2048 := (i 1).isLt; omega⟩)) * oa (ix2 (i 0) (i 1)) + gate (z (ix2 (i 0) ⟨12288 + (i 1).val, by have h : (i 1).val < 2048 := (i 1).isLt; omega⟩)) * (∑ q : Fin 2048, term x y (i 0) (i 1) q) : EReal)

abbrev res6 (c : Dev nD) : Buf (Elt Ideal) ((c : Thread nD τ).loc main_v0_1) := G6 (X m c) (Y m c) (m ((c : Thread nD τ).loc main_arg2)) (m ((c : Thread nD τ).loc main_arg3))

theorem flushed_eq6 (c : Dev nD) (t : Fin cfg0.N) (hf : (cfg0.win 6).flush t = true) :
    (dats m 0 c).flushed 6 t = ((cfg0.win 6).blk t).view.read (Elt Ideal) (res6 m c) := by
  rw [Value.flushed6_A, out6]
  funext j
  obtain ⟨r, k, rfl⟩ : ∃ (r : Fin 512) (k : Fin 1024), j = ix2 r k := ⟨j 0, j 1, eq_ix2 j⟩
  rw [View.read_apply, emb6]
  show k0_pay2 (F := Ideal) (iblk m c 0 t) (iblk m c 1 t) (iblk m c 2 t) (iblk m c 3 t) (iblk m c 4 t) (ix2 r k) = G6 (X m c) (Y m c) (m ((c : Thread nD τ).loc main_arg2)) (m ((c : Thread nD τ).loc main_arg3)) _
  unfold G6 term
  simp only [ix2_0, ix2_1]
  pointwise [k0_pay2, k0_pay1]
  simp only [iblk0_apply, iblk1_apply, iblk2_apply, iblk3_apply, iblk4_apply]
  have e3 : (t.val % 2 + 10) * 1024 + k.val = 10240 + (t.val % 2 * 1024 + k.val) := by omega
  have e4 : (t.val % 2 + 12) * 1024 + k.val = 12288 + (t.val % 2 * 1024 + k.val) := by omega
  simp only [e3, e4, half]
  rfl

theorem cover6 (i : S4096x2048.Idx) : ∃ t : Fin cfg0.N, (cfg0.win 6).flush t = true ∧ i ∈ ((cfg0.win 6).blk t).view.set := cover5 i

theorem final6 (c : Dev nD) : (dats m 0 c).arrAt 6 cfg0.N = res6 m c :=
  (dats m 0 c).arrAt_eq_of_cover 6 (res6 m c) (fun t hf => flushed_eq6 m c t hf) cover6

theorem runK : θ_run defs (onTc (τ := τ) (main (F := Ideal))) ⟨m, fun _ => 0, ρ⟩ fun r => ∀ c : Dev nD,
      r.2.mem ((c : Thread nD τ).loc main_v0_0) = res5 m c
      ∧ r.2.mem ((c : Thread nD τ).loc main_v0_1) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2.1.trans (final6 m c), (h c).2.2⟩) (Value.run_blocks m ρ)

theorem algebraic : Cert.algebraic_Kernel13Ideal_Reference13Ideal := fun m ρ m' ρ' _ hag =>
  ⟨fun c => res5 m c, fun c => res6 m c, runK m ρ,
    (θ_run _ _ _).mono (fun _ h c => ⟨(h c).1.trans (by
      clear h
      rw [(hag c).1, (hag c).2.1]
      funext j
      obtain ⟨r, k, rfl⟩ : ∃ (r : Fin 4096) (k : Fin 2048), j = ix2 r k := ⟨j 0, j 1, eq_ix2 j⟩
      show _ = G5 (X m c) (Y m c) _
      unfold G5 term
      simp only [ix2_0, ix2_1]
      pointwise), (h c).2.1.trans (by
      clear h
      rw [(hag c).1, (hag c).2.1, (hag c).2.2.1, (hag c).2.2.2]
      funext j
      obtain ⟨r, k, rfl⟩ : ∃ (r : Fin 4096) (k : Fin 2048), j = ix2 r k := ⟨j 0, j 1, eq_ix2 j⟩
      show _ = G6 (X m c) (Y m c) (m ((c : Thread nD τ).loc main_arg2)) (m ((c : Thread nD τ).loc main_arg3)) _
      unfold G6 term
      simp only [ix2_0, ix2_1]
      unfold gate
      rw [← sigmoid, ← sigmoid]
      pointwise), (h c).2.2⟩) (Reference13Ideal.Value.run m' ρ')⟩

end Cert.Kernel13Ideal.Val
end
-- ==== Proof.V14.lean ====
module

public import proofs.«01_k».proof.Defs
public import proofs.«01_k».proof.Proof.Gen.Kernel14Ideal.Value
public import proofs.«01_k».proof.Proof.Gen.Reference14Ideal.Run
public import proofs.«01_k».proof.Proof.Alg

/-! The output projection with its residual. -/

@[expose] public section

set_option maxRecDepth 16384

noncomputable section

open Idealize.ShloMosaic Idealize.ShloMosaic.TcCoe Idealize.SL.Sem
open Idealize.ShloMosaic.Pipeline (Dat)

namespace Cert.Kernel14Ideal.Val

open Cert.Kernel14Ideal Cert.Kernel14Ideal.Gen Alg

variable (m : (ℓ : Loc nD τ sig) → Buf (Elt Ideal) ℓ) (ρ : Dev nD → PrngReg)
theorem lt_N (t : Fin cfg0.N) : t.val < 8 := lt_of_lt_of_eq t.isLt N_0
theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = 0 ∧ win0_1.index t 1 = t.val % 2 :=
  (by decide +kernel : ∀ t : Fin grid0.N, _)
theorem idx2 : ∀ t : Fin cfg0.N, win0_2.index t 0 = t.val / 2 ∧ win0_2.index t 1 = t.val % 2 :=
  (by decide +kernel : ∀ t : Fin grid0.N, _)
theorem idx3 : ∀ t : Fin cfg0.N, win0_3.index t 0 = t.val / 2 ∧ win0_3.index t 1 = t.val % 2 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S2048x2048 .bf16 := m ((c : Thread nD τ).loc main_arg1)
theorem emb0 (t : Fin cfg0.N) (r : Fin 1024) (k : Fin 2048) : ((cfg0.win 0).blk t).view.emb (ix2 r k)
    = ix2 (⟨t.val / 2 * 1024 + r.val, by have := lt_N t; omega⟩ : Fin 4096) k := by
  funext a
  apply Fin.ext
  match a with
  | ⟨0, _⟩ => show win0_0.index t 0 * 1024 + 1 * r.val = t.val / 2 * 1024 + r.val; rw [(idx0 t).1]; omega
  | ⟨1, _⟩ => show win0_0.index t 1 * 2048 + 1 * k.val = k.val; rw [(idx0 t).2]; omega
theorem iblk0_apply (c : Dev nD) (t : Fin cfg0.N) (r : Fin 1024) (k : Fin 2048) : iblk m c 0 t (ix2 r k)
    = X m c (ix2 (⟨t.val / 2 * 1024 + r.val, by have := lt_N t; omega⟩ : Fin 4096) k) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 r (⟨t.val % 2 * 1024 + k.val, by have := lt_N t; omega⟩ : Fin 2048) := by
  funext a
  apply Fin.ext
  match a with
  | ⟨0, _⟩ => show win0_1.index t 0 * 2048 + 1 * r.val = r.val; rw [(idx1 t).1]; omega
  | ⟨1, _⟩ => show win0_1.index t 1 * 1024 + 1 * k.val = t.val % 2 * 1024 + k.val; rw [(idx1 t).2]; omega
theorem iblk1_apply (c : Dev nD) (t : Fin cfg0.N) (r : Fin 2048) (k : Fin 1024) : iblk m c 1 t (ix2 r k)
    = Y m c (ix2 r (⟨t.val % 2 * 1024 + k.val, by have := lt_N t; omega⟩ : Fin 2048)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 2 * 1024 + r.val, by have := lt_N t; omega⟩ : Fin 4096) (⟨t.val % 2 * 1024 + k.val, by have := lt_N t; omega⟩ : Fin 2048) := by
  funext a
  apply Fin.ext
  match a with
  | ⟨0, _⟩ => show win0_2.index t 0 * 1024 + 1 * r.val = t.val / 2 * 1024 + r.val; rw [(idx2 t).1]; omega
  | ⟨1, _⟩ => show win0_2.index t 1 * 1024 + 1 * k.val = t.val % 2 * 1024 + k.val; rw [(idx2 t).2]; omega
theorem iblk2_apply (c : Dev nD) (t : Fin cfg0.N) (r : Fin 1024) (k : Fin 1024) : iblk m c 2 t (ix2 r k)
    = m ((c : Thread nD τ).loc main_arg2) (ix2 (⟨t.val / 2 * 1024 + r.val, by have := lt_N t; omega⟩ : Fin 4096) (⟨t.val % 2 * 1024 + k.val, by have := lt_N t; omega⟩ : Fin 2048)) := by
  unfold iblk
  rw [View.read_apply, emb2]
  show V m c main_arg2 _ = _
  rw [V_main_arg2]
theorem emb3 (t : Fin cfg0.N) (r : Fin 1024) (k : Fin 1024) : ((cfg0.win 3).blk t).view.emb (ix2 r k)
    = ix2 (⟨t.val / 2 * 1024 + r.val, by have := lt_N t; omega⟩ : Fin 4096) (⟨t.val % 2 * 1024 + k.val, by have := lt_N t; omega⟩ : Fin 2048) := by
  funext a
  apply Fin.ext
  match a with
  | ⟨0, _⟩ => show win0_3.index t 0 * 1024 + 1 * r.val = t.val / 2 * 1024 + r.val; rw [(idx3 t).1]; omega
  | ⟨1, _⟩ => show win0_3.index t 1 * 1024 + 1 * k.val = t.val % 2 * 1024 + k.val; rw [(idx3 t).2]; omega

theorem out3 (c : Dev nD) (i : grid0.Coords) (a3 : Memref sig .tc .vmem S1024x2048 .bf16) (w3 : a3.IsWhole) (a4 : Memref sig .tc .vmem S2048x1024 .bf16) (w4 : a4.IsWhole) (a5 : Memref sig .tc .vmem S1024x1024 .f32) (w5 : a5.IsWhole) (a6 : Memref sig .tc .vmem S1024x1024 .f32) (w6 : a6.IsWhole) (a7 : Memref sig .tc .vmem S8x128 .f32) (w7 : a7.IsWhole) (x0 : Vec Ideal S1024x2048 .bf16) (x1 : Vec Ideal S2048x1024 .bf16) (x2 : Vec Ideal S1024x1024 .f32) :
    out0_A_3 c i a3 w3 a4 w4 a5 w5 a6 w6 a7 w7 x0 x1 x2 = k0_pay1 x0 x1 x2 := by
  unfold out0_A_3
  rw [View.read_writes_eq_canon _ _ _ (cover0_A_3 c i a3 w3 a4 w4 a5 w5 a6 w6 a7 w7 x0 x1 x2)]
  unfold kernelRun0_A
  dsimp only
  sl_unfold_words
  rw [View.canon_unit_zero hz]
  simp only [View.readAt_eq_ld, w3.read_unread, w4.read_unread, w5.read_unread, w6.read_unread, w7.read_unread, View.ld_unit_zero (S := S1024x2048) hz, View.ld_unit_zero (S := S2048x1024) hz, View.ld_unit_zero (S := S1024x1024) hz, View.ld_unit_zero (S := S8x128) hz]

/-- The products that one element of the result sums. -/
def term (x : FVec Ideal S4096x2048 .bf16) (y : FVec Ideal S2048x2048 .bf16) (i : Fin 4096) (j : Fin 2048) (q : Fin 2048) : EReal :=
  x (ix2 i q) * y (ix2 q j)

/-- The residual and the product. -/
def G3 (x : FVec Ideal S4096x2048 .bf16) (y : FVec Ideal S2048x2048 .bf16) (xr : FVec Ideal S4096x2048 .f32) : FVec Ideal S4096x2048 .f32 := fun i =>
  (xr (ix2 (i 0) (i 1)) + (∑ q : Fin 2048, term x y (i 0) (i 1) q) : EReal)

abbrev res3 (c : Dev nD) : Buf (Elt Ideal) ((c : Thread nD τ).loc main_v0) := G3 (X m c) (Y m c) (m ((c : Thread nD τ).loc main_arg2))

theorem flushed_eq3 (c : Dev nD) (t : Fin cfg0.N) (hf : (cfg0.win 3).flush t = true) :
    (dats m 0 c).flushed 3 t = ((cfg0.win 3).blk t).view.read (Elt Ideal) (res3 m c) := by
  rw [Value.flushed3_A, out3]
  funext j
  obtain ⟨r, k, rfl⟩ : ∃ (r : Fin 1024) (k : Fin 1024), j = ix2 r k := ⟨j 0, j 1, eq_ix2 j⟩
  rw [View.read_apply, emb3]
  show k0_pay1 (F := Ideal) (iblk m c 0 t) (iblk m c 1 t) (iblk m c 2 t) (ix2 r k) = G3 (X m c) (Y m c) (m ((c : Thread nD τ).loc main_arg2)) _
  unfold G3 term
  simp only [ix2_0, ix2_1]
  pointwise [k0_pay1]
  simp only [iblk0_apply, iblk1_apply, iblk2_apply]

theorem cover3 (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = (i 0).val / 1024 * 2 + (i 1).val / 1024 := ⟨⟨_, by omega⟩, rfl⟩
  refine ⟨t, flush0_3 t, ?_⟩
  show i ∈ ((View.whole main_v0).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [(idx3 t).1]; omega
  | ⟨1, _⟩ => show win0_3.index t 1 * 1024 ≤ (i 1).val ∧ (i 1).val < win0_3.index t 1 * 1024 + 1024; rw [(idx3 t).2]; omega

theorem final3 (c : Dev nD) : (dats m 0 c).arrAt 3 cfg0.N = res3 m c :=
  (dats m 0 c).arrAt_eq_of_cover 3 (res3 m c) (fun t hf => flushed_eq3 m c t hf) cover3

theorem runK : θ_run defs (onTc (τ := τ) (main (F := Ideal))) ⟨m, fun _ => 0, ρ⟩ fun r => ∀ c : Dev nD,
      r.2.mem ((c : Thread nD τ).loc main_v0) = res3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (Value.run_blocks m ρ)

theorem algebraic : Cert.algebraic_Kernel14Ideal_Reference14Ideal := fun m ρ m' ρ' _ hag =>
  ⟨fun c => res3 m c, runK m ρ,
    (θ_run _ _ _).mono (fun _ h c => ⟨(h c).1.trans (by
      clear h
      rw [(hag c).1, (hag c).2.1, (hag c).2.2]
      funext j
      obtain ⟨r, k, rfl⟩ : ∃ (r : Fin 4096) (k : Fin 2048), j = ix2 r k := ⟨j 0, j 1, eq_ix2 j⟩
      show _ = G3 (X m c) (Y m c) (m ((c : Thread nD τ).loc main_arg2)) _
      unfold G3 term
      simp only [ix2_0, ix2_1]
      pointwise), (h c).2⟩) (Reference14Ideal.Value.run m' ρ')⟩

end Cert.Kernel14Ideal.Val
end
-- ==== Proof.V15.lean ====
module

public import proofs.«01_k».proof.Defs
public import proofs.«01_k».proof.Proof.Gen.Kernel15Ideal.Value
public import proofs.«01_k».proof.Proof.Gen.Reference15Ideal.Run
public import proofs.«01_k».proof.Proof.Alg

/-! The first mlp product, rectified and squared. -/

@[expose] public section

set_option maxRecDepth 16384

noncomputable section

open Idealize.ShloMosaic Idealize.ShloMosaic.TcCoe Idealize.SL.Sem
open Idealize.ShloMosaic.Pipeline (Dat)

namespace Cert.Kernel15Ideal.Val

open Cert.Kernel15Ideal Cert.Kernel15Ideal.Gen Alg

variable (m : (ℓ : Loc nD τ sig) → Buf (Elt Ideal) ℓ) (ρ : Dev nD → PrngReg)
theorem lt_N (t : Fin cfg0.N) : t.val < 32 := lt_of_lt_of_eq t.isLt N_0
theorem idx0 : ∀ t : Fin cfg0.N, win0_0.index t 0 = t.val / 8 ∧ win0_0.index t 1 = 0 :=
  (by decide +kernel : ∀ t : Fin grid0.N, _)
theorem idx1 : ∀ t : Fin cfg0.N, win0_1.index t 0 = 0 ∧ win0_1.index t 1 = t.val % 8 :=
  (by decide +kernel : ∀ t : Fin grid0.N, _)
theorem idx2 : ∀ t : Fin cfg0.N, win0_2.index t 0 = t.val / 8 ∧ win0_2.index t 1 = t.val % 8 :=
  (by decide +kernel : ∀ t : Fin grid0.N, _)
theorem idx3 : ∀ t : Fin cfg0.N, win0_3.index t 0 = t.val / 8 ∧ win0_3.index t 1 = t.val % 8 :=
  (by decide +kernel : ∀ t : Fin grid0.N, _)

/-- The factors as the region finds them. -/
abbrev X (c : Dev nD) : FVec Ideal S4096x2048 .bf16 := m ((c : Thread nD τ).loc main_arg0)
abbrev Y (c : Dev nD) : FVec Ideal S2048x8192 .bf16 := m ((c : Thread nD τ).loc main_arg1)
theorem emb0 (t : Fin cfg0.N) (r : Fin 1024) (k : Fin 2048) : ((cfg0.win 0).blk t).view.emb (ix2 r k)
    = ix2 (⟨t.val / 8 * 1024 + r.val, by have := lt_N t; omega⟩ : Fin 4096) k := by
  funext a
  apply Fin.ext
  match a with
  | ⟨0, _⟩ => show win0_0.index t 0 * 1024 + 1 * r.val = t.val / 8 * 1024 + r.val; rw [(idx0 t).1]; omega
  | ⟨1, _⟩ => show win0_0.index t 1 * 2048 + 1 * k.val = k.val; rw [(idx0 t).2]; omega
theorem iblk0_apply (c : Dev nD) (t : Fin cfg0.N) (r : Fin 1024) (k : Fin 2048) : iblk m c 0 t (ix2 r k)
    = X m c (ix2 (⟨t.val / 8 * 1024 + r.val, by have := lt_N t; omega⟩ : Fin 4096) k) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 r (⟨t.val % 8 * 1024 + k.val, by have := lt_N t; omega⟩ : Fin 8192) := by
  funext a
  apply Fin.ext
  match a with
  | ⟨0, _⟩ => show win0_1.index t 0 * 2048 + 1 * r.val = r.val; rw [(idx1 t).1]; omega
  | ⟨1, _⟩ => show win0_1.index t 1 * 1024 + 1 * k.val = t.val % 8 * 1024 + k.val; rw [(idx1 t).2]; omega
theorem iblk1_apply (c : Dev nD) (t : Fin cfg0.N) (r : Fin 2048) (k : Fin 1024) : iblk m c 1 t (ix2 r k)
    = Y m c (ix2 r (⟨t.val % 8 * 1024 + k.val, by have := lt_N t; omega⟩ : Fin 8192)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 8 * 1024 + r.val, by have := lt_N t; omega⟩ : Fin 4096) (⟨t.val % 8 * 1024 + k.val, by have := lt_N t; omega⟩ : Fin 8192) := by
  funext a
  apply Fin.ext
  match a with
  | ⟨0, _⟩ => show win0_2.index t 0 * 1024 + 1 * r.val = t.val / 8 * 1024 + r.val; rw [(idx2 t).1]; omega
  | ⟨1, _⟩ => show win0_2.index t 1 * 1024 + 1 * k.val = t.val % 8 * 1024 + k.val; rw [(idx2 t).2]; omega
theorem emb3 (t : Fin cfg0.N) (r : Fin 1024) (k : Fin 1024) : ((cfg0.win 3).blk t).view.emb (ix2 r k)
    = ix2 (⟨t.val / 8 * 1024 + r.val, by have := lt_N t; omega⟩ : Fin 4096) (⟨t.val % 8 * 1024 + k.val, by have := lt_N t; omega⟩ : Fin 8192) := emb2 t r k

section
variable (c : Dev nD) (i : grid0.Coords) (a3 : Memref sig .tc .vmem S1024x2048 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .bf16) (w6 : a6.IsWhole) (a7 : Memref sig .tc .vmem S8x128 .f32) (w7 : a7.IsWhole)
theorem out2 (x0 : Vec Ideal S1024x2048 .bf16) (x1 : Vec Ideal S2048x1024 .bf16) :
    out0_A_2 c i a3 w3 a4 w4 a5 w5 a6 w6 a7 w7 x0 x1 = k0_pay2 x0 x1 := by
  unfold out0_A_2
  rw [View.read_writes_eq_canon _ _ _ (cover0_A_2 c i a3 w3 a4 w4 a5 w5 a6 w6 a7 w7 x0 x1)]
  unfold kernelRun0_A
  dsimp only
  sl_unfold_words
  rw [View.canon_unit_zero hz]
  simp only [View.readAt_eq_ld, w3.read_unread, w4.read_unread, w5.read_unread, w6.read_unread, w7.read_unread, View.ld_unit_zero (S := S1024x2048) hz, View.ld_unit_zero (S := S2048x1024) hz, View.ld_unit_zero (S := S1024x1024) hz, View.ld_unit_zero (S := S8x128) hz]

theorem out3 (x0 : Vec Ideal S1024x2048 .bf16) (x1 : Vec Ideal S2048x1024 .bf16) :
    out0_A_3 c i a3 w3 a4 w4 a5 w5 a6 w6 a7 w7 x0 x1 = k0_pay3 x0 x1 := by
  unfold out0_A_3
  rw [View.read_writes_eq_canon _ _ _ (cover0_A_3 c i a3 w3 a4 w4 a5 w5 a6 w6 a7 w7 x0 x1)]
  unfold kernelRun0_A
  dsimp only
  sl_unfold_words
  rw [View.canon_unit_zero hz]
  simp only [View.readAt_eq_ld, w3.read_unread, w4.read_unread, w5.read_unread, w6.read_unread, w7.read_unread, View.ld_unit_zero (S := S1024x2048) hz, View.ld_unit_zero (S := S2048x1024) hz, View.ld_unit_zero (S := S1024x1024) hz, View.ld_unit_zero (S := S8x128) hz]
end

/-- The products that one element of the result sums. -/
def term (x : FVec Ideal S4096x2048 .bf16) (y : FVec Ideal S2048x8192 .bf16) (i : Fin 4096) (j : Fin 8192) (q : Fin 2048) : EReal :=
  x (ix2 i q) * y (ix2 q j)

/-- The square of the rectified product. -/
def G2 (x : FVec Ideal S4096x2048 .bf16) (y : FVec Ideal S2048x8192 .bf16) : FVec Ideal S4096x8192 .bf16 := fun i =>
  (max (∑ q : Fin 2048, term x y (i 0) (i 1) q) 0 * max (∑ q : Fin 2048, term x y (i 0) (i 1) q) 0 : EReal)

abbrev res2 (c : Dev nD) : Buf (Elt Ideal) ((c : Thread nD τ).loc main_v0_0) := G2 (X m c) (Y m c)

theorem flushed_eq2 (c : Dev nD) (t : Fin cfg0.N) (hf : (cfg0.win 2).flush t = true) :
    (dats m 0 c).flushed 2 t = ((cfg0.win 2).blk t).view.read (Elt Ideal) (res2 m c) := by
  rw [Value.flushed2_A, out2]
  funext j
  obtain ⟨r, k, rfl⟩ : ∃ (r : Fin 1024) (k : Fin 1024), j = ix2 r k := ⟨j 0, j 1, eq_ix2 j⟩
  rw [View.read_apply, emb2]
  show k0_pay2 (F := Ideal) (iblk m c 0 t) (iblk m c 1 t) (ix2 r k) = G2 (X m c) (Y m c) _
  unfold G2 term
  simp only [ix2_0, ix2_1]
  pointwise [k0_pay2, k0_pay1]
  simp only [iblk0_apply, iblk1_apply]

theorem cover2 (i : S4096x8192.Idx) : ∃ t : Fin cfg0.N, (cfg0.win 2).flush t = true ∧ i ∈ ((cfg0.win 2).blk t).view.set := by
  have h0 : (i 0).val < 4096 := (i 0).isLt
  have h1 : (i 1).val < 8192 := (i 1).isLt
  have hN := N_0
  have hN' : cfg0.N = grid0.N := rfl
  obtain ⟨t, ht⟩ : ∃ t : Fin cfg0.N, t.val = (i 0).val / 1024 * 8 + (i 1).val / 1024 := ⟨⟨_, by omega⟩, rfl⟩
  refine ⟨t, flush0_2 t, ?_⟩
  show i ∈ ((View.whole main_v0_0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(idx2 t).1]; omega
  | ⟨1, _⟩ => show win0_2.index t 1 * 1024 ≤ (i 1).val ∧ (i 1).val < win0_2.index t 1 * 1024 + 1024; rw [(idx2 t).2]; omega

theorem final2 (c : Dev nD) : (dats m 0 c).arrAt 2 cfg0.N = res2 m c :=
  (dats m 0 c).arrAt_eq_of_cover 2 (res2 m c) (fun t hf => flushed_eq2 m c t hf) cover2

/-- The rectified product. -/
def G3 (x : FVec Ideal S4096x2048 .bf16) (y : FVec Ideal S2048x8192 .bf16) : FVec Ideal S4096x8192 .bf16 := fun i =>
  (max (∑ q : Fin 2048, term x y (i 0) (i 1) q) 0 : EReal)

abbrev res3 (c : Dev nD) : Buf (Elt Ideal) ((c : Thread nD τ).loc main_v0_1) := G3 (X m c) (Y m c)

theorem flushed_eq3 (c : Dev nD) (t : Fin cfg0.N) (hf : (cfg0.win 3).flush t = true) :
    (dats m 0 c).flushed 3 t = ((cfg0.win 3).blk t).view.read (Elt Ideal) (res3 m c) := by
  rw [Value.flushed3_A, out3]
  funext j
  obtain ⟨r, k, rfl⟩ : ∃ (r : Fin 1024) (k : Fin 1024), j = ix2 r k := ⟨j 0, j 1, eq_ix2 j⟩
  rw [View.read_apply, emb3]
  show k0_pay3 (F := Ideal) (iblk m c 0 t) (iblk m c 1 t) (ix2 r k) = G3 (X m c) (Y m c) _
  unfold G3 term
  simp only [ix2_0, ix2_1]
  pointwise [k0_pay3, k0_pay1]
  simp only [iblk0_apply, iblk1_apply]

theorem cover3 (i : S4096x8192.Idx) : ∃ t : Fin cfg0.N, (cfg0.win 3).flush t = true ∧ i ∈ ((cfg0.win 3).blk t).view.set := cover2 i

theorem final3 (c : Dev nD) : (dats m 0 c).arrAt 3 cfg0.N = res3 m c :=
  (dats m 0 c).arrAt_eq_of_cover 3 (res3 m c) (fun t hf => flushed_eq3 m c t hf) cover3

theorem runK : θ_run defs (onTc (τ := τ) (main (F := Ideal))) ⟨m, fun _ => 0, ρ⟩ fun r => ∀ c : Dev nD,
      r.2.mem ((c : Thread nD τ).loc main_v0_0) = res2 m c
      ∧ r.2.mem ((c : Thread nD τ).loc main_v0_1) = res3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩) (Value.run_blocks m ρ)

theorem algebraic : Cert.algebraic_Kernel15Ideal_Reference15Ideal := fun m ρ m' ρ' _ hag =>
  ⟨fun c => res2 m c, fun c => res3 m c, runK m ρ,
    (θ_run _ _ _).mono (fun _ h c => ⟨(h c).1.trans (by
      clear h
      rw [(hag c).1, (hag c).2]
      funext j
      obtain ⟨r, k, rfl⟩ : ∃ (r : Fin 4096) (k : Fin 8192), j = ix2 r k := ⟨j 0, j 1, eq_ix2 j⟩
      show _ = G2 (X m c) (Y m c) _
      unfold G2 term
      simp only [ix2_0, ix2_1]
      pointwise), (h c).2.1.trans (by
      clear h
      rw [(hag c).1, (hag c).2]
      funext j
      obtain ⟨r, k, rfl⟩ : ∃ (r : Fin 4096) (k : Fin 8192), j = ix2 r k := ⟨j 0, j 1, eq_ix2 j⟩
      show _ = G3 (X m c) (Y m c) _
      unfold G3 term
      simp only [ix2_0, ix2_1]
      pointwise), (h c).2.2⟩) (Reference15Ideal.Value.run m' ρ')⟩

end Cert.Kernel15Ideal.Val
end
-- ==== Proof.V16.lean ====
module

public import proofs.«01_k».proof.Defs
public import proofs.«01_k».proof.Proof.Gen.Kernel16Ideal.Value
public import proofs.«01_k».proof.Proof.Gen.Reference16Ideal.Run
public import proofs.«01_k».proof.Proof.Alg

/-! The second mlp product with its residual. -/

@[expose] public section

set_option maxRecDepth 16384

noncomputable section

open Idealize.ShloMosaic Idealize.ShloMosaic.TcCoe Idealize.SL.Sem
open Idealize.ShloMosaic.Pipeline (Dat)

namespace Cert.Kernel16Ideal.Val

open Cert.Kernel16Ideal Cert.Kernel16Ideal.Gen Alg

variable (m : (ℓ : Loc nD τ sig) → Buf (Elt Ideal) ℓ) (ρ : Dev nD → PrngReg)
theorem lt_N (t : Fin cfg0.N) : t.val < 32 := lt_of_lt_of_eq t.isLt N_0
theorem idx0 : ∀ t : Fin cfg0.N, win0_0.index t 0 = t.val / 8 ∧ win0_0.index t 1 = t.val % 4 :=
  (by decide +kernel : ∀ t : Fin grid0.N, _)
theorem idx1 : ∀ t : Fin cfg0.N, win0_1.index t 0 = t.val % 4 ∧ win0_1.index t 1 = t.val / 4 % 2 :=
  (by decide +kernel : ∀ t : Fin grid0.N, _)
theorem idx2 : ∀ t : Fin cfg0.N, win0_2.index t 0 = t.val / 8 ∧ win0_2.index t 1 = t.val / 4 % 2 :=
  (by decide +kernel : ∀ t : Fin grid0.N, _)
theorem idx3 : ∀ t : Fin cfg0.N, win0_3.index t 0 = t.val / 8 ∧ win0_3.index t 1 = t.val / 4 % 2 :=
  (by decide +kernel : ∀ t : Fin grid0.N, _)

/-- The factors as the region finds them. -/
abbrev X (c : Dev nD) : FVec Ideal S4096x8192 .bf16 := m ((c : Thread nD τ).loc main_arg0)
abbrev Y (c : Dev nD) : FVec Ideal S8192x2048 .bf16 := m ((c : Thread nD τ).loc main_arg1)
theorem emb0 (t : Fin cfg0.N) (r : Fin 1024) (k : Fin 2048) : ((cfg0.win 0).blk t).view.emb (ix2 r k)
    = ix2 (⟨t.val / 8 * 1024 + r.val, by have := lt_N t; omega⟩ : Fin 4096) (⟨t.val % 4 * 2048 + k.val, by have := lt_N t; omega⟩ : Fin 8192) := by
  funext a
  apply Fin.ext
  match a with
  | ⟨0, _⟩ => show win0_0.index t 0 * 1024 + 1 * r.val = t.val / 8 * 1024 + r.val; rw [(idx0 t).1]; omega
  | ⟨1, _⟩ => show win0_0.index t 1 * 2048 + 1 * k.val = t.val % 4 * 2048 + k.val; rw [(idx0 t).2]; omega
theorem iblk0_apply (c : Dev nD) (t : Fin cfg0.N) (r : Fin 1024) (k : Fin 2048) : iblk m c 0 t (ix2 r k)
    = X m c (ix2 (⟨t.val / 8 * 1024 + r.val, by have := lt_N t; omega⟩ : Fin 4096) (⟨t.val % 4 * 2048 + k.val, by have := lt_N t; omega⟩ : Fin 8192)) := by
  unfold iblk
  rw [View.read_apply, emb0]
  show V m c main_arg0 _ = _
  rw [V_main_arg0]
theorem emb1 (t : Fin cfg0.N) (r : Fin 2048) (k : Fin 1024) : ((cfg0.win 1).blk t).view.emb (ix2 r k)
    = ix2 (⟨t.val % 4 * 2048 + r.val, by have := lt_N t; omega⟩ : Fin 8192) (⟨t.val / 4 % 2 * 1024 + k.val, by have := lt_N t; omega⟩ : Fin 2048) := by
  funext a
  apply Fin.ext
  match a with
  | ⟨0, _⟩ => show win0_1.index t 0 * 2048 + 1 * r.val = t.val % 4 * 2048 + r.val; rw [(idx1 t).1]; omega
  | ⟨1, _⟩ => show win0_1.index t 1 * 1024 + 1 * k.val = t.val / 4 % 2 * 1024 + k.val; rw [(idx1 t).2]; omega
theorem iblk1_apply (c : Dev nD) (t : Fin cfg0.N) (r : Fin 2048) (k : Fin 1024) : iblk m c 1 t (ix2 r k)
    = Y m c (ix2 (⟨t.val % 4 * 2048 + r.val, by have := lt_N t; omega⟩ : Fin 8192) (⟨t.val / 4 % 2 * 1024 + k.val, by have := lt_N t; omega⟩ : Fin 2048)) := by
  unfold iblk
  rw [View.read_apply, emb1]
  show V m c main_arg1 _ = _
  rw [V_main_arg1]
theorem emb2 (t : Fin cfg0.N) (r : Fin 1024) (k : Fin 1024) : ((cfg0.win 2).blk t).view.emb (ix2 r k)
    = ix2 (⟨t.val / 8 * 1024 + r.val, by have := lt_N t; omega⟩ : Fin 4096) (⟨t.val / 4 % 2 * 1024 + k.val, by have := lt_N t; omega⟩ : Fin 2048) := by
  funext a
  apply Fin.ext
  match a with
  | ⟨0, _⟩ => show win0_2.index t 0 * 1024 + 1 * r.val = t.val / 8 * 1024 + r.val; rw [(idx2 t).1]; omega
  | ⟨1, _⟩ => show win0_2.index t 1 * 1024 + 1 * k.val = t.val / 4 % 2 * 1024 + k.val; rw [(idx2 t).2]; omega
theorem iblk2_apply (c : Dev nD) (t : Fin cfg0.N) (r : Fin 1024) (k : Fin 1024) : iblk m c 2 t (ix2 r k)
    = m ((c : Thread nD τ).loc main_arg2) (ix2 (⟨t.val / 8 * 1024 + r.val, by have := lt_N t; omega⟩ : Fin 4096) (⟨t.val / 4 % 2 * 1024 + k.val, by have := lt_N t; omega⟩ : Fin 2048)) := by
  unfold iblk
  rw [View.read_apply, emb2]
  show V m c main_arg2 _ = _
  rw [V_main_arg2]
theorem emb3 (t : Fin cfg0.N) (r : Fin 1024) (k : Fin 1024) : ((cfg0.win 3).blk t).view.emb (ix2 r k)
    = ix2 (⟨t.val / 8 * 1024 + r.val, by have := lt_N t; omega⟩ : Fin 4096) (⟨t.val / 4 % 2 * 1024 + k.val, by have := lt_N t; omega⟩ : Fin 2048) := by
  funext a
  apply Fin.ext
  match a with
  | ⟨0, _⟩ => show win0_3.index t 0 * 1024 + 1 * r.val = t.val / 8 * 1024 + r.val; rw [(idx3 t).1]; omega
  | ⟨1, _⟩ => show win0_3.index t 1 * 1024 + 1 * k.val = t.val / 4 % 2 * 1024 + k.val; rw [(idx3 t).2]; omega

section
variable (c : Dev nD) (i : grid0.Coords) (a3 : Memref sig .tc .vmem S1024x2048 .bf16) (w3 : a3.IsWhole) (a4 : Memref sig .tc .vmem S2048x1024 .bf16) (w4 : a4.IsWhole) (a5 : Memref sig .tc .vmem S1024x1024 .f32) (w5 : a5.IsWhole) (a6 : Memref sig .tc .vmem S1024x1024 .f32) (w6 : a6.IsWhole) (a7 : Memref sig .tc .vmem S1024x1024 .f32) (w7 : a7.IsWhole)
theorem sA (hc0 : cond0_0 i) (hc1 : ¬cond0_1 i) (hc2 : ¬cond0_2 i) (x0 : Vec Ideal S1024x2048 .bf16) (x1 : Vec Ideal S2048x1024 .bf16) (x2 : Vec Ideal S1024x1024 .f32) :
    sout0_A_0 c i a3 w3 a4 w4 a5 w5 a6 w6 a7 w7 hc0 hc1 hc2 x0 x1 x2 = k0_pay1 x0 x1 := by
  unfold sout0_A_0
  rw [View.read_writes_eq_canon _ _ _ (scover0_A_0 c i a3 w3 a4 w4 a5 w5 a6 w6 a7 w7 hc0 hc1 hc2 x0 x1 x2)]
  unfold kernelRun0_A
  dsimp only
  sl_unfold_words
  rw [View.canon_unit_zero hz]
  simp only [View.readAt_eq_ld, w3.read_unread, w4.read_unread, w5.read_unread, w6.read_unread, w7.read_unread, View.ld_unit_zero (S := S1024x2048) hz, View.ld_unit_zero (S := S2048x1024) hz, View.ld_unit_zero (S := S1024x1024) hz]

theorem sB (hc0 : ¬cond0_0 i) (hc1 : cond0_1 i) (hc2 : ¬cond0_2 i) (x0 : Vec Ideal S1024x2048 .bf16) (x1 : Vec Ideal S2048x1024 .bf16) (x2 : Vec Ideal S1024x1024 .f32) (xs0 : Vec Ideal S1024x1024 .f32) :
    sout0_B_0 c i a3 w3 a4 w4 a5 w5 a6 w6 a7 w7 hc0 hc1 hc2 x0 x1 x2 xs0 = k0_pay2 xs0 x0 x1 := by
  unfold sout0_B_0
  rw [View.read_writes_eq_canon _ _ _ (scover0_B_0 c i a3 w3 a4 w4 a5 w5 a6 w6 a7 w7 hc0 hc1 hc2 x0 x1 x2 xs0)]
  unfold kernelRun0_B
  dsimp only
  sl_unfold_words
  rw [View.canon_unit_zero hz]
  simp only [View.readAt_eq_ld, w3.read_unread, w4.read_unread, w5.read_unread, w6.read_unread, w7.read_unread, View.ld_unit_zero (S := S1024x2048) hz, View.ld_unit_zero (S := S2048x1024) hz, View.ld_unit_zero (S := S1024x1024) hz]

theorem out3 (hc0 : ¬cond0_0 i) (hc1 : ¬cond0_1 i) (hc2 : cond0_2 i) (x0 : Vec Ideal S1024x2048 .bf16) (x1 : Vec Ideal S2048x1024 .bf16) (x2 : Vec Ideal S1024x1024 .f32) (xs0 : Vec Ideal S1024x1024 .f32) :
    out0_C_3 c i a3 w3 a4 w4 a5 w5 a6 w6 a7 w7 hc0 hc1 hc2 x0 x1 x2 xs0 = k0_pay3 xs0 x0 x1 x2 := by
  unfold out0_C_3
  rw [View.read_writes_eq_canon _ _ _ (cover0_C_3 c i a3 w3 a4 w4 a5 w5 a6 w6 a7 w7 hc0 hc1 hc2 x0 x1 x2 xs0)]
  unfold kernelRun0_C
  dsimp only
  sl_unfold_words
  rw [View.canon_unit_zero hz]
  simp only [View.readAt_eq_ld, w3.read_unread, w4.read_unread, w5.read_unread, w6.read_unread, w7.read_unread, View.ld_unit_zero (S := S1024x2048) hz, View.ld_unit_zero (S := S2048x1024) hz, View.ld_unit_zero (S := S1024x1024) hz]
end

/-- The products that one element of the result sums. -/
def term (x : FVec Ideal S4096x8192 .bf16) (y : FVec Ideal S8192x2048 .bf16) (i : Fin 4096) (j : Fin 2048) (q : Fin 8192) : EReal :=
  x (ix2 i q) * y (ix2 q j)

theorem pay1_eq (c : Dev nD) (t : Fin cfg0.N) (r : Fin 1024) (k : Fin 1024) :
    k0_pay1 (F := Ideal) (iblk m c 0 t) (iblk m c 1 t) (ix2 r k)
      = ∑ q : Fin 2048, cell (term (X m c) (Y m c) (⟨t.val / 8 * 1024 + r.val, by have := lt_N t; omega⟩ : Fin 4096) (⟨t.val / 4 % 2 * 1024 + k.val, by have := lt_N t; omega⟩ : Fin 2048)) (t.val % 4 * 2048 + q.val) := by
  pointwise [k0_pay1]
  refine Finset.sum_congr rfl fun q _ => ?_
  rw [cell_at _ _ (by omega), iblk0_apply, iblk1_apply]
  rfl

theorem pay2_eq (c : Dev nD) (t : Fin cfg0.N) (acc : Vec Ideal S1024x1024 .f32) (r : Fin 1024) (k : Fin 1024) :
    k0_pay2 (F := Ideal) acc (iblk m c 0 t) (iblk m c 1 t) (ix2 r k)
      = (acc (ix2 r k) + ∑ q : Fin 2048, cell (term (X m c) (Y m c) (⟨t.val / 8 * 1024 + r.val, by have := lt_N t; omega⟩ : Fin 4096) (⟨t.val / 4 % 2 * 1024 + k.val, by have := lt_N t; omega⟩ : Fin 2048)) (t.val % 4 * 2048 + q.val) : EReal) := by
  have h := pay1_eq m c t r k
  pointwise [k0_pay1] at h
  pointwise [k0_pay2]
  rw [h]

theorem acc_eq (c : Dev nD) : ∀ (n : ℕ) (hn : n < cfg0.N) (_ : n % 4 < 3) (r : Fin 1024) (k : Fin 1024),
    (outsAt0 m c n hn).2 (ix2 r k)
      = (∑ s ∈ Finset.range (n % 4 + 1), ∑ q : Fin 2048, cell (term (X m c) (Y m c) (⟨n / 8 * 1024 + r.val, by have := lt_of_lt_of_eq hn N_0; omega⟩ : Fin 4096) (⟨n / 4 % 2 * 1024 + k.val, by have := lt_of_lt_of_eq hn N_0; omega⟩ : Fin 2048)) (s * 2048 + q.val) : EReal) := by
  intro n
  induction n with
  | zero =>
    intro hn hlt r k
    rw [show outsAt0 m c 0 hn = _ from outsAt0_A m c ⟨0, hn⟩ (by rfl) (by dsimp only; omega) (by dsimp only; omega)]
    dsimp only
    rw [sA]
    refine (pay1_eq m c ⟨0, hn⟩ r k).trans ?_
    dsimp only
    rw [show (0 : ℕ) % 4 + 1 = 1 from rfl, Finset.sum_range_one]
  | succ n ih =>
    intro hn hlt r k
    by_cases h0 : (n + 1) % 4 = 0
    · rw [show outsAt0 m c (n + 1) hn = _ from outsAt0_A m c ⟨n + 1, hn⟩ h0 (by dsimp only; omega) (by dsimp only; omega)]
      dsimp only
      rw [sA, h0]
      refine (pay1_eq m c ⟨n + 1, hn⟩ r k).trans ?_
      dsimp only
      rw [h0, Finset.sum_range_one]
    · rw [show outsAt0 m c (n + 1) hn = _ from outsAt0_B m c ⟨n + 1, hn⟩ h0 (by dsimp only; omega) (by dsimp only; omega)]
      dsimp only
      rw [sB, Finset.sum_range_succ]
      refine (pay2_eq m c ⟨n + 1, hn⟩ _ r k).trans ?_
      have e : (n + 1) % 4 = n % 4 + 1 := by omega
      have eI : (n + 1) / 8 = n / 8 := by omega
      have eJ : (n + 1) / 4 % 2 = n / 4 % 2 := by omega
      refine congrArg₂ (· + ·) ?_ rfl
      refine (ih (by omega) (by omega) r k).trans ?_
      simp only [e, eI, eJ]

/-- The residual and the product. -/
def G3 (x : FVec Ideal S4096x8192 .bf16) (y : FVec Ideal S8192x2048 .bf16) (xr : FVec Ideal S4096x2048 .f32) : FVec Ideal S4096x2048 .f32 := fun i =>
  (xr (ix2 (i 0) (i 1)) + (∑ q : Fin 8192, term x y (i 0) (i 1) q) : EReal)

abbrev res3 (c : Dev nD) : Buf (Elt Ideal) ((c : Thread nD τ).loc main_v0) := G3 (X m c) (Y m c) (m ((c : Thread nD τ).loc main_arg2))

theorem flushed_eq3 (c : Dev nD) (t : Fin cfg0.N) (hf : (cfg0.win 3).flush t = true) :
    (dats m 0 c).flushed 3 t = ((cfg0.win 3).blk t).view.read (Elt Ideal) (res3 m c) := by
  have hq : t.val % 4 = 3 := (flush0_3 t).mp hf
  rw [Value.flushed3_C m c t (by omega) (by omega) (by omega), out3]
  funext j
  obtain ⟨r, k, rfl⟩ : ∃ (r : Fin 1024) (k : Fin 1024), j = ix2 r k := ⟨j 0, j 1, eq_ix2 j⟩
  rw [View.read_apply, emb3]
  have hp := acc_eq m c (t.val - 1) (Nat.lt_of_le_of_lt (Nat.sub_le t.val 1) t.isLt) (by omega) r k
  have e : (t.val - 1) % 4 + 1 = 3 := by omega
  have eI : (t.val - 1) / 8 = t.val / 8 := by omega
  have eJ : (t.val - 1) / 4 % 2 = t.val / 4 % 2 := by omega
  have hb := pay2_eq m c t ((outsAt0 m c (t.val - 1) (Nat.lt_of_le_of_lt (Nat.sub_le t.val 1) t.isLt)).2) r k
  simp only [hp, hq, e, eI, eJ] at hb
  rw [← Finset.sum_range_succ (fun s => ∑ q : Fin 2048, cell _ (s * 2048 + q.val)), sum_cells _ 4 2048 (by rfl)] at hb
  show k0_pay3 (F := Ideal) ((outsAt0 m c (t.val - 1) (Nat.lt_of_le_of_lt (Nat.sub_le t.val 1) t.isLt)).2) (iblk m c 0 t) (iblk m c 1 t) (iblk m c 2 t) (ix2 r k) = G3 (X m c) (Y m c) (m ((c : Thread nD τ).loc main_arg2)) _
  unfold G3
  simp only [ix2_0, ix2_1]
  rw [← hb]
  pointwise [k0_pay3, k0_pay2]
  simp only [iblk2_apply]

theorem cover3 (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN := N_0
  have hN' : cfg0.N = grid0.N := rfl
  obtain ⟨t, ht⟩ : ∃ t : Fin cfg0.N, t.val = ((i 0).val / 1024 * 2 + (i 1).val / 1024) * 4 + 3 := ⟨⟨_, by omega⟩, rfl⟩
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [(idx3 t).1]; omega
  | ⟨1, _⟩ => show win0_3.index t 1 * 1024 ≤ (i 1).val ∧ (i 1).val < win0_3.index t 1 * 1024 + 1024; rw [(idx3 t).2]; omega

theorem final3 (c : Dev nD) : (dats m 0 c).arrAt 3 cfg0.N = res3 m c :=
  (dats m 0 c).arrAt_eq_of_cover 3 (res3 m c) (fun t hf => flushed_eq3 m c t hf) cover3

theorem runK : θ_run defs (onTc (τ := τ) (main (F := Ideal))) ⟨m, fun _ => 0, ρ⟩ fun r => ∀ c : Dev nD,
      r.2.mem ((c : Thread nD τ).loc main_v0) = res3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (Value.run_blocks m ρ)

theorem algebraic : Cert.algebraic_Kernel16Ideal_Reference16Ideal := fun m ρ m' ρ' _ hag =>
  ⟨fun c => res3 m c, runK m ρ,
    (θ_run _ _ _).mono (fun _ h c => ⟨(h c).1.trans (by
      clear h
      rw [(hag c).1, (hag c).2.1, (hag c).2.2]
      funext j
      obtain ⟨r, k, rfl⟩ : ∃ (r : Fin 4096) (k : Fin 2048), j = ix2 r k := ⟨j 0, j 1, eq_ix2 j⟩
      show _ = G3 (X m c) (Y m c) (m ((c : Thread nD τ).loc main_arg2)) _
      unfold G3 term
      simp only [ix2_0, ix2_1]
      pointwise), (h c).2⟩) (Reference16Ideal.Value.run m' ρ')⟩

end Cert.Kernel16Ideal.Val
end
-- ==== Proof.MixFIdeal.Base.lean ====
module

public import proofs.«01_k».proof.Proof.Gen.MixFIdeal.Loops
public import Idealize.ShloMosaic.Lib.Ring
public import Idealize.ShloMosaic.Lib.VecWindow
public import Idealize.ShloMosaic.Lib.Pointwise

@[expose] public section

set_option maxRecDepth 16384

noncomputable section

namespace Cert.MixFIdeal.Hand

open Cert.MixFIdeal Cert.MixFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state of a grid point: every window's and every scratch buffer's contents. -/
def St (c : Dev nD) (m2 : Memref sig .tc .vmem S512x256 .f32) (m3 : Memref sig .tc .vmem S512x256 .f32) (m4 : Memref sig .tc .vmem S512x256 .f32) (m5 : Memref sig .tc .vmem S512x256 .f32) (m6 : Memref sig .tc .vmem S512x256 .f32) (m7 : Memref sig .tc .vmem S1x16x256 .f32) (m8 : Memref sig .tc .vmem S1x1x256x256 .bf16) (m9 : Memref sig .tc .vmem S1x1x256x256 .bf16) (m10 : Memref sig .tc .vmem S512x256 .bf16) (m11 : Memref sig .tc .vmem S512x256 .bf16) (m12 : Memref sig .tc .vmem S512x256 .f32) (m13 : Memref sig .tc .vmem S512x256 .f32) (m14 : Memref sig .tc .vmem S512x256 .f32) (m15 : Memref sig .tc .vmem S520x256 .f32) (m16 : Memref sig .tc .vmem S520x256 .f32) (m17 : Memref sig .tc .vmem S512x256 .f32) (m18 : Memref sig .tc .vmem S512x256 .f32) (m19 : Memref sig .tc .vmem S8x256 .f32)
    (z2 : Vec F S512x256 .f32) (z3 : Vec F S512x256 .f32) (z4 : Vec F S512x256 .f32) (z5 : Vec F S512x256 .f32) (z6 : Vec F S512x256 .f32) (z7 : Vec F S1x16x256 .f32) (z8 : Vec F S1x1x256x256 .bf16) (z9 : Vec F S1x1x256x256 .bf16) (z10 : Vec F S512x256 .bf16) (z11 : Vec F S512x256 .bf16) (z12 : Vec F S512x256 .f32) (z13 : Vec F S512x256 .f32) (z14 : Vec F S512x256 .f32) (z15 : Vec F S520x256 .f32) (z16 : Vec F S520x256 .f32) (z17 : Vec F S512x256 .f32) (z18 : Vec F S512x256 .f32) (z19 : Vec F S8x256 .f32) : sProp 𝕄 :=
  iprop(owns (c : Thread nD τ) m2 fullShare z2 ∗ owns (c : Thread nD τ) m3 fullShare z3 ∗ owns (c : Thread nD τ) m4 fullShare z4 ∗ owns (c : Thread nD τ) m5 fullShare z5 ∗ owns (c : Thread nD τ) m6 fullShare z6 ∗ owns (c : Thread nD τ) m7 fullShare z7 ∗ owns (c : Thread nD τ) m8 fullShare z8 ∗ owns (c : Thread nD τ) m9 fullShare z9 ∗ owns (c : Thread nD τ) m10 fullShare z10 ∗ owns (c : Thread nD τ) m11 fullShare z11 ∗ owns (c : Thread nD τ) m12 fullShare z12 ∗ owns (c : Thread nD τ) m13 fullShare z13 ∗ owns (c : Thread nD τ) m14 fullShare z14 ∗ owns (c : Thread nD τ) m15 fullShare z15 ∗ owns (c : Thread nD τ) m16 fullShare z16 ∗ owns (c : Thread nD τ) m17 fullShare z17 ∗ owns (c : Thread nD τ) m18 fullShare z18 ∗ owns (c : Thread nD τ) m19 fullShare z19)

/-- A block of a sequence under the eight rows before it. -/
def XB (s : Vec F S520x256 .f32) (x : Vec F S512x256 .f32) : Vec F S520x256 .f32 := fun j =>
  if h : (j 0).val < 8 then s j else x (ix2 ⟨(j 0).val - 8, by have : (j 0).val < 520 := (j 0).isLt; omega⟩ (j 1))

/-- No rows before the first block. -/
def ZX : Vec F S520x256 .f32 := fun _ => Scalar.ofBits .f32 0x00000000#32

/-- No state before the first block. -/
def Z8 : Vec F S8x256 .f32 := fun _ => Scalar.ofBits .f32 0x00000000#32

/-- The row `k` of the parameters at column `q`. -/
def P7 (x7 : Vec F S1x16x256 .f32) (k : ℕ) (q : Fin 256) : F .f32 := x7 (ix3 0 ⟨k % 16, Nat.mod_lt _ (by decide)⟩ q)

/-- The first two taps of the first rows. -/
def V27 (X : Vec F S520x256 .f32) (x7 : Vec F S1x16x256 .f32) : Vec F S32x256 .f32 := fun j =>
  have hj : (j 0).val < 32 := (j 0).isLt
  FloatOps.addf (FloatOps.addf (P7 x7 0 (j 1))
    (FloatOps.mulf (P7 x7 4 (j 1)) (X (ix2 ⟨5 + (j 0).val, by omega⟩ (j 1)))))
    (FloatOps.mulf (P7 x7 5 (j 1)) (X (ix2 ⟨6 + (j 0).val, by omega⟩ (j 1))))

/-- The first rows of a block. -/
def BLK (x : Vec F S512x256 .f32) : Vec F S32x256 .f32 := fun j =>
  have hj : (j 0).val < 32 := (j 0).isLt
  x (ix2 ⟨0 + (j 0).val, by omega⟩ (j 1))

/-- The four-tap convolution of a block. -/
def XC (X : Vec F S520x256 .f32) (x7 : Vec F S1x16x256 .f32) : Vec F S512x256 .f32 := fun j =>
  have hj : (j 0).val < 512 := (j 0).isLt
  FloatOps.addf (FloatOps.addf (FloatOps.addf (FloatOps.addf (P7 x7 0 (j 1))
    (FloatOps.mulf (P7 x7 4 (j 1)) (X (ix2 ⟨5 + (j 0).val, by omega⟩ (j 1)))))
    (FloatOps.mulf (P7 x7 5 (j 1)) (X (ix2 ⟨6 + (j 0).val, by omega⟩ (j 1)))))
    (FloatOps.mulf (P7 x7 6 (j 1)) (X (ix2 ⟨7 + (j 0).val, by omega⟩ (j 1)))))
    (FloatOps.mulf (P7 x7 7 (j 1)) (X (ix2 ⟨8 + (j 0).val, by omega⟩ (j 1))))

theorem brow (v : Vec F S1x1x256 .f32) (x : S32x256.Idx) :
    broadcastTo S32x256 (shapeCast S1x256 v shapeCasts_S1x1x256_S1x256) broadcasts_S1x256_S32x256 x = v (ix3 0 0 (x 1)) := by
  pointwise

theorem ldrow (m : Memref sig .tc .vmem S1x16x256 .f32) (h : m.IsWhole) (y : Vec F S1x16x256 .f32) (k : ℕ)
    (hb : ∀ a, ![0, k, 0] a + S1x1x256.size a ≤ S1x16x256.size a) (q : Fin 256) :
    View.readAt (Elt F) m.view (Rect.unit (s := S1x16x256) ![0, k, 0] S1x1x256.size hb).toLoadRect (h.unread y) (ix3 0 0 q)
      = P7 y k q := by
  have hk : k < 16 := by have := hb 1; simp at this; omega
  rw [View.readAt_apply, h.read_unread]
  unfold P7
  congr 1
  funext a
  fin_cases a <;> apply Fin.ext <;> simp [Rect.unit, Rect.toLoadRect, LoadRect.idx, Nat.mod_eq_of_lt hk]

theorem emb32 (o : ℕ) (hb : ∀ a, ![o, 0] a + S32x256.size a ≤ S512x256.size a) (x : S32x256.Idx) :
    (Rect.unit (s := S512x256) ![o, 0] S32x256.size hb).emb x = ix2 ⟨o + (x 0).val, by have := hb 0; have h2 : (x 0).val < 32 := (x 0).isLt; simp at this; omega⟩ (x 1) := by
  funext a
  fin_cases a <;> apply Fin.ext <;> simp [Rect.unit, Rect.emb]

theorem ld520 (m : Memref sig .tc .vmem S520x256 .f32) (h : m.IsWhole) (y : Vec F S520x256 .f32) (o : ℕ)
    (hb : ∀ a, ![o, 0] a + S32x256.size a ≤ S520x256.size a) (x : S32x256.Idx) :
    View.readAt (Elt F) m.view (Rect.unit (s := S520x256) ![o, 0] S32x256.size hb).toLoadRect (h.unread y) x
      = y (ix2 ⟨o + (x 0).val, by have := hb 0; have h2 : (x 0).val < 32 := (x 0).isLt; simp at this; omega⟩ (x 1)) := by
  rw [View.readAt_apply, h.read_unread]
  congr 1
  funext a
  fin_cases a <;> apply Fin.ext <;> simp [Rect.unit, Rect.toLoadRect, LoadRect.idx]

theorem ld512 (m : Memref sig .tc .vmem S512x256 .f32) (h : m.IsWhole) (y : Vec F S512x256 .f32) (o : ℕ)
    (hb : ∀ a, ![o, 0] a + S32x256.size a ≤ S512x256.size a) (x : S32x256.Idx) :
    View.readAt (Elt F) m.view (Rect.unit (s := S512x256) ![o, 0] S32x256.size hb).toLoadRect (h.unread y) x
      = y (ix2 ⟨o + (x 0).val, by have := hb 0; have h2 : (x 0).val < 32 := (x 0).isLt; simp at this; omega⟩ (x 1)) := by
  rw [View.readAt_apply, h.read_unread]
  congr 1
  funext a
  fin_cases a <;> apply Fin.ext <;> simp [Rect.unit, Rect.toLoadRect, LoadRect.idx]

theorem emb32_0 (o : ℕ) (hb : ∀ a, ![o, 0] a + S32x256.size a ≤ S512x256.size a) (x : S32x256.Idx) :
    ((Rect.unit (s := S512x256) ![o, 0] S32x256.size hb).emb x 0).val = o + (x 0).val := by
  rw [emb32]; rfl

theorem emb32_1 (o : ℕ) (hb : ∀ a, ![o, 0] a + S32x256.size a ≤ S512x256.size a) (x : S32x256.Idx) :
    (Rect.unit (s := S512x256) ![o, 0] S32x256.size hb).emb x 1 = x 1 := by
  rw [emb32]; rfl

theorem brw (m : Memref sig .tc .vmem S1x16x256 .f32) (h : m.IsWhole) (y : Vec F S1x16x256 .f32) (k : ℕ)
    (hb : ∀ a, ![0, k, 0] a + S1x1x256.size a ≤ S1x16x256.size a) (x : S32x256.Idx) :
    broadcastTo S32x256 (shapeCast S1x256 (View.readAt (Elt F) m.view (Rect.unit (s := S1x16x256) ![0, k, 0] S1x1x256.size hb).toLoadRect (h.unread y))
      shapeCasts_S1x1x256_S1x256) broadcasts_S1x256_S32x256 x = P7 y k (x 1) := by
  rw [brow]; exact ldrow m h y k hb (x 1)

/-- The eight rows at the top replaced. -/
def T8 (w : Vec F S8x256 .f32) (y : Vec F S520x256 .f32) : Vec F S520x256 .f32 := fun j =>
  if h : (j 0).val < 8 then w (ix2 ⟨(j 0).val, h⟩ (j 1)) else y j

theorem upd8 (m : Memref sig .tc .vmem S520x256 .f32) (f : m.view.ty.Contents (Elt F)) (w : Vec F S8x256 .f32)
    (L : List (View.Piece (Elt F) S520x256 .f32)) (hb : ∀ a, ![0, 0] a + S8x256.size a ≤ S520x256.size a) :
    m.view.read (Elt F) (m.view.writes (Elt F) f (⟨Rect.unit (s := S520x256) ![0, 0] S8x256.size hb, w⟩ :: L))
      = T8 w (m.view.read (Elt F) (m.view.writes (Elt F) f L)) := by
  funext j
  unfold T8
  split
  · next h =>
    have e : j = (Rect.unit (s := S520x256) ![0, 0] S8x256.size hb).emb (ix2 ⟨(j 0).val, h⟩ (j 1)) := by
      funext a
      fin_cases a <;> apply Fin.ext <;> simp [Rect.unit, Rect.emb]
    conv_lhs => rw [e]
    rw [View.read_writes_cons_emb]
  · next h =>
    rw [View.writes_cons, View.read_slice_write_of_not_mem]
    intro hm
    obtain ⟨x, _, hx⟩ := Finset.mem_map.mp hm
    have h0 := congrArg Fin.val (congrFun hx 0)
    have h2 : (x 0).val < 8 := (x 0).isLt
    simp [Rect.unit, Rect.emb] at h0
    omega

theorem upd512 (m : Memref sig .tc .vmem S520x256 .f32) (f : m.view.ty.Contents (Elt F)) (w : Vec F S512x256 .f32)
    (L : List (View.Piece (Elt F) S520x256 .f32)) (hb : ∀ a, ![8, 0] a + S512x256.size a ≤ S520x256.size a) :
    m.view.read (Elt F) (m.view.writes (Elt F) f (⟨Rect.unit (s := S520x256) ![8, 0] S512x256.size hb, w⟩ :: L))
      = XB (m.view.read (Elt F) (m.view.writes (Elt F) f L)) w := by
  funext j
  unfold XB
  split
  · next h =>
    rw [View.writes_cons, View.read_slice_write_of_not_mem]
    intro hm
    obtain ⟨x, _, hx⟩ := Finset.mem_map.mp hm
    have h0 := congrArg Fin.val (congrFun hx 0)
    simp [Rect.unit, Rect.emb] at h0
    omega
  · next h =>
    have h3 : (j 0).val < 520 := (j 0).isLt
    have e : j = (Rect.unit (s := S520x256) ![8, 0] S512x256.size hb).emb (ix2 ⟨(j 0).val - 8, by omega⟩ (j 1)) := by
      funext a
      fin_cases a <;> apply Fin.ext <;> simp [Rect.unit, Rect.emb]
      omega
    conv_lhs => rw [e]
    rw [View.read_writes_cons_emb]

theorem ldfull {s : Shape} {e : EltTy} (m : Memref sig .tc .vmem s e) (h : m.IsWhole) (y : Vec F s e) {off : Fin s.rank → ℕ}
    (hb : ∀ a, off a + s.size a ≤ s.size a) :
    View.readAt (Elt F) m.view (Rect.unit off s.size hb).toLoadRect (h.unread y) = y := by
  rw [View.readAt_full, h.read_unread]

theorem ldcov {s : Shape} {e : EltTy} (m : Memref sig .tc .vmem s e) (L : List (View.Piece (Elt F) s e)) (G : Vec F s e)
    (hG : ∀ f, m.view.read (Elt F) (m.view.writes (Elt F) f L) = G) {off : Fin s.rank → ℕ} (hb : ∀ a, off a + s.size a ≤ s.size a) :
    m.view.readCov L (Rect.unit off s.size hb).toLoadRect = G := by
  unfold View.readCov
  rw [View.readAt_full, hG]

theorem ld520w (m : Memref sig .tc .vmem S520x256 .f32) (f : m.view.ty.Contents (Elt F)) (y : Vec F S520x256 .f32) (hy : m.view.read (Elt F) f = y) (o : ℕ)
    (hb : ∀ a, ![o, 0] a + S32x256.size a ≤ S520x256.size a) (x : S32x256.Idx) :
    View.readAt (Elt F) m.view (Rect.unit (s := S520x256) ![o, 0] S32x256.size hb).toLoadRect f x
      = y (ix2 ⟨o + (x 0).val, by have := hb 0; have h2 : (x 0).val < 32 := (x 0).isLt; simp at this; omega⟩ (x 1)) := by
  rw [View.readAt_apply, hy]
  congr 1
  funext a
  fin_cases a <;> apply Fin.ext <;> simp [Rect.unit, Rect.toLoadRect, LoadRect.idx]

theorem XB_T8 (w : Vec F S8x256 .f32) (hw : w = Z8) (y : Vec F S520x256 .f32) (x : Vec F S512x256 .f32) : XB (T8 w y) x = XB ZX x := by
  subst hw
  funext j
  unfold XB
  split
  · next h => rw [T8, dif_pos h]; rfl
  · rfl

/-- A constant of the kernel. -/
def cc (b : BitVec 32) : F .f32 := Scalar.ofBits .f32 b

/-- The recurrent branch's output: the state under the gelu of the gate. -/
def PA (x3 : Vec F S512x256 .f32) (h : Vec F S512x256 .f32) : Vec F S512x256 .bf16 := fun j =>
  FloatOps.truncf .bf16 bitsLt_bf16_f32 (FloatOps.mulf (h j) (FloatOps.mulf (FloatOps.mulf (cc 0x3F000000#32) (x3 j))
    (FloatOps.addf (cc 0x3F800000#32) (FloatOps.tanh (FloatOps.mulf (cc 0x3F4C422A#32)
      (FloatOps.addf (x3 j) (FloatOps.mulf (FloatOps.mulf (cc 0x3D372713#32) (FloatOps.mulf (x3 j) (x3 j))) (x3 j))))))))

/-- The three-tap convolution of a block. -/
def VB (U : Vec F S520x256 .f32) (x7 : Vec F S1x16x256 .f32) : Vec F S512x256 .f32 := fun j =>
  have hj : (j 0).val < 512 := (j 0).isLt
  FloatOps.addf (FloatOps.addf (FloatOps.addf (cc 0x00000000#32)
    (FloatOps.mulf (P7 x7 8 (j 1)) (U (ix2 ⟨6 + (j 0).val, by omega⟩ (j 1)))))
    (FloatOps.mulf (P7 x7 9 (j 1)) (U (ix2 ⟨7 + (j 0).val, by omega⟩ (j 1)))))
    (FloatOps.mulf (P7 x7 10 (j 1)) (U (ix2 ⟨8 + (j 0).val, by omega⟩ (j 1))))

/-- The convolution branch's output. -/
def PB (x4 : Vec F S512x256 .f32) (U : Vec F S520x256 .f32) (x7 : Vec F S1x16x256 .f32) : Vec F S512x256 .bf16 := fun j =>
  FloatOps.truncf .bf16 bitsLt_bf16_f32 (FloatOps.mulf (x4 j) (VB U x7 j))

/-- The last eight rows copied to the top. -/
def HT (y : Vec F S520x256 .f32) : Vec F S520x256 .f32 :=
  T8 (fun x => have hx : (x 0).val < 8 := (x 0).isLt; y (ix2 ⟨512 + (x 0).val, by omega⟩ (x 1))) y

/-- The softplus of the negated decay parameter. -/
def spl (lam : F .f32) : F .f32 :=
  have e := FloatOps.exp (FloatOps.subf (cc 0x00000000#32) (FloatOps.absf lam))
  have w := FloatOps.addf (cc 0x3F800000#32) e
  FloatOps.addf (FloatOps.maximumf (FloatOps.subf (cc 0x00000000#32) lam) (cc 0x00000000#32))
    (Scalar.select (FloatOps.cmpf .oeq w (cc 0x3F800000#32)) e
      (FloatOps.divf (FloatOps.mulf (FloatOps.log w) e)
        (Scalar.select (FloatOps.cmpf .oeq w (cc 0x3F800000#32)) (cc 0x3F800000#32) (FloatOps.subf w (cc 0x3F800000#32)))))

/-- The softplus of the decay parameter of a column. -/
def SP (x7 : Vec F S1x16x256 .f32) (q : Fin 256) : F .f32 := spl (P7 x7 3 q)

/-- A gate: the logistic function of a projection and a bias, through the hyperbolic tangent. -/
def gt (v b : F .f32) : F .f32 :=
  FloatOps.addf (FloatOps.mulf (cc 0x3F000000#32) (FloatOps.tanh (FloatOps.mulf (cc 0x3F000000#32) (FloatOps.addf v b)))) (cc 0x3F000000#32)

/-- The logarithm of the decay. -/
def LA (GA : Vec F S512x256 .f32) (x7 : Vec F S1x16x256 .f32) : Vec F S512x256 .f32 := fun j =>
  FloatOps.mulf (FloatOps.mulf (cc 0xC1000000#32) (gt (GA j) (P7 x7 1 (j 1)))) (SP x7 (j 1))

/-- The decay. -/
def DA (GA : Vec F S512x256 .f32) (x7 : Vec F S1x16x256 .f32) : Vec F S512x256 .f32 := fun j =>
  FloatOps.exp (LA GA x7 j)

/-- The gated input. -/
def DB (GA GB : Vec F S512x256 .f32) (xc : Vec F S512x256 .f32) (x7 : Vec F S1x16x256 .f32) : Vec F S512x256 .f32 := fun j =>
  have t := FloatOps.tanh (LA GA x7 j)
  FloatOps.mulf (FloatOps.sqrt (FloatOps.divf (FloatOps.mulf (cc 0xC0000000#32) t) (FloatOps.subf (cc 0x3F800000#32) t)))
    (FloatOps.mulf (gt (GB j) (P7 x7 2 (j 1))) (xc j))

/-- The projections the gates read. -/
def GA (xc : Vec F S512x256 .f32) (w : Vec F S1x1x256x256 .bf16) : Vec F S512x256 .f32 :=
  k0_pay75 (truncf .bf16 xc bitsLt_bf16_f32) w

/-- The rows of a tile of eight. -/
def tl (A : Vec F S512x256 .f32) (n : ℕ) : Vec F S8x256 .f32 := fun x =>
  A (ix2 ⟨(8 * n + (x 0).val) % 512, Nat.mod_lt _ (by decide)⟩ (x 1))

/-- The rows' numbers. -/
def IO : IVec S8x256 32 := iota .tc S8x256 32 [0] iota_S8x256_d0_w32

/-- The states of a tile of eight rows from the state before them. -/
def stepH (a b s : Vec F S8x256 .f32) : Vec F S8x256 .f32 := k0_pay164 s (k0_pay10 IO a b) (k0_pay11 IO a)

/-- The last row of a tile, eight times. -/
def row7 (h : Vec F S8x256 .f32) : Vec F S8x256 .f32 :=
  broadcastTo S8x256 (shapeCast S1x256 (extractStridedSlice S1x256 ![7, 0] h slices_S8x256_o7_0_S1x256) shapeCasts_S1x256_S1x256) broadcasts_S1x256_S8x256

/-- The state before tile `n`. -/
def car (A B : Vec F S512x256 .f32) (s : Vec F S8x256 .f32) : ℕ → Vec F S8x256 .f32
  | 0 => s
  | n + 1 => row7 (stepH (tl A n) (tl B n) (car A B s n))

/-- The states of a block. -/
def HL (A B : Vec F S512x256 .f32) (s : Vec F S8x256 .f32) : Vec F S512x256 .f32 := fun j =>
  stepH (tl A ((j 0).val / 8)) (tl B ((j 0).val / 8)) (car A B s ((j 0).val / 8))
    (ix2 ⟨(j 0).val % 8, Nat.mod_lt _ (by decide)⟩ (j 1))

theorem ldtop (m : Memref sig .tc .vmem S520x256 .f32) (h : m.IsWhole) (y : Vec F S520x256 .f32)
    (hb : ∀ a, ![512, 0] a + S8x256.size a ≤ S520x256.size a) :
    View.readAt (Elt F) m.view (Rect.unit (s := S520x256) ![512, 0] S8x256.size hb).toLoadRect (h.unread y)
      = fun x : S8x256.Idx => have hx : (x 0).val < 8 := (x 0).isLt; y (ix2 ⟨512 + (x 0).val, by omega⟩ (x 1)) := by
  funext x
  rw [View.readAt_apply, h.read_unread]
  congr 1
  funext a
  fin_cases a <;> apply Fin.ext <;> simp [Rect.unit, Rect.toLoadRect, LoadRect.idx]

variable (i : grid0.Coords) (m2 : Memref sig .tc .vmem S512x256 .f32) (w2 : m2.IsWhole) (m3 : Memref sig .tc .vmem S512x256 .f32) (w3 : m3.IsWhole) (m4 : Memref sig .tc .vmem S512x256 .f32) (w4 : m4.IsWhole) (m5 : Memref sig .tc .vmem S512x256 .f32) (w5 : m5.IsWhole) (m6 : Memref sig .tc .vmem S512x256 .f32) (w6 : m6.IsWhole) (m7 : Memref sig .tc .vmem S1x16x256 .f32) (w7 : m7.IsWhole) (m8 : Memref sig .tc .vmem S1x1x256x256 .bf16) (w8 : m8.IsWhole) (m9 : Memref sig .tc .vmem S1x1x256x256 .bf16) (w9 : m9.IsWhole) (m10 : Memref sig .tc .vmem S512x256 .bf16) (w10 : m10.IsWhole) (m11 : Memref sig .tc .vmem S512x256 .bf16) (w11 : m11.IsWhole) (m12 : Memref sig .tc .vmem S512x256 .f32) (w12 : m12.IsWhole) (m13 : Memref sig .tc .vmem S512x256 .f32) (w13 : m13.IsWhole) (m14 : Memref sig .tc .vmem S512x256 .f32) (w14 : m14.IsWhole) (m15 : Memref sig .tc .vmem S520x256 .f32) (w15 : m15.IsWhole) (m16 : Memref sig .tc .vmem S520x256 .f32) (w16 : m16.IsWhole) (m17 : Memref sig .tc .vmem S512x256 .f32) (w17 : m17.IsWhole) (m18 : Memref sig .tc .vmem S512x256 .f32) (w18 : m18.IsWhole) (m19 : Memref sig .tc .vmem S8x256 .f32) (w19 : m19.IsWhole)

/-! The four stretches of the body. -/

def K2 (v1244 : Vec F S32x256 .f32) (v1252 : FVec F S32x256 .f32) :
    Prog (TpuEff nD τ sig (Elt F) Λ₀ .tc) (Σ' (v1914 : FVec F S32x256 .f32), Vec F S1x1x256 .f32) := do
  let v1284 ← k0_part40 i m2 w2 m3 w3 m4 w4 m5 w5 m6 w6 m7 w7 m8 w8 m9 w9 m10 w10 m11 w11 m12 w12 m13 w13 m14 w14 m15 w15 m16 w16 m17 w17 m18 w18 m19 w19 v1244 v1252
  let v1318 ← k0_part41 i m2 w2 m3 w3 m4 w4 m5 w5 m6 w6 m7 w7 m8 w8 m9 w9 m10 w10 m11 w11 m12 w12 m13 w13 m14 w14 m15 w15 m16 w16 m17 w17 m18 w18 m19 w19 v1284
  let ⟨v1349, v1351⟩ ← k0_part42 i m2 w2 m3 w3 m4 w4 m5 w5 m6 w6 m7 w7 m8 w8 m9 w9 m10 w10 m11 w11 m12 w12 m13 w13 m14 w14 m15 w15 m16 w16 m17 w17 m18 w18 m19 w19 v1318
  let ⟨v1383, v1385⟩ ← k0_part43 i m2 w2 m3 w3 m4 w4 m5 w5 m6 w6 m7 w7 m8 w8 m9 w9 m10 w10 m11 w11 m12 w12 m13 w13 m14 w14 m15 w15 m16 w16 m17 w17 m18 w18 m19 w19 v1349 v1351
  k0_part44 i m2 w2 m3 w3 m4 w4 m5 w5 m6 w6 m7 w7 m8 w8 m9 w9 m10 w10 m11 w11 m12 w12 m13 w13 m14 w14 m15 w15 m16 w16 m17 w17 m18 w18 m19 w19 v1383 v1385
  let ⟨v1447, v1449⟩ ← k0_part45 i m2 w2 m3 w3 m4 w4 m5 w5 m6 w6 m7 w7 m8 w8 m9 w9 m10 w10 m11 w11 m12 w12 m13 w13 m14 w14 m15 w15 m16 w16 m17 w17 m18 w18 m19 w19
  let v1484 ← k0_part46 i m2 w2 m3 w3 m4 w4 m5 w5 m6 w6 m7 w7 m8 w8 m9 w9 m10 w10 m11 w11 m12 w12 m13 w13 m14 w14 m15 w15 m16 w16 m17 w17 m18 w18 m19 w19 v1447 v1449
  let v1518 ← k0_part47 i m2 w2 m3 w3 m4 w4 m5 w5 m6 w6 m7 w7 m8 w8 m9 w9 m10 w10 m11 w11 m12 w12 m13 w13 m14 w14 m15 w15 m16 w16 m17 w17 m18 w18 m19 w19 v1484
  let ⟨v1545, v1548⟩ ← k0_part48 i m2 w2 m3 w3 m4 w4 m5 w5 m6 w6 m7 w7 m8 w8 m9 w9 m10 w10 m11 w11 m12 w12 m13 w13 m14 w14 m15 w15 m16 w16 m17 w17 m18 w18 m19 w19 v1518
  let v1582 ← k0_part49 i m2 w2 m3 w3 m4 w4 m5 w5 m6 w6 m7 w7 m8 w8 m9 w9 m10 w10 m11 w11 m12 w12 m13 w13 m14 w14 m15 w15 m16 w16 m17 w17 m18 w18 m19 w19 v1545 v1548
  let ⟨v1613, v1615⟩ ← k0_part50 i m2 w2 m3 w3 m4 w4 m5 w5 m6 w6 m7 w7 m8 w8 m9 w9 m10 w10 m11 w11 m12 w12 m13 w13 m14 w14 m15 w15 m16 w16 m17 w17 m18 w18 m19 w19 v1582
  let cst_1055 ← k0_part51 i m2 w2 m3 w3 m4 w4 m5 w5 m6 w6 m7 w7 m8 w8 m9 w9 m10 w10 m11 w11 m12 w12 m13 w13 m14 w14 m15 w15 m16 w16 m17 w17 m18 w18 m19 w19 v1613 v1615
  let ⟨v1674, v1682⟩ ← k0_part52 i m2 w2 m3 w3 m4 w4 m5 w5 m6 w6 m7 w7 m8 w8 m9 w9 m10 w10 m11 w11 m12 w12 m13 w13 m14 w14 m15 w15 m16 w16 m17 w17 m18 w18 m19 w19 cst_1055
  let v1714 ← k0_part53 i m2 w2 m3 w3 m4 w4 m5 w5 m6 w6 m7 w7 m8 w8 m9 w9 m10 w10 m11 w11 m12 w12 m13 w13 m14 w14 m15 w15 m16 w16 m17 w17 m18 w18 m19 w19 v1674 v1682
  let v1748 ← k0_part54 i m2 w2 m3 w3 m4 w4 m5 w5 m6 w6 m7 w7 m8 w8 m9 w9 m10 w10 m11 w11 m12 w12 m13 w13 m14 w14 m15 w15 m16 w16 m17 w17 m18 w18 m19 w19 v1714
  let ⟨v1779, v1781⟩ ← k0_part55 i m2 w2 m3 w3 m4 w4 m5 w5 m6 w6 m7 w7 m8 w8 m9 w9 m10 w10 m11 w11 m12 w12 m13 w13 m14 w14 m15 w15 m16 w16 m17 w17 m18 w18 m19 w19 v1748
  let ⟨v1813, v1815⟩ ← k0_part56 i m2 w2 m3 w3 m4 w4 m5 w5 m6 w6 m7 w7 m8 w8 m9 w9 m10 w10 m11 w11 m12 w12 m13 w13 m14 w14 m15 w15 m16 w16 m17 w17 m18 w18 m19 w19 v1779 v1781
  k0_part57 i m2 w2 m3 w3 m4 w4 m5 w5 m6 w6 m7 w7 m8 w8 m9 w9 m10 w10 m11 w11 m12 w12 m13 w13 m14 w14 m15 w15 m16 w16 m17 w17 m18 w18 m19 w19 v1813 v1815
  let ⟨v1877, v1879⟩ ← k0_part58 i m2 w2 m3 w3 m4 w4 m5 w5 m6 w6 m7 w7 m8 w8 m9 w9 m10 w10 m11 w11 m12 w12 m13 w13 m14 w14 m15 w15 m16 w16 m17 w17 m18 w18 m19 w19
  let v1914 ← k0_part59 i m2 w2 m3 w3 m4 w4 m5 w5 m6 w6 m7 w7 m8 w8 m9 w9 m10 w10 m11 w11 m12 w12 m13 w13 m14 w14 m15 w15 m16 w16 m17 w17 m18 w18 m19 w19 v1877 v1879
  let v1915 ← Prog.lift (.load m7 (Rect.unit (s := S1x16x256) ![0, 9, 0] S1x1x256.size inb_S1x16x256_S1x1x256_0_9_0).toLoadRect (View.loadsAt_vmem h_S1x1x256))
  pure ⟨v1914, v1915⟩

def K1 (K : Vec F S32x256 .f32 → FVec F S32x256 .f32 → Prog (TpuEff nD τ sig (Elt F) Λ₀ .tc) (Σ' (v1914 : FVec F S32x256 .f32), Vec F S1x1x256 .f32)) (v463 : FVec F S512x256 .bf16) :
    Prog (TpuEff nD τ sig (Elt F) Λ₀ .tc) (Σ' (v1914 : FVec F S32x256 .f32), Vec F S1x1x256 .f32) := do
  let ⟨v495, v497, cst_354⟩ ← k0_part19 i m2 w2 m3 w3 m4 w4 m5 w5 m6 w6 m7 w7 m8 w8 m9 w9 m10 w10 m11 w11 m12 w12 m13 w13 m14 w14 m15 w15 m16 w16 m17 w17 m18 w18 m19 w19 v463
  let ⟨v500, v524, v529, v535, cst_373⟩ ← k0_part20 i m2 w2 m3 w3 m4 w4 m5 w5 m6 w6 m7 w7 m8 w8 m9 w9 m10 w10 m11 w11 m12 w12 m13 w13 m14 w14 m15 w15 m16 w16 m17 w17 m18 w18 m19 w19 v495 v497 cst_354
  let ⟨v570, v572, v573⟩ ← k0_part21 i m2 w2 m3 w3 m4 w4 m5 w5 m6 w6 m7 w7 m8 w8 m9 w9 m10 w10 m11 w11 m12 w12 m13 w13 m14 w14 m15 w15 m16 w16 m17 w17 m18 w18 m19 w19 v500 v524 v529 v535 cst_373
  let ⟨v604, v609, cst_416⟩ ← k0_part22 i m2 w2 m3 w3 m4 w4 m5 w5 m6 w6 m7 w7 m8 w8 m9 w9 m10 w10 m11 w11 m12 w12 m13 w13 m14 w14 m15 w15 m16 w16 m17 w17 m18 w18 m19 w19 v570 v572 v573
  let ⟨v648, cst_435⟩ ← k0_part23 i m2 w2 m3 w3 m4 w4 m5 w5 m6 w6 m7 w7 m8 w8 m9 w9 m10 w10 m11 w11 m12 w12 m13 w13 m14 w14 m15 w15 m16 w16 m17 w17 m18 w18 m19 w19 v500 v604 v609 cst_416
  let v685 ← k0_part24 i m2 w2 m3 w3 m4 w4 m5 w5 m6 w6 m7 w7 m8 w8 m9 w9 m10 w10 m11 w11 m12 w12 m13 w13 m14 w14 m15 w15 m16 w16 m17 w17 m18 w18 m19 w19 v500 v648 cst_435
  let ⟨v708, v723, v725⟩ ← k0_part25 i m2 w2 m3 w3 m4 w4 m5 w5 m6 w6 m7 w7 m8 w8 m9 w9 m10 w10 m11 w11 m12 w12 m13 w13 m14 w14 m15 w15 m16 w16 m17 w17 m18 w18 m19 w19 v500 v685
  let ⟨v754, v759, v763⟩ ← k0_part26 i m2 w2 m3 w3 m4 w4 m5 w5 m6 w6 m7 w7 m8 w8 m9 w9 m10 w10 m11 w11 m12 w12 m13 w13 m14 w14 m15 w15 m16 w16 m17 w17 m18 w18 m19 w19 v500 v708 v723 v725
  let ⟨v788, v798, v799⟩ ← k0_part27 i m2 w2 m3 w3 m4 w4 m5 w5 m6 w6 m7 w7 m8 w8 m9 w9 m10 w10 m11 w11 m12 w12 m13 w13 m14 w14 m15 w15 m16 w16 m17 w17 m18 w18 m19 w19 v754 v759 v763
  let ⟨v834, v835⟩ ← k0_part28 i m2 w2 m3 w3 m4 w4 m5 w5 m6 w6 m7 w7 m8 w8 m9 w9 m10 w10 m11 w11 m12 w12 m13 w13 m14 w14 m15 w15 m16 w16 m17 w17 m18 w18 m19 w19 v500 v788 v798 v799
  let v875 ← k0_part29 i m2 w2 m3 w3 m4 w4 m5 w5 m6 w6 m7 w7 m8 w8 m9 w9 m10 w10 m11 w11 m12 w12 m13 w13 m14 w14 m15 w15 m16 w16 m17 w17 m18 w18 m19 w19 v500 v834 v835
  k0_part30 i m2 w2 m3 w3 m4 w4 m5 w5 m6 w6 m7 w7 m8 w8 m9 w9 m10 w10 m11 w11 m12 w12 m13 w13 m14 w14 m15 w15 m16 w16 m17 w17 m18 w18 m19 w19 v500 v875
  let ⟨v938, v952⟩ ← k0_part31 i m2 w2 m3 w3 m4 w4 m5 w5 m6 w6 m7 w7 m8 w8 m9 w9 m10 w10 m11 w11 m12 w12 m13 w13 m14 w14 m15 w15 m16 w16 m17 w17 m18 w18 m19 w19 v500
  let ⟨v984, v989, v990⟩ ← k0_part32 i m2 w2 m3 w3 m4 w4 m5 w5 m6 w6 m7 w7 m8 w8 m9 w9 m10 w10 m11 w11 m12 w12 m13 w13 m14 w14 m15 w15 m16 w16 m17 w17 m18 w18 m19 w19 v500 v938 v952
  let ⟨v1018, v1026⟩ ← k0_part33 i m2 w2 m3 w3 m4 w4 m5 w5 m6 w6 m7 w7 m8 w8 m9 w9 m10 w10 m11 w11 m12 w12 m13 w13 m14 w14 m15 w15 m16 w16 m17 w17 m18 w18 m19 w19 v984 v989 v990
  let v1064 ← k0_part34 i m2 w2 m3 w3 m4 w4 m5 w5 m6 w6 m7 w7 m8 w8 m9 w9 m10 w10 m11 w11 m12 w12 m13 w13 m14 w14 m15 w15 m16 w16 m17 w17 m18 w18 m19 w19 v500 v1018 v1026
  let ⟨v1099, v1101⟩ ← k0_part35 i m2 w2 m3 w3 m4 w4 m5 w5 m6 w6 m7 w7 m8 w8 m9 w9 m10 w10 m11 w11 m12 w12 m13 w13 m14 w14 m15 w15 m16 w16 m17 w17 m18 w18 m19 w19 v500 v1064
  let v1141 ← k0_part36 i m2 w2 m3 w3 m4 w4 m5 w5 m6 w6 m7 w7 m8 w8 m9 w9 m10 w10 m11 w11 m12 w12 m13 w13 m14 w14 m15 w15 m16 w16 m17 w17 m18 w18 m19 w19 v500 v1099 v1101
  let ⟨v1168, v1173, v1178⟩ ← k0_part37 i m2 w2 m3 w3 m4 w4 m5 w5 m6 w6 m7 w7 m8 w8 m9 w9 m10 w10 m11 w11 m12 w12 m13 w13 m14 w14 m15 w15 m16 w16 m17 w17 m18 w18 m19 w19 v500 v1141
  let ⟨v1202, v1214, v1215⟩ ← k0_part38 i m2 w2 m3 w3 m4 w4 m5 w5 m6 w6 m7 w7 m8 w8 m9 w9 m10 w10 m11 w11 m12 w12 m13 w13 m14 w14 m15 w15 m16 w16 m17 w17 m18 w18 m19 w19 v1168 v1173 v1178
  let ⟨v1244, v1252⟩ ← k0_part39 i m2 w2 m3 w3 m4 w4 m5 w5 m6 w6 m7 w7 m8 w8 m9 w9 m10 w10 m11 w11 m12 w12 m13 w13 m14 w14 m15 w15 m16 w16 m17 w17 m18 w18 m19 w19 v500 v1202 v1214 v1215
  K v1244 v1252

def K0 (K : FVec F S512x256 .bf16 → Prog (TpuEff nD τ sig (Elt F) Λ₀ .tc) (Σ' (v1914 : FVec F S32x256 .f32), Vec F S1x1x256 .f32)) (v27 : FVec F S32x256 .f32) :
    Prog (TpuEff nD τ sig (Elt F) Λ₀ .tc) (Σ' (v1914 : FVec F S32x256 .f32), Vec F S1x1x256 .f32) := do
  let ⟨v55, v57, v58⟩ ← k0_part5 i m2 w2 m3 w3 m4 w4 m5 w5 m6 w6 m7 w7 m8 w8 m9 w9 m10 w10 m11 w11 m12 w12 m13 w13 m14 w14 m15 w15 m16 w16 m17 w17 m18 w18 m19 w19 v27
  let v89 ← k0_part6 i m2 w2 m3 w3 m4 w4 m5 w5 m6 w6 m7 w7 m8 w8 m9 w9 m10 w10 m11 w11 m12 w12 m13 w13 m14 w14 m15 w15 m16 w16 m17 w17 m18 w18 m19 w19 v55 v57 v58
  let ⟨v117, v120, v121⟩ ← k0_part7 i m2 w2 m3 w3 m4 w4 m5 w5 m6 w6 m7 w7 m8 w8 m9 w9 m10 w10 m11 w11 m12 w12 m13 w13 m14 w14 m15 w15 m16 w16 m17 w17 m18 w18 m19 w19 v89
  k0_part8 i m2 w2 m3 w3 m4 w4 m5 w5 m6 w6 m7 w7 m8 w8 m9 w9 m10 w10 m11 w11 m12 w12 m13 w13 m14 w14 m15 w15 m16 w16 m17 w17 m18 w18 m19 w19 v117 v120 v121
  let v182 ← k0_part9 i m2 w2 m3 w3 m4 w4 m5 w5 m6 w6 m7 w7 m8 w8 m9 w9 m10 w10 m11 w11 m12 w12 m13 w13 m14 w14 m15 w15 m16 w16 m17 w17 m18 w18 m19 w19
  let ⟨v210, v212⟩ ← k0_part10 i m2 w2 m3 w3 m4 w4 m5 w5 m6 w6 m7 w7 m8 w8 m9 w9 m10 w10 m11 w11 m12 w12 m13 w13 m14 w14 m15 w15 m16 w16 m17 w17 m18 w18 m19 w19 v182
  let v245 ← k0_part11 i m2 w2 m3 w3 m4 w4 m5 w5 m6 w6 m7 w7 m8 w8 m9 w9 m10 w10 m11 w11 m12 w12 m13 w13 m14 w14 m15 w15 m16 w16 m17 w17 m18 w18 m19 w19 v210 v212
  let ⟨v273, v275⟩ ← k0_part12 i m2 w2 m3 w3 m4 w4 m5 w5 m6 w6 m7 w7 m8 w8 m9 w9 m10 w10 m11 w11 m12 w12 m13 w13 m14 w14 m15 w15 m16 w16 m17 w17 m18 w18 m19 w19 v245
  let v307 ← k0_part13 i m2 w2 m3 w3 m4 w4 m5 w5 m6 w6 m7 w7 m8 w8 m9 w9 m10 w10 m11 w11 m12 w12 m13 w13 m14 w14 m15 w15 m16 w16 m17 w17 m18 w18 m19 w19 v273 v275
  let ⟨v335, v337, v338⟩ ← k0_part14 i m2 w2 m3 w3 m4 w4 m5 w5 m6 w6 m7 w7 m8 w8 m9 w9 m10 w10 m11 w11 m12 w12 m13 w13 m14 w14 m15 w15 m16 w16 m17 w17 m18 w18 m19 w19 v307
  let v369 ← k0_part15 i m2 w2 m3 w3 m4 w4 m5 w5 m6 w6 m7 w7 m8 w8 m9 w9 m10 w10 m11 w11 m12 w12 m13 w13 m14 w14 m15 w15 m16 w16 m17 w17 m18 w18 m19 w19 v335 v337 v338
  let ⟨v397, v400, v401⟩ ← k0_part16 i m2 w2 m3 w3 m4 w4 m5 w5 m6 w6 m7 w7 m8 w8 m9 w9 m10 w10 m11 w11 m12 w12 m13 w13 m14 w14 m15 w15 m16 w16 m17 w17 m18 w18 m19 w19 v369
  k0_part17 i m2 w2 m3 w3 m4 w4 m5 w5 m6 w6 m7 w7 m8 w8 m9 w9 m10 w10 m11 w11 m12 w12 m13 w13 m14 w14 m15 w15 m16 w16 m17 w17 m18 w18 m19 w19 v397 v400 v401
  let v463 ← k0_part18 i m2 w2 m3 w3 m4 w4 m5 w5 m6 w6 m7 w7 m8 w8 m9 w9 m10 w10 m11 w11 m12 w12 m13 w13 m14 w14 m15 w15 m16 w16 m17 w17 m18 w18 m19 w19
  K v463

def K3 : (Σ' (v1914 : FVec F S32x256 .f32), Vec F S1x1x256 .f32) →
    Prog (TpuEff nD τ sig (Elt F) Λ₀ .tc) PUnit := fun ⟨v1914, v1915⟩ => do
  let v1917 : Vec F S32x256 .f32 ← Prog.lift (.load m16 (Rect.unit (s := S520x256) ![487, 0] S32x256.size inb_S520x256_S32x256_487_0).toLoadRect (View.loadsAt_vmem h_S32x256))
  let v1921 : Vec F S1x1x256 .f32 ← Prog.lift (.load m7 (Rect.unit (s := S1x16x256) ![0, 10, 0] S1x1x256.size inb_S1x16x256_S1x1x256_0_10_0).toLoadRect (View.loadsAt_vmem h_S1x1x256))
  let v1923 : Vec F S32x256 .f32 ← Prog.lift (.load m16 (Rect.unit (s := S520x256) ![488, 0] S32x256.size inb_S520x256_S32x256_488_0).toLoadRect (View.loadsAt_vmem h_S32x256))
  let v1927 : Vec F S32x256 .f32 ← Prog.lift (.load m14 (Rect.unit (s := S512x256) ![480, 0] S32x256.size inb_S512x256_S32x256_480_0).toLoadRect (View.loadsAt_vmem h_S32x256))
  Prog.lift (.store m14 (Rect.unit (s := S512x256) ![480, 0] S32x256.size inb_S512x256_S32x256_480_0) (k0_pay1 v1914 v1915 v1917 v1921 v1923) Finset.univ (View.stores_vmem_bits_univ h_S32x256 rfl) (.inl rfl))
  let v1928 : Vec F S32x256 .f32 ← Prog.lift (.load m4 (Rect.unit (s := S512x256) ![480, 0] S32x256.size inb_S512x256_S32x256_480_0).toLoadRect (View.loadsAt_vmem h_S32x256))
  let v1931 : Vec F S32x256 .bf16 ← Prog.lift (.load m11 (Rect.unit (s := S512x256) ![480, 0] S32x256.size inb_S512x256_S32x256_480_0).toLoadRect (View.loadsAt_vmem h_S32x256))
  Prog.lift (.store m11 (Rect.unit (s := S512x256) ![480, 0] S32x256.size inb_S512x256_S32x256_480_0) (k0_pay2 v1914 v1915 v1917 v1921 v1923 v1928) Finset.univ (View.stores_vmem h_S32x256 (w11.storeExact_slice rfl _ packedbf16_S512x256_S32x256_480_0) (fun _ => rfl)) (.inl rfl))
  let v1932 : Vec F S8x256 .f32 ← Prog.lift (.load m15 (Rect.unit (s := S520x256) ![512, 0] S8x256.size inb_S520x256_S8x256_512_0).toLoadRect (View.loadsAt_vmem h_S8x256))
  let v1933 : Vec F S8x256 .f32 ← Prog.lift (.load m15 (Rect.unit (s := S520x256) ![0, 0] S8x256.size inb_S520x256_S8x256_0_0).toLoadRect (View.loadsAt_vmem h_S8x256))
  Prog.lift (.store m15 (Rect.unit (s := S520x256) ![0, 0] S8x256.size inb_S520x256_S8x256_0_0) (k0_pay3 v1932) Finset.univ (View.stores_vmem_bits_univ h_S8x256 rfl) (.inl rfl))
  let v1936 : Vec F S8x256 .f32 ← Prog.lift (.load m16 (Rect.unit (s := S520x256) ![512, 0] S8x256.size inb_S520x256_S8x256_512_0).toLoadRect (View.loadsAt_vmem h_S8x256))
  let v1937 : Vec F S8x256 .f32 ← Prog.lift (.load m16 (Rect.unit (s := S520x256) ![0, 0] S8x256.size inb_S520x256_S8x256_0_0).toLoadRect (View.loadsAt_vmem h_S8x256))
  Prog.lift (.store m16 (Rect.unit (s := S520x256) ![0, 0] S8x256.size inb_S520x256_S8x256_0_0) (k0_pay4 v1936) Finset.univ (View.stores_vmem_bits_univ h_S8x256 rfl) (.inl rfl))
  pure ⟨⟩

set_option maxHeartbeats 1000000 in
theorem body_eq : cc0_mixer_fwd_0 (F := F) i m2 w2 m3 w3 m4 w4 m5 w5 m6 w6 m7 w7 m8 w8 m9 w9 m10 w10 m11 w11 m12 w12 m13 w13 m14 w14 m15 w15 m16 w16 m17 w17 m18 w18 m19 w19 = (k0_part4 i m2 w2 m3 w3 m4 w4 m5 w5 m6 w6 m7 w7 m8 w8 m9 w9 m10 w10 m11 w11 m12 w12 m13 w13 m14 w14 m15 w15 m16 w16 m17 w17 m18 w18 m19 w19 >>= K0 i m2 w2 m3 w3 m4 w4 m5 w5 m6 w6 m7 w7 m8 w8 m9 w9 m10 w10 m11 w11 m12 w12 m13 w13 m14 w14 m15 w15 m16 w16 m17 w17 m18 w18 m19 w19 (K1 i m2 w2 m3 w3 m4 w4 m5 w5 m6 w6 m7 w7 m8 w8 m9 w9 m10 w10 m11 w11 m12 w12 m13 w13 m14 w14 m15 w15 m16 w16 m17 w17 m18 w18 m19 w19 (K2 i m2 w2 m3 w3 m4 w4 m5 w5 m6 w6 m7 w7 m8 w8 m9 w9 m10 w10 m11 w11 m12 w12 m13 w13 m14 w14 m15 w15 m16 w16 m17 w17 m18 w18 m19 w19))) >>= K3 m4 m7 m11 w11 m14 m15 m16 := rfl

end Cert.MixFIdeal.Hand
-- ==== Proof.MixFIdeal.Ph1.lean ====
module

public import proofs.«01_k».proof.Proof.MixFIdeal.Base

@[expose] public section

set_option maxRecDepth 16384

noncomputable section

namespace Cert.MixFIdeal.Hand

open Cert.MixFIdeal Cert.MixFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (m2 : Memref sig .tc .vmem S512x256 .f32) (w2 : m2.IsWhole) (m3 : Memref sig .tc .vmem S512x256 .f32) (w3 : m3.IsWhole) (m4 : Memref sig .tc .vmem S512x256 .f32) (w4 : m4.IsWhole) (m5 : Memref sig .tc .vmem S512x256 .f32) (w5 : m5.IsWhole) (m6 : Memref sig .tc .vmem S512x256 .f32) (w6 : m6.IsWhole) (m7 : Memref sig .tc .vmem S1x16x256 .f32) (w7 : m7.IsWhole) (m8 : Memref sig .tc .vmem S1x1x256x256 .bf16) (w8 : m8.IsWhole) (m9 : Memref sig .tc .vmem S1x1x256x256 .bf16) (w9 : m9.IsWhole) (m10 : Memref sig .tc .vmem S512x256 .bf16) (w10 : m10.IsWhole) (m11 : Memref sig .tc .vmem S512x256 .bf16) (w11 : m11.IsWhole) (m12 : Memref sig .tc .vmem S512x256 .f32) (w12 : m12.IsWhole) (m13 : Memref sig .tc .vmem S512x256 .f32) (w13 : m13.IsWhole) (m14 : Memref sig .tc .vmem S512x256 .f32) (w14 : m14.IsWhole) (m15 : Memref sig .tc .vmem S520x256 .f32) (w15 : m15.IsWhole) (m16 : Memref sig .tc .vmem S520x256 .f32) (w16 : m16.IsWhole) (m17 : Memref sig .tc .vmem S512x256 .f32) (w17 : m17.IsWhole) (m18 : Memref sig .tc .vmem S512x256 .f32) (w18 : m18.IsWhole) (m19 : Memref sig .tc .vmem S8x256 .f32) (w19 : m19.IsWhole)

variable (x2 : Vec F S512x256 .f32) (x3 : Vec F S512x256 .f32) (x4 : Vec F S512x256 .f32) (x5 : Vec F S512x256 .f32) (x6 : Vec F S512x256 .f32) (x7 : Vec F S1x16x256 .f32) (x8 : Vec F S1x1x256x256 .bf16) (x9 : Vec F S1x1x256x256 .bf16) (y10 : Vec F S512x256 .bf16) (y11 : Vec F S512x256 .bf16) (y12 : Vec F S512x256 .f32) (y13 : Vec F S512x256 .f32) (y14 : Vec F S512x256 .f32) (y15 : Vec F S520x256 .f32) (y16 : Vec F S520x256 .f32) (y17 : Vec F S512x256 .f32) (y18 : Vec F S512x256 .f32) (y19 : Vec F S8x256 .f32)

set_option maxHeartbeats 4000000 in
theorem p4A (hc0 : (Scalar.cmpi .ne (Scalar.extui (Scalar.cmpi .eq (BitVec.ofNat 32 (i 1).val) 0#32)) 0#32) = 1#1) (Q : FVec F S32x256 .f32 → sProp 𝕄) (E : Set ℕ) :
    St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 y10 y11 y12 y13 y14 (XB ZX x2) (XB ZX (mulf x5 x6)) y17 y18 Z8 -∗ Q (V27 (XB ZX x2) x7))
      ⊢ (wp frame (wpE (defs₀ (F := F)) Variants.none c none) E (k0_part4 i m2 w2 m3 w3 m4 w4 m5 w5 m6 w6 m7 w7 m8 w8 m9 w9 m10 w10 m11 w11 m12 w12 m13 w13 m14 w14 m15 w15 m16 w16 m17 w17 m18 w18 m19 w19) Q : sProp 𝕄) := by
  unfold St owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩, HK⟩
  obtain rfl := w2.eq_unread h2; obtain rfl := w3.eq_unread h3; obtain rfl := w4.eq_unread h4; obtain rfl := w5.eq_unread h5; obtain rfl := w6.eq_unread h6; obtain rfl := w7.eq_unread h7; obtain rfl := w8.eq_unread h8; obtain rfl := w9.eq_unread h9; obtain rfl := w10.eq_unread h10; obtain rfl := w11.eq_unread h11; obtain rfl := w12.eq_unread h12; obtain rfl := w13.eq_unread h13; obtain rfl := w14.eq_unread h14; obtain rfl := w15.eq_unread h15; obtain rfl := w16.eq_unread h16; obtain rfl := w17.eq_unread h17; obtain rfl := w18.eq_unread h18; obtain rfl := w19.eq_unread h19
  sl_exec (disch := sl_exact hc0)
  have h15' : ∀ f, m15.view.read (Elt F) (m15.view.writes (Elt F) f (p4A.sl.H15_2 c m2 w2 x2)) = (XB ZX x2) := by
    intro f
    delta p4A.sl.H15_2
    rw [upd512, upd8, XB_T8 _ (by first | rfl | (funext j; simp only [k0_pay35, Z8]; pointwise)), ldfull]
    simp only [k0_pay38, shapeCast_self]
  have hr : k0_pay40 (View.readAt (Elt F) m7.view (Rect.unit (s := S1x16x256) ![0, 0, 0] S1x1x256.size inb_S1x16x256_S1x1x256_0_0_0).toLoadRect (w7.unread x7)) (View.readAt (Elt F) m7.view (Rect.unit (s := S1x16x256) ![0, 4, 0] S1x1x256.size inb_S1x16x256_S1x1x256_0_4_0).toLoadRect (w7.unread x7)) (p4A.sl.v17 c m2 w2 m15 x2) (View.readAt (Elt F) m7.view (Rect.unit (s := S1x16x256) ![0, 5, 0] S1x1x256.size inb_S1x16x256_S1x1x256_0_5_0).toLoadRect (w7.unread x7)) (p4A.sl.v24 c m2 w2 m15 x2) = V27 (XB ZX x2) x7 := by
    delta p4A.sl.v17 p4A.sl.v24 View.readCov
    funext x
    simp (config := { index := false }) only [k0_pay40, addf, mulf, V27, brw, ld520w _ _ _ (h15' _), ix2_0, ix2_1]
  rw [hr, wp_ret]
  imodintro
  iapply HK
  isplitl [H2]; · iexists _; isplitr; swap; iexact H2; ipureintro; exact w2.read_unread _
  isplitl [H3]; · iexists _; isplitr; swap; iexact H3; ipureintro; exact w3.read_unread _
  isplitl [H4]; · iexists _; isplitr; swap; iexact H4; ipureintro; exact w4.read_unread _
  isplitl [H5]; · iexists _; isplitr; swap; iexact H5; ipureintro; exact w5.read_unread _
  isplitl [H6]; · iexists _; isplitr; swap; iexact H6; ipureintro; exact w6.read_unread _
  isplitl [H7]; · iexists _; isplitr; swap; iexact H7; ipureintro; exact w7.read_unread _
  isplitl [H8]; · iexists _; isplitr; swap; iexact H8; ipureintro; exact w8.read_unread _
  isplitl [H9]; · iexists _; isplitr; swap; iexact H9; ipureintro; exact w9.read_unread _
  isplitl [H10]; · iexists _; isplitr; swap; iexact H10; ipureintro; exact w10.read_unread _
  isplitl [H11]; · iexists _; isplitr; swap; iexact H11; ipureintro; exact w11.read_unread _
  isplitl [H12]; · iexists _; isplitr; swap; iexact H12; ipureintro; exact w12.read_unread _
  isplitl [H13]; · iexists _; isplitr; swap; iexact H13; ipureintro; exact w13.read_unread _
  isplitl [H14]; · iexists _; isplitr; swap; iexact H14; ipureintro; exact w14.read_unread _
  isplitl [H15]
  · iexists _; isplitr
    swap; · iexact H15
    ipureintro; exact h15' _
  isplitl [H16]
  · iexists _; isplitr
    swap; · iexact H16
    ipureintro; (rw [upd512, upd8, XB_T8 _ (by first | rfl | (funext j; simp only [k0_pay36, Z8]; pointwise)), ldfull, ldfull]; simp only [k0_pay39, shapeCast_self])
  isplitl [H17]; · iexists _; isplitr; swap; iexact H17; ipureintro; exact w17.read_unread _
  isplitl [H18]; · iexists _; isplitr; swap; iexact H18; ipureintro; exact w18.read_unread _
  iexists _; isplitr
  swap; · iexact H19
  ipureintro; (rw [View.read_writes_full]; first | rfl | (funext j; simp only [k0_pay37, Z8]; pointwise))

set_option maxHeartbeats 4000000 in
theorem p4B (hc0 : ¬((Scalar.cmpi .ne (Scalar.extui (Scalar.cmpi .eq (BitVec.ofNat 32 (i 1).val) 0#32)) 0#32) = 1#1)) (Q : FVec F S32x256 .f32 → sProp 𝕄) (E : Set ℕ) :
    St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 y10 y11 y12 y13 y14 (XB y15 x2) (XB y16 (mulf x5 x6)) y17 y18 y19 -∗ Q (V27 (XB y15 x2) x7))
      ⊢ (wp frame (wpE (defs₀ (F := F)) Variants.none c none) E (k0_part4 i m2 w2 m3 w3 m4 w4 m5 w5 m6 w6 m7 w7 m8 w8 m9 w9 m10 w10 m11 w11 m12 w12 m13 w13 m14 w14 m15 w15 m16 w16 m17 w17 m18 w18 m19 w19) Q : sProp 𝕄) := by
  unfold St owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩, HK⟩
  obtain rfl := w2.eq_unread h2; obtain rfl := w3.eq_unread h3; obtain rfl := w4.eq_unread h4; obtain rfl := w5.eq_unread h5; obtain rfl := w6.eq_unread h6; obtain rfl := w7.eq_unread h7; obtain rfl := w8.eq_unread h8; obtain rfl := w9.eq_unread h9; obtain rfl := w10.eq_unread h10; obtain rfl := w11.eq_unread h11; obtain rfl := w12.eq_unread h12; obtain rfl := w13.eq_unread h13; obtain rfl := w14.eq_unread h14; obtain rfl := w15.eq_unread h15; obtain rfl := w16.eq_unread h16; obtain rfl := w17.eq_unread h17; obtain rfl := w18.eq_unread h18; obtain rfl := w19.eq_unread h19
  sl_exec (disch := sl_exact hc0)
  have h15' : m15.view.read (Elt F) (m15.view.writes (Elt F) (w15.unread y15) (p4B.sl.H15_1 c m2 w2 x2)) = (XB y15 x2) := by
    delta p4B.sl.H15_1
    rw [upd512, show (m15.view.writes (Elt F) (w15.unread y15) [] : m15.view.ty.Contents (Elt F)) = w15.unread y15 from rfl, w15.read_unread, ldfull]
    simp only [k0_pay38, shapeCast_self]
  have hr : k0_pay40 (View.readAt (Elt F) m7.view (Rect.unit (s := S1x16x256) ![0, 0, 0] S1x1x256.size inb_S1x16x256_S1x1x256_0_0_0).toLoadRect (w7.unread x7)) (View.readAt (Elt F) m7.view (Rect.unit (s := S1x16x256) ![0, 4, 0] S1x1x256.size inb_S1x16x256_S1x1x256_0_4_0).toLoadRect (w7.unread x7)) (View.readAt (Elt F) m15.view (Rect.unit (s := S520x256) ![5, 0] S32x256.size inb_S520x256_S32x256_5_0).toLoadRect (m15.view.writes (Elt F) (w15.unread y15) (p4B.sl.H15_1 c m2 w2 x2))) (View.readAt (Elt F) m7.view (Rect.unit (s := S1x16x256) ![0, 5, 0] S1x1x256.size inb_S1x16x256_S1x1x256_0_5_0).toLoadRect (w7.unread x7)) (View.readAt (Elt F) m15.view (Rect.unit (s := S520x256) ![6, 0] S32x256.size inb_S520x256_S32x256_6_0).toLoadRect (m15.view.writes (Elt F) (w15.unread y15) (p4B.sl.H15_1 c m2 w2 x2))) = V27 (XB y15 x2) x7 := by

    funext x
    simp (config := { index := false }) only [k0_pay40, addf, mulf, V27, brw, ld520w _ _ _ h15', ix2_0, ix2_1]
  rw [hr, wp_ret]
  imodintro
  iapply HK
  isplitl [H2]; · iexists _; isplitr; swap; iexact H2; ipureintro; exact w2.read_unread _
  isplitl [H3]; · iexists _; isplitr; swap; iexact H3; ipureintro; exact w3.read_unread _
  isplitl [H4]; · iexists _; isplitr; swap; iexact H4; ipureintro; exact w4.read_unread _
  isplitl [H5]; · iexists _; isplitr; swap; iexact H5; ipureintro; exact w5.read_unread _
  isplitl [H6]; · iexists _; isplitr; swap; iexact H6; ipureintro; exact w6.read_unread _
  isplitl [H7]; · iexists _; isplitr; swap; iexact H7; ipureintro; exact w7.read_unread _
  isplitl [H8]; · iexists _; isplitr; swap; iexact H8; ipureintro; exact w8.read_unread _
  isplitl [H9]; · iexists _; isplitr; swap; iexact H9; ipureintro; exact w9.read_unread _
  isplitl [H10]; · iexists _; isplitr; swap; iexact H10; ipureintro; exact w10.read_unread _
  isplitl [H11]; · iexists _; isplitr; swap; iexact H11; ipureintro; exact w11.read_unread _
  isplitl [H12]; · iexists _; isplitr; swap; iexact H12; ipureintro; exact w12.read_unread _
  isplitl [H13]; · iexists _; isplitr; swap; iexact H13; ipureintro; exact w13.read_unread _
  isplitl [H14]; · iexists _; isplitr; swap; iexact H14; ipureintro; exact w14.read_unread _
  isplitl [H15]
  · iexists _; isplitr
    swap; · iexact H15
    ipureintro; exact h15'
  isplitl [H16]
  · iexists _; isplitr
    swap; · iexact H16
    ipureintro; (rw [upd512, show (m16.view.writes (Elt F) (w16.unread y16) [] : m16.view.ty.Contents (Elt F)) = w16.unread y16 from rfl, w16.read_unread, ldfull, ldfull]; simp only [k0_pay39, shapeCast_self])
  isplitl [H17]; · iexists _; isplitr; swap; iexact H17; ipureintro; exact w17.read_unread _
  isplitl [H18]; · iexists _; isplitr; swap; iexact H18; ipureintro; exact w18.read_unread _
  iexists _; isplitr
  swap; · iexact H19
  ipureintro; exact w19.read_unread _

set_option maxHeartbeats 8000000 in
theorem ph1 (K : FVec F S512x256 .bf16 → Prog (TpuEff nD τ sig (Elt F) Λ₀ .tc) (Σ' (v1914 : FVec F S32x256 .f32), Vec F S1x1x256 .f32))
    (Q : (Σ' (v1914 : FVec F S32x256 .f32), Vec F S1x1x256 .f32) → sProp 𝕄) (E : Set ℕ) :
    St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 y10 y11 (XC y15 x7) y13 y14 y15 y16 y17 y18 y19 -∗ wp frame (wpE (defs₀ (F := F)) Variants.none c none) E (K (truncf .bf16 (XC y15 x7) bitsLt_bf16_f32)) Q)
      ⊢ (wp frame (wpE (defs₀ (F := F)) Variants.none c none) E (K0 i m2 w2 m3 w3 m4 w4 m5 w5 m6 w6 m7 w7 m8 w8 m9 w9 m10 w10 m11 w11 m12 w12 m13 w13 m14 w14 m15 w15 m16 w16 m17 w17 m18 w18 m19 w19 K (V27 y15 x7)) Q : sProp 𝕄) := by
  unfold K0 St owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩, HK⟩
  obtain rfl := w2.eq_unread h2; obtain rfl := w3.eq_unread h3; obtain rfl := w4.eq_unread h4; obtain rfl := w5.eq_unread h5; obtain rfl := w6.eq_unread h6; obtain rfl := w7.eq_unread h7; obtain rfl := w8.eq_unread h8; obtain rfl := w9.eq_unread h9; obtain rfl := w10.eq_unread h10; obtain rfl := w11.eq_unread h11; obtain rfl := w12.eq_unread h12; obtain rfl := w13.eq_unread h13; obtain rfl := w14.eq_unread h14; obtain rfl := w15.eq_unread h15; obtain rfl := w16.eq_unread h16; obtain rfl := w17.eq_unread h17; obtain rfl := w18.eq_unread h18; obtain rfl := w19.eq_unread h19
  sl_exec_parts
  · have pc : ∀ p ∈ ph1.sl.H12_16 c m7 w7 m15 w15 x7 y15, ∀ x : p.1.shape.Idx, p.2 x = (XC y15 x7) (p.1.emb x) := by
      intro p hp
      delta ph1.sl.H12_1 ph1.sl.H12_10 ph1.sl.H12_11 ph1.sl.H12_12 ph1.sl.H12_13 ph1.sl.H12_15 ph1.sl.H12_16 ph1.sl.H12_2 ph1.sl.H12_3 ph1.sl.H12_5 ph1.sl.H12_6 ph1.sl.H12_7 ph1.sl.H12_8 ph1.sl.H12_9 at hp
      simp only [List.mem_cons, List.mem_singleton, List.not_mem_nil, _root_.or_false] at hp
      rcases hp with rfl | rfl | rfl | rfl | rfl | rfl | rfl | rfl | rfl | rfl | rfl | rfl | rfl | rfl | rfl | rfl <;>
      · intro x
        change S32x256.Idx at x
        try delta ph1.sl.r ph1.sl.r_1 ph1.sl.r_10 ph1.sl.r_11 ph1.sl.r_12 ph1.sl.r_13 ph1.sl.r_14 ph1.sl.r_15 ph1.sl.r_16 ph1.sl.r_17 ph1.sl.r_18 ph1.sl.r_19 ph1.sl.r_2 ph1.sl.r_20 ph1.sl.r_21 ph1.sl.r_3 ph1.sl.r_4 ph1.sl.r_5 ph1.sl.r_6 ph1.sl.r_7 ph1.sl.r_8 ph1.sl.r_9 ph1.sl.v461
        simp (config := { index := false }) only [k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, addf, mulf, subf, divf, truncf, tanh, exp, sqrt, constant, XC, V27, brw, ld520, emb32_0, emb32_1, ix2_0, ix2_1, ← Nat.add_assoc, Nat.reduceAdd]
    have cv : ∀ f, m12.view.read (Elt F) (m12.view.writes (Elt F) f (ph1.sl.H12_16 c m7 w7 m15 w15 x7 y15)) = (XC y15 x7) := by
      intro f; funext j
      exact m12.view.read_writes_apply_of_pieces f (XC y15 x7) _ pc j (View.cover_of_tiledL (s := S512x256) _ ![32, 256] (by sl_kernel_rfl) j)
    have rr : ph1.sl.r_21 c m7 w7 m12 m15 w15 x7 y15 = truncf .bf16 (XC y15 x7) bitsLt_bf16_f32 := by
      delta ph1.sl.r_21 ph1.sl.v461 k0_pay74
      rw [ldcov m12 _ _ cv]
      dsimp only; rw [shapeCast_self]
    rw [rr]
    iapply HK
    isplitl [H2]
    · iexists _; isplitr
      swap; · iexact H2
      ipureintro; exact w2.read_unread _
    isplitl [H3]
    · iexists _; isplitr
      swap; · iexact H3
      ipureintro; exact w3.read_unread _
    isplitl [H4]
    · iexists _; isplitr
      swap; · iexact H4
      ipureintro; exact w4.read_unread _
    isplitl [H5]
    · iexists _; isplitr
      swap; · iexact H5
      ipureintro; exact w5.read_unread _
    isplitl [H6]
    · iexists _; isplitr
      swap; · iexact H6
      ipureintro; exact w6.read_unread _
    isplitl [H7]
    · iexists _; isplitr
      swap; · iexact H7
      ipureintro; exact w7.read_unread _
    isplitl [H8]
    · iexists _; isplitr
      swap; · iexact H8
      ipureintro; exact w8.read_unread _
    isplitl [H9]
    · iexists _; isplitr
      swap; · iexact H9
      ipureintro; exact w9.read_unread _
    isplitl [H10]
    · iexists _; isplitr
      swap; · iexact H10
      ipureintro; exact w10.read_unread _
    isplitl [H11]
    · iexists _; isplitr
      swap; · iexact H11
      ipureintro; exact w11.read_unread _
    isplitl [H12]
    · iexists _; isplitr
      swap; · iexact H12
      ipureintro; exact cv _
    isplitl [H13]
    · iexists _; isplitr
      swap; · iexact H13
      ipureintro; exact w13.read_unread _
    isplitl [H14]
    · iexists _; isplitr
      swap; · iexact H14
      ipureintro; exact w14.read_unread _
    isplitl [H15]
    · iexists _; isplitr
      swap; · iexact H15
      ipureintro; exact w15.read_unread _
    isplitl [H16]
    · iexists _; isplitr
      swap; · iexact H16
      ipureintro; exact w16.read_unread _
    isplitl [H17]
    · iexists _; isplitr
      swap; · iexact H17
      ipureintro; exact w17.read_unread _
    isplitl [H18]
    · iexists _; isplitr
      swap; · iexact H18
      ipureintro; exact w18.read_unread _
    iexists _; isplitr
    swap; · iexact H19
    ipureintro; exact w19.read_unread _

set_option maxHeartbeats 16000000 in
theorem ph3 (Q : PUnit → sProp 𝕄) (E : Set ℕ) :
    St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 (PA x3 y13) (PB x4 y16 x7) y12 y13 (VB y16 x7) (HT y15) (HT y16) y17 y18 y19 -∗ Q ⟨⟩)
      ⊢ (wp frame (wpE (defs₀ (F := F)) Variants.none c none) E (K2 i m2 w2 m3 w3 m4 w4 m5 w5 m6 w6 m7 w7 m8 w8 m9 w9 m10 w10 m11 w11 m12 w12 m13 w13 m14 w14 m15 w15 m16 w16 m17 w17 m18 w18 m19 w19 (BLK x3) (k0_pay170 (BLK x3)) >>= K3 m4 m7 m11 w11 m14 m15 m16) Q : sProp 𝕄) := by
  unfold K2 K3 St owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩, HK⟩
  obtain rfl := w2.eq_unread h2; obtain rfl := w3.eq_unread h3; obtain rfl := w4.eq_unread h4; obtain rfl := w5.eq_unread h5; obtain rfl := w6.eq_unread h6; obtain rfl := w7.eq_unread h7; obtain rfl := w8.eq_unread h8; obtain rfl := w9.eq_unread h9; obtain rfl := w10.eq_unread h10; obtain rfl := w11.eq_unread h11; obtain rfl := w12.eq_unread h12; obtain rfl := w13.eq_unread h13; obtain rfl := w14.eq_unread h14; obtain rfl := w15.eq_unread h15; obtain rfl := w16.eq_unread h16; obtain rfl := w17.eq_unread h17; obtain rfl := w18.eq_unread h18; obtain rfl := w19.eq_unread h19
  sl_exec_parts
  rw [wp_ret]
  imodintro
  iapply HK
  isplitl [H2]; · iexists _; isplitr; swap; iexact H2; ipureintro; exact w2.read_unread _
  isplitl [H3]; · iexists _; isplitr; swap; iexact H3; ipureintro; exact w3.read_unread _
  isplitl [H4]; · iexists _; isplitr; swap; iexact H4; ipureintro; exact w4.read_unread _
  isplitl [H5]; · iexists _; isplitr; swap; iexact H5; ipureintro; exact w5.read_unread _
  isplitl [H6]; · iexists _; isplitr; swap; iexact H6; ipureintro; exact w6.read_unread _
  isplitl [H7]; · iexists _; isplitr; swap; iexact H7; ipureintro; exact w7.read_unread _
  isplitl [H8]; · iexists _; isplitr; swap; iexact H8; ipureintro; exact w8.read_unread _
  isplitl [H9]; · iexists _; isplitr; swap; iexact H9; ipureintro; exact w9.read_unread _
  isplitl [H10]
  · iexists _; isplitr
    swap; · iexact H10
    ipureintro; (
        funext j
        refine m10.view.read_writes_apply_of_pieces _ (PA x3 y13) _ ?_ j ?_
        · intro p hp
          rw [List.mem_cons] at hp
          delta ph3.sl.H10_1 ph3.sl.H10_10 ph3.sl.H10_11 ph3.sl.H10_12 ph3.sl.H10_13 ph3.sl.H10_14 ph3.sl.H10_15 ph3.sl.H10_2 ph3.sl.H10_3 ph3.sl.H10_4 ph3.sl.H10_5 ph3.sl.H10_6 ph3.sl.H10_7 ph3.sl.H10_8 ph3.sl.H10_9 at hp
          simp only [List.mem_cons, List.mem_singleton, List.not_mem_nil, _root_.or_false] at hp
          rcases hp with rfl | rfl | rfl | rfl | rfl | rfl | rfl | rfl | rfl | rfl | rfl | rfl | rfl | rfl | rfl | rfl <;>
          · intro x
            change S32x256.Idx at x
            try delta ph3.sl.cst_1055 ph3.sl.r ph3.sl.r_1 ph3.sl.r_10 ph3.sl.r_11 ph3.sl.r_12 ph3.sl.r_13 ph3.sl.r_14 ph3.sl.r_15 ph3.sl.r_16 ph3.sl.r_17 ph3.sl.r_18 ph3.sl.r_19 ph3.sl.r_2 ph3.sl.r_20 ph3.sl.r_21 ph3.sl.r_22 ph3.sl.r_23 ph3.sl.r_24 ph3.sl.r_3 ph3.sl.r_4 ph3.sl.r_5 ph3.sl.r_6 ph3.sl.r_7 ph3.sl.r_8 ph3.sl.r_9
            simp (config := { index := false }) only [k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay1, k0_pay2, k0_pay170, k0_pay3, k0_pay4, addf, mulf, truncf, tanh, broadcast, shapeCast_self, BLK, cc, PA, brw, ld520, ld512, emb32_0, emb32_1, emb32, ix2_0, ix2_1, ← Nat.add_assoc, Nat.reduceAdd]
            all_goals rfl
        · exact View.cover_of_tiledL (s := S512x256) _ ![32, 256] (by sl_kernel_rfl) j)
  isplitl [H11]
  · iexists _; isplitr
    swap; · iexact H11
    ipureintro; (
        funext j
        refine m11.view.read_writes_apply_of_pieces _ (PB x4 y16 x7) _ ?_ j ?_
        · intro p hp
          rw [List.mem_cons] at hp
          delta ph3.sl.H11_1 ph3.sl.H11_10 ph3.sl.H11_11 ph3.sl.H11_12 ph3.sl.H11_13 ph3.sl.H11_14 ph3.sl.H11_2 ph3.sl.H11_3 ph3.sl.H11_4 ph3.sl.H11_5 ph3.sl.H11_6 ph3.sl.H11_7 ph3.sl.H11_8 ph3.sl.H11_9 at hp
          simp only [List.mem_cons, List.mem_singleton, List.not_mem_nil, _root_.or_false] at hp
          rcases hp with rfl | rfl | rfl | rfl | rfl | rfl | rfl | rfl | rfl | rfl | rfl | rfl | rfl | rfl | rfl | rfl <;>
          · intro x
            change S32x256.Idx at x
            try delta ph3.sl.cst_1055 ph3.sl.r ph3.sl.r_1 ph3.sl.r_10 ph3.sl.r_11 ph3.sl.r_12 ph3.sl.r_13 ph3.sl.r_14 ph3.sl.r_15 ph3.sl.r_16 ph3.sl.r_17 ph3.sl.r_18 ph3.sl.r_19 ph3.sl.r_2 ph3.sl.r_20 ph3.sl.r_21 ph3.sl.r_22 ph3.sl.r_23 ph3.sl.r_24 ph3.sl.r_3 ph3.sl.r_4 ph3.sl.r_5 ph3.sl.r_6 ph3.sl.r_7 ph3.sl.r_8 ph3.sl.r_9
            simp (config := { index := false }) only [k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay1, k0_pay2, k0_pay170, k0_pay3, k0_pay4, addf, mulf, truncf, tanh, broadcast, shapeCast_self, BLK, cc, PB, VB, brw, ld520, ld512, emb32_0, emb32_1, emb32, ix2_0, ix2_1, ← Nat.add_assoc, Nat.reduceAdd]
            all_goals rfl
        · exact View.cover_of_tiledL (s := S512x256) _ ![32, 256] (by sl_kernel_rfl) j)
  isplitl [H12]; · iexists _; isplitr; swap; iexact H12; ipureintro; exact w12.read_unread _
  isplitl [H13]; · iexists _; isplitr; swap; iexact H13; ipureintro; exact w13.read_unread _
  isplitl [H14]
  · iexists _; isplitr
    swap; · iexact H14
    ipureintro; (
        funext j
        refine m14.view.read_writes_apply_of_pieces _ (VB y16 x7) _ ?_ j ?_
        · intro p hp
          rw [List.mem_cons] at hp
          delta ph3.sl.H14_1 ph3.sl.H14_10 ph3.sl.H14_11 ph3.sl.H14_12 ph3.sl.H14_13 ph3.sl.H14_14 ph3.sl.H14_2 ph3.sl.H14_3 ph3.sl.H14_4 ph3.sl.H14_5 ph3.sl.H14_6 ph3.sl.H14_7 ph3.sl.H14_8 ph3.sl.H14_9 at hp
          simp only [List.mem_cons, List.mem_singleton, List.not_mem_nil, _root_.or_false] at hp
          rcases hp with rfl | rfl | rfl | rfl | rfl | rfl | rfl | rfl | rfl | rfl | rfl | rfl | rfl | rfl | rfl | rfl <;>
          · intro x
            change S32x256.Idx at x
            try delta ph3.sl.cst_1055 ph3.sl.r ph3.sl.r_1 ph3.sl.r_10 ph3.sl.r_11 ph3.sl.r_12 ph3.sl.r_13 ph3.sl.r_14 ph3.sl.r_15 ph3.sl.r_16 ph3.sl.r_17 ph3.sl.r_18 ph3.sl.r_19 ph3.sl.r_2 ph3.sl.r_20 ph3.sl.r_21 ph3.sl.r_22 ph3.sl.r_23 ph3.sl.r_24 ph3.sl.r_3 ph3.sl.r_4 ph3.sl.r_5 ph3.sl.r_6 ph3.sl.r_7 ph3.sl.r_8 ph3.sl.r_9
            simp (config := { index := false }) only [k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay1, k0_pay2, k0_pay170, k0_pay3, k0_pay4, addf, mulf, truncf, tanh, broadcast, shapeCast_self, BLK, cc, VB, brw, ld520, ld512, emb32_0, emb32_1, emb32, ix2_0, ix2_1, ← Nat.add_assoc, Nat.reduceAdd]
            all_goals rfl
        · exact View.cover_of_tiledL (s := S512x256) _ ![32, 256] (by sl_kernel_rfl) j)
  isplitl [H15]
  · iexists _; isplitr
    swap; · iexact H15
    ipureintro; (rw [upd8, show (m15.view.writes (Elt F) (w15.unread y15) [] : m15.view.ty.Contents (Elt F)) = w15.unread y15 from rfl, w15.read_unread, ldtop]; simp only [k0_pay3, shapeCast_self, HT])
  isplitl [H16]
  · iexists _; isplitr
    swap; · iexact H16
    ipureintro; (rw [upd8, show (m16.view.writes (Elt F) (w16.unread y16) [] : m16.view.ty.Contents (Elt F)) = w16.unread y16 from rfl, w16.read_unread, ldtop]; simp only [k0_pay4, shapeCast_self, HT])
  isplitl [H17]; · iexists _; isplitr; swap; iexact H17; ipureintro; exact w17.read_unread _
  isplitl [H18]; · iexists _; isplitr; swap; iexact H18; ipureintro; exact w18.read_unread _
  iexists _; isplitr
  swap; · iexact H19
  ipureintro; exact w19.read_unread _

end Cert.MixFIdeal.Hand
-- ==== Proof.MixFIdeal.Loop.lean ====
module

public import proofs.«01_k».proof.Proof.MixFIdeal.Base

@[expose] public section

set_option maxRecDepth 16384

noncomputable section

namespace Cert.MixFIdeal.Hand

open Cert.MixFIdeal Cert.MixFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (m2 : Memref sig .tc .vmem S512x256 .f32) (w2 : m2.IsWhole) (m3 : Memref sig .tc .vmem S512x256 .f32) (w3 : m3.IsWhole) (m4 : Memref sig .tc .vmem S512x256 .f32) (w4 : m4.IsWhole) (m5 : Memref sig .tc .vmem S512x256 .f32) (w5 : m5.IsWhole) (m6 : Memref sig .tc .vmem S512x256 .f32) (w6 : m6.IsWhole) (m7 : Memref sig .tc .vmem S1x16x256 .f32) (w7 : m7.IsWhole) (m8 : Memref sig .tc .vmem S1x1x256x256 .bf16) (w8 : m8.IsWhole) (m9 : Memref sig .tc .vmem S1x1x256x256 .bf16) (w9 : m9.IsWhole) (m10 : Memref sig .tc .vmem S512x256 .bf16) (w10 : m10.IsWhole) (m11 : Memref sig .tc .vmem S512x256 .bf16) (w11 : m11.IsWhole) (m12 : Memref sig .tc .vmem S512x256 .f32) (w12 : m12.IsWhole) (m13 : Memref sig .tc .vmem S512x256 .f32) (w13 : m13.IsWhole) (m14 : Memref sig .tc .vmem S512x256 .f32) (w14 : m14.IsWhole) (m15 : Memref sig .tc .vmem S520x256 .f32) (w15 : m15.IsWhole) (m16 : Memref sig .tc .vmem S520x256 .f32) (w16 : m16.IsWhole) (m17 : Memref sig .tc .vmem S512x256 .f32) (w17 : m17.IsWhole) (m18 : Memref sig .tc .vmem S512x256 .f32) (w18 : m18.IsWhole) (m19 : Memref sig .tc .vmem S8x256 .f32) (w19 : m19.IsWhole)

theorem tripR_eq (v500 : FVec F S1x256 .f32) (v1202 : FVec F S32x256 .f32) (v1214 : FVec F S32x256 .f32) (v1215 : FVec F S32x256 .f32) (X17 : BufTy.Contents (Elt F) m17.view.ty) (X18 : BufTy.Contents (Elt F) m18.view.ty) (k : Fin k0_t1_loop.trips) (acc : Vec F S8x256 .f32) :
    tripR_k0_t1 Variants.none c none i m2 w2 m3 w3 m4 w4 m5 w5 m6 w6 m7 w7 m8 w8 m9 w9 m10 w10 m11 w11 m12 w12 m13 w13 m14 w14 m15 w15 m16 w16 m17 w17 m18 w18 m19 w19 v500 v1202 v1214 v1215 IO X17 X18 k acc = row7 (stepH (View.readAt (Elt F) m17.view (Rect.unit (s := S512x256) (k0_off1 k 24#32) S8x256.size (k0_off1_inb k 3)).toLoadRect X17) (View.readAt (Elt F) m18.view (Rect.unit (s := S512x256) (k0_off1 k 24#32) S8x256.size (k0_off1_inb k 3)).toLoadRect X18) (row7 (stepH (View.readAt (Elt F) m17.view (Rect.unit (s := S512x256) (k0_off1 k 16#32) S8x256.size (k0_off1_inb k 2)).toLoadRect X17) (View.readAt (Elt F) m18.view (Rect.unit (s := S512x256) (k0_off1 k 16#32) S8x256.size (k0_off1_inb k 2)).toLoadRect X18) (row7 (stepH (View.readAt (Elt F) m17.view (Rect.unit (s := S512x256) (k0_off1 k 8#32) S8x256.size (k0_off1_inb k 1)).toLoadRect X17) (View.readAt (Elt F) m18.view (Rect.unit (s := S512x256) (k0_off1 k 8#32) S8x256.size (k0_off1_inb k 1)).toLoadRect X18) (row7 (stepH (View.readAt (Elt F) m17.view (Rect.unit (s := S512x256) (k0_off1 k 0#32) S8x256.size (k0_off1_inb k 0)).toLoadRect X17) (View.readAt (Elt F) m18.view (Rect.unit (s := S512x256) (k0_off1 k 0#32) S8x256.size (k0_off1_inb k 0)).toLoadRect X18) acc))))))) := by
  unfold tripR_k0_t1 trip_k0_t1
  rfl

theorem tripL_eq (v500 : FVec F S1x256 .f32) (v1202 : FVec F S32x256 .f32) (v1214 : FVec F S32x256 .f32) (v1215 : FVec F S32x256 .f32) (X17 : BufTy.Contents (Elt F) m17.view.ty) (X18 : BufTy.Contents (Elt F) m18.view.ty) (k : Fin k0_t1_loop.trips) (acc : Vec F S8x256 .f32) :
    tripL_k0_t1 Variants.none c none i m2 w2 m3 w3 m4 w4 m5 w5 m6 w6 m7 w7 m8 w8 m9 w9 m10 w10 m11 w11 m12 w12 m13 w13 m14 w14 m15 w15 m16 w16 m17 w17 m18 w18 m19 w19 v500 v1202 v1214 v1215 IO X17 X18 k acc = [⟨Rect.unit (s := S512x256) (k0_off1 k 24#32) S8x256.size (k0_off1_inb k 3), (stepH (View.readAt (Elt F) m17.view (Rect.unit (s := S512x256) (k0_off1 k 24#32) S8x256.size (k0_off1_inb k 3)).toLoadRect X17) (View.readAt (Elt F) m18.view (Rect.unit (s := S512x256) (k0_off1 k 24#32) S8x256.size (k0_off1_inb k 3)).toLoadRect X18) (row7 (stepH (View.readAt (Elt F) m17.view (Rect.unit (s := S512x256) (k0_off1 k 16#32) S8x256.size (k0_off1_inb k 2)).toLoadRect X17) (View.readAt (Elt F) m18.view (Rect.unit (s := S512x256) (k0_off1 k 16#32) S8x256.size (k0_off1_inb k 2)).toLoadRect X18) (row7 (stepH (View.readAt (Elt F) m17.view (Rect.unit (s := S512x256) (k0_off1 k 8#32) S8x256.size (k0_off1_inb k 1)).toLoadRect X17) (View.readAt (Elt F) m18.view (Rect.unit (s := S512x256) (k0_off1 k 8#32) S8x256.size (k0_off1_inb k 1)).toLoadRect X18) (row7 (stepH (View.readAt (Elt F) m17.view (Rect.unit (s := S512x256) (k0_off1 k 0#32) S8x256.size (k0_off1_inb k 0)).toLoadRect X17) (View.readAt (Elt F) m18.view (Rect.unit (s := S512x256) (k0_off1 k 0#32) S8x256.size (k0_off1_inb k 0)).toLoadRect X18) acc)))))))⟩, ⟨Rect.unit (s := S512x256) (k0_off1 k 16#32) S8x256.size (k0_off1_inb k 2), (stepH (View.readAt (Elt F) m17.view (Rect.unit (s := S512x256) (k0_off1 k 16#32) S8x256.size (k0_off1_inb k 2)).toLoadRect X17) (View.readAt (Elt F) m18.view (Rect.unit (s := S512x256) (k0_off1 k 16#32) S8x256.size (k0_off1_inb k 2)).toLoadRect X18) (row7 (stepH (View.readAt (Elt F) m17.view (Rect.unit (s := S512x256) (k0_off1 k 8#32) S8x256.size (k0_off1_inb k 1)).toLoadRect X17) (View.readAt (Elt F) m18.view (Rect.unit (s := S512x256) (k0_off1 k 8#32) S8x256.size (k0_off1_inb k 1)).toLoadRect X18) (row7 (stepH (View.readAt (Elt F) m17.view (Rect.unit (s := S512x256) (k0_off1 k 0#32) S8x256.size (k0_off1_inb k 0)).toLoadRect X17) (View.readAt (Elt F) m18.view (Rect.unit (s := S512x256) (k0_off1 k 0#32) S8x256.size (k0_off1_inb k 0)).toLoadRect X18) acc)))))⟩, ⟨Rect.unit (s := S512x256) (k0_off1 k 8#32) S8x256.size (k0_off1_inb k 1), (stepH (View.readAt (Elt F) m17.view (Rect.unit (s := S512x256) (k0_off1 k 8#32) S8x256.size (k0_off1_inb k 1)).toLoadRect X17) (View.readAt (Elt F) m18.view (Rect.unit (s := S512x256) (k0_off1 k 8#32) S8x256.size (k0_off1_inb k 1)).toLoadRect X18) (row7 (stepH (View.readAt (Elt F) m17.view (Rect.unit (s := S512x256) (k0_off1 k 0#32) S8x256.size (k0_off1_inb k 0)).toLoadRect X17) (View.readAt (Elt F) m18.view (Rect.unit (s := S512x256) (k0_off1 k 0#32) S8x256.size (k0_off1_inb k 0)).toLoadRect X18) acc)))⟩, ⟨Rect.unit (s := S512x256) (k0_off1 k 0#32) S8x256.size (k0_off1_inb k 0), (stepH (View.readAt (Elt F) m17.view (Rect.unit (s := S512x256) (k0_off1 k 0#32) S8x256.size (k0_off1_inb k 0)).toLoadRect X17) (View.readAt (Elt F) m18.view (Rect.unit (s := S512x256) (k0_off1 k 0#32) S8x256.size (k0_off1_inb k 0)).toLoadRect X18) acc)⟩] := by
  unfold tripL_k0_t1 trip_k0_t1
  rfl

omit [FloatOps F] in
theorem tlA (m : Memref sig .tc .vmem S512x256 .f32) (X : BufTy.Contents (Elt F) m.view.ty) (A : Vec F S512x256 .f32)
    (hA : m.view.read (Elt F) X = A) (k : Fin k0_t1_loop.trips) (r : Fin 4) :
    View.readAt (Elt F) m.view (Rect.unit (s := S512x256) (k0_off1 k (BitVec.ofNat 32 (8 * r.val))) S8x256.size (k0_off1_inb k r)).toLoadRect X
      = tl A (4 * k.val + r.val) := by
  have hk : k.val < 16 := Nat.lt_of_lt_of_le k.isLt k0_t1_abs.2.1
  have hr : r.val < 4 := r.isLt
  funext x
  have hx : (x 0).val < 8 := (x 0).isLt
  rw [View.readAt_apply, hA]
  unfold tl
  congr 1
  funext a
  fin_cases a <;> apply Fin.ext <;> simp [Rect.unit, Rect.toLoadRect, LoadRect.idx, k0_off1_eq]
  omega

theorem hlA (A B : Vec F S512x256 .f32) (s : Vec F S8x256 .f32) (k : Fin k0_t1_loop.trips) (r : Fin 4) (x : S8x256.Idx) :
    stepH (tl A (4 * k.val + r.val)) (tl B (4 * k.val + r.val)) (car A B s (4 * k.val + r.val)) x
      = HL A B s ((Rect.unit (s := S512x256) (k0_off1 k (BitVec.ofNat 32 (8 * r.val))) S8x256.size (k0_off1_inb k r)).emb x) := by
  have hx : (x 0).val < 8 := (x 0).isLt
  have e0 : ((Rect.unit (s := S512x256) (k0_off1 k (BitVec.ofNat 32 (8 * r.val))) S8x256.size (k0_off1_inb k r)).emb x 0).val
      = 8 * (4 * k.val + r.val) + (x 0).val := by
    simp [Rect.unit, Rect.emb, k0_off1_eq]; omega
  have e1 : (Rect.unit (s := S512x256) (k0_off1 k (BitVec.ofNat 32 (8 * r.val))) S8x256.size (k0_off1_inb k r)).emb x 1 = x 1 := by
    apply Fin.ext; simp [Rect.unit, Rect.emb, k0_off1_eq]
  have d : (8 * (4 * k.val + r.val) + (x 0).val) / 8 = 4 * k.val + r.val := by omega
  have m : (8 * (4 * k.val + r.val) + (x 0).val) % 8 = (x 0).val := by omega
  unfold HL
  simp only [e0, e1, d, m]
  congr 1
  funext a
  fin_cases a <;> rfl

theorem st_eq (v500 : FVec F S1x256 .f32) (v1202 : FVec F S32x256 .f32) (v1214 : FVec F S32x256 .f32) (v1215 : FVec F S32x256 .f32) (X17 : BufTy.Contents (Elt F) m17.view.ty) (X18 : BufTy.Contents (Elt F) m18.view.ty) (A B : Vec F S512x256 .f32)
    (h17 : m17.view.read (Elt F) X17 = A) (h18 : m18.view.read (Elt F) X18 = B) (s : Vec F S8x256 .f32) (n : ℕ) (hn : n ≤ 16) :
    (st_k0_t1 Variants.none c none i m2 w2 m3 w3 m4 w4 m5 w5 m6 w6 m7 w7 m8 w8 m9 w9 m10 w10 m11 w11 m12 w12 m13 w13 m14 w14 m15 w15 m16 w16 m17 w17 m18 w18 m19 w19 v500 v1202 v1214 v1215 IO X17 X18 s n).1 = car A B s (4 * n)
      ∧ (∀ p ∈ (st_k0_t1 Variants.none c none i m2 w2 m3 w3 m4 w4 m5 w5 m6 w6 m7 w7 m8 w8 m9 w9 m10 w10 m11 w11 m12 w12 m13 w13 m14 w14 m15 w15 m16 w16 m17 w17 m18 w18 m19 w19 v500 v1202 v1214 v1215 IO X17 X18 s n).2, ∀ x : p.1.shape.Idx, p.2 x = HL A B s (p.1.emb x))
      ∧ (∀ j : S512x256.Idx, (j 0).val < 32 * n → ∃ p ∈ (st_k0_t1 Variants.none c none i m2 w2 m3 w3 m4 w4 m5 w5 m6 w6 m7 w7 m8 w8 m9 w9 m10 w10 m11 w11 m12 w12 m13 w13 m14 w14 m15 w15 m16 w16 m17 w17 m18 w18 m19 w19 v500 v1202 v1214 v1215 IO X17 X18 s n).2, j ∈ p.1.set) := by
  induction n with
  | zero => exact ⟨rfl, fun p hp => absurd hp List.not_mem_nil, fun j hj => absurd hj (by omega)⟩
  | succ n ih =>
    obtain ⟨i1, i2, i3⟩ := ih (by omega)
    have ht : n < k0_t1_loop.trips := by have : k0_t1_loop.trips = 16 := rfl; omega
    have a0 := tlA m17 X17 A h17 ⟨n, ht⟩ 0
    have a1 := tlA m17 X17 A h17 ⟨n, ht⟩ 1
    have a2 := tlA m17 X17 A h17 ⟨n, ht⟩ 2
    have a3 := tlA m17 X17 A h17 ⟨n, ht⟩ 3
    have b0 := tlA m18 X18 B h18 ⟨n, ht⟩ 0
    have b1 := tlA m18 X18 B h18 ⟨n, ht⟩ 1
    have b2 := tlA m18 X18 B h18 ⟨n, ht⟩ 2
    have b3 := tlA m18 X18 B h18 ⟨n, ht⟩ 3
    have g0 := hlA A B s ⟨n, ht⟩ 0
    have g1 := hlA A B s ⟨n, ht⟩ 1
    have g2 := hlA A B s ⟨n, ht⟩ 2
    have g3 := hlA A B s ⟨n, ht⟩ 3
    have e := st_k0_t1_succ Variants.none c none i m2 w2 m3 w3 m4 w4 m5 w5 m6 w6 m7 w7 m8 w8 m9 w9 m10 w10 m11 w11 m12 w12 m13 w13 m14 w14 m15 w15 m16 w16 m17 w17 m18 w18 m19 w19 v500 v1202 v1214 v1215 IO X17 X18 s ⟨n, ht⟩
    rw [tripR_eq, tripL_eq] at e
    dsimp only at e i1
    rw [i1] at e
    erw [a0, a1, a2, a3, b0, b1, b2, b3] at e
    rw [e]
    refine ⟨rfl, ?_, ?_⟩
    · intro p hp
      simp only [List.mem_append, List.mem_cons, List.not_mem_nil, _root_.or_false] at hp
      rcases hp with (rfl | rfl | rfl | rfl) | hp
      · exact g3
      · exact g2
      · exact g1
      · exact g0
      · exact i2 p hp
    · intro j hj
      by_cases h : (j 0).val < 32 * n
      · obtain ⟨p, hp, hm⟩ := i3 j h
        exact ⟨p, List.mem_append_right _ hp, hm⟩
      · have hj1 : (j 1).val < 256 := (j 1).isLt
        have key : ∀ r : Fin 4, 32 * n + 8 * r.val ≤ (j 0).val → (j 0).val < 32 * n + 8 * r.val + 8 →
            j ∈ (Rect.unit (s := S512x256) (k0_off1 ⟨n, ht⟩ (BitVec.ofNat 32 (8 * r.val))) S8x256.size (k0_off1_inb ⟨n, ht⟩ r)).set := by
          intro r h1 h2
          rw [← Rect.map_emb_univ, Finset.mem_map]
          refine ⟨ix2 ⟨(j 0).val - (32 * n + 8 * r.val), by omega⟩ (j 1), Finset.mem_univ _, ?_⟩
          funext a
          fin_cases a <;> apply Fin.ext <;> simp [Rect.unit, Rect.emb, k0_off1_eq]
          omega
        have hq : (j 0).val < 32 * n + 8 ∨ (32 * n + 8 ≤ (j 0).val ∧ (j 0).val < 32 * n + 16) ∨ (32 * n + 16 ≤ (j 0).val ∧ (j 0).val < 32 * n + 24) ∨ 32 * n + 24 ≤ (j 0).val := by omega
        rcases hq with hq | hq | hq | hq
        · exact ⟨_, List.mem_append_left _ (List.mem_cons_of_mem _ (List.mem_cons_of_mem _ (List.mem_cons_of_mem _ List.mem_cons_self))), key 0 (by simp; omega) (by simp; omega)⟩
        · exact ⟨_, List.mem_append_left _ (List.mem_cons_of_mem _ (List.mem_cons_of_mem _ List.mem_cons_self)), key 1 (by simp; omega) (by simp; omega)⟩
        · exact ⟨_, List.mem_append_left _ (List.mem_cons_of_mem _ List.mem_cons_self), key 2 (by simp; omega) (by simp; omega)⟩
        · exact ⟨_, List.mem_append_left _ List.mem_cons_self, key 3 (by simp; omega) (by simp; omega)⟩

end Cert.MixFIdeal.Hand
-- ==== Proof.MixFIdeal.Ph2.lean ====
module

public import Idealize.ShloMosaic.Lib.Pipeline.RowLoads
public import proofs.«01_k».proof.Proof.MixFIdeal.Loop

@[expose] public section

set_option maxRecDepth 16384

noncomputable section

namespace Cert.MixFIdeal.Hand

open Cert.MixFIdeal Cert.MixFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem rcfull (m : Memref sig .tc .vmem S512x256 .f32) (w : Vec F S512x256 .f32) (o : ℕ)
    (hb : ∀ a, ![0, 0] a + S512x256.size a ≤ S512x256.size a)
    (hb' : ∀ a, ![o, 0] a + S32x256.size a ≤ S512x256.size a) (x : S32x256.Idx) :
    m.view.readCov (Val := Elt F) [⟨Rect.unit (s := S512x256) ![0, 0] S512x256.size hb, w⟩] (Rect.unit (s := S512x256) ![o, 0] S32x256.size hb').toLoadRect x
      = w (ix2 ⟨o + (x 0).val, by have := hb' 0; have h2 : (x 0).val < 32 := (x 0).isLt; simp at this; omega⟩ (x 1)) := by
  unfold View.readCov
  rw [View.readAt_apply, View.read_writes_full]
  congr 1
  funext a
  fin_cases a <;> apply Fin.ext <;> simp [Rect.unit, Rect.toLoadRect, LoadRect.idx]

theorem rcskip (m : Memref sig .tc .vmem S512x256 .f32) (o o' : ℕ) (h : o + 32 ≤ o')
    (w : Vec F S32x256 .f32) (L : List (View.Piece (Elt F) S512x256 .f32))
    (hb : ∀ a, ![o, 0] a + S32x256.size a ≤ S512x256.size a)
    (hb' : ∀ a, ![o', 0] a + S32x256.size a ≤ S512x256.size a) :
    m.view.readCov (⟨Rect.unit (s := S512x256) ![o, 0] S32x256.size hb, w⟩ :: L) (Rect.unit (s := S512x256) ![o', 0] S32x256.size hb').toLoadRect
      = m.view.readCov L (Rect.unit (s := S512x256) ![o', 0] S32x256.size hb').toLoadRect :=
  View.readCov_cons_of_rows_disjoint m.view o o' (Or.inl h) w L hb hb'

theorem wdrop (m : Memref sig .tc .vmem S512x256 .f32) (f : m.view.ty.Contents (Elt F)) (n : ℕ) (L : List (View.Piece (Elt F) S512x256 .f32)) :
    m.view.writes (Elt F) f L = m.view.writes (Elt F) (m.view.writes (Elt F) f (L.drop n)) (L.take n) := by
  rw [← View.writes_append, List.take_append_drop]

theorem b1 (v : Vec F S1x256 .f32) (x : S32x256.Idx) :
    broadcastTo S32x256 v broadcasts_S1x256_S32x256 x = v (ix2 0 (x 1)) := by
  pointwise

theorem s1 (v : Vec F S1x1x256 .f32) (q : Fin 256) :
    shapeCast S1x256 v shapeCasts_S1x1x256_S1x256 (ix2 0 q) = v (ix3 0 0 q) := by
  pointwise

theorem bsp (m : Memref sig .tc .vmem S1x16x256 .f32) (h : m.IsWhole) (y : Vec F S1x16x256 .f32)
    (hb : ∀ a, ![0, 3, 0] a + S1x1x256.size a ≤ S1x16x256.size a) (x : S32x256.Idx) :
    broadcastTo S32x256 (k0_pay80
      (k0_pay78 (View.readAt (Elt F) m.view (Rect.unit (s := S1x16x256) ![0, 3, 0] S1x1x256.size hb).toLoadRect (h.unread y)))
      (k0_pay79 (View.readAt (Elt F) m.view (Rect.unit (s := S1x16x256) ![0, 3, 0] S1x1x256.size hb).toLoadRect (h.unread y)))
      (FloatOps.ofBits .f32 0x00000000#32)) broadcasts_S1x256_S32x256 x = SP y (x 1) := by
  rw [b1]
  exact congrArg spl ((s1 _ _).trans (ldrow m h y 3 hb (x 1)))

/-- Thirty-two rows of a block. -/
def bl (G : Vec F S512x256 .f32) (o : ℕ) (h : o + 32 ≤ 512) (x : S32x256.Idx) : F .f32 :=
  G (ix2 ⟨o + (x 0).val, by have h2 : (x 0).val < 32 := (x 0).isLt; omega⟩ (x 1))

variable (c : Dev nD) (i : grid0.Coords) (m2 : Memref sig .tc .vmem S512x256 .f32) (w2 : m2.IsWhole) (m3 : Memref sig .tc .vmem S512x256 .f32) (w3 : m3.IsWhole) (m4 : Memref sig .tc .vmem S512x256 .f32) (w4 : m4.IsWhole) (m5 : Memref sig .tc .vmem S512x256 .f32) (w5 : m5.IsWhole) (m6 : Memref sig .tc .vmem S512x256 .f32) (w6 : m6.IsWhole) (m7 : Memref sig .tc .vmem S1x16x256 .f32) (w7 : m7.IsWhole) (m8 : Memref sig .tc .vmem S1x1x256x256 .bf16) (w8 : m8.IsWhole) (m9 : Memref sig .tc .vmem S1x1x256x256 .bf16) (w9 : m9.IsWhole) (m10 : Memref sig .tc .vmem S512x256 .bf16) (w10 : m10.IsWhole) (m11 : Memref sig .tc .vmem S512x256 .bf16) (w11 : m11.IsWhole) (m12 : Memref sig .tc .vmem S512x256 .f32) (w12 : m12.IsWhole) (m13 : Memref sig .tc .vmem S512x256 .f32) (w13 : m13.IsWhole) (m14 : Memref sig .tc .vmem S512x256 .f32) (w14 : m14.IsWhole) (m15 : Memref sig .tc .vmem S520x256 .f32) (w15 : m15.IsWhole) (m16 : Memref sig .tc .vmem S520x256 .f32) (w16 : m16.IsWhole) (m17 : Memref sig .tc .vmem S512x256 .f32) (w17 : m17.IsWhole) (m18 : Memref sig .tc .vmem S512x256 .f32) (w18 : m18.IsWhole) (m19 : Memref sig .tc .vmem S8x256 .f32) (w19 : m19.IsWhole)

set_option maxHeartbeats 64000000 in
theorem ph2 (x2 : Vec F S512x256 .f32) (x3 : Vec F S512x256 .f32) (x4 : Vec F S512x256 .f32) (x5 : Vec F S512x256 .f32) (x6 : Vec F S512x256 .f32) (x7 : Vec F S1x16x256 .f32) (x8 : Vec F S1x1x256x256 .bf16) (x9 : Vec F S1x1x256x256 .bf16) (y10 : Vec F S512x256 .bf16) (y11 : Vec F S512x256 .bf16) (y12 : Vec F S512x256 .f32) (y13 : Vec F S512x256 .f32) (y14 : Vec F S512x256 .f32) (y15 : Vec F S520x256 .f32) (y16 : Vec F S520x256 .f32) (y17 : Vec F S512x256 .f32) (y18 : Vec F S512x256 .f32) (y19 : Vec F S8x256 .f32)  (K : Vec F S32x256 .f32 → FVec F S32x256 .f32 → Prog (TpuEff nD τ sig (Elt F) Λ₀ .tc) (Σ' (v1914 : FVec F S32x256 .f32), Vec F S1x1x256 .f32))
    (Q : (Σ' (v1914 : FVec F S32x256 .f32), Vec F S1x1x256 .f32) → sProp 𝕄) (E : Set ℕ) :
    St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 y10 y11 y12 (HL (DA (GA y12 x8) x7) (DB (GA y12 x8) (GA y12 x9) y12 x7) y19) y14 y15 y16 (DA (GA y12 x8) x7) (DB (GA y12 x8) (GA y12 x9) y12 x7) (car (DA (GA y12 x8) x7) (DB (GA y12 x8) (GA y12 x9) y12 x7) y19 64) -∗ wp frame (wpE (defs₀ (F := F)) Variants.none c none) E (K (BLK x3) (k0_pay170 (BLK x3))) Q)
      ⊢ (wp frame (wpE (defs₀ (F := F)) Variants.none c none) E (K1 i m2 w2 m3 w3 m4 w4 m5 w5 m6 w6 m7 w7 m8 w8 m9 w9 m10 w10 m11 w11 m12 w12 m13 w13 m14 w14 m15 w15 m16 w16 m17 w17 m18 w18 m19 w19 K (truncf .bf16 y12 bitsLt_bf16_f32)) Q : sProp 𝕄) := by
  unfold K1 St owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩, HK⟩
  obtain rfl := w2.eq_unread h2; obtain rfl := w3.eq_unread h3; obtain rfl := w4.eq_unread h4; obtain rfl := w5.eq_unread h5; obtain rfl := w6.eq_unread h6; obtain rfl := w7.eq_unread h7; obtain rfl := w8.eq_unread h8; obtain rfl := w9.eq_unread h9; obtain rfl := w10.eq_unread h10; obtain rfl := w11.eq_unread h11; obtain rfl := w12.eq_unread h12; obtain rfl := w13.eq_unread h13; obtain rfl := w14.eq_unread h14; obtain rfl := w15.eq_unread h15; obtain rfl := w16.eq_unread h16; obtain rfl := w17.eq_unread h17; obtain rfl := w18.eq_unread h18; obtain rfl := w19.eq_unread h19
  sl_exec_parts
  obtain ⟨w17_0, w17_1, w17_2, w17_3, w17_4, w17_5, w17_6, w17_7, w17_8, w17_9, w17_10, w17_11, w17_12, w17_13, w17_14, w17_15⟩ :
      (∀ x, ph2.sl.v501 c m8 w8 m17 x8 y12 x = bl (GA y12 x8) 0 (by decide) x) ∧
      (∀ x, ph2.sl.v547 c m7 w7 m8 w8 m17 x7 x8 y12 x = bl (GA y12 x8) 32 (by decide) x) ∧
      (∀ x, ph2.sl.v593 c m7 w7 m8 w8 m17 x7 x8 y12 x = bl (GA y12 x8) 64 (by decide) x) ∧
      (∀ x, ph2.sl.v639 c m7 w7 m8 w8 m17 x7 x8 y12 x = bl (GA y12 x8) 96 (by decide) x) ∧
      (∀ x, ph2.sl.v685 c m7 w7 m8 w8 m17 x7 x8 y12 x = bl (GA y12 x8) 128 (by decide) x) ∧
      (∀ x, ph2.sl.v731 c m7 w7 m8 w8 m17 x7 x8 y12 x = bl (GA y12 x8) 160 (by decide) x) ∧
      (∀ x, ph2.sl.v777 c m7 w7 m8 w8 m17 x7 x8 y12 x = bl (GA y12 x8) 192 (by decide) x) ∧
      (∀ x, ph2.sl.v823 c m7 w7 m8 w8 m17 x7 x8 y12 x = bl (GA y12 x8) 224 (by decide) x) ∧
      (∀ x, ph2.sl.v869 c m7 w7 m8 w8 m17 x7 x8 y12 x = bl (GA y12 x8) 256 (by decide) x) ∧
      (∀ x, ph2.sl.v915 c m7 w7 m8 w8 m17 x7 x8 y12 x = bl (GA y12 x8) 288 (by decide) x) ∧
      (∀ x, ph2.sl.v961 c m7 w7 m8 w8 m17 x7 x8 y12 x = bl (GA y12 x8) 320 (by decide) x) ∧
      (∀ x, ph2.sl.v1007 c m7 w7 m8 w8 m17 x7 x8 y12 x = bl (GA y12 x8) 352 (by decide) x) ∧
      (∀ x, ph2.sl.v1053 c m7 w7 m8 w8 m17 x7 x8 y12 x = bl (GA y12 x8) 384 (by decide) x) ∧
      (∀ x, ph2.sl.v1099 c m7 w7 m8 w8 m17 x7 x8 y12 x = bl (GA y12 x8) 416 (by decide) x) ∧
      (∀ x, ph2.sl.v1145 c m7 w7 m8 w8 m17 x7 x8 y12 x = bl (GA y12 x8) 448 (by decide) x) ∧
      (∀ x, ph2.sl.v1191 c m7 w7 m8 w8 m17 x7 x8 y12 x = bl (GA y12 x8) 480 (by decide) x) := by
    refine ⟨?_, ?_, ?_, ?_, ?_, ?_, ?_, ?_, ?_, ?_, ?_, ?_, ?_, ?_, ?_, ?_⟩ <;> (
      intro x
      delta ph2.sl.v501 ph2.sl.H17_1 ph2.sl.v547 ph2.sl.H17_2 ph2.sl.v593 ph2.sl.H17_3 ph2.sl.v639 ph2.sl.H17_4 ph2.sl.v685 ph2.sl.H17_5 ph2.sl.v731 ph2.sl.H17_6 ph2.sl.v777 ph2.sl.H17_7 ph2.sl.v823 ph2.sl.H17_8 ph2.sl.v869 ph2.sl.H17_9 ph2.sl.v915 ph2.sl.H17_10 ph2.sl.v961 ph2.sl.H17_11 ph2.sl.v1007 ph2.sl.H17_12 ph2.sl.v1053 ph2.sl.H17_13 ph2.sl.v1099 ph2.sl.H17_14 ph2.sl.v1145 ph2.sl.H17_15 ph2.sl.v1191 ph2.sl.H17_16
      repeat (rw [rcskip m17]; rotate_left; · decide)
      rw [rcfull, ldfull]
      rfl)
  obtain ⟨w18_0, w18_1, w18_2, w18_3, w18_4, w18_5, w18_6, w18_7, w18_8, w18_9, w18_10, w18_11, w18_12, w18_13, w18_14, w18_15⟩ :
      (∀ x, ph2.sl.v513 c m9 w9 m18 x9 y12 x = bl (GA y12 x9) 0 (by decide) x) ∧
      (∀ x, ph2.sl.v559 c m7 w7 m8 w8 m9 w9 m12 w12 m17 m18 x7 x8 x9 y12 x = bl (GA y12 x9) 32 (by decide) x) ∧
      (∀ x, ph2.sl.v605 c m7 w7 m8 w8 m9 w9 m12 w12 m17 m18 x7 x8 x9 y12 x = bl (GA y12 x9) 64 (by decide) x) ∧
      (∀ x, ph2.sl.v651 c m7 w7 m8 w8 m9 w9 m12 w12 m17 m18 x7 x8 x9 y12 x = bl (GA y12 x9) 96 (by decide) x) ∧
      (∀ x, ph2.sl.v697 c m7 w7 m8 w8 m9 w9 m12 w12 m17 m18 x7 x8 x9 y12 x = bl (GA y12 x9) 128 (by decide) x) ∧
      (∀ x, ph2.sl.v743 c m7 w7 m8 w8 m9 w9 m12 w12 m17 m18 x7 x8 x9 y12 x = bl (GA y12 x9) 160 (by decide) x) ∧
      (∀ x, ph2.sl.v789 c m7 w7 m8 w8 m9 w9 m12 w12 m17 m18 x7 x8 x9 y12 x = bl (GA y12 x9) 192 (by decide) x) ∧
      (∀ x, ph2.sl.v835 c m7 w7 m8 w8 m9 w9 m12 w12 m17 m18 x7 x8 x9 y12 x = bl (GA y12 x9) 224 (by decide) x) ∧
      (∀ x, ph2.sl.v881 c m7 w7 m8 w8 m9 w9 m12 w12 m17 m18 x7 x8 x9 y12 x = bl (GA y12 x9) 256 (by decide) x) ∧
      (∀ x, ph2.sl.v927 c m7 w7 m8 w8 m9 w9 m12 w12 m17 m18 x7 x8 x9 y12 x = bl (GA y12 x9) 288 (by decide) x) ∧
      (∀ x, ph2.sl.v973 c m7 w7 m8 w8 m9 w9 m12 w12 m17 m18 x7 x8 x9 y12 x = bl (GA y12 x9) 320 (by decide) x) ∧
      (∀ x, ph2.sl.v1019 c m7 w7 m8 w8 m9 w9 m12 w12 m17 m18 x7 x8 x9 y12 x = bl (GA y12 x9) 352 (by decide) x) ∧
      (∀ x, ph2.sl.v1065 c m7 w7 m8 w8 m9 w9 m12 w12 m17 m18 x7 x8 x9 y12 x = bl (GA y12 x9) 384 (by decide) x) ∧
      (∀ x, ph2.sl.v1111 c m7 w7 m8 w8 m9 w9 m12 w12 m17 m18 x7 x8 x9 y12 x = bl (GA y12 x9) 416 (by decide) x) ∧
      (∀ x, ph2.sl.v1157 c m7 w7 m8 w8 m9 w9 m12 w12 m17 m18 x7 x8 x9 y12 x = bl (GA y12 x9) 448 (by decide) x) ∧
      (∀ x, ph2.sl.v1203 c m7 w7 m8 w8 m9 w9 m12 w12 m17 m18 x7 x8 x9 y12 x = bl (GA y12 x9) 480 (by decide) x) := by
    refine ⟨?_, ?_, ?_, ?_, ?_, ?_, ?_, ?_, ?_, ?_, ?_, ?_, ?_, ?_, ?_, ?_⟩ <;> (
      intro x
      delta ph2.sl.v513 ph2.sl.H18_1 ph2.sl.v559 ph2.sl.H18_2 ph2.sl.v605 ph2.sl.H18_3 ph2.sl.v651 ph2.sl.H18_4 ph2.sl.v697 ph2.sl.H18_5 ph2.sl.v743 ph2.sl.H18_6 ph2.sl.v789 ph2.sl.H18_7 ph2.sl.v835 ph2.sl.H18_8 ph2.sl.v881 ph2.sl.H18_9 ph2.sl.v927 ph2.sl.H18_10 ph2.sl.v973 ph2.sl.H18_11 ph2.sl.v1019 ph2.sl.H18_12 ph2.sl.v1065 ph2.sl.H18_13 ph2.sl.v1111 ph2.sl.H18_14 ph2.sl.v1157 ph2.sl.H18_15 ph2.sl.v1203 ph2.sl.H18_16
      repeat (rw [rcskip m18]; rotate_left; · decide)
      rw [rcfull, ldfull]
      rfl)
  obtain ⟨pc17, pc18⟩ : (∀ p ∈ (ph2.sl.H17_17 c m7 w7 m8 w8 m17 x7 x8 y12).take 16, ∀ x : p.1.shape.Idx, p.2 x = (DA (GA y12 x8) x7) (p.1.emb x)) ∧
      (∀ p ∈ (ph2.sl.H18_17 c m7 w7 m8 w8 m9 w9 m12 w12 m17 m18 x7 x8 x9 y12).take 16, ∀ x : p.1.shape.Idx, p.2 x = (DB (GA y12 x8) (GA y12 x9) y12 x7) (p.1.emb x)) := by
    constructor <;> (
      intro p hp
      delta ph2.sl.H17_1 ph2.sl.H17_10 ph2.sl.H17_11 ph2.sl.H17_12 ph2.sl.H17_13 ph2.sl.H17_14 ph2.sl.H17_15 ph2.sl.H17_16 ph2.sl.H17_17 ph2.sl.H17_2 ph2.sl.H17_3 ph2.sl.H17_4 ph2.sl.H17_5 ph2.sl.H17_6 ph2.sl.H17_7 ph2.sl.H17_8 ph2.sl.H17_9 ph2.sl.H18_1 ph2.sl.H18_10 ph2.sl.H18_11 ph2.sl.H18_12 ph2.sl.H18_13 ph2.sl.H18_14 ph2.sl.H18_15 ph2.sl.H18_16 ph2.sl.H18_17 ph2.sl.H18_2 ph2.sl.H18_3 ph2.sl.H18_4 ph2.sl.H18_5 ph2.sl.H18_6 ph2.sl.H18_7 ph2.sl.H18_8 ph2.sl.H18_9 at hp
      simp only [List.take_succ_cons, List.take_zero, List.mem_cons, List.not_mem_nil, _root_.or_false] at hp
      rcases hp with rfl | rfl | rfl | rfl | rfl | rfl | rfl | rfl | rfl | rfl | rfl | rfl | rfl | rfl | rfl | rfl <;> (
        intro x
        change S32x256.Idx at x
        try delta ph2.sl.cst_354 ph2.sl.cst_373 ph2.sl.cst_416 ph2.sl.r ph2.sl.r_1 ph2.sl.r_10 ph2.sl.r_11 ph2.sl.r_12 ph2.sl.r_13 ph2.sl.r_14 ph2.sl.r_15 ph2.sl.r_16 ph2.sl.r_17 ph2.sl.r_18 ph2.sl.r_19 ph2.sl.r_2 ph2.sl.r_20 ph2.sl.r_21 ph2.sl.r_22 ph2.sl.r_23 ph2.sl.r_24 ph2.sl.r_25 ph2.sl.r_26 ph2.sl.r_27 ph2.sl.r_28 ph2.sl.r_29 ph2.sl.r_3 ph2.sl.r_30 ph2.sl.r_31 ph2.sl.r_32 ph2.sl.r_33 ph2.sl.r_34 ph2.sl.r_35 ph2.sl.r_36 ph2.sl.r_37 ph2.sl.r_4 ph2.sl.r_5 ph2.sl.r_6 ph2.sl.r_7 ph2.sl.r_8 ph2.sl.r_9
        simp (config := { index := false }) only [k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, addf, mulf, subf, divf, sqrt, tanh, exp, broadcast, shapeCast_self, DA, DB, bl, LA, gt, cc, bsp, brw, w17_0, w17_1, w17_2, w17_3, w17_4, w17_5, w17_6, w17_7, w17_8, w17_9, w17_10, w17_11, w17_12, w17_13, w17_14, w17_15, w18_0, w18_1, w18_2, w18_3, w18_4, w18_5, w18_6, w18_7, w18_8, w18_9, w18_10, w18_11, w18_12, w18_13, w18_14, w18_15, ld512, emb32_0, emb32_1, emb32, ix2_0, ix2_1]
        all_goals rfl))
  have ea17 : ∀ f, m17.view.read (Elt F) (m17.view.writes (Elt F) f (ph2.sl.H17_17 c m7 w7 m8 w8 m17 x7 x8 y12)) = (DA (GA y12 x8) x7) := by
    intro f
    rw [wdrop m17 f 16]
    funext j
    exact m17.view.read_writes_apply_of_pieces _ (DA (GA y12 x8) x7) _ pc17 j (View.cover_of_tiledL (s := S512x256) _ ![32, 256] (by sl_kernel_rfl) j)
  have ea18 : ∀ f, m18.view.read (Elt F) (m18.view.writes (Elt F) f (ph2.sl.H18_17 c m7 w7 m8 w8 m9 w9 m12 w12 m17 m18 x7 x8 x9 y12)) = (DB (GA y12 x8) (GA y12 x9) y12 x7) := by
    intro f
    rw [wdrop m18 f 16]
    funext j
    exact m18.view.read_writes_apply_of_pieces _ (DB (GA y12 x8) (GA y12 x9) y12 x7) _ pc18 j (View.cover_of_tiledL (s := S512x256) _ ![32, 256] (by sl_kernel_rfl) j)
  have e19 : View.readAt (Elt F) m19.view (Rect.unit (s := S8x256) ![0, 0] S8x256.size inb_S8x256_S8x256_0_0).toLoadRect (w19.unread y19) = y19 := ldfull m19 w19 y19 _
  have er : ph2.sl.r_36 c m3 w3 x3 = BLK x3 := by
    funext x
    exact ld512 m3 w3 x3 0 _ x
  have er2 : ph2.sl.r_37 c m3 w3 x3 = k0_pay170 (BLK x3) := congrArg k0_pay170 er
  rw [er, er2]
  iapply HK
  isplitl [H2]; · iexists _; isplitr; swap; iexact H2; ipureintro; exact w2.read_unread _
  isplitl [H3]; · iexists _; isplitr; swap; iexact H3; ipureintro; exact w3.read_unread _
  isplitl [H4]; · iexists _; isplitr; swap; iexact H4; ipureintro; exact w4.read_unread _
  isplitl [H5]; · iexists _; isplitr; swap; iexact H5; ipureintro; exact w5.read_unread _
  isplitl [H6]; · iexists _; isplitr; swap; iexact H6; ipureintro; exact w6.read_unread _
  isplitl [H7]; · iexists _; isplitr; swap; iexact H7; ipureintro; exact w7.read_unread _
  isplitl [H8]; · iexists _; isplitr; swap; iexact H8; ipureintro; exact w8.read_unread _
  isplitl [H9]; · iexists _; isplitr; swap; iexact H9; ipureintro; exact w9.read_unread _
  isplitl [H10]; · iexists _; isplitr; swap; iexact H10; ipureintro; exact w10.read_unread _
  isplitl [H11]; · iexists _; isplitr; swap; iexact H11; ipureintro; exact w11.read_unread _
  isplitl [H12]; · iexists _; isplitr; swap; iexact H12; ipureintro; exact w12.read_unread _
  isplitl [H13]
  · iexists _; isplitr
    swap; · iexact H13
    ipureintro; (
        rw [e19]
        funext j
        exact m13.view.read_writes_apply_of_pieces _ (HL (DA (GA y12 x8) x7) (DB (GA y12 x8) (GA y12 x9) y12 x7) y19) _ (st_eq c i m2 w2 m3 w3 m4 w4 m5 w5 m6 w6 m7 w7 m8 w8 m9 w9 m10 w10 m11 w11 m12 w12 m13 w13 m14 w14 m15 w15 m16 w16 m17 w17 m18 w18 m19 w19 _ _ _ _ _ _ (DA (GA y12 x8) x7) (DB (GA y12 x8) (GA y12 x9) y12 x7) (ea17 _) (ea18 _) y19 16 (le_refl _)).2.1 j ((st_eq c i m2 w2 m3 w3 m4 w4 m5 w5 m6 w6 m7 w7 m8 w8 m9 w9 m10 w10 m11 w11 m12 w12 m13 w13 m14 w14 m15 w15 m16 w16 m17 w17 m18 w18 m19 w19 _ _ _ _ _ _ (DA (GA y12 x8) x7) (DB (GA y12 x8) (GA y12 x9) y12 x7) (ea17 _) (ea18 _) y19 16 (le_refl _)).2.2 j (by have hj : (j 0).val < 512 := (j 0).isLt; omega)))
  isplitl [H14]; · iexists _; isplitr; swap; iexact H14; ipureintro; exact w14.read_unread _
  isplitl [H15]; · iexists _; isplitr; swap; iexact H15; ipureintro; exact w15.read_unread _
  isplitl [H16]; · iexists _; isplitr; swap; iexact H16; ipureintro; exact w16.read_unread _
  isplitl [H17]; · iexists _; isplitr; swap; iexact H17; ipureintro; exact ea17 _
  isplitl [H18]; · iexists _; isplitr; swap; iexact H18; ipureintro; exact ea18 _
  iexists _; isplitr
  swap; · iexact H19
  ipureintro; (
      rw [e19]
      rw [View.read_writes_full]
      simp only [k0_pay169, shapeCast_self]
      exact (st_eq c i m2 w2 m3 w3 m4 w4 m5 w5 m6 w6 m7 w7 m8 w8 m9 w9 m10 w10 m11 w11 m12 w12 m13 w13 m14 w14 m15 w15 m16 w16 m17 w17 m18 w18 m19 w19 _ _ _ _ _ _ (DA (GA y12 x8) x7) (DB (GA y12 x8) (GA y12 x9) y12 x7) (ea17 _) (ea18 _) y19 16 (le_refl _)).1)

end Cert.MixFIdeal.Hand
-- ==== Proof.MixFIdeal.Fr.lean ====
module

public import proofs.«01_k».proof.Proof.MixFIdeal.Ph1
public import proofs.«01_k».proof.Proof.MixFIdeal.Ph2
public import proofs.«01_k».proof.Proof.Gen.MixFIdeal.Frame
public import Idealize.ShloMosaic.Lib.WordCmp
public import Idealize.ShloMosaic.Lib.Claim

@[expose] public section

set_option maxRecDepth 16384

noncomputable section

namespace Cert.MixFIdeal.Hand

open Cert.MixFIdeal Cert.MixFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (m2 : Memref sig .tc .vmem S512x256 .f32) (w2 : m2.IsWhole) (m3 : Memref sig .tc .vmem S512x256 .f32) (w3 : m3.IsWhole) (m4 : Memref sig .tc .vmem S512x256 .f32) (w4 : m4.IsWhole) (m5 : Memref sig .tc .vmem S512x256 .f32) (w5 : m5.IsWhole) (m6 : Memref sig .tc .vmem S512x256 .f32) (w6 : m6.IsWhole) (m7 : Memref sig .tc .vmem S1x16x256 .f32) (w7 : m7.IsWhole) (m8 : Memref sig .tc .vmem S1x1x256x256 .bf16) (w8 : m8.IsWhole) (m9 : Memref sig .tc .vmem S1x1x256x256 .bf16) (w9 : m9.IsWhole) (m10 : Memref sig .tc .vmem S512x256 .bf16) (w10 : m10.IsWhole) (m11 : Memref sig .tc .vmem S512x256 .bf16) (w11 : m11.IsWhole) (m12 : Memref sig .tc .vmem S512x256 .f32) (w12 : m12.IsWhole) (m13 : Memref sig .tc .vmem S512x256 .f32) (w13 : m13.IsWhole) (m14 : Memref sig .tc .vmem S512x256 .f32) (w14 : m14.IsWhole) (m15 : Memref sig .tc .vmem S520x256 .f32) (w15 : m15.IsWhole) (m16 : Memref sig .tc .vmem S520x256 .f32) (w16 : m16.IsWhole) (m17 : Memref sig .tc .vmem S512x256 .f32) (w17 : m17.IsWhole) (m18 : Memref sig .tc .vmem S512x256 .f32) (w18 : m18.IsWhole) (m19 : Memref sig .tc .vmem S8x256 .f32) (w19 : m19.IsWhole)

variable (x2 : Vec F S512x256 .f32) (x3 : Vec F S512x256 .f32) (x4 : Vec F S512x256 .f32) (x5 : Vec F S512x256 .f32) (x6 : Vec F S512x256 .f32) (x7 : Vec F S1x16x256 .f32) (x8 : Vec F S1x1x256x256 .bf16) (x9 : Vec F S1x1x256x256 .bf16) (y10 : Vec F S512x256 .bf16) (y11 : Vec F S512x256 .bf16) (y12 : Vec F S512x256 .f32) (y13 : Vec F S512x256 .f32) (y14 : Vec F S512x256 .f32) (y15 : Vec F S520x256 .f32) (y16 : Vec F S520x256 .f32) (y17 : Vec F S512x256 .f32) (y18 : Vec F S512x256 .f32) (y19 : Vec F S8x256 .f32)

set_option maxHeartbeats 1000000 in
/-- The computation after the first part, from the blocks under their history and the carried state. -/
theorem rest (X U : Vec F S520x256 .f32) (S : Vec F S8x256 .f32)
    (Q : PUnit → sProp 𝕄) (E : Set ℕ) (h4 : ∀ R : FVec F S32x256 .f32 → sProp 𝕄, (St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 y10 y11 y12 y13 y14 X U y17 y18 S -∗ R (V27 X x7))) ⊢ (wp frame (wpE (defs₀ (F := F)) Variants.none c none) E (k0_part4 i m2 w2 m3 w3 m4 w4 m5 w5 m6 w6 m7 w7 m8 w8 m9 w9 m10 w10 m11 w11 m12 w12 m13 w13 m14 w14 m15 w15 m16 w16 m17 w17 m18 w18 m19 w19) R : sProp 𝕄)) :
    St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 (PA x3 (HL (DA (GA (XC X x7) x8) x7) (DB (GA (XC X x7) x8) (GA (XC X x7) x9) (XC X x7) x7) S)) (PB x4 U x7) (XC X x7) (HL (DA (GA (XC X x7) x8) x7) (DB (GA (XC X x7) x8) (GA (XC X x7) x9) (XC X x7) x7) S) (VB U x7) (HT X) (HT U) (DA (GA (XC X x7) x8) x7) (DB (GA (XC X x7) x8) (GA (XC X x7) x9) (XC X x7) x7) (car (DA (GA (XC X x7) x8) x7) (DB (GA (XC X x7) x8) (GA (XC X x7) x9) (XC X x7) x7) S 64) -∗ Q ⟨⟩)
      ⊢ (wp frame (wpE (defs₀ (F := F)) Variants.none c none) E (cc0_mixer_fwd_0 i m2 w2 m3 w3 m4 w4 m5 w5 m6 w6 m7 w7 m8 w8 m9 w9 m10 w10 m11 w11 m12 w12 m13 w13 m14 w14 m15 w15 m16 w16 m17 w17 m18 w18 m19 w19) Q : sProp 𝕄) := by
  have e3 := ph3 c i m2 w2 m3 w3 m4 w4 m5 w5 m6 w6 m7 w7 m8 w8 m9 w9 m10 w10 m11 w11 m12 w12 m13 w13 m14 w14 m15 w15 m16 w16 m17 w17 m18 w18 m19 w19 x2 x3 x4 x5 x6 x7 x8 x9 y10 y11 (XC X x7) (HL (DA (GA (XC X x7) x8) x7) (DB (GA (XC X x7) x8) (GA (XC X x7) x9) (XC X x7) x7) S) y14 X U (DA (GA (XC X x7) x8) x7) (DB (GA (XC X x7) x8) (GA (XC X x7) x9) (XC X x7) x7) (car (DA (GA (XC X x7) x8) x7) (DB (GA (XC X x7) x8) (GA (XC X x7) x9) (XC X x7) x7) S 64) Q E
  rw [wp_bind] at e3
  rw [body_eq, wp_bind, wp_bind]
  iintro ⟨H, HQ⟩
  iapply (h4 (fun v27 => wp frame (wpE (defs₀ (F := F)) Variants.none c none) E (K0 i m2 w2 m3 w3 m4 w4 m5 w5 m6 w6 m7 w7 m8 w8 m9 w9 m10 w10 m11 w11 m12 w12 m13 w13 m14 w14 m15 w15 m16 w16 m17 w17 m18 w18 m19 w19 (K1 i m2 w2 m3 w3 m4 w4 m5 w5 m6 w6 m7 w7 m8 w8 m9 w9 m10 w10 m11 w11 m12 w12 m13 w13 m14 w14 m15 w15 m16 w16 m17 w17 m18 w18 m19 w19 (K2 i m2 w2 m3 w3 m4 w4 m5 w5 m6 w6 m7 w7 m8 w8 m9 w9 m10 w10 m11 w11 m12 w12 m13 w13 m14 w14 m15 w15 m16 w16 m17 w17 m18 w18 m19 w19)) v27) (fun r => wp frame (wpE (defs₀ (F := F)) Variants.none c none) E (K3 m4 m7 m11 w11 m14 m15 m16 r) Q)))
  isplitl [H]; · iexact H
  iintro H
  iapply (ph1 c i m2 w2 m3 w3 m4 w4 m5 w5 m6 w6 m7 w7 m8 w8 m9 w9 m10 w10 m11 w11 m12 w12 m13 w13 m14 w14 m15 w15 m16 w16 m17 w17 m18 w18 m19 w19 x2 x3 x4 x5 x6 x7 x8 x9 y10 y11 y12 y13 y14 X U y17 y18 S (K1 i m2 w2 m3 w3 m4 w4 m5 w5 m6 w6 m7 w7 m8 w8 m9 w9 m10 w10 m11 w11 m12 w12 m13 w13 m14 w14 m15 w15 m16 w16 m17 w17 m18 w18 m19 w19 (K2 i m2 w2 m3 w3 m4 w4 m5 w5 m6 w6 m7 w7 m8 w8 m9 w9 m10 w10 m11 w11 m12 w12 m13 w13 m14 w14 m15 w15 m16 w16 m17 w17 m18 w18 m19 w19)) (fun r => wp frame (wpE (defs₀ (F := F)) Variants.none c none) E (K3 m4 m7 m11 w11 m14 m15 m16 r) Q) E)
  isplitl [H]; · iexact H
  iintro H
  iapply (ph2 c i m2 w2 m3 w3 m4 w4 m5 w5 m6 w6 m7 w7 m8 w8 m9 w9 m10 w10 m11 w11 m12 w12 m13 w13 m14 w14 m15 w15 m16 w16 m17 w17 m18 w18 m19 w19 x2 x3 x4 x5 x6 x7 x8 x9 y10 y11 (XC X x7) y13 y14 X U y17 y18 S (K2 i m2 w2 m3 w3 m4 w4 m5 w5 m6 w6 m7 w7 m8 w8 m9 w9 m10 w10 m11 w11 m12 w12 m13 w13 m14 w14 m15 w15 m16 w16 m17 w17 m18 w18 m19 w19) (fun r => wp frame (wpE (defs₀ (F := F)) Variants.none c none) E (K3 m4 m7 m11 w11 m14 m15 m16 r) Q) E)
  isplitl [H]; · iexact H
  iintro H
  iapply e3
  isplitl [H]; · iexact H
  iexact HQ

theorem bodyA (hc0 : (Scalar.cmpi .ne (Scalar.extui (Scalar.cmpi .eq (BitVec.ofNat 32 (i 1).val) 0#32)) 0#32) = 1#1) (Q : PUnit → sProp 𝕄) (E : Set ℕ) :
    St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 (PA x3 (HL (DA (GA (XC (XB ZX x2) x7) x8) x7) (DB (GA (XC (XB ZX x2) x7) x8) (GA (XC (XB ZX x2) x7) x9) (XC (XB ZX x2) x7) x7) Z8)) (PB x4 (XB ZX (mulf x5 x6)) x7) (XC (XB ZX x2) x7) (HL (DA (GA (XC (XB ZX x2) x7) x8) x7) (DB (GA (XC (XB ZX x2) x7) x8) (GA (XC (XB ZX x2) x7) x9) (XC (XB ZX x2) x7) x7) Z8) (VB (XB ZX (mulf x5 x6)) x7) (HT (XB ZX x2)) (HT (XB ZX (mulf x5 x6))) (DA (GA (XC (XB ZX x2) x7) x8) x7) (DB (GA (XC (XB ZX x2) x7) x8) (GA (XC (XB ZX x2) x7) x9) (XC (XB ZX x2) x7) x7) (car (DA (GA (XC (XB ZX x2) x7) x8) x7) (DB (GA (XC (XB ZX x2) x7) x8) (GA (XC (XB ZX x2) x7) x9) (XC (XB ZX x2) x7) x7) Z8 64) -∗ Q ⟨⟩)
      ⊢ (wp frame (wpE (defs₀ (F := F)) Variants.none c none) E (cc0_mixer_fwd_0 i m2 w2 m3 w3 m4 w4 m5 w5 m6 w6 m7 w7 m8 w8 m9 w9 m10 w10 m11 w11 m12 w12 m13 w13 m14 w14 m15 w15 m16 w16 m17 w17 m18 w18 m19 w19) Q : sProp 𝕄) :=
  rest c i m2 w2 m3 w3 m4 w4 m5 w5 m6 w6 m7 w7 m8 w8 m9 w9 m10 w10 m11 w11 m12 w12 m13 w13 m14 w14 m15 w15 m16 w16 m17 w17 m18 w18 m19 w19 x2 x3 x4 x5 x6 x7 x8 x9 y10 y11 y12 y13 y14 y15 y16 y17 y18 y19 (XB ZX x2) (XB ZX (mulf x5 x6)) Z8 Q E (fun R => p4A c i m2 w2 m3 w3 m4 w4 m5 w5 m6 w6 m7 w7 m8 w8 m9 w9 m10 w10 m11 w11 m12 w12 m13 w13 m14 w14 m15 w15 m16 w16 m17 w17 m18 w18 m19 w19 x2 x3 x4 x5 x6 x7 x8 x9 y10 y11 y12 y13 y14 y15 y16 y17 y18 y19 hc0 R E)

theorem bodyB (hc0 : ¬((Scalar.cmpi .ne (Scalar.extui (Scalar.cmpi .eq (BitVec.ofNat 32 (i 1).val) 0#32)) 0#32) = 1#1)) (Q : PUnit → sProp 𝕄) (E : Set ℕ) :
    St c m2 m3 m4 m5 m6 m7 m8 m9 m10 m11 m12 m13 m14 m15 m16 m17 m18 m19 x2 x3 x4 x5 x6 x7 x8 x9 y10 y11 y12 y13 y14 y15 y16 y17 y18 y19 ∗ (St c m2 m3 m4 m5 m6 m7 m8 m9 m10 m11 m12 m13 m14 m15 m16 m17 m18 m19 x2 x3 x4 x5 x6 x7 x8 x9 (PA x3 (HL (DA (GA (XC (XB y15 x2) x7) x8) x7) (DB (GA (XC (XB y15 x2) x7) x8) (GA (XC (XB y15 x2) x7) x9) (XC (XB y15 x2) x7) x7) y19)) (PB x4 (XB y16 (mulf x5 x6)) x7) (XC (XB y15 x2) x7) (HL (DA (GA (XC (XB y15 x2) x7) x8) x7) (DB (GA (XC (XB y15 x2) x7) x8) (GA (XC (XB y15 x2) x7) x9) (XC (XB y15 x2) x7) x7) y19) (VB (XB y16 (mulf x5 x6)) x7) (HT (XB y15 x2)) (HT (XB y16 (mulf x5 x6))) (DA (GA (XC (XB y15 x2) x7) x8) x7) (DB (GA (XC (XB y15 x2) x7) x8) (GA (XC (XB y15 x2) x7) x9) (XC (XB y15 x2) x7) x7) (car (DA (GA (XC (XB y15 x2) x7) x8) x7) (DB (GA (XC (XB y15 x2) x7) x8) (GA (XC (XB y15 x2) x7) x9) (XC (XB y15 x2) x7) x7) y19 64) -∗ Q ⟨⟩)
      ⊢ (wp frame (wpE (defs₀ (F := F)) Variants.none c none) E (cc0_mixer_fwd_0 i m2 w2 m3 w3 m4 w4 m5 w5 m6 w6 m7 w7 m8 w8 m9 w9 m10 w10 m11 w11 m12 w12 m13 w13 m14 w14 m15 w15 m16 w16 m17 w17 m18 w18 m19 w19) Q : sProp 𝕄) :=
  rest c i m2 w2 m3 w3 m4 w4 m5 w5 m6 w6 m7 w7 m8 w8 m9 w9 m10 w10 m11 w11 m12 w12 m13 w13 m14 w14 m15 w15 m16 w16 m17 w17 m18 w18 m19 w19 x2 x3 x4 x5 x6 x7 x8 x9 y10 y11 y12 y13 y14 y15 y16 y17 y18 y19 (XB y15 x2) (XB y16 (mulf x5 x6)) y19 Q E (fun R => p4B c i m2 w2 m3 w3 m4 w4 m5 w5 m6 w6 m7 w7 m8 w8 m9 w9 m10 w10 m11 w11 m12 w12 m13 w13 m14 w14 m15 w15 m16 w16 m17 w17 m18 w18 m19 w19 x2 x3 x4 x5 x6 x7 x8 x9 y10 y11 y12 y13 y14 y15 y16 y17 y18 y19 hc0 R E)

end

open Idealize.ShloMosaic.Rounds
open Idealize.ShloMosaic.Pipeline (Dat Cfg Window BodyObligation cellOf)

variable (m : (ℓ : Loc nD τ sig) → Buf (Elt F) ℓ) (ρ : Dev nD → PrngReg)

/-! ## The points -/

abbrev cond0 (i : grid0.Coords) : Prop := (Scalar.cmpi .ne (Scalar.extui (Scalar.cmpi .eq (BitVec.ofNat 32 (i 1).val) 0#32)) 0#32) = 1#1

theorem hcond0 : ∀ t : Fin cfg0.N, cond0 (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [cond0, e1]
    word_cmp
   : ∀ t : Fin grid0.N, cond0 (grid0.coords t) ↔ t.val % 8 = 0)

abbrev ms0_0 (t : Fin cfg0.N) : Memref sig .tc .vmem S512x256 .f32 := win0_0.stage (cfg0.slots t 0)
abbrev ms0_1 (t : Fin cfg0.N) : Memref sig .tc .vmem S512x256 .f32 := win0_1.stage (cfg0.slots t 1)
abbrev ms0_2 (t : Fin cfg0.N) : Memref sig .tc .vmem S512x256 .f32 := win0_2.stage (cfg0.slots t 2)
abbrev ms0_3 (t : Fin cfg0.N) : Memref sig .tc .vmem S512x256 .f32 := win0_3.stage (cfg0.slots t 3)
abbrev ms0_4 (t : Fin cfg0.N) : Memref sig .tc .vmem S512x256 .f32 := win0_4.stage (cfg0.slots t 4)
abbrev ms0_5 (t : Fin cfg0.N) : Memref sig .tc .vmem S1x16x256 .f32 := win0_5.stage (cfg0.slots t 5)
abbrev ms0_6 (t : Fin cfg0.N) : Memref sig .tc .vmem S1x1x256x256 .bf16 := win0_6.stage (cfg0.slots t 6)
abbrev ms0_7 (t : Fin cfg0.N) : Memref sig .tc .vmem S1x1x256x256 .bf16 := win0_7.stage (cfg0.slots t 7)
abbrev ms0_8 (t : Fin cfg0.N) : Memref sig .tc .vmem S512x256 .bf16 := win0_8.stage (cfg0.slots t 8)
abbrev ms0_9 (t : Fin cfg0.N) : Memref sig .tc .vmem S512x256 .bf16 := win0_9.stage (cfg0.slots t 9)
abbrev ms0_10 (t : Fin cfg0.N) : Memref sig .tc .vmem S512x256 .f32 := win0_10.stage (cfg0.slots t 10)
abbrev ms0_11 (t : Fin cfg0.N) : Memref sig .tc .vmem S512x256 .f32 := win0_11.stage (cfg0.slots t 11)
abbrev ms0_12 (t : Fin cfg0.N) : Memref sig .tc .vmem S512x256 .f32 := win0_12.stage (cfg0.slots t 12)
abbrev scM0_0 : Memref sig .tc .vmem S520x256 .f32 := Memref.whole cc0_scratch0
abbrev scM0_1 : Memref sig .tc .vmem S520x256 .f32 := Memref.whole cc0_scratch1
abbrev scM0_2 : Memref sig .tc .vmem S512x256 .f32 := Memref.whole cc0_scratch2
abbrev scM0_3 : Memref sig .tc .vmem S512x256 .f32 := Memref.whole cc0_scratch3
abbrev scM0_4 : Memref sig .tc .vmem S8x256 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## What the points leave -/

abbrev in2 (c : Dev nD) (t : Fin cfg0.N) : Vec F S512x256 .f32 := iblk m c 0 t
abbrev in3 (c : Dev nD) (t : Fin cfg0.N) : Vec F S512x256 .f32 := iblk m c 1 t
abbrev in4 (c : Dev nD) (t : Fin cfg0.N) : Vec F S512x256 .f32 := iblk m c 2 t
abbrev in5 (c : Dev nD) (t : Fin cfg0.N) : Vec F S512x256 .f32 := iblk m c 3 t
abbrev in6 (c : Dev nD) (t : Fin cfg0.N) : Vec F S512x256 .f32 := iblk m c 4 t
abbrev in7 (c : Dev nD) (t : Fin cfg0.N) : Vec F S1x16x256 .f32 := iblk m c 5 t
abbrev in8 (c : Dev nD) (t : Fin cfg0.N) : Vec F S1x1x256x256 .bf16 := iblk m c 6 t
abbrev in9 (c : Dev nD) (t : Fin cfg0.N) : Vec F S1x1x256x256 .bf16 := iblk m c 7 t

/-- The decay of a block. -/
def oA (c : Dev nD) (t : Fin cfg0.N) (X : Vec F S520x256 .f32) : Vec F S512x256 .f32 := DA (GA (XC X (in7 m c t)) (in8 m c t)) (in7 m c t)

/-- The input of a block's recurrence. -/
def oB (c : Dev nD) (t : Fin cfg0.N) (X : Vec F S520x256 .f32) : Vec F S512x256 .f32 :=
  DB (GA (XC X (in7 m c t)) (in8 m c t)) (GA (XC X (in7 m c t)) (in9 m c t)) (XC X (in7 m c t)) (in7 m c t)

/-- The two sequences' blocks under their history and the recurrence's state, as the body at a position finds them. -/
def seqs (c : Dev nD) : (n : ℕ) → n < cfg0.N → Vec F S520x256 .f32 × Vec F S520x256 .f32 × Vec F S8x256 .f32
  | 0, hn => (XB ZX (in2 m c ⟨0, hn⟩), XB ZX (mulf (in5 m c ⟨0, hn⟩) (in6 m c ⟨0, hn⟩)), Z8)
  | n + 1, hn =>
    if (n + 1) % 8 = 0 then (XB ZX (in2 m c ⟨n + 1, hn⟩), XB ZX (mulf (in5 m c ⟨n + 1, hn⟩) (in6 m c ⟨n + 1, hn⟩)), Z8)
    else
      let p := seqs c n (Nat.lt_of_succ_lt hn)
      (XB (HT p.1) (in2 m c ⟨n + 1, hn⟩), XB (HT p.2.1) (mulf (in5 m c ⟨n + 1, hn⟩) (in6 m c ⟨n + 1, hn⟩)),
        car (oA m c ⟨n, Nat.lt_of_succ_lt hn⟩ p.1) (oB m c ⟨n, Nat.lt_of_succ_lt hn⟩ p.1) p.2.2 64)

theorem seqs_start (c : Dev nD) (t : Fin cfg0.N) (h : t.val % 8 = 0) :
    seqs m c t.val t.isLt = (XB ZX (in2 m c t), XB ZX (mulf (in5 m c t) (in6 m c t)), Z8) := by
  obtain ⟨n, hn⟩ := t
  cases n with
  | zero => rfl
  | succ n => exact (if_pos h)

theorem seqs_step (c : Dev nD) (n : ℕ) (hn : n + 1 < cfg0.N) (h : ¬(n + 1) % 8 = 0) :
    seqs m c (n + 1) hn = (XB (HT (seqs m c n (Nat.lt_of_succ_lt hn)).1) (in2 m c ⟨n + 1, hn⟩), XB (HT (seqs m c n (Nat.lt_of_succ_lt hn)).2.1) (mulf (in5 m c ⟨n + 1, hn⟩) (in6 m c ⟨n + 1, hn⟩)),
        car (oA m c ⟨n, Nat.lt_of_succ_lt hn⟩ (seqs m c n (Nat.lt_of_succ_lt hn)).1) (oB m c ⟨n, Nat.lt_of_succ_lt hn⟩ (seqs m c n (Nat.lt_of_succ_lt hn)).1) (seqs m c n (Nat.lt_of_succ_lt hn)).2.2 64) := if_neg h

/-- The first sequence's block, under its history. -/
def sX (c : Dev nD) (t : Fin cfg0.N) : Vec F S520x256 .f32 := (seqs m c t.val t.isLt).1
/-- The second's. -/
def sU (c : Dev nD) (t : Fin cfg0.N) : Vec F S520x256 .f32 := (seqs m c t.val t.isLt).2.1
/-- The state the block's recurrence starts from. -/
def sS (c : Dev nD) (t : Fin cfg0.N) : Vec F S8x256 .f32 := (seqs m c t.val t.isLt).2.2
/-- The state's history over the block. -/
def oH (c : Dev nD) (t : Fin cfg0.N) : Vec F S512x256 .f32 := HL (oA m c t (sX m c t)) (oB m c t (sX m c t)) (sS m c t)

/-- Before a point: the carried scratch at what the point before left. -/
def PhiS (c : Dev nD) : (n : ℕ) → n ≤ cfg0.N → sProp 𝕄
  | 0, _ => Pipeline.ΦA spec0 c
  | n + 1, hn => iprop(iprop(owns (c : Thread nD τ) scM0_0 fullShare (HT (sX m c ⟨n, hn⟩)) ∗ owns (c : Thread nD τ) scM0_1 fullShare (HT (sU m c ⟨n, hn⟩))
      ∗ (∃ d, owns (c : Thread nD τ) scM0_2 fullShare d) ∗ (∃ d, owns (c : Thread nD τ) scM0_3 fullShare d)
      ∗ owns (c : Thread nD τ) scM0_4 fullShare (car (oA m c ⟨n, hn⟩ (sX m c ⟨n, hn⟩)) (oB m c ⟨n, hn⟩ (sX m c ⟨n, hn⟩)) (sS m c ⟨n, hn⟩) 64)) ∗ (∃ r, prngReg c r))

theorem PhiS_succ (c : Dev nD) (n : ℕ) (hn : n < cfg0.N) :
    PhiS m c (n + 1) hn = iprop(iprop(owns (c : Thread nD τ) scM0_0 fullShare (HT (sX m c ⟨n, hn⟩)) ∗ owns (c : Thread nD τ) scM0_1 fullShare (HT (sU m c ⟨n, hn⟩))
      ∗ (∃ d, owns (c : Thread nD τ) scM0_2 fullShare d) ∗ (∃ d, owns (c : Thread nD τ) scM0_3 fullShare d)
      ∗ owns (c : Thread nD τ) scM0_4 fullShare (car (oA m c ⟨n, hn⟩ (sX m c ⟨n, hn⟩)) (oB m c ⟨n, hn⟩ (sX m c ⟨n, hn⟩)) (sS m c ⟨n, hn⟩) 64)) ∗ (∃ r, prngReg c r)) := rfl

theorem PhiS_some (c : Dev nD) : (n : ℕ) → (h : n ≤ cfg0.N) → PhiS m c n h ⊢ Pipeline.ΦA spec0 c
  | 0, _ => Idealize.SL.BI.Entails.refl _
  | n + 1, h => by
    rw [PhiS_succ, PhiA0_eq]
    iintro ⟨⟨H0, H1, H2, H3, H4⟩, Hg⟩
    isplitl [H0 H1 H2 H3 H4]
    · isplitl [H0]; · iexists _; iexact H0
      isplitl [H1]; · iexists _; iexact H1
      isplitl [H2]; · iexact H2
      isplitl [H3]; · iexact H3
      iexists _; iexact H4
    iexact Hg

theorem PhiS_any (c : Dev nD) (n : ℕ) (h : n ≤ cfg0.N) : PhiS m c n h
      ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  have h := PhiS_some m c n h
  rw [PhiA0_eq] at h
  exact h

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => PA (in3 m c t) (oH m c t)
    | ⟨9, _⟩ => PB (in4 m c t) (sU m c t) (in7 m c t)
    | ⟨10, _⟩ => XC (sX m c t) (in7 m c t)
    | ⟨11, _⟩ => oH m c t
    | ⟨12, _⟩ => VB (sU m c t) (in7 m c t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = PA (in3 m c t) (oH m c t) := by dsimp only [dats]
theorem after0_9 (c : Dev nD) (t : Fin cfg0.N) : (dats m 0 c).after 9 t = PB (in4 m c t) (sU m c t) (in7 m c t) := by dsimp only [dats]
theorem after0_10 (c : Dev nD) (t : Fin cfg0.N) : (dats m 0 c).after 10 t = XC (sX m c t) (in7 m c t) := by dsimp only [dats]
theorem after0_11 (c : Dev nD) (t : Fin cfg0.N) : (dats m 0 c).after 11 t = oH m c t := by dsimp only [dats]
theorem after0_12 (c : Dev nD) (t : Fin cfg0.N) : (dats m 0 c).after 12 t = VB (sU m c t) (in7 m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 4000000 in
theorem sound_start (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  rw [show (dats m 0 c).Φ (t : Fin cfg0.N).succ = PhiS m c ((t : Fin cfg0.N).val + 1) (t : Fin cfg0.N).isLt from rfl, show (dats m 0 c).owesAt () (t : Fin cfg0.N).succ = (dats m 0 c).owesAt () (t : Fin cfg0.N).castSucc from rfl]
  simp only [before0_0, before0_1, before0_2, before0_3, before0_4, before0_5, before0_6, before0_7, after0_0, after0_1, after0_2, after0_3, after0_4, after0_5, after0_6, after0_7, after0_8, after0_9, after0_10, after0_11, after0_12]
  rw [PhiS_castSucc, PhiS_succ]
  have e := seqs_start m c t h0
  unfold oH sX sU sS
  rw [e]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HA := (PhiS_any m c t.val (Nat.le_of_lt t.isLt)) $$ HΦ
  icases HA with ⟨⟨⟨%s0, HS0⟩, ⟨%s1, HS1⟩, ⟨%s2, HS2⟩, ⟨%s3, HS3⟩, ⟨%s4, HS4⟩⟩, Hg⟩
  iapply (bodyA c (grid0.coords t) _ _ _ _ _ _ _ _ _ _ _ _ _ _ _ _ _ _ _ _ _ _ _ _ _ _ _ _ _ _ _ _ _ _ _ _ (in2 m c t) (in3 m c t) (in4 m c t) (in5 m c t) (in6 m c t) (in7 m c t) (in8 m c t) (in9 m c t) _ _ _ _ _ s0 s1 s2 s3 s4 ((hcond0 t).mpr h0) _ Set.univ)
  isplitl [H0 H1 H2 H3 H4 H5 H6 H7 H8 H9 H10 H11 H12 HS0 HS1 HS2 HS3 HS4]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iexact HS4
  unfold St
  iintro ⟨H0, H1, H2, H3, H4, H5, H6, H7, H8, H9, H10, H11, H12, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexists _; iexact HS2
      isplitl [HS3]; · iexists _; iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
theorem sound_next (c : Dev nD) (n : ℕ) (hn : n + 1 < cfg0.N) (h0 : ¬(n + 1) % 8 = 0) :
    bodyPre m c ⟨n + 1, hn⟩ ⊢ wp frame (wpE (defs₀ (F := F)) Variants.none c none) Set.univ (bodyAt0 ⟨n + 1, hn⟩) (fun _ => bodyPost m c ⟨n + 1, hn⟩) := by
  unfold bodyPre bodyPost bodyAt0
  rw [show (dats m 0 c).Φ (⟨n + 1, hn⟩ : Fin cfg0.N).succ = PhiS m c ((⟨n + 1, hn⟩ : Fin cfg0.N).val + 1) (⟨n + 1, hn⟩ : Fin cfg0.N).isLt from rfl, show (dats m 0 c).owesAt () (⟨n + 1, hn⟩ : Fin cfg0.N).succ = (dats m 0 c).owesAt () (⟨n + 1, hn⟩ : Fin cfg0.N).castSucc from rfl]
  simp only [before0_0, before0_1, before0_2, before0_3, before0_4, before0_5, before0_6, before0_7, after0_0, after0_1, after0_2, after0_3, after0_4, after0_5, after0_6, after0_7, after0_8, after0_9, after0_10, after0_11, after0_12]
  rw [PhiS_castSucc]
  rw [show PhiS m c (⟨n + 1, hn⟩ : Fin cfg0.N).val (Nat.le_of_lt hn) = PhiS m c (n + 1) (Nat.le_of_lt hn) from rfl, PhiS_succ m c n, PhiS_succ]
  have e := seqs_step m c n hn h0
  unfold oH sX sU sS
  simp only [e]
  iintro ⟨⟨⟨HS0, HS1, ⟨%s2, HS2⟩, ⟨%s3, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (bodyB c (grid0.coords ⟨n + 1, hn⟩) _ _ _ _ _ _ _ _ _ _ _ _ _ _ _ _ _ _ _ _ _ _ _ _ _ _ _ _ _ _ _ _ _ _ _ _ (in2 m c ⟨n + 1, hn⟩) (in3 m c ⟨n + 1, hn⟩) (in4 m c ⟨n + 1, hn⟩) (in5 m c ⟨n + 1, hn⟩) (in6 m c ⟨n + 1, hn⟩) (in7 m c ⟨n + 1, hn⟩) (in8 m c ⟨n + 1, hn⟩) (in9 m c ⟨n + 1, hn⟩) _ _ _ _ _ _ _ s2 s3 _ (fun h => h0 ((hcond0 ⟨n + 1, hn⟩).mp h)) _ Set.univ)
  isplitl [H0 H1 H2 H3 H4 H5 H6 H7 H8 H9 H10 H11 H12 HS0 HS1 HS2 HS3 HS4]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iexact HS4
  unfold St
  iintro ⟨H0, H1, H2, H3, H4, H5, H6, H7, H8, H9, H10, H11, H12, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexists _; iexact HS2
      isplitl [HS3]; · iexists _; iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_start m c t h0
  · obtain ⟨n, hn⟩ := t
    cases n with
    | zero => exact absurd rfl h0
    | succ n => exact sound_next m c n hn h0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_some m c _ _

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run m ρ)

/-- The frame of the mixer's forward call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.MixFIdeal.Hand
-- ==== Proof.Lru.lean ====
module

public import proofs.«01_k».proof.Proof.Alg

/-! The gated linear recurrence on the extended reals: the taps, the gates, the decay, and the states of eight rows by doubling. -/

@[expose] public section

noncomputable section

open Idealize.ShloMosaic

namespace Lru

/-- An element of the projections, nought outside them. -/
def zc (Z : FVec Ideal (⟨2, ![4096, 14336]⟩ : Shape) .f32) (r c : ℕ) : EReal := if h : r < 4096 ∧ c < 14336 then Z (ix2 ⟨r, h.1⟩ ⟨c, h.2⟩) else 0

/-- A parameter of the first layer. -/
def pc (P : FVec Ideal (⟨3, ![2, 16, 2048]⟩ : Shape) .f32) (k c : ℕ) : EReal := if h : k < 16 ∧ c < 2048 then P (ix3 0 ⟨k, h.1⟩ ⟨c, h.2⟩) else 0

/-- A gate's weight of the first layer. -/
def wc (W : FVec Ideal (⟨4, ![2, 8, 256, 256]⟩ : Shape) .bf16) (n h k : ℕ) : EReal :=
  if g : n < 8 ∧ h < 256 ∧ k < 256 then W (ix4 0 ⟨n, g.1⟩ ⟨h, g.2.1⟩ ⟨k, g.2.2⟩) else 0

/-- An element some rows before another, nought before the first row. -/
def tap (f : ℕ → ℕ → EReal) (d r c : ℕ) : EReal := if r < d then 0 else f (r - d) c

/-- The first convolution. -/
def xcv (z p : ℕ → ℕ → EReal) (r c : ℕ) : EReal :=
  p 0 c + p 4 c * tap z 3 r c + p 5 c * tap z 2 r c + p 6 c * tap z 1 r c + p 7 c * tap z 0 r c

/-- The second. -/
def vbv (z p : ℕ → ℕ → EReal) (r c : ℕ) : EReal :=
  0 + p 8 c * tap (fun r k => z r (6144 + k) * z r (8192 + k)) 2 r c
    + p 9 c * tap (fun r k => z r (6144 + k) * z r (8192 + k)) 1 r c
    + p 10 c * tap (fun r k => z r (6144 + k) * z r (8192 + k)) 0 r c

/-- A gate's projection. -/
def prj (z p : ℕ → ℕ → EReal) (w : ℕ → ℕ → ℕ → EReal) (r c : ℕ) : EReal :=
  ∑ h : Fin 256, xcv z p r (c / 256 * 256 + h.val) * w (c / 256) h.val (c % 256)

def lgs (v : EReal) : EReal := Ideal.div 1 (1 + Ideal.exp (-v))

/-- The softplus of the negation. -/
def sp (x : EReal) : EReal := max (-x) 0 + Ideal.log (1 + Ideal.exp (-(max x (-x))))

def la (z p : ℕ → ℕ → EReal) (w : ℕ → ℕ → ℕ → EReal) (r c : ℕ) : EReal :=
  Ideal.ofBits .f32 0xC1000000#32 * lgs (prj z p w r c + p 1 c) * sp (p 3 c)

def av (z p : ℕ → ℕ → EReal) (w : ℕ → ℕ → ℕ → EReal) (r c : ℕ) : EReal := Ideal.exp (la z p w r c)

def bv (z p : ℕ → ℕ → EReal) (w v : ℕ → ℕ → ℕ → EReal) (r c : ℕ) : EReal :=
  Ideal.sqrt (-(Ideal.expm1 (Ideal.ofBits .f32 0x40000000#32 * la z p w r c))) * (lgs (prj z p v r c + p 2 c) * xcv z p r c)

/-- The state before a row. -/
def st (a b : ℕ → EReal) : ℕ → EReal
  | 0 => 0
  | r + 1 => a r * st a b r + b r

/-- The state under the gelu of the gate. -/
def ga (h y : EReal) : EReal :=
  h * (y * (Ideal.ofBits .f32 0x3F000000#32 * (1 + Ideal.tanh (Ideal.ofBits .f32 0x3F4C422A#32 * (y + Ideal.ofBits .f32 0x3D372713#32 * (y * y * y))))))

theorem gate (v : EReal) :
    Ideal.ofBits .f32 0x3F000000#32 * Ideal.tanh (Ideal.ofBits .f32 0x3F000000#32 * v) + Ideal.ofBits .f32 0x3F000000#32 = lgs v := by
  rw [Alg.half]; exact (Alg.sigmoid v).symm

theorem exp_nonneg (x : EReal) : 0 ≤ Ideal.exp x := by
  induction x with
  | bot => exact le_refl _
  | top => exact le_top
  | coe r => rw [Ideal.exp_coe]; exact_mod_cast (Real.exp_pos r).le

theorem lgs_nonneg (v : EReal) : 0 ≤ lgs v := by
  have h : (0 : EReal) < 1 + Ideal.exp (-v) := lt_of_lt_of_le (by norm_num) (le_add_of_nonneg_right (exp_nonneg (-v)))
  unfold lgs Ideal.div
  rw [if_neg h.ne']
  exact mul_nonneg zero_le_one (EReal.inv_nonneg_of_nonneg h.le)

/-- The exponential of minus a size is a real of the unit interval. -/
theorem exp_abs (x : EReal) : ∃ e : ℝ, 0 ≤ e ∧ Ideal.exp (-(max x (-x))) = (e : EReal) := by
  induction x with
  | bot => exact ⟨0, le_refl _, by simp⟩
  | top => exact ⟨0, le_refl _, by simp⟩
  | coe r => exact ⟨Real.exp (-(max r (-r))), (Real.exp_pos _).le, by
    rw [← EReal.coe_neg, ← EReal.coe_strictMono.monotone.map_max, ← EReal.coe_neg, Ideal.exp_coe]⟩

theorem log_coe (e : ℝ) (h : 0 ≤ e) : Ideal.log (1 + (e : EReal)) = ((Real.log (1 + e) : ℝ) : EReal) := by
  rw [show (1 : EReal) + (e : EReal) = ((1 + e : ℝ) : EReal) from rfl]
  show (if 1 + e ≤ 0 then ⊥ else ((Real.log (1 + e) : ℝ) : EReal)) = _
  rw [if_neg (by linarith)]

theorem sp_nonneg (x : EReal) : 0 ≤ sp x := by
  obtain ⟨e, he, h⟩ := exp_abs x
  unfold sp
  rw [h, log_coe e he]
  exact add_nonneg (le_max_right _ _) (by exact_mod_cast Real.log_nonneg (by linarith))

/-- The softplus by its series' quotient. -/
theorem soft (x : EReal) : max (0 - x) 0 + (if 1 + Ideal.exp (0 - max x (-x)) = 1 then Ideal.exp (0 - max x (-x))
      else Ideal.div (Ideal.log (1 + Ideal.exp (0 - max x (-x))) * Ideal.exp (0 - max x (-x)))
        (if 1 + Ideal.exp (0 - max x (-x)) = 1 then 1 else 1 + Ideal.exp (0 - max x (-x)) - 1)) = sp x := by
  unfold sp
  simp only [zero_sub]
  obtain ⟨e, he, h⟩ := exp_abs x
  rw [h, log_coe e he]
  congr 1
  by_cases h1 : (1 : EReal) + (e : EReal) = 1
  · have e0 : e = 0 := by
      have : ((1 + e : ℝ) : EReal) = ((1 : ℝ) : EReal) := h1
      have := EReal.coe_eq_coe_iff.mp this
      linarith
    rw [if_pos h1, e0]; simp
  · have e0 : e ≠ 0 := by rintro rfl; exact h1 (by simp)
    rw [if_neg h1, if_neg h1]
    rw [show (1 : EReal) + (e : EReal) - 1 = ((1 + e - 1 : ℝ) : EReal) from rfl, add_sub_cancel_left, Ideal.div,
      if_neg (by exact_mod_cast e0), ← EReal.coe_inv, ← EReal.coe_mul, ← EReal.coe_mul]
    congr 1
    field_simp

theorem m8 : Ideal.ofBits .f32 0xC1000000#32 = ((-8 : ℝ) : EReal) := by
  simp [Ideal.ofBits, Ideal.ieee, -EReal.coe_mul, -EReal.coe_neg]; norm_num

theorem m2 : Ideal.ofBits .f32 0xC0000000#32 = ((-2 : ℝ) : EReal) := by
  simp [Ideal.ofBits, Ideal.ieee, -EReal.coe_mul, -EReal.coe_neg]; norm_num

theorem la_nonpos (z p : ℕ → ℕ → EReal) (w : ℕ → ℕ → ℕ → EReal) (r c : ℕ) : la z p w r c ≤ 0 := by
  unfold la
  rw [m8, show ((-8 : ℝ) : EReal) = -((8 : ℝ) : EReal) from rfl, EReal.neg_mul, EReal.neg_mul]
  exact EReal.neg_le_zero.mpr (mul_nonneg (mul_nonneg (by exact_mod_cast (by norm_num : (0 : ℝ) ≤ 8)) (lgs_nonneg _)) (sp_nonneg _))

theorem av_nonneg (z p : ℕ → ℕ → EReal) (w : ℕ → ℕ → ℕ → EReal) (r c : ℕ) : 0 ≤ av z p w r c := exp_nonneg _

theorem av_ne_top (z p : ℕ → ℕ → EReal) (w : ℕ → ℕ → ℕ → EReal) (r c : ℕ) : av z p w r c ≠ ⊤ := by
  have h := la_nonpos z p w r c
  unfold av
  generalize la z p w r c = x at h
  induction x with
  | bot => exact EReal.zero_ne_top
  | top => exact absurd h (by simp)
  | coe r => rw [Ideal.exp_coe]; exact EReal.coe_ne_top _

theorem real_tanh (x : ℝ) : -2 * Real.tanh x * (1 - Real.tanh x)⁻¹ = -(Real.exp (2 * x) - 1) := by
  rw [Real.tanh_eq_sinh_div_cosh, Real.sinh_eq, Real.cosh_eq]
  have e : Real.exp (2 * x) = Real.exp x * Real.exp x := by rw [← Real.exp_add]; ring_nf
  have e1 : Real.exp x * Real.exp (-x) = 1 := by rw [← Real.exp_add]; simp
  rw [e]
  have h1 := Real.exp_pos x
  have h2 := Real.exp_pos (-x)
  generalize Real.exp x = a at *
  generalize Real.exp (-x) = b at *
  have hb : b = 1 / a := by field_simp; linarith
  subst hb
  have : a + 1 / a ≠ 0 := by positivity
  have e2 : 1 - (a - 1 / a) / 2 / ((a + 1 / a) / 2) = 2 / (a * (a + 1 / a)) := by field_simp; ring
  rw [e2]
  field_simp

/-- One minus the square of the decay, through the hyperbolic tangent. -/
theorem decay (x : EReal) (h : x ≤ 0) : Ideal.div (Ideal.ofBits .f32 0xC0000000#32 * Ideal.tanh x) (1 - Ideal.tanh x)
    = -(Ideal.expm1 (Ideal.ofBits .f32 0x40000000#32 * x)) := by
  rw [m2, Alg.two]
  induction x with
  | bot =>
    rw [EReal.coe_mul_bot_of_pos (by norm_num), Ideal.tanh_bot]
    rw [show (-1 : EReal) = ((-1 : ℝ) : EReal) from rfl, ← EReal.coe_mul, show (1 : EReal) - ((-1 : ℝ) : EReal) = ((1 - -1 : ℝ) : EReal) from rfl,
      Ideal.div, if_neg (by exact_mod_cast (by norm_num : (1 - -1 : ℝ) ≠ 0)), ← EReal.coe_inv, ← EReal.coe_mul]
    show _ = ((-(0 - 1) : ℝ) : EReal)
    congr 1
    norm_num
  | top => exact absurd h (by simp)
  | coe r =>
    have hne : 1 - Real.tanh r ≠ 0 := by have := Real.tanh_lt_one r; linarith
    rw [Ideal.tanh_coe, ← EReal.coe_mul, ← EReal.coe_mul, show (1 : EReal) - (Real.tanh r : EReal) = ((1 - Real.tanh r : ℝ) : EReal) from rfl,
      Ideal.div, if_neg (by exact_mod_cast hne), ← EReal.coe_inv, ← EReal.coe_mul, real_tanh]
    rfl

/-! ## Eight rows by doubling -/

/-- A row after another. -/
def comp (x y : EReal × EReal) : EReal × EReal := (x.1 * y.1, x.1 * y.2 + x.2)
def app (x : EReal × EReal) (s : EReal) : EReal := x.1 * s + x.2

theorem app_comp (x y : EReal × EReal) (s : EReal) (h0 : 0 ≤ x.1) (h1 : x.1 ≠ ⊤) : app (comp x y) s = app x (app y s) := by
  unfold app comp
  rw [EReal.left_distrib_of_nonneg_of_ne_top h0 h1, mul_assoc, add_assoc]

/-- Every row after the row `d` before it. -/
def dbl (d : ℕ) (P : ℕ → EReal × EReal) (j : ℕ) : EReal × EReal := if d ≤ j then comp (P j) (P (j - d)) else P j

theorem mul_ok {x y : EReal} (hx : 0 ≤ x ∧ x ≠ ⊤) (hy : 0 ≤ y ∧ y ≠ ⊤) : 0 ≤ x * y ∧ x * y ≠ ⊤ := by
  refine ⟨mul_nonneg hx.1 hy.1, ?_⟩
  lift x to ℝ using ⟨hx.2, fun h => absurd hx.1 (by rw [h]; simp)⟩
  lift y to ℝ using ⟨hy.2, fun h => absurd hy.1 (by rw [h]; simp)⟩
  rw [← EReal.coe_mul]
  exact EReal.coe_ne_top _

/-- The states from a state. -/
def sta (P : ℕ → EReal × EReal) (s : EReal) : ℕ → EReal
  | 0 => s
  | j + 1 => app (P j) (sta P s j)

theorem dbl_ok (d : ℕ) (P : ℕ → EReal × EReal) (h : ∀ j, 0 ≤ (P j).1 ∧ (P j).1 ≠ ⊤) (j : ℕ) : 0 ≤ (dbl d P j).1 ∧ (dbl d P j).1 ≠ ⊤ := by
  unfold dbl
  split
  · exact mul_ok (h _) (h _)
  · exact h _

theorem app_dbl (d : ℕ) (P : ℕ → EReal × EReal) (h : ∀ j, 0 ≤ (P j).1 ∧ (P j).1 ≠ ⊤) (j : ℕ) (s : EReal) :
    app (dbl d P j) s = if d ≤ j then app (P j) (app (P (j - d)) s) else app (P j) s := by
  unfold dbl
  split
  · exact app_comp _ _ _ (h j).1 (h j).2
  · rfl

theorem doubling (P : ℕ → EReal × EReal) (h : ∀ j, 0 ≤ (P j).1 ∧ (P j).1 ≠ ⊤) (s : EReal) (j : ℕ) (hj : j < 8) :
    app (dbl 4 (dbl 2 (dbl 1 P)) j) s = sta P s (j + 1) := by
  have h1 := dbl_ok 1 P h
  have h2 := dbl_ok 2 _ h1
  interval_cases j <;> simp [app_dbl _ _ h2, app_dbl _ _ h1, app_dbl _ _ h, sta]

/-- … which are the recurrence's. -/
theorem sta_st (a b : ℕ → EReal) (n : ℕ) : ∀ j, sta (fun i => (a (n + i), b (n + i))) (st a b n) j = st a b (n + j)
  | 0 => rfl
  | j + 1 => by rw [sta, sta_st a b n j]; rfl

end Lru
end
-- ==== Proof.V17R.lean ====
module

public import proofs.«01_k».proof.Defs
public import proofs.«01_k».proof.Proof.Gen.RefBIdeal.Run
public import proofs.«01_k».proof.Proof.Lru
public import Idealize.ShloMosaic.Lib.WordCmp
public import Idealize.ShloMosaic.Lib.DynamicIndex

/-! The mixer's reference: what the recurrence's loop makes, and each result at an element. -/

@[expose] public section

set_option maxRecDepth 16384

noncomputable section

open Idealize.ShloMosaic Idealize.ShloMosaic.TcCoe Idealize.SL.Sem

namespace Cert.RefBIdeal.Val

open Cert.RefBIdeal Cert.RefBIdeal.Gen Cert.RefBIdeal.Value Idealize.ShloMosaic.StableHlo Idealize.ShloMosaic.Tactic Lru
open Idealize.ShloMosaic.WordCmp (dynamicSlice_eq_extract dynamicUpdateSlice_eq_update)

variable (m : (ℓ : Loc nD τ sig) → Buf (Elt Ideal) ℓ)

abbrev lc (c : Dev nD) : Valuation τ sig (Elt Ideal) := launchContents m c

/-- A gate's projection. -/
def PJ (X : FVec Ideal S4096x2048 .f32) (W : FVec Ideal S2x8x256x256 .bf16) : FVec Ideal S4096x2048 .f32 :=
  shapeCast S4096x2048 (transpose S4096x8x256 [2, 0, 1] (Host.dotGeneral dot_S8x256x256_S4096x8x256_S8x256x4096_1_2_2_0_0_1 none
    (extf .f32 (shapeCast S8x256x256 (extractStridedSlice S1x8x256x256 ![0, 0, 0, 0] W slices_S2x8x256x256_S1x8x256x256_0_0_0_0) shapeCasts_S1x8x256x256_S8x256x256) bitsLt_bf16_f32)
    (shapeCast S4096x8x256 (extf .f32 (truncf .bf16 X bitsLt_bf16_f32) bitsLt_bf16_f32) shapeCasts_S4096x2048_S4096x8x256))
    transposes_S8x256x4096_S4096x8x256_2_0_1) shapeCasts_S4096x8x256_S4096x2048

def one : FVec Ideal S4096x2048 .f32 := broadcastInDim S4096x2048 ![] bcast_S_S4096x2048 (constant S_ .f32 0x3F800000#32)

/-- The logistic function. -/
def SG (x : FVec Ideal S4096x2048 .f32) : FVec Ideal S4096x2048 .f32 := Host.divf one (addf one (Host.exp (Host.negf x)))

def G1 (X : FVec Ideal S4096x2048 .f32) (W : FVec Ideal S2x8x256x256 .bf16) (P : FVec Ideal S2x16x2048 .f32) : FVec Ideal S4096x2048 .f32 :=
  SG (addf (PJ X W) (broadcastInDim S4096x2048 ![0, 1] bcast_S1x2048_S4096x2048_0_1 (extractStridedSlice S1x2048 ![1, 0]
    (shapeCast S16x2048 (extractStridedSlice S1x16x2048 ![0, 0, 0] P slices_S2x16x2048_S1x16x2048_0_0_0) shapeCasts_S1x16x2048_S16x2048) slices_S16x2048_S1x2048_1_0)))

def G2 (X : FVec Ideal S4096x2048 .f32) (W : FVec Ideal S2x8x256x256 .bf16) (P : FVec Ideal S2x16x2048 .f32) : FVec Ideal S4096x2048 .f32 :=
  SG (addf (PJ X W) (broadcastInDim S4096x2048 ![0, 1] bcast_S1x2048_S4096x2048_0_1 (extractStridedSlice S1x2048 ![2, 0]
    (shapeCast S16x2048 (extractStridedSlice S1x16x2048 ![0, 0, 0] P slices_S2x16x2048_S1x16x2048_0_0_0) shapeCasts_S1x16x2048_S16x2048) slices_S16x2048_S1x2048_2_0)))

def nought : FVec Ideal S1x2048 .f32 := broadcastInDim S1x2048 ![] bcast_S_S1x2048 (constant S_ .f32 0x00000000#32)

/-- The softplus. -/
def SPV (x : FVec Ideal S1x2048 .f32) : FVec Ideal S1x2048 .f32 :=
  select (cmpf .une (subf x nought) (subf x nought)) (addf x nought)
    (addf (maximumf x nought) (Host.log1p (Host.exp (Host.negf (Host.absf (subf x nought))))))

/-- The logarithm of the decay. -/
def LAV (X : FVec Ideal S4096x2048 .f32) (W : FVec Ideal S2x8x256x256 .bf16) (P : FVec Ideal S2x16x2048 .f32) : FVec Ideal S4096x2048 .f32 :=
  mulf (mulf (broadcastInDim S4096x2048 ![] bcast_S_S4096x2048 (constant S_ .f32 0xC1000000#32)) (G1 X W P))
    (broadcastInDim S4096x2048 ![0, 1] bcast_S1x2048_S4096x2048_0_1 (SPV (Host.negf (extractStridedSlice S1x2048 ![3, 0]
      (shapeCast S16x2048 (extractStridedSlice S1x16x2048 ![0, 0, 0] P slices_S2x16x2048_S1x16x2048_0_0_0) shapeCasts_S1x16x2048_S16x2048) slices_S16x2048_S1x2048_3_0))))

abbrev X (c : Dev nD) : FVec Ideal S4096x2048 .f32 := out_main_v176 (lc m c)
abbrev P (c : Dev nD) : FVec Ideal S2x16x2048 .f32 := lc m c (Proc.devRef .tc main_arg1)
abbrev W (c : Dev nD) : FVec Ideal S2x8x256x256 .bf16 := lc m c (Proc.devRef .tc main_arg2)
abbrev W' (c : Dev nD) : FVec Ideal S2x8x256x256 .bf16 := lc m c (Proc.devRef .tc main_arg3)

theorem e0 (c : Dev nD) : entryContents preI m c (Proc.devRef .tc main_v93_0) = Host.exp (LAV (X m c) (W m c) (P m c)) := by
  simp only [entryContents, afterL_cons, afterL_nil]
  after_reads_simp
  rfl

theorem e1 (c : Dev nD) : entryContents preI m c (Proc.devRef .tc main_v93_1)
    = mulf (Host.sqrt (Host.negf (Host.expm1 (mulf (broadcastInDim S4096x2048 ![] bcast_S_S4096x2048 (constant S_ .f32 0x40000000#32)) (LAV (X m c) (W m c) (P m c))))))
      (mulf (G2 (X m c) (W' m c) (P m c)) (X m c)) := by
  simp only [entryContents, afterL_cons, afterL_nil]
  after_reads_simp
  rfl

theorem e3 (c : Dev nD) : entryContents preI m c (Proc.devRef .tc main_v93_3) = fun _ => (0 : EReal) := by
  simp only [entryContents, afterL_cons, afterL_nil]
  after_reads_simp
  funext i
  exact Idealize.ShloMosaic.Ideal.ofBits_zero_f32

theorem ac5 (a b c d e f g h i : EReal) : a * b + c * d + e * f + g * h + i = i + b * a + d * c + f * e + h * g := by ac_rfl

theorem ac3 (a b c d e f g : EReal) : a * b + c * d + e * g * f = b * a + d * c + f * (e * g) := by ac_rfl

theorem tz (f : Fin 4096 → EReal) (g : ℕ → ℕ → EReal) (L e d r c : ℕ) (he : e + d = r + L) (hr : r < 4096) (hd : d ≤ L)
    (hg : ∀ i : Fin 4096, f i = g i.val c) (o : EReal) (ho : o = 0) :
    (if h : L ≤ e ∧ e - L < 4096 then f ⟨e - L, h.2⟩ else o) = tap g d r c := by
  unfold tap
  by_cases h : r < d
  · rw [if_pos h, dif_neg (by omega), ho]
  · rw [if_neg h, dif_pos (by omega), hg]; congr 1; dsimp only; omega

theorem zz (Z : FVec Ideal S4096x14336 .f32) (r : Fin 4096) (c : ℕ) (hc : c < 14336) : Z (ix2 r ⟨c, hc⟩) = zc Z r.val c := by
  unfold zc; rw [dif_pos ⟨r.isLt, hc⟩]

theorem pz (P : FVec Ideal S2x16x2048 .f32) (j : Fin 16) (k : Fin 2048) : P (ix3 0 j k) = pc P j.val k.val := by
  unfold pc; rw [dif_pos ⟨j.isLt, k.isLt⟩]

theorem oz : (FloatOps.sitofp (F := Ideal) .f32 (0#32 : BitVec 32) : EReal) = 0 := by
  show (((0#32 : BitVec 32).toInt : ℝ) : EReal) = 0
  simp

theorem pn (P : FVec Ideal S2x16x2048 .f32) (j : Fin 16) (n : ℕ) (h : j.val = n) (k : Fin 2048) : P (ix3 0 j k) = pc P n k.val := h ▸ pz P j k

theorem X_apply (V0 : Valuation τ sig (Elt Ideal)) (r : Fin 4096) (k : Fin 2048) :
    out_main_v176 V0 (ix2 r k) = xcv (zc (V0 (Proc.devRef .tc main_arg0))) (pc (V0 (Proc.devRef .tc main_arg1))) r.val k.val := by
  have T := fun e d => tz (fun i => V0 (Proc.devRef .tc main_arg0) (ix2 i ⟨k.val, by omega⟩)) (zc (V0 (Proc.devRef .tc main_arg0))) 3 e d r.val k.val
  have Q := pn (V0 (Proc.devRef .tc main_arg1))
  have ZZ := zz (V0 (Proc.devRef .tc main_arg0))
  unfold out_main_v176 xcv
  pointwise
  rw [T r.val 3 (by omega) (by omega) (by omega) (fun i => zz _ _ _ _) _ oz, T (1 + r.val) 2 (by omega) (by omega) (by omega) (fun i => zz _ _ _ _) _ oz,
    T (2 + r.val) 1 (by omega) (by omega) (by omega) (fun i => zz _ _ _ _) _ oz, ZZ, Q 0 0 rfl, Q 4 4 rfl, Q 5 5 rfl, Q 6 6 rfl, Q 7 7 rfl]
  exact ac5 ..

theorem tu (Z : FVec Ideal S4096x14336 .f32) (e d r : ℕ) (k : Fin 2048) (he : e + d = r + 2) (hr : r < 4096) (hd : d ≤ 2) (o : EReal) (ho : o = 0) :
    (if h : 2 ≤ e ∧ e - 2 < 4096 then Z (ix2 ⟨e - 2, h.2⟩ ⟨6144 + k.val, by omega⟩) * Z (ix2 ⟨e - 2, h.2⟩ ⟨8192 + k.val, by omega⟩) else o)
      = tap (fun r k => zc Z r (6144 + k) * zc Z r (8192 + k)) d r k.val :=
  tz (fun i => Z (ix2 i ⟨6144 + k.val, by omega⟩) * Z (ix2 i ⟨8192 + k.val, by omega⟩)) _ 2 e d r k.val he hr hd (fun i => congrArg₂ (fun x y : EReal => x * y) (zz Z i _ _) (zz Z i _ _)) o ho

theorem V_apply (V0 : Valuation τ sig (Elt Ideal)) (r : Fin 4096) (k : Fin 2048) :
    out_main_v120 V0 (ix2 r k) = vbv (zc (V0 (Proc.devRef .tc main_arg0))) (pc (V0 (Proc.devRef .tc main_arg1))) r.val k.val := by
  have T := fun e d => tu (V0 (Proc.devRef .tc main_arg0)) e d r.val k
  have Q := pn (V0 (Proc.devRef .tc main_arg1))
  have ZZ := zz (V0 (Proc.devRef .tc main_arg0))
  unfold out_main_v120 vbv
  pointwise
  rw [T r.val 2 (by omega) (by omega) (by omega) _ oz, T (1 + r.val) 1 (by omega) (by omega) (by omega) _ oz,
    ZZ, ZZ, Q 8 8 rfl, Q 9 9 rfl, Q 10 10 rfl]
  exact ac3 ..

theorem PJ_apply (X : FVec Ideal S4096x2048 .f32) (W : FVec Ideal S2x8x256x256 .bf16) (z p : ℕ → ℕ → EReal)
    (hX : ∀ (r : Fin 4096) (k : Fin 2048), X (ix2 r k) = xcv z p r.val k.val) (r : Fin 4096) (k : Fin 2048) :
    PJ X W (ix2 r k) = prj z p (wc W) r.val k.val := by
  unfold PJ prj
  pointwise
  refine Finset.sum_congr rfl fun h _ => ?_
  rw [hX]
  unfold wc
  rw [dif_pos ⟨by omega, h.isLt, by omega⟩]
  exact mul_comm _ _

theorem G1_apply (X : FVec Ideal S4096x2048 .f32) (W : FVec Ideal S2x8x256x256 .bf16) (P : FVec Ideal S2x16x2048 .f32) (r : Fin 4096) (k : Fin 2048) :
    G1 X W P (ix2 r k) = lgs (PJ X W (ix2 r k) + pc P 1 k.val) := by
  rw [show pc P 1 k.val = P (ix3 0 1 k) from (pz P 1 k).symm]
  unfold G1 SG one lgs
  pointwise

theorem G2_apply (X : FVec Ideal S4096x2048 .f32) (W : FVec Ideal S2x8x256x256 .bf16) (P : FVec Ideal S2x16x2048 .f32) (r : Fin 4096) (k : Fin 2048) :
    G2 X W P (ix2 r k) = lgs (PJ X W (ix2 r k) + pc P 2 k.val) := by
  rw [show pc P 2 k.val = P (ix3 0 2 k) from (pz P 2 k).symm]
  unfold G2 SG one lgs
  pointwise

theorem SPV_apply (X : FVec Ideal S1x2048 .f32) (k : Fin 2048) (y : EReal) (hy : X (ix2 0 k) = -y) : SPV X (ix2 0 k) = sp y := by
  unfold SPV nought sp
  pointwise
  rw [if_neg (fun h => h rfl), hy]
  show max (-y) 0 + Ideal.log (1 + Ideal.exp (-(max (-y) (-(-y))))) = _
  rw [neg_neg, max_comm (-y) y]

theorem LAV_apply (X : FVec Ideal S4096x2048 .f32) (W : FVec Ideal S2x8x256x256 .bf16) (P : FVec Ideal S2x16x2048 .f32) (z : ℕ → ℕ → EReal)
    (hX : ∀ (r : Fin 4096) (k : Fin 2048), X (ix2 r k) = xcv z (pc P) r.val k.val) (r : Fin 4096) (k : Fin 2048) :
    LAV X W P (ix2 r k) = la z (pc P) (wc W) r.val k.val := by
  unfold LAV la
  rw [← PJ_apply X W z (pc P) hX r k, ← G1_apply, ← SPV_apply (Host.negf (extractStridedSlice S1x2048 ![3, 0]
      (shapeCast S16x2048 (extractStridedSlice S1x16x2048 ![0, 0, 0] P slices_S2x16x2048_S1x16x2048_0_0_0) shapeCasts_S1x16x2048_S16x2048) slices_S16x2048_S1x2048_3_0)) k]
  · pointwise
  · rw [show pc P 3 k.val = P (ix3 0 3 k) from (pz P 3 k).symm]
    pointwise

abbrev zr (c : Dev nD) : ℕ → ℕ → EReal := zc (m ((c : Thread nD τ).loc main_arg0))
abbrev pr (c : Dev nD) : ℕ → ℕ → EReal := pc (m ((c : Thread nD τ).loc main_arg1))
abbrev wr (c : Dev nD) : ℕ → ℕ → ℕ → EReal := wc (m ((c : Thread nD τ).loc main_arg2))
abbrev vr (c : Dev nD) : ℕ → ℕ → ℕ → EReal := wc (m ((c : Thread nD τ).loc main_arg3))

theorem A_apply (c : Dev nD) (r : Fin 4096) (k : Fin 2048) :
    entryContents preI m c (Proc.devRef .tc main_v93_0) (ix2 r k) = av (zr m c) (pr m c) (wr m c) r.val k.val := by
  rw [e0]
  exact congrArg Ideal.exp (LAV_apply (X m c) (W m c) (P m c) (zr m c) (X_apply (lc m c)) r k)

theorem B_apply (c : Dev nD) (r : Fin 4096) (k : Fin 2048) :
    entryContents preI m c (Proc.devRef .tc main_v93_1) (ix2 r k) = bv (zr m c) (pr m c) (wr m c) (vr m c) r.val k.val := by
  rw [e1]
  unfold bv
  have hx : X m c (ix2 r k) = xcv (zr m c) (pr m c) r.val k.val := X_apply (lc m c) r k
  rw [← LAV_apply (X m c) (W m c) (P m c) (zr m c) (X_apply (lc m c)) r k, ← PJ_apply (X m c) (W' m c) (zr m c) (pr m c) (X_apply (lc m c)) r k, ← G2_apply (X m c) (W' m c) (P m c), ← hx]
  generalize LAV (X m c) (W m c) (P m c) = L
  generalize G2 (X m c) (W' m c) (P m c) = G
  generalize X m c = Y
  pointwise
  rfl

theorem sc (x : FVec Ideal S1x2048 .f32) (q : Fin 2048) : shapeCast S2048 x shapeCasts_S1x2048_S2048 (ix1 q) = x (ix2 0 q) := by pointwise

theorem ds (x : FVec Ideal S4096x2048 .f32) (s : Fin 2 → Int) (k : ℕ) (hk : k < 4096) (h0 : s 0 = k) (h1 : s 1 = (0 : ℕ)) (q : Fin 2048) :
    Host.dynamicSlice S1x2048 x s sliceFits_S4096x2048_S1x2048 (ix2 0 q) = x (ix2 ⟨k, hk⟩ q) := by
  rw [dynamicSlice_eq_extract S1x2048 x s _ ![k, 0] ⟨rfl, fun a => match a with
    | ⟨0, _⟩ => (by show k + 1 ≤ 4096; omega)
    | ⟨1, _⟩ => (by show 0 + 2048 ≤ 2048; omega)⟩ (fun a => match a with | ⟨0, _⟩ => h0 | ⟨1, _⟩ => h1)]
  pointwise

theorem du (x : FVec Ideal S4096x2048 .f32) (u : FVec Ideal S1x2048 .f32) (s : Fin 2 → Int) (k : ℕ) (hk : k < 4096) (h0 : s 0 = k) (h1 : s 1 = (0 : ℕ)) (i : Fin 4096) (q : Fin 2048) :
    Host.dynamicUpdateSlice x u s updateFits_S4096x2048_S1x2048 (ix2 i q) = if i.val = k then u (ix2 0 q) else x (ix2 i q) := by
  rw [dynamicUpdateSlice_eq_update x u s _ ![k, 0] ⟨rfl, fun a => match a with
    | ⟨0, _⟩ => (by show k + 1 ≤ 4096; omega)
    | ⟨1, _⟩ => (by show 0 + 2048 ≤ 2048; omega)⟩ (fun a => match a with | ⟨0, _⟩ => h0 | ⟨1, _⟩ => h1)]
  pointwise
  by_cases h : i.val = k
  · rw [if_pos h, dif_pos (by omega)]
    congr 2
    exact Fin.ext (show i.val - k = 0 by omega)
  · rw [if_neg h, dif_neg (by omega)]

/-- Where a trip reads and writes. -/
abbrev stt (V0 : Valuation τ sig (Elt Ideal)) : Fin 2 → Int :=
  fun k => (((![V0 (Proc.devRef .tc main_v93_2), constantI S_ 32 0#32] : Fin 2 → (⟨S_, .i32⟩ : BufTy).Contents (Elt Ideal))) k (Shape.Idx.first h_S_)).toInt

theorem loop (c : Dev nD) (q : Fin 2048) : ∀ k : ℕ, k ≤ 4096 →
    (STEP^[k] (entryContents preI m c)) (Proc.devRef .tc main_v93_0) = entryContents preI m c (Proc.devRef .tc main_v93_0)
    ∧ (STEP^[k] (entryContents preI m c)) (Proc.devRef .tc main_v93_1) = entryContents preI m c (Proc.devRef .tc main_v93_1)
    ∧ (STEP^[k] (entryContents preI m c)) (Proc.devRef .tc main_v93_2) = (fun _ => BitVec.ofNat 32 k)
    ∧ (STEP^[k] (entryContents preI m c)) (Proc.devRef .tc main_v93_3) (ix1 q) = st (fun i => av (zr m c) (pr m c) (wr m c) i q.val) (fun i => bv (zr m c) (pr m c) (wr m c) (vr m c) i q.val) k
    ∧ ∀ i : Fin 4096, i.val < k → (STEP^[k] (entryContents preI m c)) (Proc.devRef .tc main_v93_4) (ix2 i q) = st (fun i => av (zr m c) (pr m c) (wr m c) i q.val) (fun i => bv (zr m c) (pr m c) (wr m c) (vr m c) i q.val) (i.val + 1)
  | 0 => fun _ => ⟨rfl, rfl, ctr_entry m c, by rw [Function.iterate_zero, id_eq, e3]; rfl, fun i h => absurd h (Nat.not_lt_zero _)⟩
  | k + 1 => fun hk => by
    obtain ⟨h0, h1, h2, h3, h4⟩ := loop c q k (by omega)
    rw [Function.iterate_succ_apply']
    generalize STEP^[k] (entryContents preI m c) = V at h0 h1 h2 h3 h4 ⊢
    have hs0 : stt V 0 = (k : Int) := by
      show (V (Proc.devRef .tc main_v93_2) (Shape.Idx.first h_S_)).toInt = _
      rw [h2]
      exact toInt_ofNat_of_lt (by omega)
    have hs1 : stt V 1 = ((0 : ℕ) : Int) := rfl
    have hr : res_main_while0b_v180 V (ix1 q) = st (fun i => av (zr m c) (pr m c) (wr m c) i q.val) (fun i => bv (zr m c) (pr m c) (wr m c) (vr m c) i q.val) (k + 1) := by
      have a1 : shapeCast S2048 (Host.dynamicSlice S1x2048 (V (Proc.devRef .tc main_v93_0)) (stt V) sliceFits_S4096x2048_S1x2048) shapeCasts_S1x2048_S2048 (ix1 q) = av (zr m c) (pr m c) (wr m c) k q.val :=
        (sc _ q).trans ((ds _ _ k hk hs0 hs1 q).trans (by rw [h0]; exact A_apply m c ⟨k, hk⟩ q))
      have b1 : shapeCast S2048 (Host.dynamicSlice S1x2048 (V (Proc.devRef .tc main_v93_1)) (stt V) sliceFits_S4096x2048_S1x2048) shapeCasts_S1x2048_S2048 (ix1 q) = bv (zr m c) (pr m c) (wr m c) (vr m c) k q.val :=
        (sc _ q).trans ((ds _ _ k hk hs0 hs1 q).trans (by rw [h1]; exact B_apply m c ⟨k, hk⟩ q))
      exact congrArg₂ (fun x y : EReal => x + y) (congrArg₂ (fun x y : EReal => x * y) a1 h3) b1
    rw [STEP_main_v93_0, STEP_main_v93_1, STEP_main_v93_2, STEP_main_v93_3, STEP_main_v93_4]
    refine ⟨h0, h1, ?_, hr, fun i hi => ?_⟩
    · unfold step_main_v93_2
      rw [h2]
      exact funext fun _ => (BitVec.ofNat_add k 1).symm
    · refine (du _ _ (stt V) k hk hs0 hs1 i q).trans ?_
      by_cases h : i.val = k
      · rw [if_pos h, h]
        exact (show broadcastInDim S1x2048 ![1] bcast_S2048_S1x2048_1 (res_main_while0b_v180 V) (ix2 0 q) = res_main_while0b_v180 V (ix1 q) by pointwise).trans hr
      · rw [if_neg h]
        exact h4 i (by omega)

theorem H_apply (c : Dev nD) (r : Fin 4096) (q : Fin 2048) : (STEP^[4096] (entryContents preI m c)) (Proc.devRef .tc main_v93_4) (ix2 r q)
    = st (fun i => av (zr m c) (pr m c) (wr m c) i q.val) (fun i => bv (zr m c) (pr m c) (wr m c) (vr m c) i q.val) (r.val + 1) :=
  (loop m c q 4096 (le_refl _)).2.2.2.2 r r.isLt

theorem YA_apply (V0 : Valuation τ sig (Elt Ideal)) (r : Fin 4096) (k : Fin 2048) :
    out_main_v136 V0 (ix2 r k) = ga (V0 (Proc.devRef .tc main_v93_4) (ix2 r k)) (zc (V0 (Proc.devRef .tc main_arg0)) r.val (2048 + k.val)) := by
  rw [← zz (V0 (Proc.devRef .tc main_arg0)) r (2048 + k.val) (by omega)]
  unfold out_main_v136 ga
  pointwise

theorem YB_apply (V0 : Valuation τ sig (Elt Ideal)) (r : Fin 4096) (k : Fin 2048) :
    out_main_v139 V0 (ix2 r k) = zc (V0 (Proc.devRef .tc main_arg0)) r.val (4096 + k.val) * out_main_v120 V0 (ix2 r k) := by
  rw [← zz (V0 (Proc.devRef .tc main_arg0)) r (4096 + k.val) (by omega)]
  unfold out_main_v139 out_main_v120
  pointwise

end Cert.RefBIdeal.Val
end
-- ==== Proof.V17.lean ====
module

public import proofs.«01_k».proof.Defs
public import proofs.«01_k».proof.Proof.MixFIdeal.Fr
public import proofs.«01_k».proof.Proof.V17R
public import Idealize.ShloMosaic.Lib.Pipeline.Value

/-! The mixer's forward call: what each of its results holds. -/

@[expose] public section

set_option maxRecDepth 16384

noncomputable section

open Idealize.ShloMosaic Idealize.ShloMosaic.TcCoe Idealize.SL.Sem
open Idealize.ShloMosaic.Pipeline (Dat)

namespace Cert.MixFIdeal.Val

open Cert.MixFIdeal Cert.MixFIdeal.Gen Cert.MixFIdeal.Hand Alg Lru

variable (m : (ℓ : Loc nD τ sig) → Buf (Elt Ideal) ℓ) (ρ : Dev nD → PrngReg)

theorem N64 (t : Fin cfg0.N) : t.val < 64 := Nat.lt_of_lt_of_eq t.isLt N_0

abbrev z (c : Dev nD) : ℕ → ℕ → EReal := zc (m ((c : Thread nD τ).loc main_arg0))
abbrev p (c : Dev nD) : ℕ → ℕ → EReal := pc (m ((c : Thread nD τ).loc main_arg1))
abbrev w (c : Dev nD) : ℕ → ℕ → ℕ → EReal := wc (m ((c : Thread nD τ).loc main_arg2))
abbrev v (c : Dev nD) : ℕ → ℕ → ℕ → EReal := wc (m ((c : Thread nD τ).loc main_arg3))

theorem idx0 : ∀ t : Fin cfg0.N, win0_0.index t 0 = t.val % 8 ∧ win0_0.index t 1 = t.val / 8 :=
  (by decide +kernel : ∀ t : Fin grid0.N, _)
theorem iblk0_apply (c : Dev nD) (t : Fin cfg0.N) (r : Fin 512) (k : Fin 256) : iblk m c 0 t (ix2 r k)
    = z m c (t.val % 8 * 512 + r.val) (t.val / 8 * 256 + k.val) := by
  have ht := N64 t
  unfold iblk z zc
  rw [View.read_apply, dif_pos ⟨by omega, by omega⟩]
  show V m c main_arg0 _ = _
  rw [V_main_arg0]
  congr 1
  funext a
  apply Fin.ext
  match a with
  | ⟨0, _⟩ => show win0_0.index t 0 * 512 + 1 * r.val = t.val % 8 * 512 + r.val; rw [(idx0 t).1]; omega
  | ⟨1, _⟩ => show win0_0.index t 1 * 256 + 1 * k.val = t.val / 8 * 256 + k.val; rw [(idx0 t).2]; omega

theorem idx1 : ∀ t : Fin cfg0.N, win0_1.index t 0 = t.val % 8 ∧ win0_1.index t 1 = t.val / 8 + 8 :=
  (by decide +kernel : ∀ t : Fin grid0.N, _)
theorem iblk1_apply (c : Dev nD) (t : Fin cfg0.N) (r : Fin 512) (k : Fin 256) : iblk m c 1 t (ix2 r k)
    = z m c (t.val % 8 * 512 + r.val) (2048 + (t.val / 8 * 256 + k.val)) := by
  have ht := N64 t
  unfold iblk z zc
  rw [View.read_apply, dif_pos ⟨by omega, by omega⟩]
  show V m c main_arg0 _ = _
  rw [V_main_arg0]
  congr 1
  funext a
  apply Fin.ext
  match a with
  | ⟨0, _⟩ => show win0_1.index t 0 * 512 + 1 * r.val = t.val % 8 * 512 + r.val; rw [(idx1 t).1]; omega
  | ⟨1, _⟩ => show win0_1.index t 1 * 256 + 1 * k.val = 2048 + (t.val / 8 * 256 + k.val); rw [(idx1 t).2]; omega

theorem idx2 : ∀ t : Fin cfg0.N, win0_2.index t 0 = t.val % 8 ∧ win0_2.index t 1 = t.val / 8 + 16 :=
  (by decide +kernel : ∀ t : Fin grid0.N, _)
theorem iblk2_apply (c : Dev nD) (t : Fin cfg0.N) (r : Fin 512) (k : Fin 256) : iblk m c 2 t (ix2 r k)
    = z m c (t.val % 8 * 512 + r.val) (4096 + (t.val / 8 * 256 + k.val)) := by
  have ht := N64 t
  unfold iblk z zc
  rw [View.read_apply, dif_pos ⟨by omega, by omega⟩]
  show V m c main_arg0 _ = _
  rw [V_main_arg0]
  congr 1
  funext a
  apply Fin.ext
  match a with
  | ⟨0, _⟩ => show win0_2.index t 0 * 512 + 1 * r.val = t.val % 8 * 512 + r.val; rw [(idx2 t).1]; omega
  | ⟨1, _⟩ => show win0_2.index t 1 * 256 + 1 * k.val = 4096 + (t.val / 8 * 256 + k.val); rw [(idx2 t).2]; omega

theorem idx3 : ∀ t : Fin cfg0.N, win0_3.index t 0 = t.val % 8 ∧ win0_3.index t 1 = t.val / 8 + 24 :=
  (by decide +kernel : ∀ t : Fin grid0.N, _)
theorem iblk3_apply (c : Dev nD) (t : Fin cfg0.N) (r : Fin 512) (k : Fin 256) : iblk m c 3 t (ix2 r k)
    = z m c (t.val % 8 * 512 + r.val) (6144 + (t.val / 8 * 256 + k.val)) := by
  have ht := N64 t
  unfold iblk z zc
  rw [View.read_apply, dif_pos ⟨by omega, by omega⟩]
  show V m c main_arg0 _ = _
  rw [V_main_arg0]
  congr 1
  funext a
  apply Fin.ext
  match a with
  | ⟨0, _⟩ => show win0_3.index t 0 * 512 + 1 * r.val = t.val % 8 * 512 + r.val; rw [(idx3 t).1]; omega
  | ⟨1, _⟩ => show win0_3.index t 1 * 256 + 1 * k.val = 6144 + (t.val / 8 * 256 + k.val); rw [(idx3 t).2]; omega

theorem idx4 : ∀ t : Fin cfg0.N, win0_4.index t 0 = t.val % 8 ∧ win0_4.index t 1 = t.val / 8 + 32 :=
  (by decide +kernel : ∀ t : Fin grid0.N, _)
theorem iblk4_apply (c : Dev nD) (t : Fin cfg0.N) (r : Fin 512) (k : Fin 256) : iblk m c 4 t (ix2 r k)
    = z m c (t.val % 8 * 512 + r.val) (8192 + (t.val / 8 * 256 + k.val)) := by
  have ht := N64 t
  unfold iblk z zc
  rw [View.read_apply, dif_pos ⟨by omega, by omega⟩]
  show V m c main_arg0 _ = _
  rw [V_main_arg0]
  congr 1
  funext a
  apply Fin.ext
  match a with
  | ⟨0, _⟩ => show win0_4.index t 0 * 512 + 1 * r.val = t.val % 8 * 512 + r.val; rw [(idx4 t).1]; omega
  | ⟨1, _⟩ => show win0_4.index t 1 * 256 + 1 * k.val = 8192 + (t.val / 8 * 256 + k.val); rw [(idx4 t).2]; omega

theorem idx5 : ∀ t : Fin cfg0.N, win0_5.index t 0 = 0 ∧ win0_5.index t 1 = 0 ∧ win0_5.index t 2 = t.val / 8 :=
  (by decide +kernel : ∀ t : Fin grid0.N, _)
theorem P7_apply (c : Dev nD) (t : Fin cfg0.N) (k : ℕ) (hk : k < 16) (q : Fin 256) :
    P7 (in7 m c t) k q = p m c k (t.val / 8 * 256 + q.val) := by
  have ht := N64 t
  unfold P7 in7 iblk p pc
  rw [View.read_apply, dif_pos ⟨hk, by omega⟩]
  show V m c main_arg1 _ = _
  rw [V_main_arg1]
  congr 1
  funext a
  apply Fin.ext
  match a with
  | ⟨0, _⟩ => show win0_5.index t 0 * 1 + 1 * 0 = 0; rw [(idx5 t).1]
  | ⟨1, _⟩ => show win0_5.index t 1 * 16 + 1 * (k % 16) = k; rw [(idx5 t).2.1]; omega
  | ⟨2, _⟩ => show win0_5.index t 2 * 256 + 1 * q.val = t.val / 8 * 256 + q.val; rw [(idx5 t).2.2]; omega

/-! ## The two sequences under their history -/

theorem XB_apply (s : Vec Ideal S520x256 .f32) (x : Vec Ideal S512x256 .f32) (j : Fin 520) (q : Fin 256) :
    XB s x (ix2 j q) = if h : j.val < 8 then s (ix2 j q) else x (ix2 ⟨j.val - 8, by omega⟩ q) := rfl

theorem HT_apply (y : Vec Ideal S520x256 .f32) (j : Fin 520) (q : Fin 256) (h : j.val < 8) :
    HT y (ix2 j q) = y (ix2 ⟨512 + j.val, by omega⟩ q) := by
  unfold HT T8
  exact dif_pos h

theorem ZX_apply (i : S520x256.Idx) : (ZX (F := Ideal)) i = (0 : EReal) := Ideal.ofBits_zero_f32

/-- A sequence's element at a row counted from eight rows before the first. -/
def seqv (f : ℕ → ℕ → EReal) (n j q : ℕ) : EReal :=
  if n % 8 * 512 + j < 8 then 0 else f (n % 8 * 512 + j - 8) (n / 8 * 256 + q)

theorem seq_start (f : ℕ → ℕ → EReal) (n : ℕ) (h0 : n % 8 = 0) (x : Vec Ideal S512x256 .f32)
    (hx : ∀ (r : Fin 512) (q : Fin 256), x (ix2 r q) = f (n % 8 * 512 + r.val) (n / 8 * 256 + q.val)) (j : Fin 520) (q : Fin 256) :
    XB ZX x (ix2 j q) = seqv f n j.val q.val := by
  rw [XB_apply]
  unfold seqv
  split
  · next h => rw [if_pos (by omega), ZX_apply]
  · next h => rw [if_neg (by omega), hx]; congr 1; dsimp only; omega

theorem seq_next (f : ℕ → ℕ → EReal) (n : ℕ) (h0 : ¬(n + 1) % 8 = 0) (x : Vec Ideal S512x256 .f32) (y : Vec Ideal S520x256 .f32)
    (hx : ∀ (r : Fin 512) (q : Fin 256), x (ix2 r q) = f ((n + 1) % 8 * 512 + r.val) ((n + 1) / 8 * 256 + q.val))
    (hy : ∀ (j : Fin 520) (q : Fin 256), y (ix2 j q) = seqv f n j.val q.val) (j : Fin 520) (q : Fin 256) :
    XB (HT y) x (ix2 j q) = seqv f (n + 1) j.val q.val := by
  have e1 : (n + 1) % 8 = n % 8 + 1 := by omega
  have e2 : (n + 1) / 8 = n / 8 := by omega
  rw [XB_apply]
  split
  · next h =>
    rw [HT_apply y j q h, hy]
    unfold seqv
    rw [if_neg (by dsimp only; omega), if_neg (by omega), e2]
    congr 1
    dsimp only
    omega
  · next h =>
    unfold seqv
    rw [if_neg (by omega), hx]
    congr 1
    dsimp only
    omega

theorem seq_all (c : Dev nD) : ∀ (n : ℕ) (hn : n < cfg0.N) (j : Fin 520) (q : Fin 256),
    (seqs m c n hn).1 (ix2 j q) = seqv (z m c) n j.val q.val
    ∧ (seqs m c n hn).2.1 (ix2 j q) = seqv (fun r k => z m c r (6144 + k) * z m c r (8192 + k)) n j.val q.val := by
  intro n
  induction n with
  | zero =>
    intro hn j q
    have e := seqs_start m c ⟨0, hn⟩ rfl
    dsimp only at e
    rw [e]
    exact ⟨seq_start _ 0 rfl _ (fun r q => iblk0_apply m c ⟨0, hn⟩ r q) j q,
      seq_start _ 0 rfl _ (fun r q => congrArg₂ (fun a b : EReal => a * b) (iblk3_apply m c ⟨0, hn⟩ r q) (iblk4_apply m c ⟨0, hn⟩ r q)) j q⟩
  | succ n ih =>
    intro hn j q
    by_cases h0 : (n + 1) % 8 = 0
    · have e := seqs_start m c ⟨n + 1, hn⟩ h0
      dsimp only at e
      rw [e]
      exact ⟨seq_start _ (n + 1) h0 _ (fun r q => iblk0_apply m c ⟨n + 1, hn⟩ r q) j q,
        seq_start _ (n + 1) h0 _ (fun r q => congrArg₂ (fun a b : EReal => a * b) (iblk3_apply m c ⟨n + 1, hn⟩ r q) (iblk4_apply m c ⟨n + 1, hn⟩ r q)) j q⟩
    · rw [seqs_step m c n hn h0]
      exact ⟨seq_next _ n h0 _ _ (fun r q => iblk0_apply m c ⟨n + 1, hn⟩ r q) (fun j q => (ih (Nat.lt_of_succ_lt hn) j q).1) j q,
        seq_next _ n h0 _ _ (fun r q => congrArg₂ (fun a b : EReal => a * b) (iblk3_apply m c ⟨n + 1, hn⟩ r q) (iblk4_apply m c ⟨n + 1, hn⟩ r q)) (fun j q => (ih (Nat.lt_of_succ_lt hn) j q).2) j q⟩

theorem sX_apply (c : Dev nD) (t : Fin cfg0.N) (d : ℕ) (hd : d ≤ 8) (r : Fin 512) (q : Fin 256) (j : Fin 520) (hj : j.val = 8 - d + r.val) :
    sX m c t (ix2 j q) = tap (z m c) d (t.val % 8 * 512 + r.val) (t.val / 8 * 256 + q.val) := by
  refine (seq_all m c t.val t.isLt j q).1.trans ?_
  unfold seqv tap
  rw [hj]
  by_cases h : t.val % 8 * 512 + r.val < d
  · rw [if_pos (by omega), if_pos h]
  · rw [if_neg (by omega), if_neg h]; congr 1; omega

theorem sU_apply (c : Dev nD) (t : Fin cfg0.N) (d : ℕ) (hd : d ≤ 8) (r : Fin 512) (q : Fin 256) (j : Fin 520) (hj : j.val = 8 - d + r.val) :
    sU m c t (ix2 j q) = tap (fun r k => z m c r (6144 + k) * z m c r (8192 + k)) d (t.val % 8 * 512 + r.val) (t.val / 8 * 256 + q.val) := by
  refine (seq_all m c t.val t.isLt j q).2.trans ?_
  unfold seqv tap
  rw [hj]
  by_cases h : t.val % 8 * 512 + r.val < d
  · rw [if_pos (by omega), if_pos h]
  · rw [if_neg (by omega), if_neg h]; congr 1; omega

theorem XC_apply (c : Dev nD) (t : Fin cfg0.N) (r : Fin 512) (q : Fin 256) :
    XC (sX m c t) (in7 m c t) (ix2 r q) = xcv (z m c) (p m c) (t.val % 8 * 512 + r.val) (t.val / 8 * 256 + q.val) := by
  unfold XC xcv
  dsimp only [ix2_0, ix2_1]
  rw [P7_apply m c t 0 (by decide), P7_apply m c t 4 (by decide), P7_apply m c t 5 (by decide), P7_apply m c t 6 (by decide), P7_apply m c t 7 (by decide),
    sX_apply m c t 3 (by decide) r q _ rfl, sX_apply m c t 2 (by decide) r q _ rfl, sX_apply m c t 1 (by decide) r q _ rfl, sX_apply m c t 0 (by decide) r q _ rfl]
  rfl

theorem VB_apply (c : Dev nD) (t : Fin cfg0.N) (r : Fin 512) (q : Fin 256) :
    VB (sU m c t) (in7 m c t) (ix2 r q) = vbv (z m c) (p m c) (t.val % 8 * 512 + r.val) (t.val / 8 * 256 + q.val) := by
  unfold VB vbv
  dsimp only [ix2_0, ix2_1]
  rw [P7_apply m c t 8 (by decide), P7_apply m c t 9 (by decide), P7_apply m c t 10 (by decide),
    sU_apply m c t 2 (by decide) r q _ rfl, sU_apply m c t 1 (by decide) r q _ rfl, sU_apply m c t 0 (by decide) r q _ rfl,
    show cc (F := Ideal) 0x00000000#32 = (0 : EReal) from Ideal.ofBits_zero_f32]
  rfl

theorem idx6 : ∀ t : Fin cfg0.N, win0_6.index t 0 = 0 ∧ win0_6.index t 1 = t.val / 8 ∧ win0_6.index t 2 = 0 ∧ win0_6.index t 3 = 0 :=
  (by decide +kernel : ∀ t : Fin grid0.N, _)
theorem iblk6_apply (c : Dev nD) (t : Fin cfg0.N) (h k : Fin 256) : iblk m c 6 t (ix4 0 0 h k) = w m c (t.val / 8) h.val k.val := by
  have ht := N64 t
  unfold iblk w wc
  rw [View.read_apply, dif_pos ⟨by omega, h.isLt, k.isLt⟩]
  show V m c main_arg2 _ = _
  rw [V_main_arg2]
  congr 1
  funext a
  apply Fin.ext
  match a with
  | ⟨0, _⟩ => show win0_6.index t 0 * 1 + 1 * 0 = 0; rw [(idx6 t).1]
  | ⟨1, _⟩ => show win0_6.index t 1 * 1 + 1 * 0 = t.val / 8; rw [(idx6 t).2.1]; omega
  | ⟨2, _⟩ => show win0_6.index t 2 * 256 + 1 * h.val = h.val; rw [(idx6 t).2.2.1]; omega
  | ⟨3, _⟩ => show win0_6.index t 3 * 256 + 1 * k.val = k.val; rw [(idx6 t).2.2.2]; omega

theorem idx7 : ∀ t : Fin cfg0.N, win0_7.index t 0 = 0 ∧ win0_7.index t 1 = t.val / 8 ∧ win0_7.index t 2 = 0 ∧ win0_7.index t 3 = 0 :=
  (by decide +kernel : ∀ t : Fin grid0.N, _)
theorem iblk7_apply (c : Dev nD) (t : Fin cfg0.N) (h k : Fin 256) : iblk m c 7 t (ix4 0 0 h k) = v m c (t.val / 8) h.val k.val := by
  have ht := N64 t
  unfold iblk v wc
  rw [View.read_apply, dif_pos ⟨by omega, h.isLt, k.isLt⟩]
  show V m c main_arg3 _ = _
  rw [V_main_arg3]
  congr 1
  funext a
  apply Fin.ext
  match a with
  | ⟨0, _⟩ => show win0_7.index t 0 * 1 + 1 * 0 = 0; rw [(idx7 t).1]
  | ⟨1, _⟩ => show win0_7.index t 1 * 1 + 1 * 0 = t.val / 8; rw [(idx7 t).2.1]; omega
  | ⟨2, _⟩ => show win0_7.index t 2 * 256 + 1 * h.val = h.val; rw [(idx7 t).2.2.1]; omega
  | ⟨3, _⟩ => show win0_7.index t 3 * 256 + 1 * k.val = k.val; rw [(idx7 t).2.2.2]; omega

/-! ## The gates -/

theorem GA_apply (x : Vec Ideal S512x256 .f32) (w : Vec Ideal S1x1x256x256 .bf16) (r : Fin 512) (q : Fin 256) :
    GA x w (ix2 r q) = ((∑ h : Fin 256, x (ix2 r h) * w (ix4 0 0 h q)) : EReal) := by
  unfold GA
  pointwise [k0_pay75]

theorem prj_apply (c : Dev nD) (t : Fin cfg0.N) (r : Fin 512) (q : Fin 256) (w : Vec Ideal S1x1x256x256 .bf16) (u : ℕ → ℕ → ℕ → EReal)
    (hw : ∀ h k : Fin 256, w (ix4 0 0 h k) = u (t.val / 8) h.val k.val) :
    GA (XC (sX m c t) (in7 m c t)) w (ix2 r q) = prj (z m c) (p m c) u (t.val % 8 * 512 + r.val) (t.val / 8 * 256 + q.val) := by
  rw [GA_apply]
  unfold prj
  rw [show (t.val / 8 * 256 + q.val) / 256 = t.val / 8 by omega, show (t.val / 8 * 256 + q.val) % 256 = q.val by omega]
  exact Finset.sum_congr rfl fun h _ => by rw [XC_apply, hw]

theorem gt_eq (x b : EReal) : gt (F := Ideal) x b = lgs (x + b) := gate (x + b)

theorem sel (a b : EReal) {α : Type} (x y : α) : Scalar.select (Ideal.cmp .oeq a b) x y = if a = b then x else y := by
  unfold Scalar.select Ideal.cmp
  by_cases h : a = b <;> simp [h]

theorem spl_eq (x : EReal) : spl (F := Ideal) x = sp x := by
  rw [← soft]
  unfold spl
  rw [show cc (F := Ideal) 0x00000000#32 = (0 : EReal) from Ideal.ofBits_zero_f32, show cc (F := Ideal) 0x3F800000#32 = (1 : EReal) from Ideal.ofBits_one_f32]
  show max (0 - x) 0 + Scalar.select (Ideal.cmp .oeq (1 + Ideal.exp (0 - max x (-x))) 1) (Ideal.exp (0 - max x (-x)))
      (Ideal.div (Ideal.log (1 + Ideal.exp (0 - max x (-x))) * Ideal.exp (0 - max x (-x)))
        (Scalar.select (Ideal.cmp .oeq (1 + Ideal.exp (0 - max x (-x))) 1) 1 (1 + Ideal.exp (0 - max x (-x)) - 1))) = _
  rw [sel, sel]

theorem LA_apply (c : Dev nD) (t : Fin cfg0.N) (r : Fin 512) (q : Fin 256) :
    LA (GA (XC (sX m c t) (in7 m c t)) (in8 m c t)) (in7 m c t) (ix2 r q) = la (z m c) (p m c) (w m c) (t.val % 8 * 512 + r.val) (t.val / 8 * 256 + q.val) := by
  unfold LA la SP
  dsimp only [ix2_1]
  rw [gt_eq, spl_eq, P7_apply m c t 1 (by decide), P7_apply m c t 3 (by decide), prj_apply m c t r q _ _ (iblk6_apply m c t)]
  rfl

theorem oA_apply (c : Dev nD) (t : Fin cfg0.N) (r : Fin 512) (q : Fin 256) :
    oA m c t (sX m c t) (ix2 r q) = av (z m c) (p m c) (w m c) (t.val % 8 * 512 + r.val) (t.val / 8 * 256 + q.val) := by
  unfold oA DA av
  rw [LA_apply]
  rfl

theorem oB_apply (c : Dev nD) (t : Fin cfg0.N) (r : Fin 512) (q : Fin 256) :
    oB m c t (sX m c t) (ix2 r q) = bv (z m c) (p m c) (w m c) (v m c) (t.val % 8 * 512 + r.val) (t.val / 8 * 256 + q.val) := by
  unfold oB DB bv
  dsimp only [ix2_1]
  rw [LA_apply, gt_eq, P7_apply m c t 2 (by decide), prj_apply m c t r q _ _ (iblk7_apply m c t), XC_apply, ← decay _ (la_nonpos ..), ← Ideal.ofBits_one_f32]
  rfl

/-! ## The states -/

def rot (d : BitVec 32) (a : Vec Ideal S8x256 .f32) : Vec Ideal S8x256 .f32 := dynamicRotate 0 d none a rotates_S8x256_d0
def msk (d : BitVec 32) : IVec S8x256 1 := cmpi .sge IO (broadcast S8x256 d)

/-- One doubling. -/
theorem stage (d : ℕ) (hd : d = 1 ∨ d = 2 ∨ d = 4) (a b : Vec Ideal S8x256 .f32) (P : ℕ → EReal × EReal) (q : Fin 256)
    (h : ∀ j : Fin 8, a (ix2 j q) = (P j.val).1 ∧ b (ix2 j q) = (P j.val).2) (j : Fin 8) :
    (select (msk (BitVec.ofNat 32 d)) (mulf a (rot (BitVec.ofNat 32 d) a)) a : FVec Ideal S8x256 .f32) (ix2 j q) = (dbl d P j.val).1
    ∧ (select (msk (BitVec.ofNat 32 d)) (addf (mulf a (rot (BitVec.ofNat 32 d) b)) b) b : FVec Ideal S8x256 .f32) (ix2 j q) = (dbl d P j.val).2 := by
  have hr : ∀ x : Vec Ideal S8x256 .f32, rot (BitVec.ofNat 32 d) x (ix2 j q) = x (ix2 ⟨(j.val + 8 - d) % 8, Nat.mod_lt _ (by decide)⟩ q) := by
    intro x
    refine congrArg x (funext fun e => ?_)
    match e with
    | ⟨0, _⟩ => rcases hd with rfl | rfl | rfl <;> rfl
    | ⟨1, _⟩ => rfl
  have hm : msk (BitVec.ofNat 32 d) (ix2 j q) = if d ≤ j.val then 1 else 0 := by
    show IntOp.cmpi .sge (BitVec.ofNat 32 (0 * 8 + j.val)) (BitVec.ofNat 32 d) = _
    rcases hd with rfl | rfl | rfl <;> clear hr <;> revert j <;> decide
  have e1 := h ⟨(j.val + 8 - d) % 8, Nat.mod_lt _ (by decide)⟩
  have e2 := h j
  show Scalar.select (msk (BitVec.ofNat 32 d) (ix2 j q)) (a (ix2 j q) * rot (BitVec.ofNat 32 d) a (ix2 j q)) (a (ix2 j q)) = _
    ∧ Scalar.select (msk (BitVec.ofNat 32 d) (ix2 j q)) (a (ix2 j q) * rot (BitVec.ofNat 32 d) b (ix2 j q) + b (ix2 j q)) (b (ix2 j q)) = _
  rw [hr, hr, hm, e2.1, e2.2, e1.1, e1.2]
  unfold dbl Scalar.select
  by_cases g : d ≤ j.val
  · rw [if_pos g, if_pos rfl, if_pos rfl, if_pos g]
    have : (j.val + 8 - d) % 8 = j.val - d := by rcases hd with rfl | rfl | rfl <;> omega
    dsimp only
    rw [this]
    exact ⟨rfl, rfl⟩
  · simp [g]

theorem stepH_apply (a b s : Vec Ideal S8x256 .f32) (P : ℕ → EReal × EReal) (hP : ∀ j, 0 ≤ (P j).1 ∧ (P j).1 ≠ ⊤) (q : Fin 256)
    (h : ∀ j : Fin 8, a (ix2 j q) = (P j.val).1 ∧ b (ix2 j q) = (P j.val).2) (j : Fin 8) :
    stepH a b s (ix2 j q) = sta P (s (ix2 j q)) (j.val + 1) := by
  have e := stage 4 (Or.inr (Or.inr rfl)) _ _ _ q (stage 2 (Or.inr (Or.inl rfl)) _ _ _ q (stage 1 (Or.inl rfl) a b P q h)) j
  rw [← doubling P hP _ _ j.isLt]
  unfold app
  rw [← e.1, ← e.2]
  rfl

theorem row7_apply (h : Vec Ideal S8x256 .f32) (j : Fin 8) (q : Fin 256) : row7 h (ix2 j q) = h (ix2 7 q) := by
  unfold row7
  pointwise

/-- A block's states are the recurrence's. -/
theorem car_apply (A B : Vec Ideal S512x256 .f32) (s : Vec Ideal S8x256 .f32) (a b : ℕ → EReal) (ha : ∀ i, 0 ≤ a i ∧ a i ≠ ⊤) (n0 : ℕ) (q : Fin 256)
    (hA : ∀ r : Fin 512, A (ix2 r q) = a (n0 + r.val)) (hB : ∀ r : Fin 512, B (ix2 r q) = b (n0 + r.val))
    (hs : ∀ j : Fin 8, s (ix2 j q) = st a b n0) : ∀ n, n ≤ 64 → ∀ j : Fin 8, car A B s n (ix2 j q) = st a b (n0 + 8 * n)
      ∧ (n < 64 → stepH (tl A n) (tl B n) (car A B s n) (ix2 j q) = st a b (n0 + 8 * n + j.val + 1)) := by
  have key : ∀ n, n < 64 → (∀ j : Fin 8, car A B s n (ix2 j q) = st a b (n0 + 8 * n)) → ∀ j : Fin 8,
      stepH (tl A n) (tl B n) (car A B s n) (ix2 j q) = st a b (n0 + 8 * n + j.val + 1) := by
    intro n hn hc j
    rw [stepH_apply _ _ _ (fun i => (a (n0 + 8 * n + i), b (n0 + 8 * n + i))) (fun i => ha _) q (fun i => ?_) j, hc, sta_st]
    · rfl
    · have e : (8 * n + i.val) % 512 = 8 * n + i.val := by omega
      unfold tl
      dsimp only [ix2_0, ix2_1]
      rw [hA, hB]
      dsimp only
      rw [e, ← add_assoc]
      exact ⟨rfl, rfl⟩
  intro n
  induction n with
  | zero => exact fun _ j => ⟨hs j, fun h => key 0 h hs j⟩
  | succ n ih =>
    intro hn
    have hc : ∀ j : Fin 8, car A B s (n + 1) (ix2 j q) = st a b (n0 + 8 * (n + 1)) := fun j => by
      show row7 (stepH (tl A n) (tl B n) (car A B s n)) (ix2 j q) = _
      rw [row7_apply, (ih (by omega) 7).2 (by omega)]
      rfl
    exact fun j => ⟨hc j, fun h => key (n + 1) h hc j⟩

/-- The state after a row of a column. -/
abbrev hv (c : Dev nD) (r k : ℕ) : EReal := st (fun i => av (z m c) (p m c) (w m c) i k) (fun i => bv (z m c) (p m c) (w m c) (v m c) i k) r

theorem sS_apply (c : Dev nD) : ∀ (n : ℕ) (hn : n < cfg0.N) (j : Fin 8) (q : Fin 256),
    (seqs m c n hn).2.2 (ix2 j q) = hv m c (n % 8 * 512) (n / 8 * 256 + q.val) := by
  have h0 : ∀ (t : Fin cfg0.N), t.val % 8 = 0 → ∀ (j : Fin 8) (q : Fin 256), (seqs m c t.val t.isLt).2.2 (ix2 j q) = hv m c (t.val % 8 * 512) (t.val / 8 * 256 + q.val) := by
    intro t h j q
    rw [seqs_start m c t h, h]
    exact Ideal.ofBits_zero_f32
  intro n
  induction n with
  | zero => exact fun hn => h0 ⟨0, hn⟩ rfl
  | succ n ih =>
    intro hn j q
    by_cases h : (n + 1) % 8 = 0
    · exact h0 ⟨n + 1, hn⟩ h j q
    · rw [seqs_step m c n hn h]
      have e := (car_apply _ _ (seqs m c n (Nat.lt_of_succ_lt hn)).2.2 (fun i => av (z m c) (p m c) (w m c) i (n / 8 * 256 + q.val)) (fun i => bv (z m c) (p m c) (w m c) (v m c) i (n / 8 * 256 + q.val)) (fun i => ⟨av_nonneg _ _ _ _ _, av_ne_top _ _ _ _ _⟩) _ q
        (fun r => oA_apply m c ⟨n, Nat.lt_of_succ_lt hn⟩ r q) (fun r => oB_apply m c ⟨n, Nat.lt_of_succ_lt hn⟩ r q)
        (fun j => ih _ j q) 64 (le_refl _) j).1
      rw [show (n + 1) % 8 * 512 = n % 8 * 512 + 8 * 64 by omega, show (n + 1) / 8 = n / 8 by omega]
      exact e

theorem oH_apply (c : Dev nD) (t : Fin cfg0.N) (r : Fin 512) (q : Fin 256) :
    oH m c t (ix2 r q) = hv m c (t.val % 8 * 512 + r.val + 1) (t.val / 8 * 256 + q.val) := by
  have e := (car_apply _ _ (sS m c t) (fun i => av (z m c) (p m c) (w m c) i (t.val / 8 * 256 + q.val)) (fun i => bv (z m c) (p m c) (w m c) (v m c) i (t.val / 8 * 256 + q.val)) (fun i => ⟨av_nonneg _ _ _ _ _, av_ne_top _ _ _ _ _⟩) _ q
    (fun r => oA_apply m c t r q) (fun r => oB_apply m c t r q) (fun j => sS_apply m c t.val t.isLt j q) (r.val / 8) (by omega) ⟨r.val % 8, Nat.mod_lt _ (by decide)⟩).2 (by omega)
  rw [show t.val % 8 * 512 + r.val = t.val % 8 * 512 + 8 * (r.val / 8) + r.val % 8 by omega]
  exact e

/-! ## The results -/

theorem PA_ga (x : Vec Ideal S512x256 .f32) (h : Vec Ideal S512x256 .f32) (j : S512x256.Idx) : PA x h j = ga (h j) (x j) := by
  unfold ga
  rw [← Ideal.ofBits_one_f32]
  show (h j : EReal) * (Ideal.ofBits .f32 0x3F000000#32 * x j * (Ideal.ofBits .f32 0x3F800000#32 + Ideal.tanh (Ideal.ofBits .f32 0x3F4C422A#32 * (x j + Ideal.ofBits .f32 0x3D372713#32 * (x j * x j) * x j)))) = _
  rw [mul_assoc (Ideal.ofBits .f32 0x3D372713#32) _ _, mul_assoc (Ideal.ofBits .f32 0x3F000000#32) _ _, mul_left_comm (Ideal.ofBits .f32 0x3F000000#32)]

/-- An array of the results' shape, by rows and columns. -/
def arr (f : ℕ → ℕ → EReal) : FVec Ideal S4096x2048 .f32 := fun i => f (i 0).val (i 1).val

theorem point (i : S4096x2048.Idx) : ∃ t : Fin cfg0.N, (t.val % 8 * 512 ≤ (i 0).val ∧ (i 0).val < t.val % 8 * 512 + 512)
    ∧ t.val / 8 * 256 ≤ (i 1).val ∧ (i 1).val < t.val / 8 * 256 + 256 := by
  have h0 : (i 0).val < 4096 := (i 0).isLt
  have h1 : (i 1).val < 2048 := (i 1).isLt
  have hN := N_0
  have hN' : cfg0.N = grid0.N := rfl
  refine ⟨⟨(i 1).val / 256 * 8 + (i 0).val / 512, by omega⟩, ?_, ?_⟩ <;> dsimp only <;> omega

theorem idx8 : ∀ t : Fin cfg0.N, win0_8.index t 0 = t.val % 8 ∧ win0_8.index t 1 = t.val / 8 :=
  (by decide +kernel : ∀ t : Fin grid0.N, _)
abbrev res8 (c : Dev nD) : Buf (Elt Ideal) ((c : Thread nD τ).loc main_v0_0) := arr (fun r k => ga (hv m c (r + 1) k) (z m c r (2048 + k)))
theorem final8 (c : Dev nD) : (dats m 0 c).arrAt 8 cfg0.N = res8 m c := by
  refine (dats m 0 c).arrAt_eq_of_cover 8 (res8 m c) (fun t _ => ?_) (fun (i : S4096x2048.Idx) => ?_)
  · have e : (dats m 0 c).flushed 8 t = (cfg0.win 8).cut (grid0.coords t) ((dats m 0 c).after 8 t) := rfl
    rw [e, after0_8]
    funext j
    obtain ⟨r, k, rfl⟩ : ∃ (r : Fin 512) (k : Fin 256), j = ix2 r k := ⟨j 0, j 1, eq_ix2 j⟩
    rw [View.read_apply]
    have e0 : (((cfg0.win 8).blk t).view.emb (ix2 r k) 0).val = t.val % 8 * 512 + r.val := by
      show win0_8.index t 0 * 512 + 1 * r.val = _; rw [(idx8 t).1]; omega
    have e1 : (((cfg0.win 8).blk t).view.emb (ix2 r k) 1).val = t.val / 8 * 256 + k.val := by
      show win0_8.index t 1 * 256 + 1 * k.val = _; rw [(idx8 t).2]; omega
    show (PA (in3 m c t) (oH m c t)) (ix2 r k) = arr (fun r k => ga (hv m c (r + 1) k) (z m c r (2048 + k))) (((cfg0.win 8).blk t).view.emb (ix2 r k))
    unfold arr
    rw [e0, e1]
    rw [PA_ga, oH_apply, show in3 m c t (ix2 r k) = _ from iblk1_apply m c t r k]
  · obtain ⟨t, h0, h1⟩ := point i
    refine ⟨t, flush0_8 t, ?_⟩
    show i ∈ ((View.whole main_v0_0).slice (win0_8.rect t)).set
    rw [View.set_slice_whole, Rect.mem_set_unit]
    exact fun a => match a with
      | ⟨0, _⟩ => (by show win0_8.index t 0 * 512 ≤ (i 0).val ∧ (i 0).val < win0_8.index t 0 * 512 + 512; rw [(idx8 t).1]; exact h0)
      | ⟨1, _⟩ => (by show win0_8.index t 1 * 256 ≤ (i 1).val ∧ (i 1).val < win0_8.index t 1 * 256 + 256; rw [(idx8 t).2]; exact h1)

theorem idx9 : ∀ t : Fin cfg0.N, win0_9.index t 0 = t.val % 8 ∧ win0_9.index t 1 = t.val / 8 :=
  (by decide +kernel : ∀ t : Fin grid0.N, _)
abbrev res9 (c : Dev nD) : Buf (Elt Ideal) ((c : Thread nD τ).loc main_v0_1) := arr (fun r k => z m c r (4096 + k) * vbv (z m c) (p m c) r k)
theorem final9 (c : Dev nD) : (dats m 0 c).arrAt 9 cfg0.N = res9 m c := by
  refine (dats m 0 c).arrAt_eq_of_cover 9 (res9 m c) (fun t _ => ?_) (fun (i : S4096x2048.Idx) => ?_)
  · have e : (dats m 0 c).flushed 9 t = (cfg0.win 9).cut (grid0.coords t) ((dats m 0 c).after 9 t) := rfl
    rw [e, after0_9]
    funext j
    obtain ⟨r, k, rfl⟩ : ∃ (r : Fin 512) (k : Fin 256), j = ix2 r k := ⟨j 0, j 1, eq_ix2 j⟩
    rw [View.read_apply]
    have e0 : (((cfg0.win 9).blk t).view.emb (ix2 r k) 0).val = t.val % 8 * 512 + r.val := by
      show win0_9.index t 0 * 512 + 1 * r.val = _; rw [(idx9 t).1]; omega
    have e1 : (((cfg0.win 9).blk t).view.emb (ix2 r k) 1).val = t.val / 8 * 256 + k.val := by
      show win0_9.index t 1 * 256 + 1 * k.val = _; rw [(idx9 t).2]; omega
    show (PB (in4 m c t) (sU m c t) (in7 m c t)) (ix2 r k) = arr (fun r k => z m c r (4096 + k) * vbv (z m c) (p m c) r k) (((cfg0.win 9).blk t).view.emb (ix2 r k))
    unfold arr
    rw [e0, e1]
    show (in4 m c t (ix2 r k) : EReal) * VB (sU m c t) (in7 m c t) (ix2 r k) = _
    rw [VB_apply, show in4 m c t (ix2 r k) = _ from iblk2_apply m c t r k]
  · obtain ⟨t, h0, h1⟩ := point i
    refine ⟨t, flush0_9 t, ?_⟩
    show i ∈ ((View.whole main_v0_1).slice (win0_9.rect t)).set
    rw [View.set_slice_whole, Rect.mem_set_unit]
    exact fun a => match a with
      | ⟨0, _⟩ => (by show win0_9.index t 0 * 512 ≤ (i 0).val ∧ (i 0).val < win0_9.index t 0 * 512 + 512; rw [(idx9 t).1]; exact h0)
      | ⟨1, _⟩ => (by show win0_9.index t 1 * 256 ≤ (i 1).val ∧ (i 1).val < win0_9.index t 1 * 256 + 256; rw [(idx9 t).2]; exact h1)

theorem idx10 : ∀ t : Fin cfg0.N, win0_10.index t 0 = t.val % 8 ∧ win0_10.index t 1 = t.val / 8 :=
  (by decide +kernel : ∀ t : Fin grid0.N, _)
abbrev res10 (c : Dev nD) : Buf (Elt Ideal) ((c : Thread nD τ).loc main_v0_2) := arr (xcv (z m c) (p m c))
theorem final10 (c : Dev nD) : (dats m 0 c).arrAt 10 cfg0.N = res10 m c := by
  refine (dats m 0 c).arrAt_eq_of_cover 10 (res10 m c) (fun t _ => ?_) (fun (i : S4096x2048.Idx) => ?_)
  · have e : (dats m 0 c).flushed 10 t = (cfg0.win 10).cut (grid0.coords t) ((dats m 0 c).after 10 t) := rfl
    rw [e, after0_10]
    funext j
    obtain ⟨r, k, rfl⟩ : ∃ (r : Fin 512) (k : Fin 256), j = ix2 r k := ⟨j 0, j 1, eq_ix2 j⟩
    rw [View.read_apply]
    have e0 : (((cfg0.win 10).blk t).view.emb (ix2 r k) 0).val = t.val % 8 * 512 + r.val := by
      show win0_10.index t 0 * 512 + 1 * r.val = _; rw [(idx10 t).1]; omega
    have e1 : (((cfg0.win 10).blk t).view.emb (ix2 r k) 1).val = t.val / 8 * 256 + k.val := by
      show win0_10.index t 1 * 256 + 1 * k.val = _; rw [(idx10 t).2]; omega
    show (XC (sX m c t) (in7 m c t)) (ix2 r k) = arr (xcv (z m c) (p m c)) (((cfg0.win 10).blk t).view.emb (ix2 r k))
    unfold arr
    rw [e0, e1]
    exact XC_apply m c t r k
  · obtain ⟨t, h0, h1⟩ := point i
    refine ⟨t, flush0_10 t, ?_⟩
    show i ∈ ((View.whole main_v0_2).slice (win0_10.rect t)).set
    rw [View.set_slice_whole, Rect.mem_set_unit]
    exact fun a => match a with
      | ⟨0, _⟩ => (by show win0_10.index t 0 * 512 ≤ (i 0).val ∧ (i 0).val < win0_10.index t 0 * 512 + 512; rw [(idx10 t).1]; exact h0)
      | ⟨1, _⟩ => (by show win0_10.index t 1 * 256 ≤ (i 1).val ∧ (i 1).val < win0_10.index t 1 * 256 + 256; rw [(idx10 t).2]; exact h1)

theorem idx11 : ∀ t : Fin cfg0.N, win0_11.index t 0 = t.val % 8 ∧ win0_11.index t 1 = t.val / 8 :=
  (by decide +kernel : ∀ t : Fin grid0.N, _)
abbrev res11 (c : Dev nD) : Buf (Elt Ideal) ((c : Thread nD τ).loc main_v0_3) := arr (fun r k => hv m c (r + 1) k)
theorem final11 (c : Dev nD) : (dats m 0 c).arrAt 11 cfg0.N = res11 m c := by
  refine (dats m 0 c).arrAt_eq_of_cover 11 (res11 m c) (fun t _ => ?_) (fun (i : S4096x2048.Idx) => ?_)
  · have e : (dats m 0 c).flushed 11 t = (cfg0.win 11).cut (grid0.coords t) ((dats m 0 c).after 11 t) := rfl
    rw [e, after0_11]
    funext j
    obtain ⟨r, k, rfl⟩ : ∃ (r : Fin 512) (k : Fin 256), j = ix2 r k := ⟨j 0, j 1, eq_ix2 j⟩
    rw [View.read_apply]
    have e0 : (((cfg0.win 11).blk t).view.emb (ix2 r k) 0).val = t.val % 8 * 512 + r.val := by
      show win0_11.index t 0 * 512 + 1 * r.val = _; rw [(idx11 t).1]; omega
    have e1 : (((cfg0.win 11).blk t).view.emb (ix2 r k) 1).val = t.val / 8 * 256 + k.val := by
      show win0_11.index t 1 * 256 + 1 * k.val = _; rw [(idx11 t).2]; omega
    show (oH m c t) (ix2 r k) = arr (fun r k => hv m c (r + 1) k) (((cfg0.win 11).blk t).view.emb (ix2 r k))
    unfold arr
    rw [e0, e1]
    exact oH_apply m c t r k
  · obtain ⟨t, h0, h1⟩ := point i
    refine ⟨t, flush0_11 t, ?_⟩
    show i ∈ ((View.whole main_v0_3).slice (win0_11.rect t)).set
    rw [View.set_slice_whole, Rect.mem_set_unit]
    exact fun a => match a with
      | ⟨0, _⟩ => (by show win0_11.index t 0 * 512 ≤ (i 0).val ∧ (i 0).val < win0_11.index t 0 * 512 + 512; rw [(idx11 t).1]; exact h0)
      | ⟨1, _⟩ => (by show win0_11.index t 1 * 256 ≤ (i 1).val ∧ (i 1).val < win0_11.index t 1 * 256 + 256; rw [(idx11 t).2]; exact h1)

theorem idx12 : ∀ t : Fin cfg0.N, win0_12.index t 0 = t.val % 8 ∧ win0_12.index t 1 = t.val / 8 :=
  (by decide +kernel : ∀ t : Fin grid0.N, _)
abbrev res12 (c : Dev nD) : Buf (Elt Ideal) ((c : Thread nD τ).loc main_v0_4) := arr (vbv (z m c) (p m c))
theorem final12 (c : Dev nD) : (dats m 0 c).arrAt 12 cfg0.N = res12 m c := by
  refine (dats m 0 c).arrAt_eq_of_cover 12 (res12 m c) (fun t _ => ?_) (fun (i : S4096x2048.Idx) => ?_)
  · have e : (dats m 0 c).flushed 12 t = (cfg0.win 12).cut (grid0.coords t) ((dats m 0 c).after 12 t) := rfl
    rw [e, after0_12]
    funext j
    obtain ⟨r, k, rfl⟩ : ∃ (r : Fin 512) (k : Fin 256), j = ix2 r k := ⟨j 0, j 1, eq_ix2 j⟩
    rw [View.read_apply]
    have e0 : (((cfg0.win 12).blk t).view.emb (ix2 r k) 0).val = t.val % 8 * 512 + r.val := by
      show win0_12.index t 0 * 512 + 1 * r.val = _; rw [(idx12 t).1]; omega
    have e1 : (((cfg0.win 12).blk t).view.emb (ix2 r k) 1).val = t.val / 8 * 256 + k.val := by
      show win0_12.index t 1 * 256 + 1 * k.val = _; rw [(idx12 t).2]; omega
    show (VB (sU m c t) (in7 m c t)) (ix2 r k) = arr (vbv (z m c) (p m c)) (((cfg0.win 12).blk t).view.emb (ix2 r k))
    unfold arr
    rw [e0, e1]
    exact VB_apply m c t r k
  · obtain ⟨t, h0, h1⟩ := point i
    refine ⟨t, flush0_12 t, ?_⟩
    show i ∈ ((View.whole main_v0_4).slice (win0_12.rect t)).set
    rw [View.set_slice_whole, Rect.mem_set_unit]
    exact fun a => match a with
      | ⟨0, _⟩ => (by show win0_12.index t 0 * 512 ≤ (i 0).val ∧ (i 0).val < win0_12.index t 0 * 512 + 512; rw [(idx12 t).1]; exact h0)
      | ⟨1, _⟩ => (by show win0_12.index t 1 * 256 ≤ (i 1).val ∧ (i 1).val < win0_12.index t 1 * 256 + 256; rw [(idx12 t).2]; exact h1)

theorem runK : θ_run defs (onTc (τ := τ) (main (F := Ideal))) ⟨m, fun _ => 0, ρ⟩ fun r => ∀ c : Dev nD,
      r.2.mem ((c : Thread nD τ).loc main_v0_0) = res8 m c
      ∧ r.2.mem ((c : Thread nD τ).loc main_v0_1) = res9 m c
      ∧ r.2.mem ((c : Thread nD τ).loc main_v0_2) = res10 m c
      ∧ r.2.mem ((c : Thread nD τ).loc main_v0_3) = res11 m c
      ∧ r.2.mem ((c : Thread nD τ).loc main_v0_4) = res12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 8).trans (final8 m c),
    ((h c).1 9).trans (final9 m c),
    ((h c).1 10).trans (final10 m c),
    ((h c).1 11).trans (final11 m c),
    ((h c).1 12).trans (final12 m c),
    ((h c).1 4).trans (((dats m 0 c).arrAt_in 4 rfl _).trans ((A_eq m c 4).trans (V_main_arg0 m c))),
    ((h c).1 5).trans (((dats m 0 c).arrAt_in 5 rfl _).trans ((A_eq m c 5).trans (V_main_arg1 m c))),
    ((h c).1 6).trans (((dats m 0 c).arrAt_in 6 rfl _).trans ((A_eq m c 6).trans (V_main_arg2 m c))),
    ((h c).1 7).trans (((dats m 0 c).arrAt_in 7 rfl _).trans ((A_eq m c 7).trans (V_main_arg3 m c)))⟩) (run m ρ)

open Cert.RefBIdeal.Val (X_apply V_apply H_apply YA_apply YB_apply)
open Cert.RefBIdeal.Value (iter_main_arg0 iter_main_arg1)

theorem arr_eq (f : FVec Ideal S4096x2048 .f32) (g : ℕ → ℕ → EReal) (h : ∀ (r : Fin 4096) (k : Fin 2048), f (ix2 r k) = g r.val k.val) : f = arr g := by
  funext j
  obtain ⟨r, k, rfl⟩ : ∃ (r : Fin 4096) (k : Fin 2048), j = ix2 r k := ⟨j 0, j 1, eq_ix2 j⟩
  exact h r k

theorem algebraic : Cert.algebraic_MixFIdeal_RefBIdeal := fun m ρ m' ρ' _ hag =>
  ⟨fun c => res8 m c, fun c => res9 m c, fun c => res10 m c, fun c => res11 m c, fun c => res12 m c, runK m ρ,
    (θ_run _ _ _).mono (fun _ h c => ⟨
      (h c).1.trans (arr_eq _ _ fun r k => by
        rw [YA_apply, H_apply, iter_main_arg0]
        unfold Cert.RefBIdeal.Val.zr Cert.RefBIdeal.Val.pr Cert.RefBIdeal.Val.wr Cert.RefBIdeal.Val.vr
        rw [(hag c).1, (hag c).2.1, (hag c).2.2.1, (hag c).2.2.2]),
      (h c).2.1.trans (arr_eq _ _ fun r k => by
        rw [YB_apply, V_apply, iter_main_arg0, iter_main_arg1, (hag c).1, (hag c).2.1]),
      (h c).2.2.1.trans (arr_eq _ _ fun r k => by
        rw [X_apply, iter_main_arg0, iter_main_arg1, (hag c).1, (hag c).2.1]),
      (h c).2.2.2.1.trans (arr_eq _ _ fun r k => by
        rw [H_apply]
        unfold Cert.RefBIdeal.Val.zr Cert.RefBIdeal.Val.pr Cert.RefBIdeal.Val.wr Cert.RefBIdeal.Val.vr
        rw [(hag c).1, (hag c).2.1, (hag c).2.2.1, (hag c).2.2.2]),
      (h c).2.2.2.2.1.trans (arr_eq _ _ fun r k => by
        rw [V_apply, iter_main_arg0, iter_main_arg1, (hag c).1, (hag c).2.1]),
      (h c).2.2.2.2.2⟩) (Cert.RefBIdeal.Value.run m' ρ')⟩

end Cert.MixFIdeal.Val
end
-- ==== Proof.V18.lean ====
module

public import proofs.«01_k».proof.Defs
public import proofs.«01_k».proof.Proof.Gen.Kernel18Ideal.Value
public import proofs.«01_k».proof.Proof.Gen.Reference18Ideal.Run
public import proofs.«01_k».proof.Proof.Alg

/-! The pre-norm, block by block and whole. -/

@[expose] public section

set_option maxRecDepth 16384

noncomputable section

open Idealize.ShloMosaic Idealize.ShloMosaic.TcCoe Idealize.SL.Sem
open Idealize.ShloMosaic.Pipeline (Dat)

namespace Cert.Kernel18Ideal.Val

open Cert.Kernel18Ideal Cert.Kernel18Ideal.Gen Alg

variable (m : (ℓ : Loc nD τ sig) → Buf (Elt Ideal) ℓ) (ρ : Dev nD → PrngReg)
theorem idx : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, _)

theorem V_v0 (c : Dev nD) : V m c main_v0
    = (broadcastInDim S1x2048 ![1] bcast_S2048_S1x2048_1 (m ((c : Thread nD τ).loc main_arg1)) : FVec Ideal S1x2048 .f32) := by
  unfold V
  simp only [hostOps0]
  after_results

abbrev X (c : Dev nD) : FVec Ideal S4096x2048 .f32 := m ((c : Thread nD τ).loc main_arg0)
abbrev Y (c : Dev nD) : FVec Ideal S2048 .f32 := m ((c : Thread nD τ).loc main_arg1)
theorem iblk0_apply (c : Dev nD) (t : Fin cfg0.N) (r : Fin 256) (k : Fin 2048) : iblk m c 0 t (ix2 r k)
    = X m c (ix2 (⟨t.val * 256 + r.val, by have := lt_of_lt_of_eq t.isLt N_0; omega⟩ : Fin 4096) k) := by
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [(idx t).1.1]; omega
  | ⟨1, _⟩ => show win0_0.index t 1 * 2048 + 1 * k.val = k.val; rw [(idx t).1.2]; omega
theorem emb1 (t : Fin cfg0.N) (r : Fin 1) (k : Fin 2048) : ((cfg0.win 1).blk t).view.emb (ix2 r k) = ix2 r k := by
  funext a
  apply Fin.ext
  match a with
  | ⟨0, _⟩ => show win0_1.index t 0 * 1 + 1 * r.val = r.val; rw [(idx t).2.1.1]; omega
  | ⟨1, _⟩ => show win0_1.index t 1 * 2048 + 1 * k.val = k.val; rw [(idx t).2.1.2]; omega
theorem iblk1_apply (c : Dev nD) (t : Fin cfg0.N) (r : Fin 1) (k : Fin 2048) : iblk m c 1 t (ix2 r k) = Y m c (ix1 k) := by
  unfold iblk
  rw [View.read_apply, emb1]
  show V m c main_v0 _ = _
  rw [V_v0]
  pointwise
theorem emb2 (t : Fin cfg0.N) (r : Fin 256) (k : Fin 2048) : ((cfg0.win 2).blk t).view.emb (ix2 r k)
    = ix2 (⟨t.val * 256 + r.val, by have := lt_of_lt_of_eq t.isLt N_0; omega⟩ : Fin 4096) k := by
  funext a
  apply Fin.ext
  match a with
  | ⟨0, _⟩ => show win0_2.index t 0 * 256 + 1 * r.val = t.val * 256 + r.val; rw [(idx t).2.2.1]; omega
  | ⟨1, _⟩ => show win0_2.index t 1 * 2048 + 1 * k.val = k.val; rw [(idx t).2.2.2]; omega

/-- The rows over their root mean squares, times the gain. -/
def G (x : FVec Ideal S4096x2048 .f32) (g : FVec Ideal S2048 .f32) : FVec Ideal S4096x2048 .bf16 := fun i =>
  (x (ix2 (i 0) (i 1)) * Ideal.rsqrt (Ideal.div (∑ k : Fin 2048, x (ix2 (i 0) k) * x (ix2 (i 0) k)) (Ideal.ofBits .f32 0x45000000#32)
    + Ideal.ofBits .f32 0x358637BD#32) * g (ix1 (i 1)) : EReal)

abbrev res (c : Dev nD) : Buf (Elt Ideal) ((c : Thread nD τ).loc main_v1) := G (X m c) (Y m c)

theorem flushed_eq (c : Dev nD) (t : Fin cfg0.N) :
    (dats m 0 c).flushed 2 t = ((cfg0.win 2).blk t).view.read (Elt Ideal) (res m c) := by
  rw [Value.flushed2]
  unfold out0_2
  rw [View.canon_unit_zero hz]
  simp only [View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  rw [View.read_apply, emb2]
  show k0_pay1 (F := Ideal) (iblk m c 0 t) (iblk m c 1 t) (ix2 r k) = G (X m c) (Y m c) _
  unfold G
  simp only [ix2_0, ix2_1]
  pointwise [k0_pay1]
  simp only [iblk0_apply, iblk1_apply]

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 16 := N_0
  obtain ⟨t, ht⟩ : ∃ t : Fin cfg0.N, t.val = (i 0).val / 256 := ⟨⟨_, by omega⟩, rfl⟩
  refine ⟨t, flush0_2 t, ?_⟩
  show i ∈ ((View.whole main_v1).slice (win0_2.rect t)).set
  rw [View.set_slice_whole, Rect.mem_set_unit]
  intro a
  match a with
  | ⟨0, _⟩ => show win0_2.index t 0 * 256 ≤ (i 0).val ∧ (i 0).val < win0_2.index t 0 * 256 + 256; rw [(idx t).2.2.1]; omega
  | ⟨1, _⟩ => show win0_2.index t 1 * 2048 ≤ (i 1).val ∧ (i 1).val < win0_2.index t 1 * 2048 + 2048; rw [(idx t).2.2.2]; omega

theorem runK : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (res m c) (fun t _ => flushed_eq m c t) cover), (h c).2⟩)
    (Value.run_blocks m ρ)

theorem algebraic : Cert.algebraic_Kernel18Ideal_Reference18Ideal := fun m ρ m' ρ' _ hag =>
  ⟨fun c => res m c, runK m ρ,
    (θ_run _ _ _).mono (fun _ h c => ⟨(h c).1.trans (by
      clear h
      rw [(hag c).1, (hag c).2]
      funext j
      obtain ⟨r, k, rfl⟩ : ∃ (r : Fin 4096) (k : Fin 2048), j = ix2 r k := ⟨j 0, j 1, eq_ix2 j⟩
      show _ = G (X m c) (Y m c) _
      unfold G
      simp only [ix2_0, ix2_1]
      pointwise), (h c).2⟩) (Reference18Ideal.Value.run m' ρ')⟩

end Cert.Kernel18Ideal.Val
end
-- ==== Proof.V19.lean ====
module

public import proofs.«01_k».proof.Defs
public import proofs.«01_k».proof.Proof.Gen.Kernel19Ideal.Value
public import proofs.«01_k».proof.Proof.Gen.Reference19Ideal.Run
public import proofs.«01_k».proof.Proof.Alg

/-! The optimiser's step for a small weight: every operation is element by element. -/

@[expose] public section

set_option maxRecDepth 16384

noncomputable section

open Idealize.ShloMosaic Idealize.ShloMosaic.TcCoe Idealize.SL.Sem

namespace Cert.Kernel19Ideal.Val

open Cert.Kernel19Ideal Cert.Kernel19Ideal.Gen Cert.Kernel19Ideal.Value Alg

theorem algebraic : Cert.algebraic_Kernel19Ideal_Reference19Ideal := fun m ρ m' ρ' _ hag =>
  ⟨_, _, _, run m ρ, (θ_run _ _ _).mono (fun _ h c => ⟨(h c).1.trans (by
      clear h
      rw [(hag c).1, (hag c).2.1, (hag c).2.2.1, (hag c).2.2.2]
      funext j
      pointwise), (h c).2.1.trans (by
      clear h
      rw [(hag c).2.1, (hag c).2.2.1]
      funext j
      pointwise), (h c).2.2.1.trans (by
      clear h
      rw [(hag c).2.1, (hag c).2.2.2]
      funext j
      pointwise), (h c).2.2.2⟩) (Reference19Ideal.Value.run m' ρ')⟩

end Cert.Kernel19Ideal.Val
end
-- ==== Proof.V20.lean ====
module

public import proofs.«01_k».proof.Defs
public import proofs.«01_k».proof.Proof.Gen.Kernel20Ideal.Value
public import proofs.«01_k».proof.Proof.Gen.Reference20Ideal.Run
public import proofs.«01_k».proof.Proof.Alg

/-! The optimiser's step for a large weight, block by block and whole. -/

@[expose] public section

set_option maxRecDepth 16384

noncomputable section

open Idealize.ShloMosaic Idealize.ShloMosaic.TcCoe Idealize.SL.Sem
open Idealize.ShloMosaic.Pipeline (Dat)

namespace Cert.Kernel20Ideal.Val

open Cert.Kernel20Ideal Cert.Kernel20Ideal.Gen Alg

variable (m : (ℓ : Loc nD τ sig) → Buf (Elt Ideal) ℓ) (ρ : Dev nD → PrngReg)
theorem idx : ∀ t : Fin cfg0.N, (win0_0.index t 0 = t.val / 4 ∧ win0_0.index t 1 = t.val % 4)
    ∧ (win0_1.index t 0 = t.val / 4 ∧ win0_1.index t 1 = t.val % 4)
    ∧ (win0_2.index t 0 = t.val / 4 ∧ win0_2.index t 1 = t.val % 4)
    ∧ (win0_3.index t 0 = t.val / 4 ∧ win0_3.index t 1 = t.val % 4)
    ∧ (win0_4.index t 0 = t.val / 4 ∧ win0_4.index t 1 = t.val % 4)
    ∧ (win0_5.index t 0 = t.val / 4 ∧ win0_5.index t 1 = t.val % 4)
    ∧ (win0_6.index t 0 = t.val / 4 ∧ win0_6.index t 1 = t.val % 4)
    ∧ win0_7.index t 0 = t.val / 4 ∧ win0_7.index t 1 = t.val % 4 :=
  (by decide +kernel : ∀ t : Fin grid0.N, _)

/-- Where a block's element lies in its array. -/
abbrev at_ (t : Fin cfg0.N) (r : Fin 256) (k : Fin 896) : S4096x3584.Idx :=
  ix2 (⟨t.val / 4 * 256 + r.val, by have := lt_of_lt_of_eq t.isLt N_0; omega⟩ : Fin 4096) (⟨t.val % 4 * 896 + k.val, by omega⟩ : Fin 3584)

theorem emb0 (t : Fin cfg0.N) (r : Fin 256) (k : Fin 896) : ((cfg0.win 0).blk t).view.emb (ix2 r k) = at_ t r k := by
  funext a
  apply Fin.ext
  match a with
  | ⟨0, _⟩ => show win0_0.index t 0 * 256 + 1 * r.val = t.val / 4 * 256 + r.val; rw [(idx t).1.1]; omega
  | ⟨1, _⟩ => show win0_0.index t 1 * 896 + 1 * k.val = t.val % 4 * 896 + k.val; rw [(idx t).1.2]; omega
theorem emb1 (t : Fin cfg0.N) (r : Fin 256) (k : Fin 896) : ((cfg0.win 1).blk t).view.emb (ix2 r k) = at_ t r k := emb0 t r k
theorem emb2 (t : Fin cfg0.N) (r : Fin 256) (k : Fin 896) : ((cfg0.win 2).blk t).view.emb (ix2 r k) = at_ t r k := emb0 t r k
theorem emb3 (t : Fin cfg0.N) (r : Fin 256) (k : Fin 896) : ((cfg0.win 3).blk t).view.emb (ix2 r k) = at_ t r k := emb0 t r k
theorem emb4 (t : Fin cfg0.N) (r : Fin 256) (k : Fin 896) : ((cfg0.win 4).blk t).view.emb (ix2 r k) = at_ t r k := emb0 t r k
theorem emb5 (t : Fin cfg0.N) (r : Fin 256) (k : Fin 896) : ((cfg0.win 5).blk t).view.emb (ix2 r k) = at_ t r k := emb0 t r k
theorem emb6 (t : Fin cfg0.N) (r : Fin 256) (k : Fin 896) : ((cfg0.win 6).blk t).view.emb (ix2 r k) = at_ t r k := emb0 t r k
theorem emb7 (t : Fin cfg0.N) (r : Fin 256) (k : Fin 896) : ((cfg0.win 7).blk t).view.emb (ix2 r k) = at_ t r k := emb0 t r k
theorem iblk0_apply (c : Dev nD) (t : Fin cfg0.N) (r : Fin 256) (k : Fin 896) : iblk m c 0 t (ix2 r k) = m ((c : Thread nD τ).loc main_arg0) (at_ t r k) := by
  unfold iblk
  rw [View.read_apply, emb0]
  show V m c main_arg0 _ = _
  rw [V_main_arg0]
theorem iblk1_apply (c : Dev nD) (t : Fin cfg0.N) (r : Fin 256) (k : Fin 896) : iblk m c 1 t (ix2 r k) = m ((c : Thread nD τ).loc main_arg2) (at_ t r k) := by
  unfold iblk
  rw [View.read_apply, emb1]
  show V m c main_arg2 _ = _
  rw [V_main_arg2]
theorem iblk2_apply (c : Dev nD) (t : Fin cfg0.N) (r : Fin 256) (k : Fin 896) : iblk m c 2 t (ix2 r k) = m ((c : Thread nD τ).loc main_arg3) (at_ t r k) := by
  unfold iblk
  rw [View.read_apply, emb2]
  show V m c main_arg3 _ = _
  rw [V_main_arg3]
theorem iblk3_apply (c : Dev nD) (t : Fin cfg0.N) (r : Fin 256) (k : Fin 896) : iblk m c 3 t (ix2 r k) = m ((c : Thread nD τ).loc main_arg1) (at_ t r k) := by
  unfold iblk
  rw [View.read_apply, emb3]
  show V m c main_arg1 _ = _
  rw [V_main_arg1]

/-- The two averages and the step, element by element. -/
def gM (g a : EReal) : EReal := Ideal.ofBits .f32 0x3F666666#32 * a + Ideal.ofBits .f32 0x3DCCCCCD#32 * g
def gV (g b : EReal) : EReal := Ideal.ofBits .f32 0x3F7FBE77#32 * b + Ideal.ofBits .f32 0x3A83126F#32 * (g * g)
def gD (w g a b : EReal) : EReal := Ideal.ofBits .f32 0xBA83126F#32 * (Ideal.div (Ideal.div (gM g a) (Ideal.ofBits .f32 0x3F26BD02#32))
  (Ideal.sqrt (Ideal.div (gV g b) (Ideal.ofBits .f32 0x3C231ACC#32)) + Ideal.ofBits .f32 0x322BCC77#32) + Ideal.ofBits .f32 0x3C23D70A#32 * w)

abbrev A0 (c : Dev nD) : FVec Ideal S4096x3584 .f32 := m ((c : Thread nD τ).loc main_arg0)
abbrev A1 (c : Dev nD) : FVec Ideal S4096x3584 .f32 := m ((c : Thread nD τ).loc main_arg1)
abbrev A2 (c : Dev nD) : FVec Ideal S4096x3584 .f32 := m ((c : Thread nD τ).loc main_arg2)
abbrev A3 (c : Dev nD) : FVec Ideal S4096x3584 .f32 := m ((c : Thread nD τ).loc main_arg3)
abbrev res4 (c : Dev nD) : Buf (Elt Ideal) ((c : Thread nD τ).loc main_v0_0) := fun i => A1 m c i
theorem flushed_eq4 (c : Dev nD) (t : Fin cfg0.N) :
    (dats m 0 c).flushed 4 t = ((cfg0.win 4).blk t).view.read (Elt Ideal) (res4 m c) := by
  rw [Value.flushed4]
  unfold out0_4
  rw [View.canon_unit_zero hz]
  simp only [View.ld_unit_zero (S := S256x896) hz]
  funext j
  obtain ⟨r, k, rfl⟩ : ∃ (r : Fin 256) (k : Fin 896), j = ix2 r k := ⟨j 0, j 1, eq_ix2 j⟩
  rw [View.read_apply, emb4]
  show iblk m c 3 t (ix2 r k) = A1 m c _
  exact iblk3_apply m c t r k
theorem cover4 (i : S4096x3584.Idx) : ∃ t : Fin cfg0.N, (cfg0.win 4).flush t = true ∧ i ∈ ((cfg0.win 4).blk t).view.set := by
  have h0 : (i 0).val < 4096 := (i 0).isLt
  have h1 : (i 1).val < 3584 := (i 1).isLt
  have hN : cfg0.N = 64 := N_0
  obtain ⟨t, ht⟩ : ∃ t : Fin cfg0.N, t.val = (i 0).val / 256 * 4 + (i 1).val / 896 := ⟨⟨_, by omega⟩, rfl⟩
  refine ⟨t, flush0_4 t, ?_⟩
  show i ∈ ((View.whole main_v0_0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [(idx t).2.2.2.2.1.1]; omega
  | ⟨1, _⟩ => show win0_4.index t 1 * 896 ≤ (i 1).val ∧ (i 1).val < win0_4.index t 1 * 896 + 896; rw [(idx t).2.2.2.2.1.2]; omega
theorem final4 (c : Dev nD) : (dats m 0 c).arrAt 4 cfg0.N = res4 m c :=
  (dats m 0 c).arrAt_eq_of_cover 4 (res4 m c) (fun t _ => flushed_eq4 m c t) cover4

abbrev res5 (c : Dev nD) : Buf (Elt Ideal) ((c : Thread nD τ).loc main_v0_1) := fun i => gD (A0 m c i) (A1 m c i) (A2 m c i) (A3 m c i)
theorem flushed_eq5 (c : Dev nD) (t : Fin cfg0.N) :
    (dats m 0 c).flushed 5 t = ((cfg0.win 5).blk t).view.read (Elt Ideal) (res5 m c) := by
  rw [Value.flushed5]
  unfold out0_5
  rw [View.canon_unit_zero hz]
  simp only [View.ld_unit_zero (S := S256x896) hz]
  funext j
  obtain ⟨r, k, rfl⟩ : ∃ (r : Fin 256) (k : Fin 896), j = ix2 r k := ⟨j 0, j 1, eq_ix2 j⟩
  rw [View.read_apply, emb5]
  show k0_pay3 (F := Ideal) (iblk m c 3 t) (iblk m c 0 t) (iblk m c 1 t) (iblk m c 2 t) (ix2 r k) = gD (A0 m c (at_ t r k)) (A1 m c (at_ t r k)) (A2 m c (at_ t r k)) (A3 m c (at_ t r k))
  unfold gD gM gV
  pointwise [k0_pay3, k0_pay2, k0_pay1]
  simp only [iblk0_apply, iblk1_apply, iblk2_apply, iblk3_apply]
theorem final5 (c : Dev nD) : (dats m 0 c).arrAt 5 cfg0.N = res5 m c :=
  (dats m 0 c).arrAt_eq_of_cover 5 (res5 m c) (fun t _ => flushed_eq5 m c t) cover4

abbrev res6 (c : Dev nD) : Buf (Elt Ideal) ((c : Thread nD τ).loc main_v0_2) := fun i => gM (A1 m c i) (A2 m c i)
theorem flushed_eq6 (c : Dev nD) (t : Fin cfg0.N) :
    (dats m 0 c).flushed 6 t = ((cfg0.win 6).blk t).view.read (Elt Ideal) (res6 m c) := by
  rw [Value.flushed6]
  unfold out0_6
  rw [View.canon_unit_zero hz]
  simp only [View.ld_unit_zero (S := S256x896) hz]
  funext j
  obtain ⟨r, k, rfl⟩ : ∃ (r : Fin 256) (k : Fin 896), j = ix2 r k := ⟨j 0, j 1, eq_ix2 j⟩
  rw [View.read_apply, emb6]
  show k0_pay1 (F := Ideal) (iblk m c 3 t) (iblk m c 1 t) (ix2 r k) = gM (A1 m c (at_ t r k)) (A2 m c (at_ t r k))
  unfold gM
  pointwise [k0_pay3, k0_pay2, k0_pay1]
  simp only [iblk0_apply, iblk1_apply, iblk2_apply, iblk3_apply]
theorem final6 (c : Dev nD) : (dats m 0 c).arrAt 6 cfg0.N = res6 m c :=
  (dats m 0 c).arrAt_eq_of_cover 6 (res6 m c) (fun t _ => flushed_eq6 m c t) cover4

abbrev res7 (c : Dev nD) : Buf (Elt Ideal) ((c : Thread nD τ).loc main_v0_3) := fun i => gV (A1 m c i) (A3 m c i)
theorem flushed_eq7 (c : Dev nD) (t : Fin cfg0.N) :
    (dats m 0 c).flushed 7 t = ((cfg0.win 7).blk t).view.read (Elt Ideal) (res7 m c) := by
  rw [Value.flushed7]
  unfold out0_7
  rw [View.canon_unit_zero hz]
  simp only [View.ld_unit_zero (S := S256x896) hz]
  funext j
  obtain ⟨r, k, rfl⟩ : ∃ (r : Fin 256) (k : Fin 896), j = ix2 r k := ⟨j 0, j 1, eq_ix2 j⟩
  rw [View.read_apply, emb7]
  show k0_pay2 (F := Ideal) (iblk m c 3 t) (iblk m c 2 t) (ix2 r k) = gV (A1 m c (at_ t r k)) (A3 m c (at_ t r k))
  unfold gV
  pointwise [k0_pay3, k0_pay2, k0_pay1]
  simp only [iblk0_apply, iblk1_apply, iblk2_apply, iblk3_apply]
theorem final7 (c : Dev nD) : (dats m 0 c).arrAt 7 cfg0.N = res7 m c :=
  (dats m 0 c).arrAt_eq_of_cover 7 (res7 m c) (fun t _ => flushed_eq7 m c t) cover4

theorem runK : θ_run defs (onTc (τ := τ) (main (F := Ideal))) ⟨m, fun _ => 0, ρ⟩ fun r => ∀ c : Dev nD,
      r.2.mem ((c : Thread nD τ).loc main_v0_0) = res4 m c ∧ r.2.mem ((c : Thread nD τ).loc main_v0_1) = res5 m c
      ∧ r.2.mem ((c : Thread nD τ).loc main_v0_2) = res6 m c ∧ r.2.mem ((c : Thread nD τ).loc main_v0_3) = res7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c),
    (h c).2.2.2.1.trans (final7 m c), (h c).2.2.2.2⟩) (Value.run_blocks m ρ)

theorem algebraic : Cert.algebraic_Kernel20Ideal_Reference20Ideal := fun m ρ m' ρ' _ hag =>
  ⟨fun c => res4 m c, fun c => res5 m c, fun c => res6 m c, fun c => res7 m c, runK m ρ,
    (θ_run _ _ _).mono (fun _ h c => ⟨(h c).1.trans (hag c).2.1, (h c).2.1.trans (by
      clear h
      rw [(hag c).1, (hag c).2.1, (hag c).2.2.1, (hag c).2.2.2]
      funext j
      show _ = gD _ _ _ _
      unfold gD gM gV
      pointwise), (h c).2.2.1.trans (by
      clear h
      rw [(hag c).2.1, (hag c).2.2.1]
      funext j
      show _ = gM _ _
      unfold gM
      pointwise), (h c).2.2.2.1.trans (by
      clear h
      rw [(hag c).2.1, (hag c).2.2.2]
      funext j
      show _ = gV _ _
      unfold gV
      pointwise), (h c).2.2.2.2⟩) (Reference20Ideal.Value.run m' ρ')⟩

end Cert.Kernel20Ideal.Val
end
-- ==== Proof.V21.lean ====
module

public import proofs.«01_k».proof.Defs
public import proofs.«01_k».proof.Proof.Gen.Kernel21Ideal.Value
public import proofs.«01_k».proof.Proof.Gen.Reference21Ideal.Run
public import proofs.«01_k».proof.Proof.Alg

/-! The bias's gradient: the sum over the rows, block by block, and whole. -/

@[expose] public section

set_option maxRecDepth 16384

noncomputable section

open Idealize.ShloMosaic Idealize.ShloMosaic.TcCoe Idealize.SL.Sem
open Idealize.ShloMosaic.Pipeline (Dat)

namespace Cert.Kernel21Ideal.Val

open Cert.Kernel21Ideal Cert.Kernel21Ideal.Gen Alg

variable (m : (ℓ : Loc nD τ sig) → Buf (Elt Ideal) ℓ) (ρ : Dev nD → PrngReg)
theorem idx0 : ∀ t : Fin cfg0.N, win0_0.index t 0 = t.val % 8 ∧ win0_0.index t 1 = t.val / 8 :=
  (by decide +kernel : ∀ t : Fin grid0.N, _)

abbrev X (c : Dev nD) : FVec Ideal S4096x14336 .bf16 := m ((c : Thread nD τ).loc main_arg0)
theorem emb0 (t : Fin cfg0.N) (r : Fin 512) (k : Fin 2048) : ((cfg0.win 0).blk t).view.emb (ix2 r k)
    = ix2 (⟨t.val % 8 * 512 + r.val, by omega⟩ : Fin 4096) (⟨t.val / 8 * 2048 + k.val, by have := lt_of_lt_of_eq t.isLt N_0; omega⟩ : Fin 14336) := by
  funext a
  apply Fin.ext
  match a with
  | ⟨0, _⟩ => show win0_0.index t 0 * 512 + 1 * r.val = t.val % 8 * 512 + r.val; rw [(idx0 t).1]; omega
  | ⟨1, _⟩ => show win0_0.index t 1 * 2048 + 1 * k.val = t.val / 8 * 2048 + k.val; rw [(idx0 t).2]; omega
theorem iblk0_apply (c : Dev nD) (t : Fin cfg0.N) (r : Fin 512) (k : Fin 2048) : iblk m c 0 t (ix2 r k)
    = X m c (ix2 (⟨t.val % 8 * 512 + r.val, by omega⟩ : Fin 4096) (⟨t.val / 8 * 2048 + k.val, by have := lt_of_lt_of_eq t.isLt N_0; omega⟩ : Fin 14336)) := by
  unfold iblk
  rw [View.read_apply, emb0]
  show V m c main_arg0 _ = _
  rw [V_main_arg0]

/-- One column's elements, as a function of the row's number. -/
abbrev col (x : FVec Ideal S4096x14336 .bf16) (k : Fin 14336) : ℕ → EReal := cell fun q : Fin 4096 => (x (ix2 q k) : EReal)

theorem pay_at (a : Vec Ideal S1x2048 .f32) (x : Vec Ideal S512x2048 .bf16) (k : Fin 2048) :
    k0_pay2 a x (ix2 0 k) = (a (ix2 0 k) : EReal) + ∑ r : Fin 512, (x (ix2 r k) : EReal) := by
  pointwise [k0_pay2]

theorem zero_at (k : Fin 2048) : (k0_pay1 (F := Ideal) (ix2 0 k) : EReal) = 0 := by
  pointwise [k0_pay1]

theorem add_at (c : Dev nD) (a : Vec Ideal S1x2048 .f32) (k : Fin 2048) (n : ℕ) (h : n < cfg0.N) (q : Fin 14336) (hq : q.val = n / 8 * 2048 + k.val) :
    (k0_pay2 a (iblk m c 0 ⟨n, h⟩) (ix2 0 k) : EReal) = a (ix2 0 k) + ∑ r : Fin 512, col (X m c) q (n % 8 * 512 + r.val) := by
  rw [pay_at]
  congr 1
  refine Finset.sum_congr rfl fun r _ => ?_
  have e := iblk0_apply m c ⟨n, h⟩ r k
  dsimp only at e
  rw [e, col, cell_at _ _ (by omega)]
  congr 2
  exact Fin.ext hq.symm

/-- The fold after `j` steps of a column block's run is the sum over the rows seen so far. -/
theorem acc_at (c : Dev nD) (b : ℕ) (k : Fin 2048) (q : Fin 14336) (hq : q.val = b * 2048 + k.val) (j : ℕ) : ∀ (_ : j < 8) (h : 8 * b + j < cfg0.N),
    (Pipeline.accAt (Value.reset1 m c) (Value.step1 m c) (8 * b) j h (ix2 0 k) : EReal)
      = ∑ s ∈ Finset.range (j + 1), ∑ r : Fin 512, col (X m c) q (s * 512 + r.val) := by
  induction j with
  | zero =>
    intro _ h
    rw [Pipeline.accAt_zero, Value.reset1, add_at m c _ k _ _ q (by omega), zero_at, zero_add, Finset.sum_range_one,
      show 8 * b % 8 = 0 by omega]
  | succ j ih =>
    intro hj h
    rw [Pipeline.accAt_succ, Value.step1, add_at m c _ k _ _ q (by omega), ih (by omega), Finset.sum_range_succ _ (j + 1),
      show (8 * b + (j + 1)) % 8 = j + 1 by omega]

theorem G1_at (c : Dev nD) (k : Fin 14336) : (Value.G1 m c (ix2 0 k) : EReal) = ∑ q : Fin 4096, (X m c (ix2 q k) : EReal) := by
  have hk := k.isLt
  have hN : cfg0.N = 56 := N_0
  have hr : Value.run1Of (ix2 0 k) = k.val / 2048 := by show 7 * (0 / 1 - 0) + 1 * (k.val / 2048 - 0) = _; omega
  have hl : Value.loc1Of (ix2 0 k) = ix2 0 (⟨k.val % 2048, by omega⟩ : Fin 2048) := by
    funext a; match a with | ⟨0, _⟩ => rfl | ⟨1, _⟩ => rfl
  have h : 8 * Value.run1Of (ix2 0 k) + 7 < cfg0.N := by rw [hr, hN]; omega
  unfold Value.G1
  rw [dif_pos h, hl, acc_at m c _ _ k (by rw [hr]; dsimp only; omega) 7 (by decide) h, sum_cells _ 8 512 (by decide)]

theorem algebraic : Cert.algebraic_Kernel21Ideal_Reference21Ideal := fun m ρ m' ρ' _ hag =>
  ⟨fun c => Value.G1 m c, Value.run m ρ,
    (θ_run _ _ _).mono (fun _ h c => ⟨(h c).1.trans (by
      clear h
      rw [hag c]
      funext j
      obtain ⟨r, k, rfl⟩ : ∃ (r : Fin 1) (k : Fin 14336), j = ix2 r k := ⟨j 0, j 1, eq_ix2 j⟩
      obtain rfl : r = 0 := Fin.fin_one_eq_zero r
      refine Eq.trans ?_ (G1_at m c k).symm
      pointwise
      simp only [Finset.univ_unique, Finset.sum_singleton]), (h c).2⟩) (Reference21Ideal.Value.run m' ρ')⟩

end Cert.Kernel21Ideal.Val
end
-- ==== Proof.V22.lean ====
module

public import proofs.«01_k».proof.Defs
public import proofs.«01_k».proof.Proof.Gen.Kernel22Ideal.Value
public import proofs.«01_k».proof.Proof.Gen.Reference22Ideal.Run
public import proofs.«01_k».proof.Proof.Alg

/-! The loss and its gradients: the rows block by block, the two sums over all blocks, and all whole. -/

@[expose] public section

set_option maxRecDepth 16384

noncomputable section

open Idealize.ShloMosaic Idealize.ShloMosaic.TcCoe Idealize.SL.Sem
open Idealize.ShloMosaic.Pipeline (Dat)

namespace Cert.Kernel22Ideal.Val

open Cert.Kernel22Ideal Cert.Kernel22Ideal.Gen Alg

variable (m : (ℓ : Loc nD τ sig) → Buf (Elt Ideal) ℓ) (ρ : Dev nD → PrngReg)
theorem lt_N (t : Fin cfg0.N) : t.val < 16 := lt_of_lt_of_eq t.isLt N_0
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ win0_6.index t 0 = 0 ∧ win0_6.index t 1 = 0 :=
  (by decide +kernel : ∀ t : Fin grid0.N, _)

theorem V_v0 (c : Dev nD) : V m c main_v0
    = (broadcastInDim S1x2048 ![1] bcast_S2048_S1x2048_1 (m ((c : Thread nD τ).loc main_arg1)) : FVec Ideal S1x2048 .f32) := by
  unfold V
  simp only [hostOps0]
  after_results

abbrev row (t : Fin cfg0.N) (r : Fin 256) : Fin 4096 := ⟨t.val * 256 + r.val, by have := lt_N t; omega⟩

theorem emb0 (t : Fin cfg0.N) (r : Fin 256) (k : Fin 2048) : ((cfg0.win 0).blk t).view.emb (ix2 r k) = ix2 (row t r) k := by
  funext a
  apply Fin.ext
  match a with
  | ⟨0, _⟩ => show win0_0.index t 0 * 256 + 1 * r.val = t.val * 256 + r.val; rw [(idx t).1.1]; omega
  | ⟨1, _⟩ => show win0_0.index t 1 * 2048 + 1 * k.val = k.val; rw [(idx t).1.2]; omega
theorem emb1 (t : Fin cfg0.N) (r : Fin 1) (k : Fin 2048) : ((cfg0.win 1).blk t).view.emb (ix2 r k) = ix2 r k := by
  funext a
  apply Fin.ext
  match a with
  | ⟨0, _⟩ => show win0_1.index t 0 * 1 + 1 * r.val = r.val; rw [(idx t).2.1.1]; omega
  | ⟨1, _⟩ => show win0_1.index t 1 * 2048 + 1 * k.val = k.val; rw [(idx t).2.1.2]; omega
theorem emb2 (t : Fin cfg0.N) (r : Fin 256) (k : Fin 2048) : ((cfg0.win 2).blk t).view.emb (ix2 r k) = ix2 (row t r) k := emb0 t r k
theorem emb3 (t : Fin cfg0.N) (r : Fin 256) (k : Fin 2048) : ((cfg0.win 3).blk t).view.emb (ix2 r k) = ix2 (row t r) k := emb0 t r k
theorem emb4 (t : Fin cfg0.N) (r : Fin 256) (k : Fin 2048) : ((cfg0.win 4).blk t).view.emb (ix2 r k) = ix2 (row t r) k := emb0 t r k
theorem emb5 (t : Fin cfg0.N) (r : Fin 1) (k : Fin 2048) : ((cfg0.win 5).blk t).view.emb (ix2 r k) = ix2 r k := emb1 t r k
theorem emb6 (t : Fin cfg0.N) (r : Fin 8) (k : Fin 128) : ((cfg0.win 6).blk t).view.emb (ix2 r k) = ix2 r k := by
  funext a
  apply Fin.ext
  match a with
  | ⟨0, _⟩ => show win0_6.index t 0 * 8 + 1 * r.val = r.val; rw [(idx t).2.2.2.2.2.2.1]; omega
  | ⟨1, _⟩ => show win0_6.index t 1 * 128 + 1 * k.val = k.val; rw [(idx t).2.2.2.2.2.2.2]; omega

abbrev X (c : Dev nD) : FVec Ideal S4096x2048 .f32 := m ((c : Thread nD τ).loc main_arg0)
abbrev Y (c : Dev nD) : FVec Ideal S2048 .f32 := m ((c : Thread nD τ).loc main_arg1)
abbrev Z (c : Dev nD) : FVec Ideal S4096x2048 .f32 := m ((c : Thread nD τ).loc main_arg2)
theorem iblk0_apply (c : Dev nD) (t : Fin cfg0.N) (r : Fin 256) (k : Fin 2048) : iblk m c 0 t (ix2 r k) = X m c (ix2 (row t r) k) := by
  unfold iblk
  rw [View.read_apply, emb0]
  show V m c main_arg0 _ = _
  rw [V_main_arg0]
theorem iblk2_apply (c : Dev nD) (t : Fin cfg0.N) (r : Fin 256) (k : Fin 2048) : iblk m c 2 t (ix2 r k) = Z m c (ix2 (row t r) k) := by
  unfold iblk
  rw [View.read_apply, emb2]
  show V m c main_arg2 _ = _
  rw [V_main_arg2]
theorem iblk1_apply (c : Dev nD) (t : Fin cfg0.N) (r : Fin 1) (k : Fin 2048) : iblk m c 1 t (ix2 r k) = Y m c (ix1 k) := by
  unfold iblk
  rw [View.read_apply, emb1]
  show V m c main_v0 _ = _
  rw [V_v0]
  pointwise

section
variable (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .bf16) (h5 : a5.IsWhole) (a6 : Memref sig .tc .vmem S1x2048 .f32) (h6 : a6.IsWhole) (a7 : Memref sig .tc .vmem S8x128 .f32) (h7 : a7.IsWhole)
  (x0 : Vec Ideal S256x2048 .f32) (x1 : Vec Ideal S1x2048 .f32) (x2 : Vec Ideal S256x2048 .f32) (xo : Vec Ideal S1x2048 .f32) (xl : Vec Ideal S8x128 .f32)
theorem outA3 (hc : cond0_0 i) :
    out0_A_3 c i a1 h1 a2 h2 a3 h3 a4 h4 a5 h5 a6 h6 a7 h7 hc x0 x1 x2 = k0_pay1 (k0_pay14 x0 x1 x2) (k0_pay15 x0) (k0_pay16 x0 x1 x2) := by
  unfold out0_A_3
  rw [View.read_writes_eq_canon _ _ _ (cover0_A_3 c i a1 h1 a2 h2 a3 h3 a4 h4 a5 h5 a6 h6 a7 h7 hc x0 x1 x2)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz, View.ld_unit_zero (S := S8x128) hz]
theorem outA4 (hc : cond0_0 i) :
    out0_A_4 c i a1 h1 a2 h2 a3 h3 a4 h4 a5 h5 a6 h6 a7 h7 hc x0 x1 x2 = k0_pay2 (k0_pay14 x0 x1 x2) (k0_pay15 x0) (k0_pay16 x0 x1 x2) := by
  unfold out0_A_4
  rw [View.read_writes_eq_canon _ _ _ (cover0_A_4 c i a1 h1 a2 h2 a3 h3 a4 h4 a5 h5 a6 h6 a7 h7 hc x0 x1 x2)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz, View.ld_unit_zero (S := S8x128) hz]
theorem outA5 (hc : cond0_0 i) :
    out0_A_5 c i a1 h1 a2 h2 a3 h3 a4 h4 a5 h5 a6 h6 a7 h7 hc x0 x1 x2 = k0_pay5 (k0_pay9 x0) (k0_pay12 x0 x1 x2) (k0_pay3 (F := Ideal)) := by
  unfold out0_A_5
  rw [View.read_writes_eq_canon _ _ _ (cover0_A_5 c i a1 h1 a2 h2 a3 h3 a4 h4 a5 h5 a6 h6 a7 h7 hc x0 x1 x2)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread,
    View.ld_unit_zero (S := S256x2048) hz, View.ld_unit_zero (S := S1x2048) hz, View.ld_unit_zero (S := S8x128) hz]
theorem outA6 (hc : cond0_0 i) :
    out0_A_6 c i a1 h1 a2 h2 a3 h3 a4 h4 a5 h5 a6 h6 a7 h7 hc x0 x1 x2 = k0_pay6 (k0_pay11 x0 x1 x2) (k0_pay4 (F := Ideal)) := by
  unfold out0_A_6
  rw [View.read_writes_eq_canon _ _ _ (cover0_A_6 c i a1 h1 a2 h2 a3 h3 a4 h4 a5 h5 a6 h6 a7 h7 hc x0 x1 x2)]
  unfold kernelRun0_A
  dsimp only
  sl_unfold_words
  rw [View.canon_cons_unit_zero (S := S8x128) hz, View.readCov_unit_zero (S := S8x128) _ hz]
  simp only [View.readAt_eq_ld, h1.read_unread, h2.read_unread, h3.read_unread, h4.read_unread, h5.read_unread, h6.read_unread, h7.read_unread,
    View.ld_unit_zero (S := S256x2048) hz, View.ld_unit_zero (S := S1x2048) hz, View.ld_unit_zero (S := S8x128) hz]
theorem outB3 (hc : ¬cond0_0 i) :
    out0_B_3 c i a1 h1 a2 h2 a3 h3 a4 h4 a5 h5 a6 h6 a7 h7 hc x0 x1 x2 xo xl = k0_pay1 (k0_pay14 x0 x1 x2) (k0_pay15 x0) (k0_pay16 x0 x1 x2) := by
  unfold out0_B_3
  rw [View.read_writes_eq_canon _ _ _ (cover0_B_3 c i a1 h1 a2 h2 a3 h3 a4 h4 a5 h5 a6 h6 a7 h7 hc x0 x1 x2 xo xl)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz, View.ld_unit_zero (S := S8x128) hz]
theorem outB4 (hc : ¬cond0_0 i) :
    out0_B_4 c i a1 h1 a2 h2 a3 h3 a4 h4 a5 h5 a6 h6 a7 h7 hc x0 x1 x2 xo xl = k0_pay2 (k0_pay14 x0 x1 x2) (k0_pay15 x0) (k0_pay16 x0 x1 x2) := by
  unfold out0_B_4
  rw [View.read_writes_eq_canon _ _ _ (cover0_B_4 c i a1 h1 a2 h2 a3 h3 a4 h4 a5 h5 a6 h6 a7 h7 hc x0 x1 x2 xo xl)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz, View.ld_unit_zero (S := S8x128) hz]
theorem outB5 (hc : ¬cond0_0 i) :
    out0_B_5 c i a1 h1 a2 h2 a3 h3 a4 h4 a5 h5 a6 h6 a7 h7 hc x0 x1 x2 xo xl = k0_pay5 (k0_pay9 x0) (k0_pay12 x0 x1 x2) xo := by
  unfold out0_B_5
  rw [View.read_writes_eq_canon _ _ _ (cover0_B_5 c i a1 h1 a2 h2 a3 h3 a4 h4 a5 h5 a6 h6 a7 h7 hc x0 x1 x2 xo xl)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz, View.ld_unit_zero (S := S8x128) hz]
theorem outB6 (hc : ¬cond0_0 i) :
    out0_B_6 c i a1 h1 a2 h2 a3 h3 a4 h4 a5 h5 a6 h6 a7 h7 hc x0 x1 x2 xo xl = k0_pay6 (k0_pay11 x0 x1 x2) xl := by
  unfold out0_B_6
  rw [View.read_writes_eq_canon _ _ _ (cover0_B_6 c i a1 h1 a2 h2 a3 h3 a4 h4 a5 h5 a6 h6 a7 h7 hc x0 x1 x2 xo xl)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz, View.ld_unit_zero (S := S8x128) hz]
end

section
variable (x : FVec Ideal S4096x2048 .f32) (g : FVec Ideal S2048 .f32) (y : FVec Ideal S4096x2048 .f32)
/-- A row's mean square, guarded. -/
def var (r : Fin 4096) : EReal :=
  Ideal.div (∑ k : Fin 2048, x (ix2 r k) * x (ix2 r k)) ((2048 : ℝ) : EReal) + Ideal.ofBits .f32 0x358637BD#32
/-- The normed rows' distance from the target, and the loss's gradient in them. -/
def err (r : Fin 4096) (k : Fin 2048) : EReal := x (ix2 r k) * Ideal.rsqrt (var x r) * g (ix1 k) - y (ix2 r k)
def dY (r : Fin 4096) (k : Fin 2048) : EReal := err x g y r k * Ideal.ofBits .f32 0x3A000000#32
/-- The input's gradient. -/
def dX : S4096x2048.Idx → EReal := fun i => Ideal.rsqrt (var x (i 0)) * (g (ix1 (i 1)) * dY x g y (i 0) (i 1))
    - x (ix2 (i 0) (i 1)) * (Ideal.rsqrt (var x (i 0)) * Ideal.rsqrt (var x (i 0)) * Ideal.rsqrt (var x (i 0)))
      * Ideal.div (∑ k : Fin 2048, x (ix2 (i 0) k) * (g (ix1 k) * dY x g y (i 0) k)) ((2048 : ℝ) : EReal)
/-- One row's part of the gain's gradient, and one row's part of the loss. -/
def pG (k : Fin 2048) (n : Fin 4096) : EReal := dY x g y n k * (x (ix2 n k) * Ideal.rsqrt (var x n))
def pL (n : Fin 4096) : EReal := Ideal.div (∑ k : Fin 2048, err x g y n k * err x g y n k) ((2048 : ℝ) : EReal)
end

abbrev res3 (c : Dev nD) : Buf (Elt Ideal) ((c : Thread nD τ).loc main_v1_0) := (dX (X m c) (Y m c) (Z m c) : S4096x2048.Idx → EReal)
abbrev res4 (c : Dev nD) : Buf (Elt Ideal) ((c : Thread nD τ).loc main_v1_1) := (dX (X m c) (Y m c) (Z m c) : S4096x2048.Idx → EReal)
abbrev res5 (c : Dev nD) : Buf (Elt Ideal) ((c : Thread nD τ).loc main_v1_2) := fun (i : S1x2048.Idx) => (∑ n, pG (X m c) (Y m c) (Z m c) (i 1) n : EReal)
abbrev res6 (c : Dev nD) : Buf (Elt Ideal) ((c : Thread nD τ).loc main_v1_3) := fun (_ : S8x128.Idx) => (Ideal.ofBits .f32 0x3F000000#32 * ∑ n, pL (X m c) (Y m c) (Z m c) n : EReal)

theorem flushed_eq3 (c : Dev nD) (t : Fin cfg0.N) :
    (dats m 0 c).flushed 3 t = ((cfg0.win 3).blk t).view.read (Elt Ideal) (res3 m c) := by
  have e : (dats m 0 c).flushed 3 t = (cfg0.win 3).cut (grid0.coords t) (k0_pay1 (F := Ideal) (k0_pay14 (iblk m c 0 t) (iblk m c 1 t) (iblk m c 2 t)) (k0_pay15 (iblk m c 0 t)) (k0_pay16 (iblk m c 0 t) (iblk m c 1 t) (iblk m c 2 t))) := by
    by_cases h : t.val % 16 = 0
    · rw [Value.flushed3_A m c t h, outA3]
    · rw [Value.flushed3_B m c t h, outB3]
  rw [e]
  funext j
  obtain ⟨r, k, rfl⟩ : ∃ (r : Fin 256) (k : Fin 2048), j = ix2 r k := ⟨j 0, j 1, eq_ix2 j⟩
  rw [View.read_apply, emb3]
  show k0_pay1 (F := Ideal) (k0_pay14 (iblk m c 0 t) (iblk m c 1 t) (iblk m c 2 t)) (k0_pay15 (iblk m c 0 t)) (k0_pay16 (iblk m c 0 t) (iblk m c 1 t) (iblk m c 2 t)) (ix2 r k) = dX _ _ _ _
  unfold dX dY err var
  simp only [ix2_0, ix2_1]
  pointwise [k0_pay1, k0_pay2, k0_pay7, k0_pay8, k0_pay9, k0_pay10, k0_pay12, k0_pay13, k0_pay14, k0_pay15, k0_pay16]
  simp only [iblk0_apply, iblk1_apply, iblk2_apply, n2048]
theorem cover3 (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 16 := N_0
  obtain ⟨t, ht⟩ : ∃ t : Fin cfg0.N, t.val = (i 0).val / 256 := ⟨⟨_, by omega⟩, rfl⟩
  refine ⟨t, flush0_3 t, ?_⟩
  show i ∈ ((View.whole main_v1_0).slice (win0_3.rect t)).set
  rw [View.set_slice_whole, Rect.mem_set_unit]
  intro a
  match a with
  | ⟨0, _⟩ => show win0_3.index t 0 * 256 ≤ (i 0).val ∧ (i 0).val < win0_3.index t 0 * 256 + 256; rw [(idx t).2.2.2.1.1]; omega
  | ⟨1, _⟩ => show win0_3.index t 1 * 2048 ≤ (i 1).val ∧ (i 1).val < win0_3.index t 1 * 2048 + 2048; rw [(idx t).2.2.2.1.2]; omega
theorem final3 (c : Dev nD) : (dats m 0 c).arrAt 3 cfg0.N = res3 m c :=
  (dats m 0 c).arrAt_eq_of_cover 3 (res3 m c) (fun t _ => flushed_eq3 m c t) cover3

theorem flushed_eq4 (c : Dev nD) (t : Fin cfg0.N) :
    (dats m 0 c).flushed 4 t = ((cfg0.win 4).blk t).view.read (Elt Ideal) (res4 m c) := by
  have e : (dats m 0 c).flushed 4 t = (cfg0.win 4).cut (grid0.coords t) (k0_pay2 (F := Ideal) (k0_pay14 (iblk m c 0 t) (iblk m c 1 t) (iblk m c 2 t)) (k0_pay15 (iblk m c 0 t)) (k0_pay16 (iblk m c 0 t) (iblk m c 1 t) (iblk m c 2 t))) := by
    by_cases h : t.val % 16 = 0
    · rw [Value.flushed4_A m c t h, outA4]
    · rw [Value.flushed4_B m c t h, outB4]
  rw [e]
  funext j
  obtain ⟨r, k, rfl⟩ : ∃ (r : Fin 256) (k : Fin 2048), j = ix2 r k := ⟨j 0, j 1, eq_ix2 j⟩
  rw [View.read_apply, emb4]
  show k0_pay2 (F := Ideal) (k0_pay14 (iblk m c 0 t) (iblk m c 1 t) (iblk m c 2 t)) (k0_pay15 (iblk m c 0 t)) (k0_pay16 (iblk m c 0 t) (iblk m c 1 t) (iblk m c 2 t)) (ix2 r k) = dX _ _ _ _
  unfold dX dY err var
  simp only [ix2_0, ix2_1]
  pointwise [k0_pay1, k0_pay2, k0_pay7, k0_pay8, k0_pay9, k0_pay10, k0_pay12, k0_pay13, k0_pay14, k0_pay15, k0_pay16]
  simp only [iblk0_apply, iblk1_apply, iblk2_apply, n2048]
theorem final4 (c : Dev nD) : (dats m 0 c).arrAt 4 cfg0.N = res4 m c :=
  (dats m 0 c).arrAt_eq_of_cover 4 (res4 m c) (fun t _ => flushed_eq4 m c t) cover3

/-- One block's rows summed into what each sum's buffer held. -/
theorem part5 (c : Dev nD) (t : Fin cfg0.N) (xo : Vec Ideal S1x2048 .f32) (r : Fin 1) (k : Fin 2048) :
    k0_pay5 (F := Ideal) (k0_pay9 (iblk m c 0 t)) (k0_pay12 (iblk m c 0 t) (iblk m c 1 t) (iblk m c 2 t)) xo (ix2 r k)
      = xo (ix2 r k) + ∑ i : Fin 256, cell (pG (X m c) (Y m c) (Z m c) k) (t.val * 256 + i.val) := by
  have ht := lt_N t
  pointwise [k0_pay5, k0_pay7, k0_pay8, k0_pay9, k0_pay10, k0_pay12]
  simp only [iblk0_apply, iblk1_apply, iblk2_apply, n2048]
  congr 1
  refine Finset.sum_congr rfl fun i _ => ?_
  rw [cell_at _ _ (by omega), pG, dY, err, var]
theorem part6 (c : Dev nD) (t : Fin cfg0.N) (xl : Vec Ideal S8x128 .f32) (r : Fin 8) (k : Fin 128) :
    k0_pay6 (F := Ideal) (k0_pay11 (iblk m c 0 t) (iblk m c 1 t) (iblk m c 2 t)) xl (ix2 r k)
      = xl (ix2 r k) + Ideal.ofBits .f32 0x3F000000#32 * ∑ i : Fin 256, cell (pL (X m c) (Y m c) (Z m c)) (t.val * 256 + i.val) := by
  have ht := lt_N t
  pointwise [k0_pay6, k0_pay7, k0_pay8, k0_pay9, k0_pay10, k0_pay11]
  simp only [iblk0_apply, iblk1_apply, iblk2_apply, n2048, Finset.univ_unique, Finset.sum_singleton]
  congr 2
  refine Finset.sum_congr rfl fun i _ => ?_
  rw [cell_at _ _ (by omega), pL]
  unfold err var
  rfl

theorem mul_sum (f : ℕ → EReal) (n : ℕ) :
    ∑ s ∈ Finset.range n, Ideal.ofBits .f32 0x3F000000#32 * f s = Ideal.ofBits .f32 0x3F000000#32 * ∑ s ∈ Finset.range n, f s := by
  induction n with
  | zero => simp
  | succ n ih =>
    rw [Finset.sum_range_succ, Finset.sum_range_succ, ih, half]
    exact (EReal.left_distrib_of_nonneg_of_ne_top (by exact_mod_cast (by norm_num : (0 : ℝ) ≤ 1 / 2)) (EReal.coe_ne_top _) _ _).symm

theorem acc (c : Dev nD) (k : Fin 2048) (r : Fin 8) (l : Fin 128) : ∀ (n : ℕ) (hn : n < cfg0.N),
    (outsAt0 m c n hn).2.2.1 (ix2 0 k) = (∑ s ∈ Finset.range (n + 1), ∑ i : Fin 256, cell (pG (X m c) (Y m c) (Z m c) k) (s * 256 + i.val) : EReal)
    ∧ (outsAt0 m c n hn).2.2.2 (ix2 r l) = (∑ s ∈ Finset.range (n + 1), Ideal.ofBits .f32 0x3F000000#32 * ∑ i : Fin 256, cell (pL (X m c) (Y m c) (Z m c)) (s * 256 + i.val) : EReal)
  | 0, hn => by
    rw [show outsAt0 m c 0 hn = _ from outsAt0_A m c ⟨0, hn⟩ rfl]
    dsimp only
    rw [outA5, outA6, part5, part6]
    have z : (k0_pay3 (F := Ideal)) (ix2 0 k) = (0 : EReal) := by pointwise [k0_pay3]
    have z' : (k0_pay4 (F := Ideal)) (ix2 r l) = (0 : EReal) := by pointwise [k0_pay4]
    rw [z, z', Finset.sum_range_one, Finset.sum_range_one]
    exact ⟨zero_add _, zero_add _⟩
  | n + 1, hn => by
    have hN : n + 1 < 16 := lt_of_lt_of_eq hn N_0
    rw [show outsAt0 m c (n + 1) hn = _ from outsAt0_B m c ⟨n + 1, hn⟩ (by dsimp only; omega)]
    dsimp only
    obtain ⟨e, e'⟩ := acc c k r l n (Nat.lt_of_succ_lt hn)
    rw [outB5, outB6, part5, part6, Finset.sum_range_succ _ (n + 1), Finset.sum_range_succ _ (n + 1)]
    exact ⟨congrArg (· + _) e, congrArg (· + _) e'⟩

theorem flushed_eq5 (c : Dev nD) (t : Fin cfg0.N) (hf : (cfg0.win 5).flush t = true) :
    (dats m 0 c).flushed 5 t = ((cfg0.win 5).blk t).view.read (Elt Ideal) (res5 m c) := by
  have ht := lt_N t
  have h15 : t.val = 15 := by have := (flush0_5 t).mp hf; omega
  rw [Value.flushed5]
  funext j
  obtain ⟨r, k, rfl⟩ : ∃ (r : Fin 1) (k : Fin 2048), j = ix2 r k := ⟨j 0, j 1, eq_ix2 j⟩
  rw [View.read_apply, emb5]
  obtain rfl : r = 0 := Subsingleton.elim _ _
  show (outsAt0 m c t.val t.isLt).2.2.1 (ix2 0 k) = (∑ n, pG (X m c) (Y m c) (Z m c) k n : EReal)
  rw [(acc m c k 0 0 _ _).1, h15, sum_cells _ 16 256 (by decide)]
theorem cover5 (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  have hN : cfg0.N = 16 := N_0
  obtain ⟨t, ht⟩ : ∃ t : Fin cfg0.N, t.val = 15 := ⟨⟨_, by omega⟩, rfl⟩
  refine ⟨t, (flush0_5 t).mpr (by rw [ht]), ?_⟩
  show i ∈ ((View.whole main_v1_2).slice (win0_5.rect t)).set
  rw [View.set_slice_whole, Rect.mem_set_unit]
  intro a
  match a with
  | ⟨0, _⟩ => show win0_5.index t 0 * 1 ≤ (i 0).val ∧ (i 0).val < win0_5.index t 0 * 1 + 1; rw [(idx t).2.2.2.2.2.1.1]; omega
  | ⟨1, _⟩ => show win0_5.index t 1 * 2048 ≤ (i 1).val ∧ (i 1).val < win0_5.index t 1 * 2048 + 2048; rw [(idx t).2.2.2.2.2.1.2]; omega
theorem final5 (c : Dev nD) : (dats m 0 c).arrAt 5 cfg0.N = res5 m c :=
  (dats m 0 c).arrAt_eq_of_cover 5 (res5 m c) (flushed_eq5 m c) cover5

theorem flushed_eq6 (c : Dev nD) (t : Fin cfg0.N) (hf : (cfg0.win 6).flush t = true) :
    (dats m 0 c).flushed 6 t = ((cfg0.win 6).blk t).view.read (Elt Ideal) (res6 m c) := by
  have ht := lt_N t
  have h15 : t.val = 15 := by have := (flush0_6 t).mp hf; omega
  rw [Value.flushed6]
  funext j
  obtain ⟨r, k, rfl⟩ : ∃ (r : Fin 8) (k : Fin 128), j = ix2 r k := ⟨j 0, j 1, eq_ix2 j⟩
  rw [View.read_apply, emb6]
  show (outsAt0 m c t.val t.isLt).2.2.2 (ix2 r k) = (Ideal.ofBits .f32 0x3F000000#32 * ∑ n, pL (X m c) (Y m c) (Z m c) n : EReal)
  rw [(acc m c 0 r k _ _).2, h15, mul_sum, sum_cells _ 16 256 (by decide)]
theorem cover6 (i : S8x128.Idx) : ∃ t : Fin cfg0.N, (cfg0.win 6).flush t = true ∧ i ∈ ((cfg0.win 6).blk t).view.set := by
  have h0 : (i 0).val < 8 := (i 0).isLt
  have h1 : (i 1).val < 128 := (i 1).isLt
  have hN : cfg0.N = 16 := N_0
  obtain ⟨t, ht⟩ : ∃ t : Fin cfg0.N, t.val = 15 := ⟨⟨_, by omega⟩, rfl⟩
  refine ⟨t, (flush0_6 t).mpr (by rw [ht]), ?_⟩
  show i ∈ ((View.whole main_v1_3).slice (win0_6.rect t)).set
  rw [View.set_slice_whole, Rect.mem_set_unit]
  intro a
  match a with
  | ⟨0, _⟩ => show win0_6.index t 0 * 8 ≤ (i 0).val ∧ (i 0).val < win0_6.index t 0 * 8 + 8; rw [(idx t).2.2.2.2.2.2.1]; omega
  | ⟨1, _⟩ => show win0_6.index t 1 * 128 ≤ (i 1).val ∧ (i 1).val < win0_6.index t 1 * 128 + 128; rw [(idx t).2.2.2.2.2.2.2]; omega
theorem final6 (c : Dev nD) : (dats m 0 c).arrAt 6 cfg0.N = res6 m c :=
  (dats m 0 c).arrAt_eq_of_cover 6 (res6 m c) (flushed_eq6 m c) cover6

theorem runK : θ_run defs (onTc (τ := τ) (main (F := Ideal))) ⟨m, fun _ => 0, ρ⟩ fun r => ∀ c : Dev nD,
      r.2.mem ((c : Thread nD τ).loc main_v1_0) = res3 m c ∧ r.2.mem ((c : Thread nD τ).loc main_v1_1) = res4 m c
      ∧ r.2.mem ((c : Thread nD τ).loc main_v1_2) = res5 m c ∧ r.2.mem ((c : Thread nD τ).loc main_v1_3) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c),
    (h c).2.2.2.1.trans (final6 m c), (h c).2.2.2.2⟩) (Value.run_blocks m ρ)

/-- The reference scales the doubled distance by the half and the mean's divisor. -/
theorem seed (e : EReal) : Ideal.div (Ideal.ofBits .f32 0x3F000000#32) ((2048 : ℝ) : EReal)
    * (Ideal.ofBits .f32 0x40000000#32 * e) = e * Ideal.ofBits .f32 0x3A000000#32 := by
  have inv : Ideal.ofBits .f32 0x3A000000#32 = ((1 / 2048 : ℝ) : EReal) := by
    simp [Ideal.ofBits, Ideal.ieee, -EReal.coe_mul]; norm_num
  rw [half, two, inv, div_2048, ← mul_assoc, ← EReal.coe_mul, ← EReal.coe_mul, mul_comm]
  congr 2
  norm_num

theorem grad (c : Dev nD) (r : Fin 4096) (k : Fin 2048) (e : EReal)
    (h : e = dY (X m c) (Y m c) (Z m c) r k * Y m c (ix1 k) * Ideal.rsqrt (var (X m c) r)
      + X m c (ix2 r k) * Ideal.div ((∑ i, X m c (ix2 r i) * (dY (X m c) (Y m c) (Z m c) r i * Y m c (ix1 i))) * (((-(1 / 2) : ℝ) : EReal) * Ideal.div (Ideal.rsqrt (var (X m c) r)) (var (X m c) r))) ((2048 : ℝ) : EReal)
      + Ideal.div ((∑ i, X m c (ix2 r i) * (dY (X m c) (Y m c) (Z m c) r i * Y m c (ix1 i))) * (((-(1 / 2) : ℝ) : EReal) * Ideal.div (Ideal.rsqrt (var (X m c) r)) (var (X m c) r))) ((2048 : ℝ) : EReal) * X m c (ix2 r k)) :
    e = dX (X m c) (Y m c) (Z m c) (ix2 r k) := by
  have q := norm_grad_row (fun k => X m c (ix2 r k)) (fun k => dY (X m c) (Y m c) (Z m c) r k) (fun k => Y m c (ix1 k)) k 0 (var (X m c) r) rfl
  rw [zero_add, add_zero] at q
  exact h.trans q

theorem algebraic : Cert.algebraic_Kernel22Ideal_Reference22Ideal := fun m ρ m' ρ' _ hag =>
  ⟨fun c => res3 m c, fun c => res4 m c, fun c => res5 m c, fun c => res6 m c, runK m ρ, (θ_run _ _ _).mono (fun _ h c =>
    ⟨(h c).1.trans (by
        clear h
        unfold Reference22Ideal.Value.res_main_v50
        rw [(hag c).1, (hag c).2.1, (hag c).2.2]
        funext j
        obtain ⟨r, k, rfl⟩ : ∃ (r : Fin 4096) (k : Fin 2048), j = ix2 r k := ⟨j 0, j 1, eq_ix2 j⟩
        refine grad m c r k _ ?_
        unfold dY err var
        pointwise
        simp only [n2048, neg_half, seed, Finset.univ_unique, Finset.sum_singleton]),
     (h c).2.1.trans (by
        clear h
        unfold Reference22Ideal.Value.res_main_v51
        rw [(hag c).1, (hag c).2.1, (hag c).2.2]
        funext j
        obtain ⟨r, k, rfl⟩ : ∃ (r : Fin 4096) (k : Fin 2048), j = ix2 r k := ⟨j 0, j 1, eq_ix2 j⟩
        refine grad m c r k _ ?_
        unfold dY err var
        pointwise
        simp only [n2048, neg_half, seed, Finset.univ_unique, Finset.sum_singleton]),
     (h c).2.2.1.trans (by
        clear h
        rw [(hag c).1, (hag c).2.1, (hag c).2.2]
        funext j
        obtain ⟨r, k, rfl⟩ : ∃ (r : Fin 1) (k : Fin 2048), j = ix2 r k := ⟨j 0, j 1, eq_ix2 j⟩
        show _ = (∑ n, pG (X m c) (Y m c) (Z m c) k n : EReal)
        unfold pG dY err var
        pointwise
        simp only [n2048, seed, Finset.univ_unique, Finset.sum_singleton]
        exact Finset.sum_congr rfl fun n _ => mul_comm _ _),
     (h c).2.2.2.1.trans (by
        clear h
        rw [(hag c).1, (hag c).2.1, (hag c).2.2]
        funext j
        show _ = (Ideal.ofBits .f32 0x3F000000#32 * ∑ n, pL (X m c) (Y m c) (Z m c) n : EReal)
        unfold pL err var
        pointwise
        simp only [n2048]),
     (h c).2.2.2.2⟩) (Reference22Ideal.Value.run m' ρ')⟩

end Cert.Kernel22Ideal.Val
end
-- ==== Proof.V23.lean ====
module

public import proofs.«01_k».proof.Defs
public import proofs.«01_k».proof.Proof.Gen.Kernel23Ideal.Value
public import proofs.«01_k».proof.Proof.Gen.Reference23Ideal.Run
public import proofs.«01_k».proof.Proof.Alg

/-! The four landed slots' sum, block by block. -/

@[expose] public section

set_option maxRecDepth 16384

noncomputable section

open Idealize.ShloMosaic Idealize.ShloMosaic.TcCoe Idealize.SL.Sem
open Idealize.ShloMosaic.Pipeline (Dat)

namespace Cert.Kernel23Ideal.Val

open Cert.Kernel23Ideal Cert.Kernel23Ideal.Gen Alg

variable (m : (ℓ : Loc nD τ sig) → Buf (Elt Ideal) ℓ) (ρ : Dev nD → PrngReg)
theorem idx : ∀ t : Fin cfg0.N, (win0_0.index t 0 = 0 ∧ win0_0.index t 1 = t.val ∧ win0_0.index t 2 = 0)
    ∧ (win0_1.index t 0 = 1 ∧ win0_1.index t 1 = t.val ∧ win0_1.index t 2 = 0)
    ∧ (win0_2.index t 0 = 2 ∧ win0_2.index t 1 = t.val ∧ win0_2.index t 2 = 0)
    ∧ (win0_3.index t 0 = 3 ∧ win0_3.index t 1 = t.val ∧ win0_3.index t 2 = 0)
    ∧ win0_4.index t 0 = t.val ∧ win0_4.index t 1 = 0 :=
  (by decide +kernel : ∀ t : Fin grid0.N, _)

abbrev row (t : Fin cfg0.N) (r : Fin 512) : Fin 1024 := ⟨t.val * 512 + r.val, by have := lt_of_lt_of_eq t.isLt N_0; omega⟩
abbrev X (c : Dev nD) : FVec Ideal S4x1024x256 .bf16 := m ((c : Thread nD τ).loc main_arg0)
theorem iblk0_apply (c : Dev nD) (t : Fin cfg0.N) (r : Fin 512) (k : Fin 256) : iblk m c 0 t (ix3 0 r k) = X m c (ix3 0 (row t r) k) := by
  have e : ((cfg0.win 0).blk t).view.emb (ix3 0 r k) = ix3 (0 : Fin 4) (row t r) k := by
    funext a
    apply Fin.ext
    match a with
    | ⟨0, _⟩ => show win0_0.index t 0 * 1 + 1 * 0 = 0; rw [(idx t).1.1]
    | ⟨1, _⟩ => show win0_0.index t 1 * 512 + 1 * r.val = t.val * 512 + r.val; rw [(idx t).1.2.1]; omega
    | ⟨2, _⟩ => show win0_0.index t 2 * 256 + 1 * k.val = k.val; rw [(idx t).1.2.2]; omega
  unfold iblk
  rw [View.read_apply, e]
  show V m c main_arg0 _ = _
  rw [V_main_arg0]
theorem iblk1_apply (c : Dev nD) (t : Fin cfg0.N) (r : Fin 512) (k : Fin 256) : iblk m c 1 t (ix3 0 r k) = X m c (ix3 1 (row t r) k) := by
  have e : ((cfg0.win 1).blk t).view.emb (ix3 0 r k) = ix3 (1 : Fin 4) (row t r) k := by
    funext a
    apply Fin.ext
    match a with
    | ⟨0, _⟩ => show win0_1.index t 0 * 1 + 1 * 0 = 1; rw [(idx t).2.1.1]
    | ⟨1, _⟩ => show win0_1.index t 1 * 512 + 1 * r.val = t.val * 512 + r.val; rw [(idx t).2.1.2.1]; omega
    | ⟨2, _⟩ => show win0_1.index t 2 * 256 + 1 * k.val = k.val; rw [(idx t).2.1.2.2]; omega
  unfold iblk
  rw [View.read_apply, e]
  show V m c main_arg0 _ = _
  rw [V_main_arg0]
theorem iblk2_apply (c : Dev nD) (t : Fin cfg0.N) (r : Fin 512) (k : Fin 256) : iblk m c 2 t (ix3 0 r k) = X m c (ix3 2 (row t r) k) := by
  have e : ((cfg0.win 2).blk t).view.emb (ix3 0 r k) = ix3 (2 : Fin 4) (row t r) k := by
    funext a
    apply Fin.ext
    match a with
    | ⟨0, _⟩ => show win0_2.index t 0 * 1 + 1 * 0 = 2; rw [(idx t).2.2.1.1]
    | ⟨1, _⟩ => show win0_2.index t 1 * 512 + 1 * r.val = t.val * 512 + r.val; rw [(idx t).2.2.1.2.1]; omega
    | ⟨2, _⟩ => show win0_2.index t 2 * 256 + 1 * k.val = k.val; rw [(idx t).2.2.1.2.2]; omega
  unfold iblk
  rw [View.read_apply, e]
  show V m c main_arg0 _ = _
  rw [V_main_arg0]
theorem iblk3_apply (c : Dev nD) (t : Fin cfg0.N) (r : Fin 512) (k : Fin 256) : iblk m c 3 t (ix3 0 r k) = X m c (ix3 3 (row t r) k) := by
  have e : ((cfg0.win 3).blk t).view.emb (ix3 0 r k) = ix3 (3 : Fin 4) (row t r) k := by
    funext a
    apply Fin.ext
    match a with
    | ⟨0, _⟩ => show win0_3.index t 0 * 1 + 1 * 0 = 3; rw [(idx t).2.2.2.1.1]
    | ⟨1, _⟩ => show win0_3.index t 1 * 512 + 1 * r.val = t.val * 512 + r.val; rw [(idx t).2.2.2.1.2.1]; omega
    | ⟨2, _⟩ => show win0_3.index t 2 * 256 + 1 * k.val = k.val; rw [(idx t).2.2.2.1.2.2]; omega
  unfold iblk
  rw [View.read_apply, e]
  show V m c main_arg0 _ = _
  rw [V_main_arg0]

abbrev res (c : Dev nD) : Buf (Elt Ideal) ((c : Thread nD τ).loc main_v0) := fun (i : S1024x256.Idx) => (∑ q : Fin 4, X m c (ix3 q (i 0) (i 1)) : EReal)
theorem rot (a b c d : EReal) : d + a + b + c = a + b + c + d := by
  rw [add_comm (a + b + c) d, add_assoc, add_assoc, add_assoc]
theorem flushed_eq (c : Dev nD) (t : Fin cfg0.N) :
    (dats m 0 c).flushed 4 t = ((cfg0.win 4).blk t).view.read (Elt Ideal) (res m c) := by
  rw [Value.flushed4]
  unfold out0_4
  have hz3 : (![0, 0, 0] : Fin 3 → ℕ) = fun _ => 0 := by funext a; fin_cases a <;> rfl
  rw [View.canon_unit_zero hz]
  simp only [View.ld_unit_zero (S := S1x512x256) hz3]
  funext j
  obtain ⟨r, k, rfl⟩ : ∃ (r : Fin 512) (k : Fin 256), j = ix2 r k := ⟨j 0, j 1, eq_ix2 j⟩
  have e : ((cfg0.win 4).blk t).view.emb (ix2 r k) = ix2 (row t r) k := by
    funext a
    apply Fin.ext
    match a with
    | ⟨0, _⟩ => show win0_4.index t 0 * 512 + 1 * r.val = t.val * 512 + r.val; rw [(idx t).2.2.2.2.1]; omega
    | ⟨1, _⟩ => show win0_4.index t 1 * 256 + 1 * k.val = k.val; rw [(idx t).2.2.2.2.2]; omega
  rw [View.read_apply, e]
  show k0_pay1 (F := Ideal) (iblk m c 3 t) (iblk m c 0 t) (iblk m c 1 t) (iblk m c 2 t) (ix2 r k) = (∑ q : Fin 4, X m c (ix3 q (row t r) k) : EReal)
  rw [Fin.sum_univ_four]
  refine Eq.trans ?_ (rot _ _ _ _)
  pointwise [k0_pay1]
  rw [iblk0_apply, iblk1_apply, iblk2_apply, iblk3_apply]
theorem final (c : Dev nD) : (dats m 0 c).arrAt 4 cfg0.N = res m c :=
  (dats m 0 c).arrAt_eq_of_cover 4 (res m c) (fun t _ => flushed_eq m c t) fun (i : S1024x256.Idx) => by
  have h0 : (i 0).val < 1024 := (i 0).isLt
  have h1 : (i 1).val < 256 := (i 1).isLt
  have hN : cfg0.N = 2 := N_0
  obtain ⟨t, ht⟩ : ∃ t : Fin cfg0.N, t.val = (i 0).val / 512 := ⟨⟨_, by omega⟩, rfl⟩
  refine ⟨t, flush0_4 t, ?_⟩
  show i ∈ ((View.whole main_v0).slice (win0_4.rect t)).set
  rw [View.set_slice_whole, Rect.mem_set_unit]
  intro a
  match a with
  | ⟨0, _⟩ => show win0_4.index t 0 * 512 ≤ (i 0).val ∧ (i 0).val < win0_4.index t 0 * 512 + 512; rw [(idx t).2.2.2.2.1]; omega
  | ⟨1, _⟩ => show win0_4.index t 1 * 256 ≤ (i 1).val ∧ (i 1).val < win0_4.index t 1 * 256 + 256; rw [(idx t).2.2.2.2.2]; omega

theorem runK : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0) :=
  (θ_run defs _ _).mono (fun r h c => ⟨(h c).1.trans (final m c), (h c).2⟩) (Value.run_blocks m ρ)

theorem algebraic : Cert.algebraic_Kernel23Ideal_Reference23Ideal := fun m ρ m' ρ' _ hag =>
  ⟨fun c => res m c, runK m ρ, (θ_run _ _ _).mono (fun _ h c => ⟨(h c).1.trans (by
      clear h
      rw [hag c]
      funext j
      obtain ⟨r, k, rfl⟩ : ∃ (r : Fin 1024) (k : Fin 256), j = ix2 r k := ⟨j 0, j 1, eq_ix2 j⟩
      show _ = (∑ q : Fin 4, X m c (ix3 q r k) : EReal)
      pointwise), (h c).2⟩) (Reference23Ideal.Value.run m' ρ')⟩

end Cert.Kernel23Ideal.Val
end
-- ==== Proof.V24.lean ====
module

public import proofs.«01_k».proof.Defs
public import proofs.«01_k».proof.Proof.Gen.Kernel24Ideal.Value
public import proofs.«01_k».proof.Proof.Gen.Reference24Ideal.Run
public import proofs.«01_k».proof.Proof.Alg

/-! The sum of the eight devices' small gradients. -/

@[expose] public section

set_option maxRecDepth 16384

noncomputable section

open Idealize.ShloMosaic Idealize.ShloMosaic.TcCoe Idealize.SL.Sem

namespace Cert.Kernel24Ideal.Val

open Cert.Kernel24Ideal Cert.Kernel24Ideal.Gen Cert.Kernel24Ideal.Value Alg

theorem algebraic : Cert.algebraic_Kernel24Ideal_Reference24Ideal := fun m ρ m' ρ' _ hag =>
  ⟨_, run m ρ, (θ_run _ _ _).mono (fun _ h c => ⟨(h c).1.trans (by
      clear h
      rw [hag c]
      funext j
      obtain ⟨r, k, rfl⟩ : ∃ (r : Fin 88) (k : Fin 2048), j = ix2 r k := ⟨j 0, j 1, eq_ix2 j⟩
      pointwise [G1, k0_pay1]
      rw [Fin.sum_univ_eight]), (h c).2⟩) (Reference24Ideal.Value.run m' ρ')⟩

end Cert.Kernel24Ideal.Val
end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.V1
public import proofs.«01_k».proof.Proof.V2
public import proofs.«01_k».proof.Proof.V3
public import proofs.«01_k».proof.Proof.V4
public import proofs.«01_k».proof.Proof.V5
public import proofs.«01_k».proof.Proof.V6
public import proofs.«01_k».proof.Proof.V7
public import proofs.«01_k».proof.Proof.V8
public import proofs.«01_k».proof.Proof.V9
public import proofs.«01_k».proof.Proof.V10
public import proofs.«01_k».proof.Proof.V11
public import proofs.«01_k».proof.Proof.V12
public import proofs.«01_k».proof.Proof.V13
public import proofs.«01_k».proof.Proof.V14
public import proofs.«01_k».proof.Proof.V15
public import proofs.«01_k».proof.Proof.V16
public import proofs.«01_k».proof.Proof.V17
public import proofs.«01_k».proof.Proof.V18
public import proofs.«01_k».proof.Proof.V19
public import proofs.«01_k».proof.Proof.V20
public import proofs.«01_k».proof.Proof.V21
public import proofs.«01_k».proof.Proof.V22
public import proofs.«01_k».proof.Proof.V23
public import proofs.«01_k».proof.Proof.V24
public import proofs.«01_k».proof.Proof.MixF.Fr
public import proofs.«01_k».proof.Proof.MixFIdeal.Fr
public import proofs.«01_k».proof.Proof.Gen.MixF.Frame
public import proofs.«01_k».proof.Proof.Gen.MixFIdeal.Frame
public import proofs.«01_k».proof.Proof.Gen.MixF.Loops
public import proofs.«01_k».proof.Proof.Gen.MixFIdeal.Loops
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import Idealize.ShloMosaic.Adequacy
public import Idealize.ShloMosaic.Init

@[expose] public section

open Idealize.ShloMosaic Idealize.SL.Sem

namespace Cert.Proof

/-- Host operations alone: the arguments are kept, and there is no semaphore to leave raised. -/
theorem quiescentR : Cert.quiescent_ReferenceIdeal := fun m ρ _ =>
  (θ_run _ _ _).mono (fun r h => ⟨fun c => ((h c).2.2.2.2), sem_eq_zero_of_no_sems rfl r.2⟩) (Cert.ReferenceIdeal.Value.run m ρ)

theorem quiescentR2 : Cert.quiescent_Reference2Ideal := fun m ρ _ =>
  (θ_run _ _ _).mono (fun r h => ⟨fun c => ((h c).2.2.2), sem_eq_zero_of_no_sems rfl r.2⟩) (Cert.Reference2Ideal.Value.run m ρ)

theorem quiescentR3 : Cert.quiescent_Reference3Ideal := fun m ρ _ =>
  (θ_run _ _ _).mono (fun r h => ⟨fun c => ((h c).2), sem_eq_zero_of_no_sems rfl r.2⟩) (Cert.Reference3Ideal.Value.run m ρ)

theorem quiescentR4 : Cert.quiescent_Reference4Ideal := fun m ρ _ =>
  (θ_run _ _ _).mono (fun r h => ⟨fun c => ((h c).2), sem_eq_zero_of_no_sems rfl r.2⟩) (Cert.Reference4Ideal.Value.run m ρ)

theorem quiescentR5 : Cert.quiescent_Reference5Ideal := fun m ρ _ =>
  (θ_run _ _ _).mono (fun r h => ⟨fun c => ((h c).2), sem_eq_zero_of_no_sems rfl r.2⟩) (Cert.Reference5Ideal.Value.run m ρ)

theorem quiescentR6 : Cert.quiescent_Reference6Ideal := fun m ρ _ =>
  (θ_run _ _ _).mono (fun r h => ⟨fun c => ((h c).2), sem_eq_zero_of_no_sems rfl r.2⟩) (Cert.Reference6Ideal.Value.run m ρ)

theorem quiescentR7 : Cert.quiescent_Reference7Ideal := fun m ρ _ =>
  (θ_run _ _ _).mono (fun r h => ⟨fun c => ((h c).2), sem_eq_zero_of_no_sems rfl r.2⟩) (Cert.Reference7Ideal.Value.run m ρ)

theorem quiescentR8 : Cert.quiescent_Reference8Ideal := fun m ρ _ =>
  (θ_run _ _ _).mono (fun r h => ⟨fun c => ((h c).2), sem_eq_zero_of_no_sems rfl r.2⟩) (Cert.Reference8Ideal.Value.run m ρ)

theorem quiescentR9 : Cert.quiescent_Reference9Ideal := fun m ρ _ =>
  (θ_run _ _ _).mono (fun r h => ⟨fun c => ((h c).2), sem_eq_zero_of_no_sems rfl r.2⟩) (Cert.Reference9Ideal.Value.run m ρ)

theorem quiescentR10 : Cert.quiescent_Reference10Ideal := fun m ρ _ =>
  (θ_run _ _ _).mono (fun r h => ⟨fun c => ((h c).2), sem_eq_zero_of_no_sems rfl r.2⟩) (Cert.Reference10Ideal.Value.run m ρ)

theorem quiescentR11 : Cert.quiescent_Reference11Ideal := fun m ρ _ =>
  (θ_run _ _ _).mono (fun r h => ⟨fun c => ((h c).2), sem_eq_zero_of_no_sems rfl r.2⟩) (Cert.Reference11Ideal.Value.run m ρ)

theorem quiescentR12 : Cert.quiescent_Reference12Ideal := fun m ρ _ =>
  (θ_run _ _ _).mono (fun r h => ⟨fun c => ((h c).2), sem_eq_zero_of_no_sems rfl r.2⟩) (Cert.Reference12Ideal.Value.run m ρ)

theorem quiescentR13 : Cert.quiescent_Reference13Ideal := fun m ρ _ =>
  (θ_run _ _ _).mono (fun r h => ⟨fun c => ((h c).2.2), sem_eq_zero_of_no_sems rfl r.2⟩) (Cert.Reference13Ideal.Value.run m ρ)

theorem quiescentR14 : Cert.quiescent_Reference14Ideal := fun m ρ _ =>
  (θ_run _ _ _).mono (fun r h => ⟨fun c => ((h c).2), sem_eq_zero_of_no_sems rfl r.2⟩) (Cert.Reference14Ideal.Value.run m ρ)

theorem quiescentR15 : Cert.quiescent_Reference15Ideal := fun m ρ _ =>
  (θ_run _ _ _).mono (fun r h => ⟨fun c => ((h c).2.2), sem_eq_zero_of_no_sems rfl r.2⟩) (Cert.Reference15Ideal.Value.run m ρ)

theorem quiescentR16 : Cert.quiescent_Reference16Ideal := fun m ρ _ =>
  (θ_run _ _ _).mono (fun r h => ⟨fun c => ((h c).2), sem_eq_zero_of_no_sems rfl r.2⟩) (Cert.Reference16Ideal.Value.run m ρ)

theorem quiescentRB : Cert.quiescent_RefBIdeal := fun m ρ _ =>
  (θ_run _ _ _).mono (fun r h => ⟨fun c => ((h c).2.2.2.2.2), sem_eq_zero_of_no_sems rfl r.2⟩) (Cert.RefBIdeal.Value.run m ρ)

theorem quiescentR18 : Cert.quiescent_Reference18Ideal := fun m ρ _ =>
  (θ_run _ _ _).mono (fun r h => ⟨fun c => ((h c).2), sem_eq_zero_of_no_sems rfl r.2⟩) (Cert.Reference18Ideal.Value.run m ρ)

theorem quiescentR19 : Cert.quiescent_Reference19Ideal := fun m ρ _ =>
  (θ_run _ _ _).mono (fun r h => ⟨fun c => ((h c).2.2.2), sem_eq_zero_of_no_sems rfl r.2⟩) (Cert.Reference19Ideal.Value.run m ρ)

theorem quiescentR20 : Cert.quiescent_Reference20Ideal := fun m ρ _ =>
  (θ_run _ _ _).mono (fun r h => ⟨fun c => ((h c).2.2.2.2), sem_eq_zero_of_no_sems rfl r.2⟩) (Cert.Reference20Ideal.Value.run m ρ)

theorem quiescentR21 : Cert.quiescent_Reference21Ideal := fun m ρ _ =>
  (θ_run _ _ _).mono (fun r h => ⟨fun c => ((h c).2), sem_eq_zero_of_no_sems rfl r.2⟩) (Cert.Reference21Ideal.Value.run m ρ)

theorem quiescentR22 : Cert.quiescent_Reference22Ideal := fun m ρ _ =>
  (θ_run _ _ _).mono (fun r h => ⟨fun c => ((h c).2.2.2.2), sem_eq_zero_of_no_sems rfl r.2⟩) (Cert.Reference22Ideal.Value.run m ρ)

theorem quiescentR23 : Cert.quiescent_Reference23Ideal := fun m ρ _ =>
  (θ_run _ _ _).mono (fun r h => ⟨fun c => ((h c).2), sem_eq_zero_of_no_sems rfl r.2⟩) (Cert.Reference23Ideal.Value.run m ρ)

theorem quiescentR24 : Cert.quiescent_Reference24Ideal := fun m ρ _ =>
  (θ_run _ _ _).mono (fun r h => ⟨fun c => ((h c).2), sem_eq_zero_of_no_sems rfl r.2⟩) (Cert.Reference24Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.MixF.Gen.facts, Cert.MixFIdeal.Gen.facts, Cert.RefBIdeal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts,
   fun m ρ _ => Cert.Kernel.Gen.frame m ρ,
   fun m ρ _ => Cert.KernelIdeal.Gen.frame m ρ,
   quiescentR,
   fun m ρ _ => Cert.Kernel2.Gen.frame m ρ,
   fun m ρ _ => Cert.Kernel2Ideal.Gen.frame m ρ,
   quiescentR2,
   fun m ρ _ => Cert.Kernel3.Gen.frame m ρ,
   fun m ρ _ => Cert.Kernel3Ideal.Gen.frame m ρ,
   quiescentR3,
   fun m ρ _ => Cert.Kernel4.Gen.frame m ρ,
   fun m ρ _ => Cert.Kernel4Ideal.Gen.frame m ρ,
   quiescentR4,
   fun m ρ _ => Cert.Kernel5.Gen.frame m ρ,
   fun m ρ _ => Cert.Kernel5Ideal.Gen.frame m ρ,
   quiescentR5,
   fun m ρ _ => Cert.Kernel6.Gen.frame m ρ,
   fun m ρ _ => Cert.Kernel6Ideal.Gen.frame m ρ,
   quiescentR6,
   fun m ρ _ => Cert.Kernel7.Gen.frame m ρ,
   fun m ρ _ => Cert.Kernel7Ideal.Gen.frame m ρ,
   quiescentR7,
   fun m ρ _ => Cert.Kernel8.Gen.frame m ρ,
   fun m ρ _ => Cert.Kernel8Ideal.Gen.frame m ρ,
   quiescentR8,
   fun m ρ _ => Cert.Kernel9.Gen.frame m ρ,
   fun m ρ _ => Cert.Kernel9Ideal.Gen.frame m ρ,
   quiescentR9,
   fun m ρ _ => Cert.Kernel10.Gen.frame m ρ,
   fun m ρ _ => Cert.Kernel10Ideal.Gen.frame m ρ,
   quiescentR10,
   fun m ρ _ => Cert.Kernel11.Gen.frame m ρ,
   fun m ρ _ => Cert.Kernel11Ideal.Gen.frame m ρ,
   quiescentR11,
   fun m ρ _ => Cert.Kernel12.Gen.frame m ρ,
   fun m ρ _ => Cert.Kernel12Ideal.Gen.frame m ρ,
   quiescentR12,
   fun m ρ _ => Cert.Kernel13.Gen.frame m ρ,
   fun m ρ _ => Cert.Kernel13Ideal.Gen.frame m ρ,
   quiescentR13,
   fun m ρ _ => Cert.Kernel14.Gen.frame m ρ,
   fun m ρ _ => Cert.Kernel14Ideal.Gen.frame m ρ,
   quiescentR14,
   fun m ρ _ => Cert.Kernel15.Gen.frame m ρ,
   fun m ρ _ => Cert.Kernel15Ideal.Gen.frame m ρ,
   quiescentR15,
   fun m ρ _ => Cert.Kernel16.Gen.frame m ρ,
   fun m ρ _ => Cert.Kernel16Ideal.Gen.frame m ρ,
   quiescentR16,
   fun m ρ _ => Cert.MixF.Hand.frame m ρ,
   fun m ρ _ => Cert.MixFIdeal.Hand.frame m ρ,
   quiescentRB,
   fun m ρ _ => Cert.Kernel18.Gen.frame m ρ,
   fun m ρ _ => Cert.Kernel18Ideal.Gen.frame m ρ,
   quiescentR18,
   fun m ρ _ => Cert.Kernel19.Gen.frame m ρ,
   fun m ρ _ => Cert.Kernel19Ideal.Gen.frame m ρ,
   quiescentR19,
   fun m ρ _ => Cert.Kernel20.Gen.frame m ρ,
   fun m ρ _ => Cert.Kernel20Ideal.Gen.frame m ρ,
   quiescentR20,
   fun m ρ _ => Cert.Kernel21.Gen.frame m ρ,
   fun m ρ _ => Cert.Kernel21Ideal.Gen.frame m ρ,
   quiescentR21,
   fun m ρ _ => Cert.Kernel22.Gen.frame m ρ,
   fun m ρ _ => Cert.Kernel22Ideal.Gen.frame m ρ,
   quiescentR22,
   fun m ρ _ => Cert.Kernel23.Gen.frame m ρ,
   fun m ρ _ => Cert.Kernel23Ideal.Gen.frame m ρ,
   quiescentR23,
   fun m ρ _ => Cert.Kernel24.Gen.frame m ρ,
   fun m ρ _ => Cert.Kernel24Ideal.Gen.frame m ρ,
   quiescentR24,
   trivial,
   Cert.KernelIdeal.Val.algebraic,
   trivial,
   Cert.Kernel2Ideal.Val.algebraic,
   trivial,
   Cert.Kernel3Ideal.Relu.algebraic,
   trivial,
   Cert.Kernel4Ideal.Val.algebraic,
   trivial,
   Cert.Kernel5Ideal.Val.algebraic,
   trivial,
   Cert.Kernel6Ideal.Val.algebraic,
   trivial,
   Cert.Kernel7Ideal.Val.algebraic,
   trivial,
   Cert.Kernel8Ideal.Val.algebraic,
   trivial,
   Cert.Kernel9Ideal.Val.algebraic,
   trivial,
   Cert.Kernel10Ideal.Val.algebraic,
   trivial,
   Cert.Kernel11Ideal.Val.algebraic,
   trivial,
   Cert.Kernel12Ideal.Val.algebraic,
   trivial,
   Cert.Kernel13Ideal.Val.algebraic,
   trivial,
   Cert.Kernel14Ideal.Val.algebraic,
   trivial,
   Cert.Kernel15Ideal.Val.algebraic,
   trivial,
   Cert.Kernel16Ideal.Val.algebraic,
   trivial,
   Cert.MixFIdeal.Val.algebraic,
   trivial,
   Cert.Kernel18Ideal.Val.algebraic,
   trivial,
   Cert.Kernel19Ideal.Val.algebraic,
   trivial,
   Cert.Kernel20Ideal.Val.algebraic,
   trivial,
   Cert.Kernel21Ideal.Val.algebraic,
   trivial,
   Cert.Kernel22Ideal.Val.algebraic,
   trivial,
   Cert.Kernel23Ideal.Val.algebraic,
   trivial,
   Cert.Kernel24Ideal.Val.algebraic⟩

end Cert.Proof
